-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v21)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v27)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v27) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2x8192x2304 : Shape := ⟨3, ![2, 8192, 2304]⟩
abbrev S2x8192x3072 : Shape := ⟨3, ![2, 8192, 3072]⟩
abbrev S2x8192x64 : Shape := ⟨3, ![2, 8192, 64]⟩
abbrev S2x8192x1x32 : Shape := ⟨4, ![2, 8192, 1, 32]⟩
abbrev S_ : Shape := ⟨0, ![]⟩

class Facts : Prop where
  bcast_S_S2x8192x2304 : S_.BroadcastsInDim S2x8192x2304 (![] : Fin 0 → Fin S2x8192x2304.rank)
  reducesTo_S2x8192x2304_S_d0_1_2 : S2x8192x2304.ReducesTo [0, 1, 2] S_
  h_S_ : 0 < S_.numel
  bcast_S_S2x8192x3072 : S_.BroadcastsInDim S2x8192x3072 (![] : Fin 0 → Fin S2x8192x3072.rank)
  reducesTo_S2x8192x3072_S_d0_1_2 : S2x8192x3072.ReducesTo [0, 1, 2] S_
  bcast_S_S2x8192x64 : S_.BroadcastsInDim S2x8192x64 (![] : Fin 0 → Fin S2x8192x64.rank)
  reducesTo_S2x8192x64_S_d0_1_2 : S2x8192x64.ReducesTo [0, 1, 2] S_
  bcast_S_S2x8192x1x32 : S_.BroadcastsInDim S2x8192x1x32 (![] : Fin 0 → Fin S2x8192x1x32.rank)
  reducesTo_S2x8192x1x32_S_d0_1_2_3 : S2x8192x1x32.ReducesTo [0, 1, 2, 3] S_

variable [Facts]

def fn_part1 {F : FTy → Type} [FloatOps F] (main_arg4 : FVec F S2x8192x1x32 .f32) (main_v13 : IVec S_ 1) (main_v16 : IVec S2x8192x1x32 1) : IVec S_ 1 :=
  let main_c_5 : IVec S_ 1 := constantI S_ 1 1#1
  let main_v17 : IVec S_ 1 := (fun x v => Host.reduce IntOp.andi x v reducesTo_S2x8192x1x32_S_d0_1_2_3 h_S_) main_v16 main_c_5
  let main_v18 : IVec S_ 1 := andi main_v13 main_v17
  let main_v19 : FVec F S2x8192x1x32 .f32 := Host.absf main_arg4
  let main_cst_6 : FVec F S_ .f32 := constant S_ .f32 0x7F800000#32
  let main_v20 : FVec F S2x8192x1x32 .f32 := broadcastInDim S2x8192x1x32 ![] bcast_S_S2x8192x1x32 main_cst_6
  let main_v21 : IVec S2x8192x1x32 1 := cmpf .olt main_v19 main_v20
  let main_c_7 : IVec S_ 1 := constantI S_ 1 1#1
  let main_v22 : IVec S_ 1 := (fun x v => Host.reduce IntOp.andi x v reducesTo_S2x8192x1x32_S_d0_1_2_3 h_S_) main_v21 main_c_7
  let main_v23 : IVec S_ 1 := andi main_v18 main_v22
  main_v23

def fn {F : FTy → Type} [FloatOps F] (main_arg0 : FVec F S2x8192x2304 .f32) (main_arg1 : FVec F S2x8192x3072 .f32) (main_arg2 : FVec F S2x8192x64 .f32) (main_arg3 : FVec F S2x8192x1x32 .f32) (main_arg4 : FVec F S2x8192x1x32 .f32) : IVec S_ 1 :=
  let main_v0 : FVec F S2x8192x2304 .f32 := Host.absf main_arg0
  let main_cst : FVec F S_ .f32 := constant S_ .f32 0x7F800000#32
  let main_v1 : FVec F S2x8192x2304 .f32 := broadcastInDim S2x8192x2304 ![] bcast_S_S2x8192x2304 main_cst
  let main_v2 : IVec S2x8192x2304 1 := cmpf .olt main_v0 main_v1
  let main_c : IVec S_ 1 := constantI S_ 1 1#1
  let main_v3 : IVec S_ 1 := (fun x v => Host.reduce IntOp.andi x v reducesTo_S2x8192x2304_S_d0_1_2 h_S_) main_v2 main_c
  let main_v4 : FVec F S2x8192x3072 .f32 := Host.absf main_arg1
  let main_cst_0 : FVec F S_ .f32 := constant S_ .f32 0x7F800000#32
  let main_v5 : FVec F S2x8192x3072 .f32 := broadcastInDim S2x8192x3072 ![] bcast_S_S2x8192x3072 main_cst_0
  let main_v6 : IVec S2x8192x3072 1 := cmpf .olt main_v4 main_v5
  let main_c_1 : IVec S_ 1 := constantI S_ 1 1#1
  let main_v7 : IVec S_ 1 := (fun x v => Host.reduce IntOp.andi x v reducesTo_S2x8192x3072_S_d0_1_2 h_S_) main_v6 main_c_1
  let main_v8 : IVec S_ 1 := andi main_v3 main_v7
  let main_v9 : FVec F S2x8192x64 .f32 := Host.absf main_arg2
  let main_cst_2 : FVec F S_ .f32 := constant S_ .f32 0x7F800000#32
  let main_v10 : FVec F S2x8192x64 .f32 := broadcastInDim S2x8192x64 ![] bcast_S_S2x8192x64 main_cst_2
  let main_v11 : IVec S2x8192x64 1 := cmpf .olt main_v9 main_v10
  let main_c_3 : IVec S_ 1 := constantI S_ 1 1#1
  let main_v12 : IVec S_ 1 := (fun x v => Host.reduce IntOp.andi x v reducesTo_S2x8192x64_S_d0_1_2 h_S_) main_v11 main_c_3
  let main_v13 : IVec S_ 1 := andi main_v8 main_v12
  let main_v14 : FVec F S2x8192x1x32 .f32 := Host.absf main_arg3
  let main_cst_4 : FVec F S_ .f32 := constant S_ .f32 0x7F800000#32
  let main_v15 : FVec F S2x8192x1x32 .f32 := broadcastInDim S2x8192x1x32 ![] bcast_S_S2x8192x1x32 main_cst_4
  let main_v16 : IVec S2x8192x1x32 1 := cmpf .olt main_v14 main_v15
  fn_part1 (F := F) main_arg4 main_v13 main_v16
-- ==== Kernel.lean ====
abbrev S2x8192x2304 : Shape := ⟨3, ![2, 8192, 2304]⟩
abbrev S2x8192x3072 : Shape := ⟨3, ![2, 8192, 3072]⟩
abbrev S2x8192x64 : Shape := ⟨3, ![2, 8192, 64]⟩
abbrev S2x8192x1x32 : Shape := ⟨4, ![2, 8192, 1, 32]⟩
abbrev S10 : Shape := ⟨1, ![10]⟩
abbrev S_ : Shape := ⟨0, ![]⟩
abbrev S16384x32 : Shape := ⟨2, ![16384, 32]⟩
abbrev S16384x64 : Shape := ⟨2, ![16384, 64]⟩
abbrev S16384x128 : Shape := ⟨2, ![16384, 128]⟩
abbrev S16384x12x192 : Shape := ⟨3, ![16384, 12, 192]⟩
abbrev S16384x12x64 : Shape := ⟨3, ![16384, 12, 64]⟩
abbrev S16384x12x256 : Shape := ⟨3, ![16384, 12, 256]⟩
abbrev S16384x3072 : Shape := ⟨2, ![16384, 3072]⟩
abbrev S16384x12x128 : Shape := ⟨3, ![16384, 12, 128]⟩
abbrev S16384x1x128 : Shape := ⟨3, ![16384, 1, 128]⟩
abbrev S16384x1536 : Shape := ⟨2, ![16384, 1536]⟩
abbrev S16384x4608 : Shape := ⟨2, ![16384, 4608]⟩
abbrev S2048x256 : Shape := ⟨2, ![2048, 256]⟩
abbrev S1 : Shape := ⟨1, ![1]⟩
abbrev S2048x128 : Shape := ⟨2, ![2048, 128]⟩
abbrev S512x256 : Shape := ⟨2, ![512, 256]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1024x256 : Shape := ⟨2, ![1024, 256]⟩
abbrev S512x1024 : Shape := ⟨2, ![512, 1024]⟩
abbrev S1536x256 : Shape := ⟨2, ![1536, 256]⟩
abbrev S512x1536 : Shape := ⟨2, ![512, 1536]⟩

abbrev nBuf : Space → Nat
  | .hbm => 45
  | .vmem => 16
  | .smem => 2
  | _ => 0

abbrev bufTy : (tb : Table) → Fin (tcTables nBuf tb) → BufTy
  | .hbm, ⟨0, _⟩ => ⟨S2x8192x2304, .f32⟩
  | .hbm, ⟨1, _⟩ => ⟨S2x8192x3072, .f32⟩
  | .hbm, ⟨2, _⟩ => ⟨S2x8192x64, .f32⟩
  | .hbm, ⟨3, _⟩ => ⟨S2x8192x1x32, .f32⟩
  | .hbm, ⟨4, _⟩ => ⟨S2x8192x1x32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x32, .f32⟩
  | .hbm, ⟨10, _⟩ => ⟨S16384x32, .f32⟩
  | .hbm, ⟨11, _⟩ => ⟨S_, .f32⟩
  | .hbm, ⟨12, _⟩ => ⟨S16384x64, .f32⟩
  | .hbm, ⟨13, _⟩ => ⟨S16384x128, .f32⟩
  | .hbm, ⟨14, _⟩ => ⟨S16384x32, .f32⟩
  | .hbm, ⟨15, _⟩ => ⟨S16384x128, .f32⟩
  | .hbm, ⟨16, _⟩ => ⟨S16384x12x192, .f32⟩
  | .hbm, ⟨17, _⟩ => ⟨S16384x12x192, .f32⟩
  | .hbm, ⟨18, _⟩ => ⟨S16384x12x192, .f32⟩
  | .hbm, ⟨19, _⟩ => ⟨S_, .f32⟩
  | .hbm, ⟨20, _⟩ => ⟨S16384x12x64, .f32⟩
  | .hbm, ⟨21, _⟩ => ⟨S16384x12x256, .f32⟩
  | .hbm, ⟨22, _⟩ => ⟨S16384x3072, .f32⟩
  | .hbm, ⟨23, _⟩ => ⟨S16384x3072, .bf16⟩
  | .hbm, ⟨24, _⟩ => ⟨S16384x64, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S16384x128, .f32⟩
  | .hbm, ⟨34, _⟩ => ⟨S16384x12x256, .f32⟩
  | .hbm, ⟨35, _⟩ => ⟨S16384x12x128, .f32⟩
  | .hbm, ⟨36, _⟩ => ⟨S16384x1x128, .f32⟩
  | .hbm, ⟨37, _⟩ => ⟨S16384x12x128, .f32⟩
  | .hbm, ⟨38, _⟩ => ⟨S16384x12x256, .f32⟩
  | .hbm, ⟨39, _⟩ => ⟨S16384x12x128, .f32⟩
  | .hbm, ⟨40, _⟩ => ⟨S16384x3072, .f32⟩
  | .hbm, ⟨41, _⟩ => ⟨S16384x1536, .f32⟩
  | .hbm, ⟨42, _⟩ => ⟨S16384x4608, .f32⟩
  | .hbm, ⟨43, _⟩ => ⟨S16384x4608, .bf16⟩
  | .hbm, ⟨44, _⟩ => ⟨S16384x1536, .bf16⟩
  | .local _ .vmem, ⟨0, _⟩ => ⟨S2048x256, .bf16⟩
  | .local _ .vmem, ⟨1, _⟩ => ⟨S2048x256, .bf16⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x256, .bf16⟩
  | .local _ .vmem, ⟨7, _⟩ => ⟨S2048x256, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x256, .bf16⟩
  | .local _ .vmem, ⟨13, _⟩ => ⟨S2048x256, .bf16⟩
  | .local _ .vmem, ⟨14, _⟩ => ⟨S2048x128, .f32⟩
  | .local _ .vmem, ⟨15, _⟩ => ⟨S2048x256, .f32⟩
  | .local _ .smem, ⟨0, _⟩ => ⟨S10, .i32⟩
  | .local _ .smem, ⟨1, _⟩ => ⟨S10, .i32⟩
  | _, _ => ⟨S2x8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 12, 10], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond4 (v1 : BitVec 32) (v3 : BitVec 32) : BitVec 1 :=
  let c1_i32_4 : BitVec 32 := 1#32
  let v15 : BitVec 32 := Scalar.addi v1 c1_i32_4
  let c1_i32_5 : BitVec 32 := 1#32
  let v16 : BitVec 32 := Scalar.muli v15 c1_i32_5
  let c1_i32_6 : BitVec 32 := 1#32
  let v17 : BitVec 32 := Scalar.subi v16 c1_i32_6
  let v18 : BitVec 1 := Scalar.cmpi .eq v3 v17
  let v19 : BitVec 32 := Scalar.extui v18
  let c0_i32_7 : BitVec 32 := 0#32
  let v20 : BitVec 1 := Scalar.cmpi .ne v19 c0_i32_7
  v20

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c24_i32 : BitVec 32 := 24#32
  let v4 : BitVec 32 := Scalar.addi c24_i32 arg1
  let c0_i32 : BitVec 32 := 0#32
  ![v3.toNat, v4.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x2304 : Shape := ⟨3, ![2, 8192, 2304]⟩
abbrev S2x8192x3072 : Shape := ⟨3, ![2, 8192, 3072]⟩
abbrev S2x8192x64 : Shape := ⟨3, ![2, 8192, 64]⟩
abbrev S2x8192x1x32 : Shape := ⟨4, ![2, 8192, 1, 32]⟩
abbrev S2x8192x12x192 : Shape := ⟨4, ![2, 8192, 12, 192]⟩
abbrev S2x8192x12x128 : Shape := ⟨4, ![2, 8192, 12, 128]⟩
abbrev S2x8192x12x64 : Shape := ⟨4, ![2, 8192, 12, 64]⟩
abbrev S2x8192x12x256 : Shape := ⟨4, ![2, 8192, 12, 256]⟩
abbrev S2x8192x12x32 : Shape := ⟨4, ![2, 8192, 12, 32]⟩
abbrev S2x8192x1x64 : Shape := ⟨4, ![2, 8192, 1, 64]⟩
abbrev S2x12x8192x8192 : Shape := ⟨4, ![2, 12, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x12x8192 : Shape := ⟨3, ![2, 12, 8192]⟩
abbrev S2x12x8192x1 : Shape := ⟨4, ![2, 12, 8192, 1]⟩
abbrev S2x12x128x8192 : Shape := ⟨4, ![2, 12, 128, 8192]⟩
abbrev S16384x1536 : Shape := ⟨2, ![16384, 1536]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x2304, .f32⟩
  | .hbm, ⟨1, _⟩ => ⟨S2x8192x3072, .f32⟩
  | .hbm, ⟨2, _⟩ => ⟨S2x8192x64, .f32⟩
  | .hbm, ⟨3, _⟩ => ⟨S2x8192x1x32, .f32⟩
  | .hbm, ⟨4, _⟩ => ⟨S2x8192x1x32, .f32⟩
  | .hbm, ⟨5, _⟩ => ⟨S2x8192x12x192, .f32⟩
  | .hbm, ⟨6, _⟩ => ⟨S2x8192x12x128, .f32⟩
  | .hbm, ⟨7, _⟩ => ⟨S2x8192x12x64, .f32⟩
  | .hbm, ⟨8, _⟩ => ⟨S2x8192x12x256, .f32⟩
  | .hbm, ⟨9, _⟩ => ⟨S2x8192x12x128, .f32⟩
  | .hbm, ⟨10, _⟩ => ⟨S2x8192x12x128, .f32⟩
  | .hbm, ⟨11, _⟩ => ⟨S2x8192x12x32, .f32⟩
  | .hbm, ⟨12, _⟩ => ⟨S2x8192x12x32, .f32⟩
  | .hbm, ⟨13, _⟩ => ⟨S2x8192x12x32, .f32⟩
  | .hbm, ⟨14, _⟩ => ⟨S2x8192x12x32, .f32⟩
  | .hbm, ⟨15, _⟩ => ⟨S2x8192x12x32, .f32⟩
  | .hbm, ⟨16, _⟩ => ⟨S2x8192x12x32, .f32⟩
  | .hbm, ⟨17, _⟩ => ⟨S2x8192x12x32, .f32⟩
  | .hbm, ⟨18, _⟩ => ⟨S2x8192x12x32, .f32⟩
  | .hbm, ⟨19, _⟩ => ⟨S2x8192x12x32, .f32⟩
  | .hbm, ⟨20, _⟩ => ⟨S2x8192x12x32, .f32⟩
  | .hbm, ⟨21, _⟩ => ⟨S2x8192x12x32, .f32⟩
  | .hbm, ⟨22, _⟩ => ⟨S2x8192x12x32, .f32⟩
  | .hbm, ⟨23, _⟩ => ⟨S2x8192x12x64, .f32⟩
  | .hbm, ⟨24, _⟩ => ⟨S2x8192x1x64, .f32⟩
  | .hbm, ⟨25, _⟩ => ⟨S2x8192x1x32, .f32⟩
  | .hbm, ⟨26, _⟩ => ⟨S2x8192x1x32, .f32⟩
  | .hbm, ⟨27, _⟩ => ⟨S2x8192x1x32, .f32⟩
  | .hbm, ⟨28, _⟩ => ⟨S2x8192x1x32, .f32⟩
  | .hbm, ⟨29, _⟩ => ⟨S2x8192x1x32, .f32⟩
  | .hbm, ⟨30, _⟩ => ⟨S2x8192x1x32, .f32⟩
  | .hbm, ⟨31, _⟩ => ⟨S2x8192x1x32, .f32⟩
  | .hbm, ⟨32, _⟩ => ⟨S2x8192x1x32, .f32⟩
  | .hbm, ⟨33, _⟩ => ⟨S2x8192x1x64, .f32⟩
  | .hbm, ⟨34, _⟩ => ⟨S2x8192x12x192, .f32⟩
  | .hbm, ⟨35, _⟩ => ⟨S2x8192x12x64, .f32⟩
  | .hbm, ⟨36, _⟩ => ⟨S2x8192x12x192, .f32⟩
  | .hbm, ⟨37, _⟩ => ⟨S2x12x8192x8192, .f32⟩
  | .hbm, ⟨38, _⟩ => ⟨S_, .f32⟩
  | .hbm, ⟨39, _⟩ => ⟨S2x12x8192x8192, .f32⟩
  | .hbm, ⟨40, _⟩ => ⟨S2x12x8192x8192, .f32⟩
  | .hbm, ⟨41, _⟩ => ⟨S8192, .i32⟩
  | .hbm, ⟨42, _⟩ => ⟨S1x8192, .i32⟩
  | .hbm, ⟨43, _⟩ => ⟨S8192x1, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S_, .f32⟩
  | .hbm, ⟨48, _⟩ => ⟨S_, .f32⟩
  | .hbm, ⟨49, _⟩ => ⟨S2x12x8192x8192, .i1⟩
  | .hbm, ⟨50, _⟩ => ⟨S2x12x8192x8192, .f32⟩
  | .hbm, ⟨51, _⟩ => ⟨S2x12x8192x8192, .f32⟩
  | .hbm, ⟨52, _⟩ => ⟨S_, .f32⟩
  | .hbm, ⟨53, _⟩ => ⟨S2x12x8192, .f32⟩
  | .hbm, ⟨54, _⟩ => ⟨S_, .f32⟩
  | .hbm, ⟨55, _⟩ => ⟨S2x12x8192, .f32⟩
  | .hbm, ⟨56, _⟩ => ⟨S2x12x8192, .f32⟩
  | .hbm, ⟨57, _⟩ => ⟨S2x12x8192x1, .f32⟩
  | .hbm, ⟨58, _⟩ => ⟨S2x12x8192x8192, .f32⟩
  | .hbm, ⟨59, _⟩ => ⟨S2x12x8192x8192, .f32⟩
  | .hbm, ⟨60, _⟩ => ⟨S2x12x8192x8192, .f32⟩
  | .hbm, ⟨61, _⟩ => ⟨S_, .f32⟩
  | .hbm, ⟨62, _⟩ => ⟨S2x12x8192, .f32⟩
  | .hbm, ⟨63, _⟩ => ⟨S2x12x8192x1, .f32⟩
  | .hbm, ⟨64, _⟩ => ⟨S2x12x8192x8192, .f32⟩
  | .hbm, ⟨65, _⟩ => ⟨S2x12x8192x8192, .f32⟩
  | .hbm, ⟨66, _⟩ => ⟨S2x12x128x8192, .f32⟩
  | .hbm, ⟨67, _⟩ => ⟨S2x8192x12x128, .f32⟩
  | .hbm, ⟨68, _⟩ => ⟨S16384x1536, .f32⟩
  | .hbm, ⟨69, _⟩ => ⟨S16384x1536, .bf16⟩
  | _, _ => ⟨S2x8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_0 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]
-- ==== Kernel2.lean ====
abbrev S2x8192x4096 : Shape := ⟨3, ![2, 8192, 4096]⟩
abbrev S4096 : Shape := ⟨1, ![4096]⟩
abbrev S4096x11008 : Shape := ⟨2, ![4096, 11008]⟩
abbrev S11008x4096 : Shape := ⟨2, ![11008, 4096]⟩
abbrev S16384x4096 : Shape := ⟨2, ![16384, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S1x4096x11008 : Shape := ⟨3, ![1, 4096, 11008]⟩
abbrev S1x11008x4096 : Shape := ⟨3, ![1, 11008, 4096]⟩
abbrev S16384x11008 : Shape := ⟨2, ![16384, 11008]⟩
abbrev S2048x4096 : Shape := ⟨2, ![2048, 4096]⟩
abbrev S2048x128 : Shape := ⟨2, ![2048, 128]⟩
abbrev S1x4096x256 : Shape := ⟨3, ![1, 4096, 256]⟩
abbrev S1x32x4096 : Shape := ⟨3, ![1, 32, 4096]⟩
abbrev S2048x256 : Shape := ⟨2, ![2048, 256]⟩
abbrev S32x4096 : Shape := ⟨2, ![32, 4096]⟩
abbrev S4096x256 : Shape := ⟨2, ![4096, 256]⟩
abbrev S1024x4096 : Shape := ⟨2, ![1024, 4096]⟩
abbrev S1024x256 : Shape := ⟨2, ![1024, 256]⟩
abbrev S1024x128 : Shape := ⟨2, ![1024, 128]⟩

abbrev nBuf : Space → Nat
  | .hbm => 29
  | .vmem => 14
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | .hbm, ⟨9, _⟩ => ⟨S16384x4096, .bf16⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x128, .f32⟩
  | .hbm, ⟨22, _⟩ => ⟨S1x4096x11008, .f32⟩
  | .hbm, ⟨23, _⟩ => ⟨S1x4096x11008, .bf16⟩
  | .hbm, ⟨24, _⟩ => ⟨S1x4096x11008, .f32⟩
  | .hbm, ⟨25, _⟩ => ⟨S1x4096x11008, .bf16⟩
  | .hbm, ⟨26, _⟩ => ⟨S1x11008x4096, .f32⟩
  | .hbm, ⟨27, _⟩ => ⟨S16384x11008, .bf16⟩
  | .hbm, ⟨28, _⟩ => ⟨S1x11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S2048x128, .f32⟩
  | .local _ .vmem, ⟨3, _⟩ => ⟨S2048x128, .f32⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x32x4096, .f32⟩
  | .local _ .vmem, ⟨9, _⟩ => ⟨S1x32x4096, .f32⟩
  | .local _ .vmem, ⟨10, _⟩ => ⟨S2048x256, .bf16⟩
  | .local _ .vmem, ⟨11, _⟩ => ⟨S2048x256, .bf16⟩
  | .local _ .vmem, ⟨12, _⟩ => ⟨S1x32x4096, .bf16⟩
  | .local _ .vmem, ⟨13, _⟩ => ⟨S1x32x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x8192x4096 : Shape := ⟨3, ![2, 8192, 4096]⟩
abbrev S4096 : Shape := ⟨1, ![4096]⟩
abbrev S4096x11008 : Shape := ⟨2, ![4096, 11008]⟩
abbrev S11008x4096 : Shape := ⟨2, ![11008, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x11008 : Shape := ⟨3, ![2, 8192, 11008]⟩
abbrev S16384x11008 : Shape := ⟨2, ![16384, 11008]⟩
abbrev S1x11008x4096 : Shape := ⟨3, ![1, 11008, 4096]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S2x8192x4096, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x4096, .f32⟩
  | .hbm, ⟨17, _⟩ => ⟨S2x8192x4096, .f32⟩
  | .hbm, ⟨18, _⟩ => ⟨S1x1x4096, .f32⟩
  | .hbm, ⟨19, _⟩ => ⟨S2x8192x4096, .f32⟩
  | .hbm, ⟨20, _⟩ => ⟨S2x8192x4096, .f32⟩
  | .hbm, ⟨21, _⟩ => ⟨S2x8192x11008, .f32⟩
  | .hbm, ⟨22, _⟩ => ⟨S2x8192x11008, .f32⟩
  | .hbm, ⟨23, _⟩ => ⟨S2x8192x11008, .f32⟩
  | .hbm, ⟨24, _⟩ => ⟨S_, .f32⟩
  | .hbm, ⟨25, _⟩ => ⟨S2x8192x11008, .f32⟩
  | .hbm, ⟨26, _⟩ => ⟨S2x8192x11008, .f32⟩
  | .hbm, ⟨27, _⟩ => ⟨S_, .f32⟩
  | .hbm, ⟨28, _⟩ => ⟨S2x8192x11008, .f32⟩
  | .hbm, ⟨29, _⟩ => ⟨S2x8192x11008, .f32⟩
  | .hbm, ⟨30, _⟩ => ⟨S2x8192x11008, .f32⟩
  | .hbm, ⟨31, _⟩ => ⟨S2x8192x11008, .f32⟩
  | .hbm, ⟨32, _⟩ => ⟨S2x8192x11008, .f32⟩
  | .hbm, ⟨33, _⟩ => ⟨S16384x11008, .f32⟩
  | .hbm, ⟨34, _⟩ => ⟨S16384x11008, .bf16⟩
  | .hbm, ⟨35, _⟩ => ⟨S1x11008x4096, .f32⟩
  | .hbm, ⟨36, _⟩ => ⟨S1x11008x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kernel3.lean ====
abbrev S16384x4096 : Shape := ⟨2, ![16384, 4096]⟩
abbrev S16384x11008 : Shape := ⟨2, ![16384, 11008]⟩
abbrev S11008x4096 : Shape := ⟨2, ![11008, 4096]⟩
abbrev S4096 : Shape := ⟨1, ![4096]⟩
abbrev S1x11008x4096 : Shape := ⟨3, ![1, 11008, 4096]⟩
abbrev S1x4096 : Shape := ⟨2, ![1, 4096]⟩
abbrev S16384x128 : Shape := ⟨2, ![16384, 128]⟩
abbrev S512x11008 : Shape := ⟨2, ![512, 11008]⟩
abbrev S1x11008x512 : Shape := ⟨3, ![1, 11008, 512]⟩
abbrev S512x512 : Shape := ⟨2, ![512, 512]⟩
abbrev S1x512 : Shape := ⟨2, ![1, 512]⟩
abbrev S512x128 : Shape := ⟨2, ![512, 128]⟩
abbrev S11008x512 : Shape := ⟨2, ![11008, 512]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S16384x11008, .f32⟩
  | .hbm, ⟨2, _⟩ => ⟨S11008x4096, .f32⟩
  | .hbm, ⟨3, _⟩ => ⟨S4096, .f32⟩
  | .hbm, ⟨4, _⟩ => ⟨S16384x11008, .bf16⟩
  | .hbm, ⟨5, _⟩ => ⟨S1x11008x4096, .f32⟩
  | .hbm, ⟨6, _⟩ => ⟨S1x11008x4096, .bf16⟩
  | .hbm, ⟨7, _⟩ => ⟨S1x4096, .f32⟩
  | .hbm, ⟨8, _⟩ => ⟨S16384x4096, .f32⟩
  | .hbm, ⟨9, _⟩ => ⟨S16384x4096, .bf16⟩
  | .hbm, ⟨10, _⟩ => ⟨S16384x128, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v19 : BitVec 1 := Scalar.cmpi .eq arg1 c0_i32
  let v20 : BitVec 32 := Scalar.extui v19
  let c0_i32_13 : BitVec 32 := 0#32
  let v21 : BitVec 1 := Scalar.cmpi .ne v20 c0_i32_13
  v21

def k0_cond2 (i : grid0.Coords) : BitVec 1 :=
  let arg1 : BitVec 32 := BitVec.ofNat 32 (i 1).val
  let c0_i32_14 : BitVec 32 := 0#32
  let v22 : BitVec 1 := Scalar.cmpi .sgt arg1 c0_i32_14
  let v23 : BitVec 32 := Scalar.extui v22
  let c0_i32_15 : BitVec 32 := 0#32
  let v24 : BitVec 1 := Scalar.cmpi .ne v23 c0_i32_15
  v24

def k0_cond3 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x4096 : Shape := ⟨2, ![16384, 4096]⟩
abbrev S16384x11008 : Shape := ⟨2, ![16384, 11008]⟩
abbrev S11008x4096 : Shape := ⟨2, ![11008, 4096]⟩
abbrev S4096 : Shape := ⟨1, ![4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x11008, .f32⟩
  | .hbm, ⟨2, _⟩ => ⟨S11008x4096, .f32⟩
  | .hbm, ⟨3, _⟩ => ⟨S4096, .f32⟩
  | .hbm, ⟨4, _⟩ => ⟨S16384x4096, .f32⟩
  | .hbm, ⟨5, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel4.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S2x8192x4096 : Shape := ⟨3, ![2, 8192, 4096]⟩
abbrev S4096 : Shape := ⟨1, ![4096]⟩
abbrev S4096x10316 : Shape := ⟨2, ![4096, 10316]⟩
abbrev S16384x4096 : Shape := ⟨2, ![16384, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S1x4096x10316 : Shape := ⟨3, ![1, 4096, 10316]⟩
abbrev S1x10316x4096 : Shape := ⟨3, ![1, 10316, 4096]⟩
abbrev S16384x8704 : Shape := ⟨2, ![16384, 8704]⟩
abbrev S2048x4096 : Shape := ⟨2, ![2048, 4096]⟩
abbrev S2048x128 : Shape := ⟨2, ![2048, 128]⟩
abbrev S1x512x4096 : Shape := ⟨3, ![1, 512, 4096]⟩
abbrev S2048x512 : Shape := ⟨2, ![2048, 512]⟩
abbrev S512x4096 : Shape := ⟨2, ![512, 4096]⟩

abbrev nBuf : Space → Nat
  | .hbm => 24
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x10316, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x128, .f32⟩
  | .hbm, ⟨20, _⟩ => ⟨S1x4096x10316, .f32⟩
  | .hbm, ⟨21, _⟩ => ⟨S1x10316x4096, .f32⟩
  | .hbm, ⟨22, _⟩ => ⟨S1x10316x4096, .bf16⟩
  | .hbm, ⟨23, _⟩ => ⟨S16384x8704, .bf16⟩
  | .local _ .vmem, ⟨0, _⟩ => ⟨S2048x4096, .bf16⟩
  | .local _ .vmem, ⟨1, _⟩ => ⟨S2048x4096, .bf16⟩
  | .local _ .vmem, ⟨2, _⟩ => ⟨S2048x128, .f32⟩
  | .local _ .vmem, ⟨3, _⟩ => ⟨S2048x128, .f32⟩
  | .local _ .vmem, ⟨4, _⟩ => ⟨S1x512x4096, .bf16⟩
  | .local _ .vmem, ⟨5, _⟩ => ⟨S1x512x4096, .bf16⟩
  | .local _ .vmem, ⟨6, _⟩ => ⟨S2048x512, .bf16⟩
  | .local _ .vmem, ⟨7, _⟩ => ⟨S2048x512, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x8192x4096 : Shape := ⟨3, ![2, 8192, 4096]⟩
abbrev S4096 : Shape := ⟨1, ![4096]⟩
abbrev S4096x10316 : Shape := ⟨2, ![4096, 10316]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x10316 : Shape := ⟨3, ![2, 8192, 10316]⟩
abbrev S2x8192x8704 : Shape := ⟨3, ![2, 8192, 8704]⟩
abbrev S16384x8704 : Shape := ⟨2, ![16384, 8704]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x10316, .f32⟩
  | .hbm, ⟨3, _⟩ => ⟨S2x8192x4096, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x4096, .f32⟩
  | .hbm, ⟨15, _⟩ => ⟨S2x8192x4096, .f32⟩
  | .hbm, ⟨16, _⟩ => ⟨S1x1x4096, .f32⟩
  | .hbm, ⟨17, _⟩ => ⟨S2x8192x4096, .f32⟩
  | .hbm, ⟨18, _⟩ => ⟨S2x8192x4096, .f32⟩
  | .hbm, ⟨19, _⟩ => ⟨S2x8192x10316, .f32⟩
  | .hbm, ⟨20, _⟩ => ⟨S2x8192x8704, .f32⟩
  | .hbm, ⟨21, _⟩ => ⟨S16384x8704, .f32⟩
  | .hbm, ⟨22, _⟩ => ⟨S16384x8704, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel6.lean ====
abbrev S16384x4096 : Shape := ⟨2, ![16384, 4096]⟩
abbrev S4096x4096 : Shape := ⟨2, ![4096, 4096]⟩
abbrev S4096 : Shape := ⟨1, ![4096]⟩
abbrev S1x4096x4096 : Shape := ⟨3, ![1, 4096, 4096]⟩
abbrev S1x4096 : Shape := ⟨2, ![1, 4096]⟩
abbrev S16384x128 : Shape := ⟨2, ![16384, 128]⟩
abbrev S1024x4096 : Shape := ⟨2, ![1024, 4096]⟩
abbrev S1x4096x512 : Shape := ⟨3, ![1, 4096, 512]⟩
abbrev S1024x512 : Shape := ⟨2, ![1024, 512]⟩
abbrev S1x512 : Shape := ⟨2, ![1, 512]⟩
abbrev S1024x128 : Shape := ⟨2, ![1024, 128]⟩
abbrev S4096x512 : Shape := ⟨2, ![4096, 512]⟩
abbrev S1024 : Shape := ⟨1, ![1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096x4096, .f32⟩
  | .hbm, ⟨3, _⟩ => ⟨S4096, .f32⟩
  | .hbm, ⟨4, _⟩ => ⟨S16384x4096, .bf16⟩
  | .hbm, ⟨5, _⟩ => ⟨S1x4096x4096, .f32⟩
  | .hbm, ⟨6, _⟩ => ⟨S1x4096x4096, .bf16⟩
  | .hbm, ⟨7, _⟩ => ⟨S1x4096, .f32⟩
  | .hbm, ⟨8, _⟩ => ⟨S16384x4096, .f32⟩
  | .hbm, ⟨9, _⟩ => ⟨S16384x4096, .bf16⟩
  | .hbm, ⟨10, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v19 : BitVec 1 := Scalar.cmpi .eq arg1 c0_i32
  let v20 : BitVec 32 := Scalar.extui v19
  let c0_i32_13 : BitVec 32 := 0#32
  let v21 : BitVec 1 := Scalar.cmpi .ne v20 c0_i32_13
  v21

def k0_cond2 (i : grid0.Coords) : BitVec 1 :=
  let arg1 : BitVec 32 := BitVec.ofNat 32 (i 1).val
  let c0_i32_14 : BitVec 32 := 0#32
  let v22 : BitVec 1 := Scalar.cmpi .sgt arg1 c0_i32_14
  let v23 : BitVec 32 := Scalar.extui v22
  let c0_i32_15 : BitVec 32 := 0#32
  let v24 : BitVec 1 := Scalar.cmpi .ne v23 c0_i32_15
  v24

def k0_cond3 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S16384x4096 : Shape := ⟨2, ![16384, 4096]⟩
abbrev S4096x4096 : Shape := ⟨2, ![4096, 4096]⟩
abbrev S4096 : Shape := ⟨1, ![4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096x4096, .f32⟩
  | .hbm, ⟨3, _⟩ => ⟨S4096, .f32⟩
  | .hbm, ⟨4, _⟩ => ⟨S16384x4096, .f32⟩
  | .hbm, ⟨5, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel7.lean ====
abbrev S2x8192x4096 : Shape := ⟨3, ![2, 8192, 4096]⟩
abbrev S4096 : Shape := ⟨1, ![4096]⟩
abbrev S4096x10316 : Shape := ⟨2, ![4096, 10316]⟩
abbrev S16384x4096 : Shape := ⟨2, ![16384, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S1x4096x10316 : Shape := ⟨3, ![1, 4096, 10316]⟩
abbrev S1x10316x4096 : Shape := ⟨3, ![1, 10316, 4096]⟩
abbrev S1x1600x4096 : Shape := ⟨3, ![1, 1600, 4096]⟩
abbrev S1x1792x4096 : Shape := ⟨3, ![1, 1792, 4096]⟩
abbrev S1x12x4096 : Shape := ⟨3, ![1, 12, 4096]⟩
abbrev S16384x1792 : Shape := ⟨2, ![16384, 1792]⟩
abbrev S1024x4096 : Shape := ⟨2, ![1024, 4096]⟩
abbrev S1024x128 : Shape := ⟨2, ![1024, 128]⟩
abbrev S1x256x4096 : Shape := ⟨3, ![1, 256, 4096]⟩
abbrev S1024x256 : Shape := ⟨2, ![1024, 256]⟩
abbrev S256x4096 : Shape := ⟨2, ![256, 4096]⟩

abbrev nBuf : Space → Nat
  | .hbm => 33
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x10316, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x128, .f32⟩
  | .hbm, ⟨20, _⟩ => ⟨S1x4096x10316, .f32⟩
  | .hbm, ⟨21, _⟩ => ⟨S1x10316x4096, .f32⟩
  | .hbm, ⟨22, _⟩ => ⟨S1x10316x4096, .bf16⟩
  | .hbm, ⟨23, _⟩ => ⟨S1x1600x4096, .bf16⟩
  | .hbm, ⟨24, _⟩ => ⟨S_, .i32⟩
  | .hbm, ⟨25, _⟩ => ⟨S_, .bf16⟩
  | .hbm, ⟨26, _⟩ => ⟨S1x1792x4096, .bf16⟩
  | .hbm, ⟨27, _⟩ => ⟨S1x12x4096, .bf16⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x1792x4096, .bf16⟩
  | .hbm, ⟨32, _⟩ => ⟨S16384x1792, .f32⟩
  | .local _ .vmem, ⟨0, _⟩ => ⟨S1024x4096, .bf16⟩
  | .local _ .vmem, ⟨1, _⟩ => ⟨S1024x4096, .bf16⟩
  | .local _ .vmem, ⟨2, _⟩ => ⟨S1024x128, .f32⟩
  | .local _ .vmem, ⟨3, _⟩ => ⟨S1024x128, .f32⟩
  | .local _ .vmem, ⟨4, _⟩ => ⟨S1x256x4096, .bf16⟩
  | .local _ .vmem, ⟨5, _⟩ => ⟨S1x256x4096, .bf16⟩
  | .local _ .vmem, ⟨6, _⟩ => ⟨S1024x256, .f32⟩
  | .local _ .vmem, ⟨7, _⟩ => ⟨S1024x256, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_c_3 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x8192x4096 : Shape := ⟨3, ![2, 8192, 4096]⟩
abbrev S4096 : Shape := ⟨1, ![4096]⟩
abbrev S4096x10316 : Shape := ⟨2, ![4096, 10316]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x10316 : Shape := ⟨3, ![2, 8192, 10316]⟩
abbrev S16384x10316 : Shape := ⟨2, ![16384, 10316]⟩
abbrev S16384x1600 : Shape := ⟨2, ![16384, 1600]⟩
abbrev S16384x64 : Shape := ⟨2, ![16384, 64]⟩
abbrev S16384x12 : Shape := ⟨2, ![16384, 12]⟩
abbrev S16384x116 : Shape := ⟨2, ![16384, 116]⟩
abbrev S16384x1792 : Shape := ⟨2, ![16384, 1792]⟩

abbrev nBuf : Space → Nat
  | .hbm => 28
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x10316, .f32⟩
  | .hbm, ⟨3, _⟩ => ⟨S2x8192x4096, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x4096, .f32⟩
  | .hbm, ⟨15, _⟩ => ⟨S2x8192x4096, .f32⟩
  | .hbm, ⟨16, _⟩ => ⟨S1x1x4096, .f32⟩
  | .hbm, ⟨17, _⟩ => ⟨S2x8192x4096, .f32⟩
  | .hbm, ⟨18, _⟩ => ⟨S2x8192x4096, .f32⟩
  | .hbm, ⟨19, _⟩ => ⟨S2x8192x10316, .f32⟩
  | .hbm, ⟨20, _⟩ => ⟨S16384x10316, .f32⟩
  | .hbm, ⟨21, _⟩ => ⟨S16384x1600, .f32⟩
  | .hbm, ⟨22, _⟩ => ⟨S_, .f32⟩
  | .hbm, ⟨23, _⟩ => ⟨S16384x64, .f32⟩
  | .hbm, ⟨24, _⟩ => ⟨S16384x12, .f32⟩
  | .hbm, ⟨25, _⟩ => ⟨S_, .f32⟩
  | .hbm, ⟨26, _⟩ => ⟨S16384x116, .f32⟩
  | .hbm, ⟨27, _⟩ => ⟨S16384x1792, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel8.lean ====
abbrev S16384x1024 : Shape := ⟨2, ![16384, 1024]⟩
abbrev S1024x2304 : Shape := ⟨2, ![1024, 2304]⟩
abbrev S1x1024x2304 : Shape := ⟨3, ![1, 1024, 2304]⟩
abbrev S1x1024x12x192 : Shape := ⟨4, ![1, 1024, 12, 192]⟩
abbrev S_ : Shape := ⟨0, ![]⟩
abbrev S1x1024x12x256 : Shape := ⟨4, ![1, 1024, 12, 256]⟩
abbrev S1x1024x3072 : Shape := ⟨3, ![1, 1024, 3072]⟩
abbrev S16384x3072 : Shape := ⟨2, ![16384, 3072]⟩
abbrev S2048x1024 : Shape := ⟨2, ![2048, 1024]⟩
abbrev S1x1024x1536 : Shape := ⟨3, ![1, 1024, 1536]⟩
abbrev S2048x1536 : Shape := ⟨2, ![2048, 1536]⟩
abbrev S1024x1536 : Shape := ⟨2, ![1024, 1536]⟩

abbrev nBuf : Space → Nat
  | .hbm => 11
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2304, .f32⟩
  | .hbm, ⟨2, _⟩ => ⟨S1x1024x2304, .f32⟩
  | .hbm, ⟨3, _⟩ => ⟨S1x1024x12x192, .f32⟩
  | .hbm, ⟨4, _⟩ => ⟨S_, .i32⟩
  | .hbm, ⟨5, _⟩ => ⟨S_, .f32⟩
  | .hbm, ⟨6, _⟩ => ⟨S1x1024x12x256, .f32⟩
  | .hbm, ⟨7, _⟩ => ⟨S1x1024x3072, .f32⟩
  | .hbm, ⟨8, _⟩ => ⟨S1x1024x3072, .bf16⟩
  | .hbm, ⟨9, _⟩ => ⟨S16384x1024, .bf16⟩
  | .hbm, ⟨10, _⟩ => ⟨S16384x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S2048x1536, .bf16⟩
  | .local _ .vmem, ⟨5, _⟩ => ⟨S2048x1536, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x1024 : Shape := ⟨2, ![16384, 1024]⟩
abbrev S1024x2304 : Shape := ⟨2, ![1024, 2304]⟩
abbrev S16384x2304 : Shape := ⟨2, ![16384, 2304]⟩
abbrev S16384x12x192 : Shape := ⟨3, ![16384, 12, 192]⟩
abbrev S_ : Shape := ⟨0, ![]⟩
abbrev S16384x12x64 : Shape := ⟨3, ![16384, 12, 64]⟩
abbrev S16384x12x256 : Shape := ⟨3, ![16384, 12, 256]⟩
abbrev S16384x3072 : Shape := ⟨2, ![16384, 3072]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2304, .f32⟩
  | .hbm, ⟨2, _⟩ => ⟨S16384x2304, .f32⟩
  | .hbm, ⟨3, _⟩ => ⟨S16384x12x192, .f32⟩
  | .hbm, ⟨4, _⟩ => ⟨S_, .f32⟩
  | .hbm, ⟨5, _⟩ => ⟨S16384x12x64, .f32⟩
  | .hbm, ⟨6, _⟩ => ⟨S16384x12x256, .f32⟩
  | .hbm, ⟨7, _⟩ => ⟨S16384x3072, .f32⟩
  | .hbm, ⟨8, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S16384x512 : Shape := ⟨2, ![16384, 512]⟩
abbrev S16384x64 : Shape := ⟨2, ![16384, 64]⟩
abbrev S512x3072 : Shape := ⟨2, ![512, 3072]⟩
abbrev S_ : Shape := ⟨0, ![]⟩
abbrev S16384x640 : Shape := ⟨2, ![16384, 640]⟩
abbrev S1x512x3072 : Shape := ⟨3, ![1, 512, 3072]⟩
abbrev S1x512x12x256 : Shape := ⟨4, ![1, 512, 12, 256]⟩
abbrev S1x512x12x128 : Shape := ⟨4, ![1, 512, 12, 128]⟩
abbrev S1x512x1536 : Shape := ⟨3, ![1, 512, 1536]⟩
abbrev S128x128 : Shape := ⟨2, ![128, 128]⟩
abbrev S128x1x128 : Shape := ⟨3, ![128, 1, 128]⟩
abbrev S128x12x128 : Shape := ⟨3, ![128, 12, 128]⟩
abbrev S128x12x256 : Shape := ⟨3, ![128, 12, 256]⟩
abbrev S128x3072 : Shape := ⟨2, ![128, 3072]⟩
abbrev S128x1536 : Shape := ⟨2, ![128, 1536]⟩
abbrev S128x4608 : Shape := ⟨2, ![128, 4608]⟩
abbrev S1x512x4608 : Shape := ⟨3, ![1, 512, 4608]⟩
abbrev S1x128x4608 : Shape := ⟨3, ![1, 128, 4608]⟩
abbrev S1x640x4608 : Shape := ⟨3, ![1, 640, 4608]⟩
abbrev S16384x4608 : Shape := ⟨2, ![16384, 4608]⟩
abbrev S2048x640 : Shape := ⟨2, ![2048, 640]⟩
abbrev S1x640x1536 : Shape := ⟨3, ![1, 640, 1536]⟩
abbrev S2048x1536 : Shape := ⟨2, ![2048, 1536]⟩
abbrev S640x1536 : Shape := ⟨2, ![640, 1536]⟩

abbrev nBuf : Space → Nat
  | .hbm => 37
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x64, .f32⟩
  | .hbm, ⟨2, _⟩ => ⟨S512x3072, .f32⟩
  | .hbm, ⟨3, _⟩ => ⟨S_, .f32⟩
  | .hbm, ⟨4, _⟩ => ⟨S16384x64, .f32⟩
  | .hbm, ⟨5, _⟩ => ⟨S16384x640, .f32⟩
  | .hbm, ⟨6, _⟩ => ⟨S16384x640, .bf16⟩
  | .hbm, ⟨7, _⟩ => ⟨S1x512x3072, .f32⟩
  | .hbm, ⟨8, _⟩ => ⟨S1x512x12x256, .f32⟩
  | .hbm, ⟨9, _⟩ => ⟨S1x512x12x128, .f32⟩
  | .hbm, ⟨10, _⟩ => ⟨S_, .i32⟩
  | .hbm, ⟨11, _⟩ => ⟨S_, .f32⟩
  | .hbm, ⟨12, _⟩ => ⟨S1x512x12x256, .f32⟩
  | .hbm, ⟨13, _⟩ => ⟨S1x512x3072, .f32⟩
  | .hbm, ⟨14, _⟩ => ⟨S1x512x12x128, .f32⟩
  | .hbm, ⟨15, _⟩ => ⟨S1x512x1536, .f32⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S128x128, .f32⟩
  | .hbm, ⟨23, _⟩ => ⟨S128x1x128, .f32⟩
  | .hbm, ⟨24, _⟩ => ⟨S128x12x128, .f32⟩
  | .hbm, ⟨25, _⟩ => ⟨S_, .f32⟩
  | .hbm, ⟨26, _⟩ => ⟨S128x12x128, .f32⟩
  | .hbm, ⟨27, _⟩ => ⟨S128x12x256, .f32⟩
  | .hbm, ⟨28, _⟩ => ⟨S128x3072, .f32⟩
  | .hbm, ⟨29, _⟩ => ⟨S_, .f32⟩
  | .hbm, ⟨30, _⟩ => ⟨S128x1536, .f32⟩
  | .hbm, ⟨31, _⟩ => ⟨S128x4608, .f32⟩
  | .hbm, ⟨32, _⟩ => ⟨S1x512x4608, .f32⟩
  | .hbm, ⟨33, _⟩ => ⟨S1x128x4608, .f32⟩
  | .hbm, ⟨34, _⟩ => ⟨S1x640x4608, .f32⟩
  | .hbm, ⟨35, _⟩ => ⟨S1x640x4608, .bf16⟩
  | .hbm, ⟨36, _⟩ => ⟨S16384x4608, .bf16⟩
  | .local _ .vmem, ⟨0, _⟩ => ⟨S2048x640, .bf16⟩
  | .local _ .vmem, ⟨1, _⟩ => ⟨S2048x640, .bf16⟩
  | .local _ .vmem, ⟨2, _⟩ => ⟨S1x640x1536, .bf16⟩
  | .local _ .vmem, ⟨3, _⟩ => ⟨S1x640x1536, .bf16⟩
  | .local _ .vmem, ⟨4, _⟩ => ⟨S2048x1536, .bf16⟩
  | .local _ .vmem, ⟨5, _⟩ => ⟨S2048x1536, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x640x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16384x512 : Shape := ⟨2, ![16384, 512]⟩
abbrev S16384x64 : Shape := ⟨2, ![16384, 64]⟩
abbrev S512x3072 : Shape := ⟨2, ![512, 3072]⟩
abbrev S16384x3072 : Shape := ⟨2, ![16384, 3072]⟩
abbrev S16384x12x256 : Shape := ⟨3, ![16384, 12, 256]⟩
abbrev S16384x12x128 : Shape := ⟨3, ![16384, 12, 128]⟩
abbrev S16384x1x64 : Shape := ⟨3, ![16384, 1, 64]⟩
abbrev S16384x12x64 : Shape := ⟨3, ![16384, 12, 64]⟩
abbrev S_ : Shape := ⟨0, ![]⟩
abbrev S16384x1536 : Shape := ⟨2, ![16384, 1536]⟩
abbrev S16384x4608 : Shape := ⟨2, ![16384, 4608]⟩

abbrev nBuf : Space → Nat
  | .hbm => 16
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x64, .f32⟩
  | .hbm, ⟨2, _⟩ => ⟨S512x3072, .f32⟩
  | .hbm, ⟨3, _⟩ => ⟨S16384x3072, .f32⟩
  | .hbm, ⟨4, _⟩ => ⟨S16384x12x256, .f32⟩
  | .hbm, ⟨5, _⟩ => ⟨S16384x12x128, .f32⟩
  | .hbm, ⟨6, _⟩ => ⟨S16384x12x128, .f32⟩
  | .hbm, ⟨7, _⟩ => ⟨S16384x1x64, .f32⟩
  | .hbm, ⟨8, _⟩ => ⟨S16384x12x64, .f32⟩
  | .hbm, ⟨9, _⟩ => ⟨S_, .f32⟩
  | .hbm, ⟨10, _⟩ => ⟨S16384x12x64, .f32⟩
  | .hbm, ⟨11, _⟩ => ⟨S16384x12x256, .f32⟩
  | .hbm, ⟨12, _⟩ => ⟨S16384x3072, .f32⟩
  | .hbm, ⟨13, _⟩ => ⟨S16384x1536, .f32⟩
  | .hbm, ⟨14, _⟩ => ⟨S16384x4608, .f32⟩
  | .hbm, ⟨15, _⟩ => ⟨S16384x4608, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.KernelIdeal.Chunk.lean ====
module

public import proofs.«01_k».proof.Proof.Gen.KernelIdeal.Skeleton
public import Idealize.ShloMosaic.Lib.Pointwise
public import Idealize.ShloMosaic.Lib.Pipeline.Value

/-! What one chain of rows computes at an index: the scores, the running maximum and the accumulator. -/

@[expose] public section

set_option maxRecDepth 16384

noncomputable section

namespace Cert.KernelIdeal.Attn

open Cert.KernelIdeal Cert.KernelIdeal.Gen
open Idealize.ShloMosaic
open Idealize.ShloMosaic.TcCoe

/-- The bits of minus infinity read as the least extended real. -/
theorem ofBits_negInf : Ideal.ofBits .f32 4286578688#32 = (⊥ : EReal) := by
  rfl

/-- The lane `l` of a wider row, among the 128 lanes of the running maximum. -/
abbrev lane {n : ℕ} (l : Fin n) : Fin 128 := ⟨l.val % 128, Nat.mod_lt _ (by decide)⟩

theorem fold_max_bot {n : ℕ} (f : Fin n → EReal) : Finset.fold max (⊥ : EReal) f Finset.univ = Finset.univ.sup f := rfl

theorem cat256 (x : FVec Ideal S512x128 .f32) (p : Fin 512) (l : Fin 256) :
    concatenate S512x256 1 [⟨S512x128, x⟩, ⟨S512x128, x⟩] concatenates_S512x128_S512x128_S512x256_d1 (ix2 p l) = x (ix2 p (lane l)) :=
  concatenate_replicate_apply (t := S512x256) (s₁ := S512x128) 1 2 x concatenates_S512x128_S512x128_S512x256_d1 rfl (ix2 p l) (ix2 p (lane l)) rfl
    (fun b hb => by match b with | ⟨0, _⟩ => rfl | ⟨1, _⟩ => exact absurd rfl hb)

theorem cat512 (x : FVec Ideal S512x128 .f32) (p : Fin 512) (j : Fin 512) :
    concatenate S512x512 1 [⟨S512x128, x⟩, ⟨S512x128, x⟩, ⟨S512x128, x⟩, ⟨S512x128, x⟩] concatenates_S512x128_S512x128_S512x128_S512x128_S512x512_d1 (ix2 p j) = x (ix2 p (lane j)) :=
  concatenate_replicate_apply (t := S512x512) (s₁ := S512x128) 1 4 x concatenates_S512x128_S512x128_S512x128_S512x128_S512x512_d1 rfl (ix2 p j) (ix2 p (lane j)) rfl
    (fun b hb => by match b with | ⟨0, _⟩ => rfl | ⟨1, _⟩ => exact absurd rfl hb)

/-- The scores of 512 rows against 512 keys. -/
def sc512 (q : FVec Ideal S512x256 .bf16) (k : FVec Ideal S512x256 .bf16) : FVec Ideal S512x512 .f32 :=
  matmul dot_S512x256_S512x256_S512x512_1_1_0_0_n_n none q (shapeCast S512x256 k shapeCasts_S512x256_S512x256) (constant S512x512 .f32 0x00000000#32)

theorem sc512_apply (q : FVec Ideal S512x256 .bf16) (k : FVec Ideal S512x256 .bf16) (p : Fin 512) (j : Fin 512) :
    sc512 q k (ix2 p j) = ∑ d : Fin 256, (q (ix2 p d) : EReal) * k (ix2 j d) := by
  pointwise [sc512]

/-- The running maximum after 512 keys. -/
def pm512 (s : FVec Ideal S512x512 .f32) (m : FVec Ideal S512x128 .f32) : FVec Ideal S512x128 .f32 :=
  maximumf m (broadcastTo S512x128 (shapeCast S512x1 (multiReduction .maximumf [1] S512 s 0xFF800000#32 reduces_S512x512_S512 (.inl rfl) rfl) shapeCasts_S512_S512x1) broadcasts_S512x1_S512x128)

theorem pm512_apply (s : FVec Ideal S512x512 .f32) (m : FVec Ideal S512x128 .f32) (p : Fin 512) (l : Fin 128) :
    pm512 s m (ix2 p l) = max (m (ix2 p l) : EReal) (Finset.univ.sup fun j => (s (ix2 p j) : EReal)) := by
  pointwise [pm512]
  rw [ofBits_negInf]
  rfl

def paCore512 (s y : FVec Ideal S512x512 .f32) (e a : FVec Ideal S512x256 .f32) (v : FVec Ideal S512x256 .bf16) : FVec Ideal S512x256 .f32 :=
  addf (mulf e a) (matmul dot_S512x512_S512x256_S512x256_1_0_0_1_n_n none (truncf .bf16 (exp2 (subf s y)) bitsLt_bf16_f32) v (constant S512x256 .f32 0x00000000#32))

theorem paCore512_apply (s y : FVec Ideal S512x512 .f32) (e a : FVec Ideal S512x256 .f32) (v : FVec Ideal S512x256 .bf16) (p : Fin 512) (l : Fin 256) :
    paCore512 s y e a v (ix2 p l) = (e (ix2 p l) : EReal) * a (ix2 p l) + ∑ j : Fin 512, Ideal.exp2 ((s (ix2 p j) : EReal) - y (ix2 p j)) * v (ix2 j l) := by
  pointwise [paCore512]

  rfl

/-- The accumulator after 512 keys. -/
def pa512 (s : FVec Ideal S512x512 .f32) (m : FVec Ideal S512x128 .f32) (a : FVec Ideal S512x256 .f32) (v : FVec Ideal S512x256 .bf16) : FVec Ideal S512x256 .f32 :=
  shapeCast S512x256 (paCore512 s (concatenate S512x512 1 [⟨S512x128, pm512 s m⟩, ⟨S512x128, pm512 s m⟩, ⟨S512x128, pm512 s m⟩, ⟨S512x128, pm512 s m⟩] concatenates_S512x128_S512x128_S512x128_S512x128_S512x512_d1)
    (concatenate S512x256 1 [⟨S512x128, exp2 (subf m (pm512 s m))⟩, ⟨S512x128, exp2 (subf m (pm512 s m))⟩] concatenates_S512x128_S512x128_S512x256_d1) a v) shapeCasts_S512x256_S512x256

theorem pa512_apply (s : FVec Ideal S512x512 .f32) (m : FVec Ideal S512x128 .f32) (a : FVec Ideal S512x256 .f32) (v : FVec Ideal S512x256 .bf16) (p : Fin 512) (l : Fin 256) :
    pa512 s m a v (ix2 p l) = Ideal.exp2 ((m (ix2 p (lane l)) : EReal) - pm512 s m (ix2 p (lane l))) * a (ix2 p l)
      + ∑ j : Fin 512, Ideal.exp2 ((s (ix2 p j) : EReal) - pm512 s m (ix2 p (lane j))) * v (ix2 j l) := by
  unfold pa512
  rw [shapeCast_self, paCore512_apply, cat256]
  simp only [cat512]
  rfl

theorem cat1024 (x : FVec Ideal S512x128 .f32) (p : Fin 512) (j : Fin 1024) :
    concatenate S512x1024 1 [⟨S512x128, x⟩, ⟨S512x128, x⟩, ⟨S512x128, x⟩, ⟨S512x128, x⟩, ⟨S512x128, x⟩, ⟨S512x128, x⟩, ⟨S512x128, x⟩, ⟨S512x128, x⟩] concatenates_S512x128_S512x128_S512x128_S512x128_S512x128_S512x128_S512x128_S512x128_S512x1024_d1 (ix2 p j) = x (ix2 p (lane j)) :=
  concatenate_replicate_apply (t := S512x1024) (s₁ := S512x128) 1 8 x concatenates_S512x128_S512x128_S512x128_S512x128_S512x128_S512x128_S512x128_S512x128_S512x1024_d1 rfl (ix2 p j) (ix2 p (lane j)) rfl
    (fun b hb => by match b with | ⟨0, _⟩ => rfl | ⟨1, _⟩ => exact absurd rfl hb)

/-- The scores of 512 rows against 1024 keys. -/
def sc1024 (q : FVec Ideal S512x256 .bf16) (k : FVec Ideal S1024x256 .bf16) : FVec Ideal S512x1024 .f32 :=
  matmul dot_S512x256_S1024x256_S512x1024_1_1_0_0_n_n none q (shapeCast S1024x256 k shapeCasts_S1024x256_S1024x256) (constant S512x1024 .f32 0x00000000#32)

theorem sc1024_apply (q : FVec Ideal S512x256 .bf16) (k : FVec Ideal S1024x256 .bf16) (p : Fin 512) (j : Fin 1024) :
    sc1024 q k (ix2 p j) = ∑ d : Fin 256, (q (ix2 p d) : EReal) * k (ix2 j d) := by
  pointwise [sc1024]

/-- The running maximum after 1024 keys. -/
def pm1024 (s : FVec Ideal S512x1024 .f32) (m : FVec Ideal S512x128 .f32) : FVec Ideal S512x128 .f32 :=
  maximumf m (broadcastTo S512x128 (shapeCast S512x1 (multiReduction .maximumf [1] S512 s 0xFF800000#32 reduces_S512x1024_S512 (.inl rfl) rfl) shapeCasts_S512_S512x1) broadcasts_S512x1_S512x128)

theorem pm1024_apply (s : FVec Ideal S512x1024 .f32) (m : FVec Ideal S512x128 .f32) (p : Fin 512) (l : Fin 128) :
    pm1024 s m (ix2 p l) = max (m (ix2 p l) : EReal) (Finset.univ.sup fun j => (s (ix2 p j) : EReal)) := by
  pointwise [pm1024]
  rw [ofBits_negInf]
  rfl

def paCore1024 (s y : FVec Ideal S512x1024 .f32) (e a : FVec Ideal S512x256 .f32) (v : FVec Ideal S1024x256 .bf16) : FVec Ideal S512x256 .f32 :=
  addf (mulf e a) (matmul dot_S512x1024_S1024x256_S512x256_1_0_0_1_n_n none (truncf .bf16 (exp2 (subf s y)) bitsLt_bf16_f32) v (constant S512x256 .f32 0x00000000#32))

theorem paCore1024_apply (s y : FVec Ideal S512x1024 .f32) (e a : FVec Ideal S512x256 .f32) (v : FVec Ideal S1024x256 .bf16) (p : Fin 512) (l : Fin 256) :
    paCore1024 s y e a v (ix2 p l) = (e (ix2 p l) : EReal) * a (ix2 p l) + ∑ j : Fin 1024, Ideal.exp2 ((s (ix2 p j) : EReal) - y (ix2 p j)) * v (ix2 j l) := by
  pointwise [paCore1024]

  rfl

/-- The accumulator after 1024 keys. -/
def pa1024 (s : FVec Ideal S512x1024 .f32) (m : FVec Ideal S512x128 .f32) (a : FVec Ideal S512x256 .f32) (v : FVec Ideal S1024x256 .bf16) : FVec Ideal S512x256 .f32 :=
  shapeCast S512x256 (paCore1024 s (concatenate S512x1024 1 [⟨S512x128, pm1024 s m⟩, ⟨S512x128, pm1024 s m⟩, ⟨S512x128, pm1024 s m⟩, ⟨S512x128, pm1024 s m⟩, ⟨S512x128, pm1024 s m⟩, ⟨S512x128, pm1024 s m⟩, ⟨S512x128, pm1024 s m⟩, ⟨S512x128, pm1024 s m⟩] concatenates_S512x128_S512x128_S512x128_S512x128_S512x128_S512x128_S512x128_S512x128_S512x1024_d1)
    (concatenate S512x256 1 [⟨S512x128, exp2 (subf m (pm1024 s m))⟩, ⟨S512x128, exp2 (subf m (pm1024 s m))⟩] concatenates_S512x128_S512x128_S512x256_d1) a v) shapeCasts_S512x256_S512x256

theorem pa1024_apply (s : FVec Ideal S512x1024 .f32) (m : FVec Ideal S512x128 .f32) (a : FVec Ideal S512x256 .f32) (v : FVec Ideal S1024x256 .bf16) (p : Fin 512) (l : Fin 256) :
    pa1024 s m a v (ix2 p l) = Ideal.exp2 ((m (ix2 p (lane l)) : EReal) - pm1024 s m (ix2 p (lane l))) * a (ix2 p l)
      + ∑ j : Fin 1024, Ideal.exp2 ((s (ix2 p j) : EReal) - pm1024 s m (ix2 p (lane j))) * v (ix2 j l) := by
  unfold pa1024
  rw [shapeCast_self, paCore1024_apply, cat256]
  simp only [cat1024]
  rfl

theorem cat1536 (x : FVec Ideal S512x128 .f32) (p : Fin 512) (j : Fin 1536) :
    concatenate S512x1536 1 [⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩] concatenates_S512x128_S512x128_S512x128_S512x128_S512x128_S512x128_S512x128_S512x128_S512x128_S512x128_S512x128_S512x128_S512x1536_d1 (ix2 p j) = x (ix2 p (lane j)) :=
  concatenate_replicate_apply (t := S512x1536) (s₁ := S512x128) 1 12 x concatenates_S512x128_S512x128_S512x128_S512x128_S512x128_S512x128_S512x128_S512x128_S512x128_S512x128_S512x128_S512x128_S512x1536_d1 rfl (ix2 p j) (ix2 p (lane j)) rfl
    (fun b hb => by match b with | ⟨0, _⟩ => rfl | ⟨1, _⟩ => exact absurd rfl hb)

/-- The scores of 512 rows against 1536 keys. -/
def sc1536 (q : FVec Ideal S512x256 .bf16) (k : FVec Ideal S1536x256 .bf16) : FVec Ideal S512x1536 .f32 :=
  matmul dot_S512x256_S1536x256_S512x1536_1_1_0_0_n_n none q (shapeCast S1536x256 k shapeCasts_S1536x256_S1536x256) (constant S512x1536 .f32 0x00000000#32)

theorem sc1536_apply (q : FVec Ideal S512x256 .bf16) (k : FVec Ideal S1536x256 .bf16) (p : Fin 512) (j : Fin 1536) :
    sc1536 q k (ix2 p j) = ∑ d : Fin 256, (q (ix2 p d) : EReal) * k (ix2 j d) := by
  pointwise [sc1536]

/-- The running maximum after 1536 keys. -/
def pm1536 (s : FVec Ideal S512x1536 .f32) (m : FVec Ideal S512x128 .f32) : FVec Ideal S512x128 .f32 :=
  maximumf m (broadcastTo S512x128 (shapeCast S512x1 (multiReduction .maximumf [1] S512 s 0xFF800000#32 reduces_S512x1536_S512 (.inl rfl) rfl) shapeCasts_S512_S512x1) broadcasts_S512x1_S512x128)

theorem pm1536_apply (s : FVec Ideal S512x1536 .f32) (m : FVec Ideal S512x128 .f32) (p : Fin 512) (l : Fin 128) :
    pm1536 s m (ix2 p l) = max (m (ix2 p l) : EReal) (Finset.univ.sup fun j => (s (ix2 p j) : EReal)) := by
  pointwise [pm1536]
  rw [ofBits_negInf]
  rfl

def paCore1536 (s y : FVec Ideal S512x1536 .f32) (e a : FVec Ideal S512x256 .f32) (v : FVec Ideal S1536x256 .bf16) : FVec Ideal S512x256 .f32 :=
  addf (mulf e a) (matmul dot_S512x1536_S1536x256_S512x256_1_0_0_1_n_n none (truncf .bf16 (exp2 (subf s y)) bitsLt_bf16_f32) v (constant S512x256 .f32 0x00000000#32))

theorem paCore1536_apply (s y : FVec Ideal S512x1536 .f32) (e a : FVec Ideal S512x256 .f32) (v : FVec Ideal S1536x256 .bf16) (p : Fin 512) (l : Fin 256) :
    paCore1536 s y e a v (ix2 p l) = (e (ix2 p l) : EReal) * a (ix2 p l) + ∑ j : Fin 1536, Ideal.exp2 ((s (ix2 p j) : EReal) - y (ix2 p j)) * v (ix2 j l) := by
  pointwise [paCore1536]

  rfl

/-- The accumulator after 1536 keys. -/
def pa1536 (s : FVec Ideal S512x1536 .f32) (m : FVec Ideal S512x128 .f32) (a : FVec Ideal S512x256 .f32) (v : FVec Ideal S1536x256 .bf16) : FVec Ideal S512x256 .f32 :=
  shapeCast S512x256 (paCore1536 s (concatenate S512x1536 1 [⟨S512x128, pm1536 s m⟩, ⟨S512x128, pm1536 s m⟩, ⟨S512x128, pm1536 s m⟩, ⟨S512x128, pm1536 s m⟩, ⟨S512x128, pm1536 s m⟩, ⟨S512x128, pm1536 s m⟩, ⟨S512x128, pm1536 s m⟩, ⟨S512x128, pm1536 s m⟩, ⟨S512x128, pm1536 s m⟩, ⟨S512x128, pm1536 s m⟩, ⟨S512x128, pm1536 s m⟩, ⟨S512x128, pm1536 s m⟩] concatenates_S512x128_S512x128_S512x128_S512x128_S512x128_S512x128_S512x128_S512x128_S512x128_S512x128_S512x128_S512x128_S512x1536_d1)
    (concatenate S512x256 1 [⟨S512x128, exp2 (subf m (pm1536 s m))⟩, ⟨S512x128, exp2 (subf m (pm1536 s m))⟩] concatenates_S512x128_S512x128_S512x256_d1) a v) shapeCasts_S512x256_S512x256

theorem pa1536_apply (s : FVec Ideal S512x1536 .f32) (m : FVec Ideal S512x128 .f32) (a : FVec Ideal S512x256 .f32) (v : FVec Ideal S1536x256 .bf16) (p : Fin 512) (l : Fin 256) :
    pa1536 s m a v (ix2 p l) = Ideal.exp2 ((m (ix2 p (lane l)) : EReal) - pm1536 s m (ix2 p (lane l))) * a (ix2 p l)
      + ∑ j : Fin 1536, Ideal.exp2 ((s (ix2 p j) : EReal) - pm1536 s m (ix2 p (lane j))) * v (ix2 j l) := by
  unfold pa1536
  rw [shapeCast_self, paCore1536_apply, cat256]
  simp only [cat1536]
  rfl

theorem cat2048 (x : FVec Ideal S512x128 .f32) (p : Fin 512) (j : Fin 2048) :
    concatenate S512x2048 1 [⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩] concatenates_S512x128_S512x128_S512x128_S512x128_S512x128_S512x128_S512x128_S512x128_S512x128_S512x128_S512x128_S512x128_S512x128_S512x128_S512x128_S512x128_S512x2048_d1 (ix2 p j) = x (ix2 p (lane j)) :=
  concatenate_replicate_apply (t := S512x2048) (s₁ := S512x128) 1 16 x concatenates_S512x128_S512x128_S512x128_S512x128_S512x128_S512x128_S512x128_S512x128_S512x128_S512x128_S512x128_S512x128_S512x128_S512x128_S512x128_S512x128_S512x2048_d1 rfl (ix2 p j) (ix2 p (lane j)) rfl
    (fun b hb => by match b with | ⟨0, _⟩ => rfl | ⟨1, _⟩ => exact absurd rfl hb)

/-- The scores of 512 rows against 2048 keys. -/
def sc2048 (q : FVec Ideal S512x256 .bf16) (k : FVec Ideal S2048x256 .bf16) : FVec Ideal S512x2048 .f32 :=
  matmul dot_S512x256_S2048x256_S512x2048_1_1_0_0_n_n none q (shapeCast S2048x256 k shapeCasts_S2048x256_S2048x256) (constant S512x2048 .f32 0x00000000#32)

theorem sc2048_apply (q : FVec Ideal S512x256 .bf16) (k : FVec Ideal S2048x256 .bf16) (p : Fin 512) (j : Fin 2048) :
    sc2048 q k (ix2 p j) = ∑ d : Fin 256, (q (ix2 p d) : EReal) * k (ix2 j d) := by
  pointwise [sc2048]

/-- The running maximum after 2048 keys. -/
def pm2048 (s : FVec Ideal S512x2048 .f32) (m : FVec Ideal S512x128 .f32) : FVec Ideal S512x128 .f32 :=
  maximumf m (broadcastTo S512x128 (shapeCast S512x1 (multiReduction .maximumf [1] S512 s 0xFF800000#32 reduces_S512x2048_S512 (.inl rfl) rfl) shapeCasts_S512_S512x1) broadcasts_S512x1_S512x128)

theorem pm2048_apply (s : FVec Ideal S512x2048 .f32) (m : FVec Ideal S512x128 .f32) (p : Fin 512) (l : Fin 128) :
    pm2048 s m (ix2 p l) = max (m (ix2 p l) : EReal) (Finset.univ.sup fun j => (s (ix2 p j) : EReal)) := by
  pointwise [pm2048]
  rw [ofBits_negInf]
  rfl

def paCore2048 (s y : FVec Ideal S512x2048 .f32) (e a : FVec Ideal S512x256 .f32) (v : FVec Ideal S2048x256 .bf16) : FVec Ideal S512x256 .f32 :=
  addf (mulf e a) (matmul dot_S512x2048_S2048x256_S512x256_1_0_0_1_n_n none (truncf .bf16 (exp2 (subf s y)) bitsLt_bf16_f32) v (constant S512x256 .f32 0x00000000#32))

theorem paCore2048_apply (s y : FVec Ideal S512x2048 .f32) (e a : FVec Ideal S512x256 .f32) (v : FVec Ideal S2048x256 .bf16) (p : Fin 512) (l : Fin 256) :
    paCore2048 s y e a v (ix2 p l) = (e (ix2 p l) : EReal) * a (ix2 p l) + ∑ j : Fin 2048, Ideal.exp2 ((s (ix2 p j) : EReal) - y (ix2 p j)) * v (ix2 j l) := by
  pointwise [paCore2048]

  rfl

/-- The accumulator after 2048 keys. -/
def pa2048 (s : FVec Ideal S512x2048 .f32) (m : FVec Ideal S512x128 .f32) (a : FVec Ideal S512x256 .f32) (v : FVec Ideal S2048x256 .bf16) : FVec Ideal S512x256 .f32 :=
  shapeCast S512x256 (paCore2048 s (concatenate S512x2048 1 [⟨S512x128, pm2048 s m⟩, ⟨S512x128, pm2048 s m⟩, ⟨S512x128, pm2048 s m⟩, ⟨S512x128, pm2048 s m⟩, ⟨S512x128, pm2048 s m⟩, ⟨S512x128, pm2048 s m⟩, ⟨S512x128, pm2048 s m⟩, ⟨S512x128, pm2048 s m⟩, ⟨S512x128, pm2048 s m⟩, ⟨S512x128, pm2048 s m⟩, ⟨S512x128, pm2048 s m⟩, ⟨S512x128, pm2048 s m⟩, ⟨S512x128, pm2048 s m⟩, ⟨S512x128, pm2048 s m⟩, ⟨S512x128, pm2048 s m⟩, ⟨S512x128, pm2048 s m⟩] concatenates_S512x128_S512x128_S512x128_S512x128_S512x128_S512x128_S512x128_S512x128_S512x128_S512x128_S512x128_S512x128_S512x128_S512x128_S512x128_S512x128_S512x2048_d1)
    (concatenate S512x256 1 [⟨S512x128, exp2 (subf m (pm2048 s m))⟩, ⟨S512x128, exp2 (subf m (pm2048 s m))⟩] concatenates_S512x128_S512x128_S512x256_d1) a v) shapeCasts_S512x256_S512x256

theorem pa2048_apply (s : FVec Ideal S512x2048 .f32) (m : FVec Ideal S512x128 .f32) (a : FVec Ideal S512x256 .f32) (v : FVec Ideal S2048x256 .bf16) (p : Fin 512) (l : Fin 256) :
    pa2048 s m a v (ix2 p l) = Ideal.exp2 ((m (ix2 p (lane l)) : EReal) - pm2048 s m (ix2 p (lane l))) * a (ix2 p l)
      + ∑ j : Fin 2048, Ideal.exp2 ((s (ix2 p j) : EReal) - pm2048 s m (ix2 p (lane j))) * v (ix2 j l) := by
  unfold pa2048
  rw [shapeCast_self, paCore2048_apply, cat256]
  simp only [cat2048]
  rfl

end Cert.KernelIdeal.Attn
-- ==== Proof.KernelIdeal.Pay.lean ====
module

public import proofs.«01_k».proof.Proof.Gen.KernelIdeal.Skeleton
public import Idealize.ShloMosaic.Lib.Pointwise
public import proofs.«01_k».proof.Proof.KernelIdeal.Chunk

/-! The stored values of the step, read at an index. -/

@[expose] public section

set_option maxRecDepth 16384

noncomputable section

namespace Cert.KernelIdeal.Attn

open Cert.KernelIdeal Cert.KernelIdeal.Gen
open Idealize.ShloMosaic
open Idealize.ShloMosaic.TcCoe

theorem pay21_eq (s m) : k0_pay21 (F := Ideal) s m = pm2048 s m := rfl
theorem pay40_eq (s m) : k0_pay40 (F := Ideal) s m = pm1024 (k0_pay39 s) m := rfl
theorem pay45_eq (s m) : k0_pay45 (F := Ideal) s m = pm1536 (k0_pay44 s) m := rfl
theorem pay5_eq (s m) : k0_pay5 (F := Ideal) s m = pm2048 (k0_pay4 s) m := rfl
theorem pay34_eq (q k m) : k0_pay34 (F := Ideal) q k m = pm512 (k0_pay33 q k) m := rfl
theorem pay22_eq (s m a v) : k0_pay22 (F := Ideal) s m a v = pa2048 s m a v := rfl
theorem pay41_eq (s m a v) : k0_pay41 (F := Ideal) s m a v = pa1024 (k0_pay39 s) m a v := rfl
theorem pay46_eq (s m a v) : k0_pay46 (F := Ideal) s m a v = pa1536 (k0_pay44 s) m a v := rfl
theorem pay6_eq (s m a v) : k0_pay6 (F := Ideal) s m a v = pa2048 (k0_pay4 s) m a v := rfl
theorem pay36_eq (q k m a v) : k0_pay36 (F := Ideal) (k0_pay35 q k m a v) = pa512 (k0_pay33 q k) m a v := rfl
theorem pay32_eq (q k) : k0_pay32 (F := Ideal) q k = sc1024 q k := rfl
theorem pay38_eq (q k) : k0_pay38 (F := Ideal) q k = sc1536 q k := rfl
theorem pay43_eq (q k) : k0_pay43 (F := Ideal) q k = sc2048 q k := rfl

/-- The mask's constant is the least extended real. -/
theorem named_mask : (Named.named (F := Ideal) κ "mask" (φ := .f32) 0xF149F2CA#32 : EReal) = ⊥ := by
  rfl

theorem sle_iff (a b : ℕ) (ha : a < 2048) (hb : b < 2048) :
    IntOp.cmpi .sle (BitVec.ofNat 32 a) (BitVec.ofNat 32 b) = if a ≤ b then 1#1 else 0#1 := by
  have h : (BitVec.ofNat 32 a).toInt = (a : ℤ) := by
    rw [BitVec.toInt_eq_toNat_of_lt] <;> rw [BitVec.toNat_ofNat, Nat.mod_eq_of_lt (by omega)]; omega
  have h' : (BitVec.ofNat 32 b).toInt = (b : ℤ) := by
    rw [BitVec.toInt_eq_toNat_of_lt] <;> rw [BitVec.toNat_ofNat, Nat.mod_eq_of_lt (by omega)]; omega
  unfold IntOp.cmpi
  simp only [BitVec.sle, h, h']
  by_cases hab : a ≤ b
  · simp [hab]
  · simp [hab]

theorem slt32 (l : Fin 128) : IntOp.cmpi .slt (BitVec.ofNat 32 l.val) 32#32 = if l.val < 32 then 1#1 else 0#1 := by
  revert l; decide +kernel

theorem select_ite {α : Type} (q : Prop) [Decidable q] (x y : α) : Scalar.select (if q then 1#1 else 0#1) x y = if q then x else y := by
  by_cases h : q <;> simp [h, Scalar.select]

theorem pay33_apply (q : FVec Ideal S512x256 .bf16) (k : FVec Ideal S512x256 .bf16) (p : Fin 512) (j : Fin 512) :
    (k0_pay33 (F := Ideal) q k (ix2 p j) : EReal) = if j.val ≤ p.val then (sc512 q k (ix2 p j) : EReal) else ⊥ := by
  have e : k0_pay33 (F := Ideal) q k = select (cmpi .sle (iota .tc S512x512 32 [1] iota_S512x512_d1_w32) (iota .tc S512x512 32 [0] iota_S512x512_d0_w32)) (sc512 q k)
    (broadcast S512x512 (Named.named κ "mask" 0xF149F2CA#32)) := rfl
  rw [e]
  pointwise
  rw [sle_iff _ _ (by omega) (by omega), select_ite, named_mask]

theorem pay39_apply (s : FVec Ideal S512x1024 .f32) (p : Fin 512) (j : Fin 1024) :
    (k0_pay39 (F := Ideal) s (ix2 p j) : EReal) = if j.val ≤ p.val + 512 then (s (ix2 p j) : EReal) else ⊥ := by
  pointwise [k0_pay39]
  by_cases h : j.val < 512
  · rw [dif_pos h, if_pos (by omega)]
  · have e : (⟨512 + (j.val - 512), by omega⟩ : Fin 1024) = j := Fin.ext (by show 512 + (j.val - 512) = j.val; omega)
    rw [dif_neg h, sle_iff _ _ (by omega) (by omega)]
    refine (select_ite _ _ _).trans ?_
    rw [e, named_mask]
    by_cases h2 : j.val ≤ p.val + 512
    · rw [if_pos h2, if_pos (by omega)]
    · rw [if_neg h2, if_neg (by omega)]

theorem pay44_apply (s : FVec Ideal S512x1536 .f32) (p : Fin 512) (j : Fin 1536) :
    (k0_pay44 (F := Ideal) s (ix2 p j) : EReal) = if j.val ≤ p.val + 1024 then (s (ix2 p j) : EReal) else ⊥ := by
  pointwise [k0_pay44]
  by_cases h : j.val < 1024
  · rw [dif_pos h, if_pos (by omega)]
  · have e : (⟨1024 + (j.val - 1024), by omega⟩ : Fin 1536) = j := Fin.ext (by show 1024 + (j.val - 1024) = j.val; omega)
    rw [dif_neg h, sle_iff _ _ (by omega) (by omega)]
    refine (select_ite _ _ _).trans ?_
    rw [e, named_mask]
    by_cases h2 : j.val ≤ p.val + 1024
    · rw [if_pos h2, if_pos (by omega)]
    · rw [if_neg h2, if_neg (by omega)]

theorem pay4_apply (s : FVec Ideal S512x2048 .f32) (p : Fin 512) (j : Fin 2048) :
    (k0_pay4 (F := Ideal) s (ix2 p j) : EReal) = if j.val ≤ p.val + 1536 then (s (ix2 p j) : EReal) else ⊥ := by
  pointwise [k0_pay4]
  by_cases h : j.val < 1536
  · rw [dif_pos h, if_pos (by omega)]
  · have e : (⟨1536 + (j.val - 1536), by omega⟩ : Fin 2048) = j := Fin.ext (by show 1536 + (j.val - 1536) = j.val; omega)
    rw [dif_neg h, sle_iff _ _ (by omega) (by omega)]
    refine (select_ite _ _ _).trans ?_
    rw [e, named_mask]
    by_cases h2 : j.val ≤ p.val + 1536
    · rw [if_pos h2, if_pos (by omega)]
    · rw [if_neg h2, if_neg (by omega)]

theorem pay8_apply (a : FVec Ideal S2048x256 .f32) (p : Fin 2048) (l : Fin 128) :
    (k0_pay8 (F := Ideal) a (ix2 p l) : EReal) = Ideal.div (a (ix2 p ⟨l.val, by omega⟩)) (a (ix2 p ⟨128 + l.val, by omega⟩)) := by
  pointwise [k0_pay8]
theorem pay10_apply (x : FVec Ideal S2048x128 .bf16) (c s : FVec Ideal S2048x128 .f32) (p : Fin 2048) (l : Fin 128) :
    (k0_pay10 (F := Ideal) x c s (ix2 p l) : EReal) = (x (ix2 p l) : EReal) * c (ix2 p l)
      + (if l.val < 32 then (x (ix2 p ⟨(l.val + 32) % 128, Nat.mod_lt _ (by decide)⟩) : EReal) else x (ix2 p ⟨(l.val + 96) % 128, Nat.mod_lt _ (by decide)⟩)) * s (ix2 p l) := by
  pointwise [k0_pay10]
  rw [slt32, select_ite]
  have e1 : (⟨(l.val + 128 - 96) % 128, Nat.mod_lt _ (by decide)⟩ : Fin 128) = ⟨(l.val + 32) % 128, Nat.mod_lt _ (by decide)⟩ := Fin.ext (by show (l.val + 128 - 96) % 128 = (l.val + 32) % 128; omega)
  have e2 : (⟨(l.val + 128 - 32) % 128, Nat.mod_lt _ (by decide)⟩ : Fin 128) = ⟨(l.val + 96) % 128, Nat.mod_lt _ (by decide)⟩ := Fin.ext (by show (l.val + 128 - 32) % 128 = (l.val + 96) % 128; omega)
  rw [e1, e2]
theorem pay9_eq (x) : k0_pay9 (F := Ideal) x = x := by unfold k0_pay9; simp only [shapeCast_self]
theorem pay31_eq (x) : k0_pay31 (F := Ideal) x = x := by unfold k0_pay31; simp only [shapeCast_self]
theorem pay11_apply (i) : (k0_pay11 (F := Ideal) i : EReal) = 1 := by
  pointwise [k0_pay11]
theorem pay12_apply (i) : (k0_pay12 (F := Ideal) i : EReal) = ⊥ := by
  pointwise [k0_pay12]
  exact named_mask
theorem pay13_apply (i) : (k0_pay1 (k0_pay13 (F := Ideal)) i : EReal) = 0 := by
  pointwise [k0_pay1, k0_pay13]

end Cert.KernelIdeal.Attn
-- ==== Proof.KernelIdeal.Rows.lean ====
module

public import proofs.«01_k».proof.Proof.KernelIdeal.Pay

/-! One step of the attention on a tile, row by row: every chain of rows computes the same two functions. -/

@[expose] public section

set_option maxRecDepth 16384

noncomputable section

namespace Cert.KernelIdeal.Attn

open Cert.KernelIdeal Cert.KernelIdeal.Gen
open Idealize.ShloMosaic
open Idealize.ShloMosaic.TcCoe

/-- The score of row `r` against key `j`. -/
def score (Q K : Fin 2048 → Fin 256 → EReal) (r j : Fin 2048) : EReal := ∑ d : Fin 256, Q r d * K j d

/-- The score with the later keys of a diagonal tile masked out. -/
def sg (diag : Prop) [Decidable diag] (Q K : Fin 2048 → Fin 256 → EReal) (r j : Fin 2048) : EReal :=
  if diag ∧ r < j then ⊥ else score Q K r j

def mNext (diag : Prop) [Decidable diag] (Q K : Fin 2048 → Fin 256 → EReal) (M : Fin 2048 → Fin 128 → EReal) (r : Fin 2048) (l : Fin 128) : EReal :=
  max (M r l) (Finset.univ.sup (sg diag Q K r))

def aNext (diag : Prop) [Decidable diag] (Q K W : Fin 2048 → Fin 256 → EReal) (M : Fin 2048 → Fin 128 → EReal) (A : Fin 2048 → Fin 256 → EReal)
    (r : Fin 2048) (l : Fin 256) : EReal :=
  Ideal.exp2 (M r (lane l) - mNext diag Q K M r (lane l)) * A r l
    + ∑ j : Fin 2048, Ideal.exp2 (sg diag Q K r j - mNext diag Q K M r (lane j)) * W j l

theorem sup_extend {L : ℕ} (hL : L ≤ 2048) (σ : Fin 2048 → EReal) (τ : Fin L → EReal) (h : ∀ j, σ (Fin.castLE hL j) = τ j)
    (hb : ∀ j : Fin 2048, L ≤ j.val → σ j = ⊥) : Finset.univ.sup τ = Finset.univ.sup σ := by
  apply le_antisymm
  · exact Finset.sup_le fun j _ => (h j) ▸ Finset.le_sup (f := σ) (Finset.mem_univ _)
  · refine Finset.sup_le fun j _ => ?_
    by_cases hj : j.val < L
    · have := h ⟨j.val, hj⟩
      have e : Fin.castLE hL ⟨j.val, hj⟩ = j := rfl
      rw [e] at this
      rw [this]
      exact Finset.le_sup (f := τ) (Finset.mem_univ _)
    · rw [hb j (by omega)]; exact bot_le

theorem sum_extend {L : ℕ} (hL : L ≤ 2048) (σ : Fin 2048 → EReal) (τ : Fin L → EReal) (h : ∀ j, σ (Fin.castLE hL j) = τ j)
    (hb : ∀ j : Fin 2048, L ≤ j.val → σ j = 0) : ∑ j, τ j = ∑ j, σ j := by
  have e : ∑ j, τ j = ∑ j ∈ Finset.univ.map (Fin.castLEEmb hL), σ j := by
    rw [Finset.sum_map]
    exact Finset.sum_congr rfl fun j _ => (h j).symm
  rw [e]
  refine Finset.sum_subset (Finset.subset_univ _) fun j _ hj => hb j ?_
  by_contra hlt
  exact hj (Finset.mem_map.mpr ⟨⟨j.val, by omega⟩, Finset.mem_univ _, rfl⟩)

theorem exp2_bot : Ideal.exp2 (⊥ : EReal) = 0 := by
  rfl

theorem masked_zero (x w : EReal) : Ideal.exp2 ((⊥ : EReal) - x) * w = 0 := by
  rw [EReal.bot_sub, exp2_bot, zero_mul]

section Chains

variable (Q K W : Fin 2048 → Fin 256 → EReal) (M : Fin 2048 → Fin 128 → EReal) (A : Fin 2048 → Fin 256 → EReal)

theorem plain_m {o : ℕ} (ho : o + 512 ≤ 2048) (q : FVec Ideal S512x256 .bf16) (k : FVec Ideal S2048x256 .bf16) (m : FVec Ideal S512x128 .f32)
    (hq : ∀ (p : Fin 512) d, q (ix2 p d) = Q ⟨o + p.val, by omega⟩ d) (hk : ∀ j d, k (ix2 j d) = K j d)
    (hm : ∀ (p : Fin 512) l, m (ix2 p l) = M ⟨o + p.val, by omega⟩ l) (p : Fin 512) (l : Fin 128) :
    pm2048 (sc2048 q k) m (ix2 p l) = mNext False Q K M ⟨o + p.val, by omega⟩ l := by
  rw [pm2048_apply, hm]
  unfold mNext sg score
  simp only [false_and, if_false, sc2048_apply, hq, hk]

theorem plain_a {o : ℕ} (ho : o + 512 ≤ 2048) (q : FVec Ideal S512x256 .bf16) (k : FVec Ideal S2048x256 .bf16) (m : FVec Ideal S512x128 .f32)
    (a : FVec Ideal S512x256 .f32) (v : FVec Ideal S2048x256 .bf16)
    (hq : ∀ (p : Fin 512) d, q (ix2 p d) = Q ⟨o + p.val, by omega⟩ d) (hk : ∀ j d, k (ix2 j d) = K j d)
    (hm : ∀ (p : Fin 512) l, m (ix2 p l) = M ⟨o + p.val, by omega⟩ l)
    (ha : ∀ (p : Fin 512) l, a (ix2 p l) = A ⟨o + p.val, by omega⟩ l) (hv : ∀ j l, v (ix2 j l) = W j l) (p : Fin 512) (l : Fin 256) :
    pa2048 (sc2048 q k) m a v (ix2 p l) = aNext False Q K W M A ⟨o + p.val, by omega⟩ l := by
  rw [pa2048_apply, hm, ha]
  simp only [plain_m Q K M ho q k m hq hk hm, hv]
  unfold aNext sg score
  simp only [false_and, if_false, sc2048_apply, hq, hk]

theorem diag512_s (q : FVec Ideal S512x256 .bf16) (k : FVec Ideal S512x256 .bf16)
    (hq : ∀ (p : Fin 512) d, q (ix2 p d) = Q ⟨0 + p.val, by omega⟩ d) (hk : ∀ (j : Fin 512) d, k (ix2 j d) = K ⟨j.val, by omega⟩ d) (p : Fin 512) (j : Fin 512) :
    sg True Q K ⟨0 + p.val, by omega⟩ (Fin.castLE (by decide) j) = k0_pay33 (F := Ideal) q k (ix2 p j) := by
  rw [pay33_apply, sc512_apply]
  unfold sg score
  simp only [hq, hk, true_and]
  by_cases h : j.val ≤ p.val
  · rw [if_pos h, if_neg (by rw [Fin.lt_def]; show ¬ 0 + p.val < j.val; omega)]; rfl
  · rw [if_neg h, if_pos (by rw [Fin.lt_def]; show 0 + p.val < j.val; omega)]

theorem diag512_bot (p : Fin 512) (j : Fin 2048) (h : 512 ≤ j.val) : sg True Q K ⟨0 + p.val, by omega⟩ j = ⊥ := by
  unfold sg
  rw [if_pos ⟨trivial, by rw [Fin.lt_def]; show 0 + p.val < j.val; omega⟩]

theorem diag512_m (q : FVec Ideal S512x256 .bf16) (k : FVec Ideal S512x256 .bf16) (m : FVec Ideal S512x128 .f32)
    (hq : ∀ (p : Fin 512) d, q (ix2 p d) = Q ⟨0 + p.val, by omega⟩ d) (hk : ∀ (j : Fin 512) d, k (ix2 j d) = K ⟨j.val, by omega⟩ d)
    (hm : ∀ (p : Fin 512) l, m (ix2 p l) = M ⟨0 + p.val, by omega⟩ l) (p : Fin 512) (l : Fin 128) :
    pm512 (k0_pay33 (F := Ideal) q k) m (ix2 p l) = mNext True Q K M ⟨0 + p.val, by omega⟩ l := by
  rw [pm512_apply, hm]
  unfold mNext
  rw [sup_extend (L := 512) (by decide) _ _ (diag512_s Q K q k hq hk p) (diag512_bot Q K p)]

theorem diag512_a (q : FVec Ideal S512x256 .bf16) (k : FVec Ideal S512x256 .bf16) (m : FVec Ideal S512x128 .f32)
    (a : FVec Ideal S512x256 .f32) (v : FVec Ideal S512x256 .bf16)
    (hq : ∀ (p : Fin 512) d, q (ix2 p d) = Q ⟨0 + p.val, by omega⟩ d) (hk : ∀ (j : Fin 512) d, k (ix2 j d) = K ⟨j.val, by omega⟩ d)
    (hm : ∀ (p : Fin 512) l, m (ix2 p l) = M ⟨0 + p.val, by omega⟩ l)
    (ha : ∀ (p : Fin 512) l, a (ix2 p l) = A ⟨0 + p.val, by omega⟩ l) (hv : ∀ (j : Fin 512) l, v (ix2 j l) = W ⟨j.val, by omega⟩ l) (p : Fin 512) (l : Fin 256) :
    pa512 (k0_pay33 (F := Ideal) q k) m a v (ix2 p l) = aNext True Q K W M A ⟨0 + p.val, by omega⟩ l := by
  rw [pa512_apply, hm, ha]
  simp only [diag512_m Q K M q k m hq hk hm, hv]
  unfold aNext
  refine congrArg (_ + ·) (sum_extend (L := 512) (by decide) _ _ (fun j => ?_) fun j hj => ?_)
  · rw [diag512_s Q K q k hq hk p j]; rfl
  · rw [diag512_bot Q K p j hj, masked_zero]

theorem diag1024_s (q : FVec Ideal S512x256 .bf16) (k : FVec Ideal S1024x256 .bf16)
    (hq : ∀ (p : Fin 512) d, q (ix2 p d) = Q ⟨512 + p.val, by omega⟩ d) (hk : ∀ (j : Fin 1024) d, k (ix2 j d) = K ⟨j.val, by omega⟩ d) (p : Fin 512) (j : Fin 1024) :
    sg True Q K ⟨512 + p.val, by omega⟩ (Fin.castLE (by decide) j) = k0_pay39 (sc1024 q k) (ix2 p j) := by
  rw [pay39_apply, sc1024_apply]
  unfold sg score
  simp only [hq, hk, true_and]
  by_cases h : j.val ≤ p.val + 512
  · rw [if_pos h, if_neg (by rw [Fin.lt_def]; show ¬ 512 + p.val < j.val; omega)]; rfl
  · rw [if_neg h, if_pos (by rw [Fin.lt_def]; show 512 + p.val < j.val; omega)]

theorem diag1024_bot (p : Fin 512) (j : Fin 2048) (h : 1024 ≤ j.val) : sg True Q K ⟨512 + p.val, by omega⟩ j = ⊥ := by
  unfold sg
  rw [if_pos ⟨trivial, by rw [Fin.lt_def]; show 512 + p.val < j.val; omega⟩]

theorem diag1024_m (q : FVec Ideal S512x256 .bf16) (k : FVec Ideal S1024x256 .bf16) (m : FVec Ideal S512x128 .f32)
    (hq : ∀ (p : Fin 512) d, q (ix2 p d) = Q ⟨512 + p.val, by omega⟩ d) (hk : ∀ (j : Fin 1024) d, k (ix2 j d) = K ⟨j.val, by omega⟩ d)
    (hm : ∀ (p : Fin 512) l, m (ix2 p l) = M ⟨512 + p.val, by omega⟩ l) (p : Fin 512) (l : Fin 128) :
    pm1024 (k0_pay39 (sc1024 q k)) m (ix2 p l) = mNext True Q K M ⟨512 + p.val, by omega⟩ l := by
  rw [pm1024_apply, hm]
  unfold mNext
  rw [sup_extend (L := 1024) (by decide) _ _ (diag1024_s Q K q k hq hk p) (diag1024_bot Q K p)]

theorem diag1024_a (q : FVec Ideal S512x256 .bf16) (k : FVec Ideal S1024x256 .bf16) (m : FVec Ideal S512x128 .f32)
    (a : FVec Ideal S512x256 .f32) (v : FVec Ideal S1024x256 .bf16)
    (hq : ∀ (p : Fin 512) d, q (ix2 p d) = Q ⟨512 + p.val, by omega⟩ d) (hk : ∀ (j : Fin 1024) d, k (ix2 j d) = K ⟨j.val, by omega⟩ d)
    (hm : ∀ (p : Fin 512) l, m (ix2 p l) = M ⟨512 + p.val, by omega⟩ l)
    (ha : ∀ (p : Fin 512) l, a (ix2 p l) = A ⟨512 + p.val, by omega⟩ l) (hv : ∀ (j : Fin 1024) l, v (ix2 j l) = W ⟨j.val, by omega⟩ l) (p : Fin 512) (l : Fin 256) :
    pa1024 (k0_pay39 (sc1024 q k)) m a v (ix2 p l) = aNext True Q K W M A ⟨512 + p.val, by omega⟩ l := by
  rw [pa1024_apply, hm, ha]
  simp only [diag1024_m Q K M q k m hq hk hm, hv]
  unfold aNext
  refine congrArg (_ + ·) (sum_extend (L := 1024) (by decide) _ _ (fun j => ?_) fun j hj => ?_)
  · rw [diag1024_s Q K q k hq hk p j]; rfl
  · rw [diag1024_bot Q K p j hj, masked_zero]

theorem diag1536_s (q : FVec Ideal S512x256 .bf16) (k : FVec Ideal S1536x256 .bf16)
    (hq : ∀ (p : Fin 512) d, q (ix2 p d) = Q ⟨1024 + p.val, by omega⟩ d) (hk : ∀ (j : Fin 1536) d, k (ix2 j d) = K ⟨j.val, by omega⟩ d) (p : Fin 512) (j : Fin 1536) :
    sg True Q K ⟨1024 + p.val, by omega⟩ (Fin.castLE (by decide) j) = k0_pay44 (sc1536 q k) (ix2 p j) := by
  rw [pay44_apply, sc1536_apply]
  unfold sg score
  simp only [hq, hk, true_and]
  by_cases h : j.val ≤ p.val + 1024
  · rw [if_pos h, if_neg (by rw [Fin.lt_def]; show ¬ 1024 + p.val < j.val; omega)]; rfl
  · rw [if_neg h, if_pos (by rw [Fin.lt_def]; show 1024 + p.val < j.val; omega)]

theorem diag1536_bot (p : Fin 512) (j : Fin 2048) (h : 1536 ≤ j.val) : sg True Q K ⟨1024 + p.val, by omega⟩ j = ⊥ := by
  unfold sg
  rw [if_pos ⟨trivial, by rw [Fin.lt_def]; show 1024 + p.val < j.val; omega⟩]

theorem diag1536_m (q : FVec Ideal S512x256 .bf16) (k : FVec Ideal S1536x256 .bf16) (m : FVec Ideal S512x128 .f32)
    (hq : ∀ (p : Fin 512) d, q (ix2 p d) = Q ⟨1024 + p.val, by omega⟩ d) (hk : ∀ (j : Fin 1536) d, k (ix2 j d) = K ⟨j.val, by omega⟩ d)
    (hm : ∀ (p : Fin 512) l, m (ix2 p l) = M ⟨1024 + p.val, by omega⟩ l) (p : Fin 512) (l : Fin 128) :
    pm1536 (k0_pay44 (sc1536 q k)) m (ix2 p l) = mNext True Q K M ⟨1024 + p.val, by omega⟩ l := by
  rw [pm1536_apply, hm]
  unfold mNext
  rw [sup_extend (L := 1536) (by decide) _ _ (diag1536_s Q K q k hq hk p) (diag1536_bot Q K p)]

theorem diag1536_a (q : FVec Ideal S512x256 .bf16) (k : FVec Ideal S1536x256 .bf16) (m : FVec Ideal S512x128 .f32)
    (a : FVec Ideal S512x256 .f32) (v : FVec Ideal S1536x256 .bf16)
    (hq : ∀ (p : Fin 512) d, q (ix2 p d) = Q ⟨1024 + p.val, by omega⟩ d) (hk : ∀ (j : Fin 1536) d, k (ix2 j d) = K ⟨j.val, by omega⟩ d)
    (hm : ∀ (p : Fin 512) l, m (ix2 p l) = M ⟨1024 + p.val, by omega⟩ l)
    (ha : ∀ (p : Fin 512) l, a (ix2 p l) = A ⟨1024 + p.val, by omega⟩ l) (hv : ∀ (j : Fin 1536) l, v (ix2 j l) = W ⟨j.val, by omega⟩ l) (p : Fin 512) (l : Fin 256) :
    pa1536 (k0_pay44 (sc1536 q k)) m a v (ix2 p l) = aNext True Q K W M A ⟨1024 + p.val, by omega⟩ l := by
  rw [pa1536_apply, hm, ha]
  simp only [diag1536_m Q K M q k m hq hk hm, hv]
  unfold aNext
  refine congrArg (_ + ·) (sum_extend (L := 1536) (by decide) _ _ (fun j => ?_) fun j hj => ?_)
  · rw [diag1536_s Q K q k hq hk p j]; rfl
  · rw [diag1536_bot Q K p j hj, masked_zero]

theorem diag2048_s (q : FVec Ideal S512x256 .bf16) (k : FVec Ideal S2048x256 .bf16)
    (hq : ∀ (p : Fin 512) d, q (ix2 p d) = Q ⟨1536 + p.val, by omega⟩ d) (hk : ∀ (j : Fin 2048) d, k (ix2 j d) = K ⟨j.val, by omega⟩ d) (p : Fin 512) (j : Fin 2048) :
    sg True Q K ⟨1536 + p.val, by omega⟩ (Fin.castLE (by decide) j) = k0_pay4 (sc2048 q k) (ix2 p j) := by
  rw [pay4_apply, sc2048_apply]
  unfold sg score
  simp only [hq, hk, true_and]
  by_cases h : j.val ≤ p.val + 1536
  · rw [if_pos h, if_neg (by rw [Fin.lt_def]; show ¬ 1536 + p.val < j.val; omega)]; rfl
  · rw [if_neg h, if_pos (by rw [Fin.lt_def]; show 1536 + p.val < j.val; omega)]

theorem diag2048_bot (p : Fin 512) (j : Fin 2048) (h : 2048 ≤ j.val) : sg True Q K ⟨1536 + p.val, by omega⟩ j = ⊥ := by
  unfold sg
  rw [if_pos ⟨trivial, by rw [Fin.lt_def]; show 1536 + p.val < j.val; omega⟩]

theorem diag2048_m (q : FVec Ideal S512x256 .bf16) (k : FVec Ideal S2048x256 .bf16) (m : FVec Ideal S512x128 .f32)
    (hq : ∀ (p : Fin 512) d, q (ix2 p d) = Q ⟨1536 + p.val, by omega⟩ d) (hk : ∀ (j : Fin 2048) d, k (ix2 j d) = K ⟨j.val, by omega⟩ d)
    (hm : ∀ (p : Fin 512) l, m (ix2 p l) = M ⟨1536 + p.val, by omega⟩ l) (p : Fin 512) (l : Fin 128) :
    pm2048 (k0_pay4 (sc2048 q k)) m (ix2 p l) = mNext True Q K M ⟨1536 + p.val, by omega⟩ l := by
  rw [pm2048_apply, hm]
  unfold mNext
  rw [sup_extend (L := 2048) (by decide) _ _ (diag2048_s Q K q k hq hk p) (diag2048_bot Q K p)]

theorem diag2048_a (q : FVec Ideal S512x256 .bf16) (k : FVec Ideal S2048x256 .bf16) (m : FVec Ideal S512x128 .f32)
    (a : FVec Ideal S512x256 .f32) (v : FVec Ideal S2048x256 .bf16)
    (hq : ∀ (p : Fin 512) d, q (ix2 p d) = Q ⟨1536 + p.val, by omega⟩ d) (hk : ∀ (j : Fin 2048) d, k (ix2 j d) = K ⟨j.val, by omega⟩ d)
    (hm : ∀ (p : Fin 512) l, m (ix2 p l) = M ⟨1536 + p.val, by omega⟩ l)
    (ha : ∀ (p : Fin 512) l, a (ix2 p l) = A ⟨1536 + p.val, by omega⟩ l) (hv : ∀ (j : Fin 2048) l, v (ix2 j l) = W ⟨j.val, by omega⟩ l) (p : Fin 512) (l : Fin 256) :
    pa2048 (k0_pay4 (sc2048 q k)) m a v (ix2 p l) = aNext True Q K W M A ⟨1536 + p.val, by omega⟩ l := by
  rw [pa2048_apply, hm, ha]
  simp only [diag2048_m Q K M q k m hq hk hm, hv]
  unfold aNext
  refine congrArg (_ + ·) (sum_extend (L := 2048) (by decide) _ _ (fun j => ?_) fun j hj => ?_)
  · rw [diag2048_s Q K q k hq hk p j]; rfl
  · rw [diag2048_bot Q K p j hj, masked_zero]

end Chains

end Cert.KernelIdeal.Attn
-- ==== Proof.KernelIdeal.Tables.lean ====
/- The two prefetched tables in closed form, and every block index map inside its array at them. -/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev tbM0_0 : Memref sig .tc .smem S10 .i32 := Memref.whole main_c
abbrev tbM0_1 : Memref sig .tc .smem S10 .i32 := Memref.whole main_c_0
/-- The entry of the table `T` that the point `i` reads. -/
abbrev tabAt (b : Memref sig .tc .smem S10 .i32) (i : grid0.Coords) (T : b.view.ty.Contents (Elt Ideal)) : Elt Ideal .i32 :=
  View.readAt (Elt Ideal) b.view (Rect.unit (s := S10) (k0_off1 i) S1.size (k0_off1_inb i)).toLoadRect T (Shape.Idx.first (numel1_S1.symm ▸ Nat.one_pos))
abbrev scM0_0 : Memref sig .tc .vmem S2048x256 .bf16 := Memref.whole cc0_scratch0
abbrev scM0_1 : Memref sig .tc .vmem S2048x256 .bf16 := Memref.whole cc0_scratch1
abbrev scM0_2 : Memref sig .tc .vmem S2048x128 .f32 := Memref.whole cc0_scratch2
abbrev scM0_3 : Memref sig .tc .vmem S2048x256 .f32 := Memref.whole cc0_scratch3

def pinT_0 : S10.Idx → BitVec 32 := fun x => (([0#32, 1#32, 1#32, 2#32, 2#32, 2#32, 3#32, 3#32, 3#32, 3#32] : List (BitVec 32)).getD ((x 0).val) 0#32)

def pinT_1 : S10.Idx → BitVec 32 := fun x => (([0#32, 0#32, 1#32, 0#32, 1#32, 2#32, 0#32, 1#32, 2#32, 3#32] : List (BitVec 32)).getD ((x 0).val) 0#32)

set_option backward.proofsInPublic true in
def pfN : pre0.Contents (Elt Ideal) := fun | ⟨0, _⟩ => pinT_0 | ⟨1, _⟩ => pinT_1 | ⟨_ + 2, h⟩ => absurd h (by simp)
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

theorem ok_pfN_0_0_inb : ∀ i : grid0.Coords, ∀ a, (cc0_transform_0 k0_off1_inb numel1_S1 pfN i a + 1) * S2048x256.size a ≤ S16384x3072.size a := by decide +kernel
theorem ok_pfN_0_0 : (∀ i : grid0.Coords, ∃ h : (∀ a, (cc0_transform_0 k0_off1_inb numel1_S1 pfN i a + 1) * S2048x256.size a ≤ S16384x3072.size a), EltTy.bits .bf16 = 32 ∨ (Rect.block (s := S16384x3072) S2048x256.size (cc0_transform_0 k0_off1_inb numel1_S1 pfN i) h).WholeWords (EltTy.packing .bf16)) := fun i => ⟨ok_pfN_0_0_inb i, .inr (Affine.block_words_dvd (s := S16384x3072) (p := EltTy.packing .bf16) (by decide) (by decide))⟩
theorem ok_pfN_0_1_inb : ∀ i : grid0.Coords, ∀ a, (cc0_transform_1 k0_off1_inb numel1_S1 pfN i a + 1) * S2048x128.size a ≤ S16384x128.size a := by decide +kernel
theorem ok_pfN_0_1 : (∀ i : grid0.Coords, ∃ h : (∀ a, (cc0_transform_1 k0_off1_inb numel1_S1 pfN i a + 1) * S2048x128.size a ≤ S16384x128.size a), EltTy.bits .f32 = 32 ∨ (Rect.block (s := S16384x128) S2048x128.size (cc0_transform_1 k0_off1_inb numel1_S1 pfN i) h).WholeWords (EltTy.packing .f32)) := fun i => ⟨ok_pfN_0_1_inb i, .inl rfl⟩
theorem ok_pfN_0_2_inb : ∀ i : grid0.Coords, ∀ a, (cc0_transform_2 k0_off1_inb numel1_S1 pfN i a + 1) * S2048x128.size a ≤ S16384x128.size a := by decide +kernel
theorem ok_pfN_0_2 : (∀ i : grid0.Coords, ∃ h : (∀ a, (cc0_transform_2 k0_off1_inb numel1_S1 pfN i a + 1) * S2048x128.size a ≤ S16384x128.size a), EltTy.bits .f32 = 32 ∨ (Rect.block (s := S16384x128) S2048x128.size (cc0_transform_2 k0_off1_inb numel1_S1 pfN i) h).WholeWords (EltTy.packing .f32)) := fun i => ⟨ok_pfN_0_2_inb i, .inl rfl⟩
theorem ok_pfN_0_3_inb : ∀ i : grid0.Coords, ∀ a, (cc0_transform_3 k0_off1_inb numel1_S1 pfN i a + 1) * S2048x256.size a ≤ S16384x4608.size a := by decide +kernel
theorem ok_pfN_0_3 : (∀ i : grid0.Coords, ∃ h : (∀ a, (cc0_transform_3 k0_off1_inb numel1_S1 pfN i a + 1) * S2048x256.size a ≤ S16384x4608.size a), EltTy.bits .bf16 = 32 ∨ (Rect.block (s := S16384x4608) S2048x256.size (cc0_transform_3 k0_off1_inb numel1_S1 pfN i) h).WholeWords (EltTy.packing .bf16)) := fun i => ⟨ok_pfN_0_3_inb i, .inr (Affine.block_words_dvd (s := S16384x4608) (p := EltTy.packing .bf16) (by decide) (by decide))⟩
theorem ok_pfN_0_4_inb : ∀ i : grid0.Coords, ∀ a, (cc0_transform_4 k0_off1_inb numel1_S1 pfN i a + 1) * S2048x128.size a ≤ S16384x4608.size a := by decide +kernel
theorem ok_pfN_0_4 : (∀ i : grid0.Coords, ∃ h : (∀ a, (cc0_transform_4 k0_off1_inb numel1_S1 pfN i a + 1) * S2048x128.size a ≤ S16384x4608.size a), EltTy.bits .bf16 = 32 ∨ (Rect.block (s := S16384x4608) S2048x128.size (cc0_transform_4 k0_off1_inb numel1_S1 pfN i) h).WholeWords (EltTy.packing .bf16)) := fun i => ⟨ok_pfN_0_4_inb i, .inr (Affine.block_words_dvd (s := S16384x4608) (p := EltTy.packing .bf16) (by decide) (by decide))⟩
theorem ok_pfN_0_5_inb : ∀ i : grid0.Coords, ∀ a, (cc0_transform_5 k0_off1_inb numel1_S1 pfN i a + 1) * S2048x128.size a ≤ S16384x1536.size a := by decide +kernel
theorem ok_pfN_0_5 : (∀ i : grid0.Coords, ∃ h : (∀ a, (cc0_transform_5 k0_off1_inb numel1_S1 pfN i a + 1) * S2048x128.size a ≤ S16384x1536.size a), EltTy.bits .bf16 = 32 ∨ (Rect.block (s := S16384x1536) S2048x128.size (cc0_transform_5 k0_off1_inb numel1_S1 pfN i) h).WholeWords (EltTy.packing .bf16)) := fun i => ⟨ok_pfN_0_5_inb i, .inr (Affine.block_words_dvd (s := S16384x1536) (p := EltTy.packing .bf16) (by decide) (by decide))⟩
theorem ok_pfN_0 : ok0 (F := Ideal) pfN := ⟨ok_pfN_0_0, ok_pfN_0_1, ok_pfN_0_2, ok_pfN_0_3, ok_pfN_0_4, ok_pfN_0_5⟩

end Cert.KernelIdeal.Attn

end
-- ==== Proof.KernelIdeal.Runs.lean ====
/- One run of the kernel body per control path, with what it leaves in the output block and the four scratch buffers. -/
module

public import proofs.«01_k».proof.Proof.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev VO0_5 : View sig .tc .vmem S2048x128 .bf16 := (Memref.whole cc0_stg5_0 : Memref sig .tc .vmem S2048x128 .bf16).view

variable (c : Dev nD) (i : grid0.Coords) (arg5 : Memref sig .tc .vmem S2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x256 .bf16) (harg8 : arg8.IsWhole) (arg9 : Memref sig .tc .vmem S2048x128 .bf16) (harg9 : arg9.IsWhole) (arg10 : Memref sig .tc .vmem S2048x128 .bf16) (harg10 : arg10.IsWhole) (T0 : (S10.Idx → Elt Ideal .i32)) (T1 : (S10.Idx → Elt Ideal .i32))
     (x0 : (S2048x256.Idx → Elt Ideal .bf16)) (x1 : (S2048x128.Idx → Elt Ideal .f32)) (x2 : (S2048x128.Idx → Elt Ideal .f32)) (x3 : (S2048x256.Idx → Elt Ideal .bf16)) (x4 : (S2048x128.Idx → Elt Ideal .bf16))

section

variable (hc0 : (Scalar.cmpi .ne (Scalar.extui (Scalar.cmpi .eq (tabAt tbM0_1 i T1) 0#32)) 0#32) = 1#1) (hc1 : ¬((Scalar.cmpi .ne (Scalar.extui (Scalar.cmpi .slt (tabAt tbM0_1 i T1) (Scalar.muli (tabAt tbM0_0 i T0) 1#32))) 0#32) = 1#1)) (hc2 : (Scalar.cmpi .ne (Scalar.extui (Scalar.cmpi .sge (tabAt tbM0_1 i T1) (Scalar.muli (tabAt tbM0_0 i T0) 1#32))) 0#32) = 1#1) (k0_h4 : k0_cond4 (tabAt tbM0_0 i T0) (tabAt tbM0_1 i T1) = 1#1)

set_option backward.proofsInPublic true in
set_option maxHeartbeats 8000000 in
noncomputable def kernelRun0_A :
    Σ' (out0 : List (View.Piece (Elt Ideal) S2048x128 .bf16)) (out1 : Buf (Elt Ideal) ((c : Thread nD τ).loc cc0_scratch0)) (out2 : Buf (Elt Ideal) ((c : Thread nD τ).loc cc0_scratch1)) (out3 : Buf (Elt Ideal) ((c : Thread nD τ).loc cc0_scratch2)), { out4 : Buf (Elt Ideal) ((c : Thread nD τ).loc cc0_scratch3) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Ideal)) Variants.none c none) Set.univ (cc0_flash_rope i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) K => by
    unfold owns
    rw [cc0_flash_rope_eq_skeleton]; unfold cc0_flash_rope_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

theorem cover0_A_5 (y : S2048x128.Idx) :
    ∃ pc ∈ (kernelRun0_A c i arg5 harg5 arg6 harg6 arg7 harg7 arg8 harg8 arg9 harg9 arg10 harg10 T0 T1 x0 x1 x2 x3 x4 hc0 hc1 hc2 k0_h4).1, y ∈ pc.1.set :=
  View.cover_of_tiledL (kernelRun0_A c i arg5 harg5 arg6 harg6 arg7 harg7 arg8 harg8 arg9 harg9 arg10 harg10 T0 T1 x0 x1 x2 x3 x4 hc0 hc1 hc2 k0_h4).1 S2048x128.size (by sl_kernel_rfl) y

def out0_A_5 : (S2048x128.Idx → Elt Ideal .bf16) :=
  VO0_5.read (Elt Ideal) (VO0_5.writes (Elt Ideal) VO0_5.junk (kernelRun0_A c i arg5 harg5 arg6 harg6 arg7 harg7 arg8 harg8 arg9 harg9 arg10 harg10 T0 T1 x0 x1 x2 x3 x4 hc0 hc1 hc2 k0_h4).1)

end

set_option backward.proofsInPublic true in
set_option maxHeartbeats 8000000 in
noncomputable def kernelRun0_B (hc0 : (Scalar.cmpi .ne (Scalar.extui (Scalar.cmpi .eq (tabAt tbM0_1 i T1) 0#32)) 0#32) = 1#1) (hc1 : (Scalar.cmpi .ne (Scalar.extui (Scalar.cmpi .slt (tabAt tbM0_1 i T1) (Scalar.muli (tabAt tbM0_0 i T0) 1#32))) 0#32) = 1#1) (hc2 : ¬((Scalar.cmpi .ne (Scalar.extui (Scalar.cmpi .sge (tabAt tbM0_1 i T1) (Scalar.muli (tabAt tbM0_0 i T0) 1#32))) 0#32) = 1#1)) (k0_h4 : ¬(k0_cond4 (tabAt tbM0_0 i T0) (tabAt tbM0_1 i T1) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y5 : (S2048x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_flash_rope i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S2048x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) K => by
    unfold owns
    rw [cc0_flash_rope_eq_skeleton]; unfold cc0_flash_rope_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

section

variable (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (tabAt tbM0_1 i T1) 0#32)) 0#32) = 1#1)) (hc1 : ¬((Scalar.cmpi .ne (Scalar.extui (Scalar.cmpi .slt (tabAt tbM0_1 i T1) (Scalar.muli (tabAt tbM0_0 i T0) 1#32))) 0#32) = 1#1)) (hc2 : (Scalar.cmpi .ne (Scalar.extui (Scalar.cmpi .sge (tabAt tbM0_1 i T1) (Scalar.muli (tabAt tbM0_0 i T0) 1#32))) 0#32) = 1#1) (k0_h4 : k0_cond4 (tabAt tbM0_0 i T0) (tabAt tbM0_1 i T1) = 1#1)

set_option backward.proofsInPublic true in
set_option maxHeartbeats 8000000 in
noncomputable def kernelRun0_C :
    Σ' (out0 : List (View.Piece (Elt Ideal) S2048x128 .bf16)) (out1 : Buf (Elt Ideal) ((c : Thread nD τ).loc cc0_scratch0)) (out2 : Buf (Elt Ideal) ((c : Thread nD τ).loc cc0_scratch1)) (out3 : Buf (Elt Ideal) ((c : Thread nD τ).loc cc0_scratch2)), { out4 : Buf (Elt Ideal) ((c : Thread nD τ).loc cc0_scratch3) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Ideal)) Variants.none c none) Set.univ (cc0_flash_rope i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, _, fun K => by
    unfold owns
    rw [cc0_flash_rope_eq_skeleton]; unfold cc0_flash_rope_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

theorem cover0_C_5 (y : S2048x128.Idx) :
    ∃ pc ∈ (kernelRun0_C c i arg5 harg5 arg6 harg6 arg7 harg7 arg8 harg8 arg9 harg9 arg10 harg10 T0 T1 x0 x1 x2 x3 x4 xa0 xa1 xa2 xa3 hc0 hc1 hc2 k0_h4).1, y ∈ pc.1.set :=
  View.cover_of_tiledL (kernelRun0_C c i arg5 harg5 arg6 harg6 arg7 harg7 arg8 harg8 arg9 harg9 arg10 harg10 T0 T1 x0 x1 x2 x3 x4 xa0 xa1 xa2 xa3 hc0 hc1 hc2 k0_h4).1 S2048x128.size (by sl_kernel_rfl) y

def out0_C_5 : (S2048x128.Idx → Elt Ideal .bf16) :=
  VO0_5.read (Elt Ideal) (VO0_5.writes (Elt Ideal) VO0_5.junk (kernelRun0_C c i arg5 harg5 arg6 harg6 arg7 harg7 arg8 harg8 arg9 harg9 arg10 harg10 T0 T1 x0 x1 x2 x3 x4 xa0 xa1 xa2 xa3 hc0 hc1 hc2 k0_h4).1)

end

set_option backward.proofsInPublic true in
set_option maxHeartbeats 8000000 in
noncomputable def kernelRun0_D (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (tabAt tbM0_1 i T1) 0#32)) 0#32) = 1#1)) (hc1 : (Scalar.cmpi .ne (Scalar.extui (Scalar.cmpi .slt (tabAt tbM0_1 i T1) (Scalar.muli (tabAt tbM0_0 i T0) 1#32))) 0#32) = 1#1) (hc2 : ¬((Scalar.cmpi .ne (Scalar.extui (Scalar.cmpi .sge (tabAt tbM0_1 i T1) (Scalar.muli (tabAt tbM0_0 i T0) 1#32))) 0#32) = 1#1)) (k0_h4 : ¬(k0_cond4 (tabAt tbM0_0 i T0) (tabAt tbM0_1 i T1) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y5 : (S2048x128.Idx → Elt Ideal .bf16)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_flash_rope i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S2048x128.Idx → Elt Ideal .bf16)) K => by
    unfold owns
    rw [cc0_flash_rope_eq_skeleton]; unfold cc0_flash_rope_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

end Cert.KernelIdeal.Attn

end
-- ==== Proof.KernelIdeal.Loads.lean ====
module

public import proofs.«01_k».proof.Proof.KernelIdeal.Runs
public import Idealize.ShloMosaic.Lib.WritesUnit
public import Idealize.ShloMosaic.Lib.Pointwise

/-! Loads of rows and stores of rows, read at an index. -/

@[expose] public section

set_option maxRecDepth 16384

noncomputable section

namespace Cert.KernelIdeal.Attn

open Cert.KernelIdeal Cert.KernelIdeal.Gen
open Idealize.ShloMosaic
open Idealize.ShloMosaic.TcCoe

section Generic

variable {sp : Space} {e : EltTy} {R C : ℕ}

abbrev Sh (R C : ℕ) : Shape := ⟨2, ![R, C]⟩

/-- A load of a box reads the contents at the box's corner plus the index. -/
theorem readAt_box (v : View sig .tc sp (Sh R C) e) {o c0 a b : ℕ}
    (inb : ∀ x : Fin 2, (![o, c0] : Fin 2 → ℕ) x + (![a, b] : Fin 2 → ℕ) x ≤ (Sh R C).size x)
    (X : v.ty.Contents (Elt Ideal)) (p : Fin a) (l : Fin b) :
    v.readAt (Elt Ideal) (Rect.unit (s := Sh R C) ![o, c0] ![a, b] inb).toLoadRect X (ix2 p l)
      = v.read (Elt Ideal) X (ix2 ⟨o + p.val, by have h : o + a ≤ R := inb 0; omega⟩ ⟨c0 + l.val, by have h : c0 + b ≤ C := inb 1; omega⟩) := by
  rw [View.readAt_apply]
  refine congrArg (v.read (Elt Ideal) X) (funext fun x => Fin.ext ?_)
  match x with
  | ⟨0, _⟩ => show o + 1 * p.val = o + p.val; omega
  | ⟨1, _⟩ => show c0 + 1 * l.val = c0 + l.val; omega

/-- The same from column zero. -/
theorem readAt_rows (v : View sig .tc sp (Sh R C) e) {o a b : ℕ}
    (inb : ∀ x : Fin 2, (![o, 0] : Fin 2 → ℕ) x + (![a, b] : Fin 2 → ℕ) x ≤ (Sh R C).size x)
    (X : v.ty.Contents (Elt Ideal)) (p : Fin a) (l : Fin b) :
    v.readAt (Elt Ideal) (Rect.unit (s := Sh R C) ![o, 0] ![a, b] inb).toLoadRect X (ix2 p l)
      = v.read (Elt Ideal) X (ix2 ⟨o + p.val, by have h : o + a ≤ R := inb 0; omega⟩ ⟨l.val, by have h : 0 + b ≤ C := inb 1; omega⟩) := by
  rw [readAt_box]
  refine congrArg (v.read (Elt Ideal) X) (funext fun x => Fin.ext ?_)
  match x with
  | ⟨0, _⟩ => rfl
  | ⟨1, _⟩ => show 0 + l.val = l.val; omega

/-- The same from the corner. -/
theorem readAt_top (v : View sig .tc sp (Sh R C) e) {a b : ℕ}
    (inb : ∀ x : Fin 2, (![0, 0] : Fin 2 → ℕ) x + (![a, b] : Fin 2 → ℕ) x ≤ (Sh R C).size x)
    (X : v.ty.Contents (Elt Ideal)) (p : Fin a) (l : Fin b) :
    v.readAt (Elt Ideal) (Rect.unit (s := Sh R C) ![0, 0] ![a, b] inb).toLoadRect X (ix2 p l)
      = v.read (Elt Ideal) X (ix2 ⟨p.val, by have h : 0 + a ≤ R := inb 0; omega⟩ ⟨l.val, by have h : 0 + b ≤ C := inb 1; omega⟩) := by
  rw [readAt_box]
  refine congrArg (v.read (Elt Ideal) X) (funext fun x => Fin.ext ?_)
  match x with
  | ⟨0, _⟩ => show 0 + p.val = p.val; omega
  | ⟨1, _⟩ => show 0 + l.val = l.val; omega

/-- A row inside the newest piece's rows reads that piece. -/
theorem read_hit (v : View sig .tc sp (Sh R C) e) (f : v.ty.Contents (Elt Ideal)) {o a : ℕ}
    (inb : ∀ x : Fin 2, (![o, 0] : Fin 2 → ℕ) x + (![a, C] : Fin 2 → ℕ) x ≤ (Sh R C).size x)
    (w : (Sh a C).Idx → Elt Ideal e) (L : List (View.Piece (Elt Ideal) (Sh R C) e)) (r : Fin R) (p : Fin a) (l : Fin C) (h : r.val = o + p.val) :
    v.read (Elt Ideal) (v.writes (Elt Ideal) f (⟨Rect.unit (s := Sh R C) ![o, 0] ![a, C] inb, w⟩ :: L)) (ix2 r l) = w (ix2 p l) :=
  View.read_writes_cons_rows_of_mem (d := ![R, C]) v f inb w L (ix2 r l) (ix2 p l) rfl h rfl

/-- A row outside them reads what was there before. -/
theorem read_miss (v : View sig .tc sp (Sh R C) e) (f : v.ty.Contents (Elt Ideal)) {o a b : ℕ}
    (inb : ∀ x : Fin 2, (![o, 0] : Fin 2 → ℕ) x + (![a, b] : Fin 2 → ℕ) x ≤ (Sh R C).size x)
    (w : (Sh a b).Idx → Elt Ideal e) (L : List (View.Piece (Elt Ideal) (Sh R C) e)) (r : Fin R) (l : Fin C) (h : r.val < o ∨ o + a ≤ r.val) :
    v.read (Elt Ideal) (v.writes (Elt Ideal) f (⟨Rect.unit (s := Sh R C) ![o, 0] ![a, b] inb, w⟩ :: L)) (ix2 r l)
      = v.read (Elt Ideal) (v.writes (Elt Ideal) f L) (ix2 r l) :=
  View.read_writes_cons_rows_of_not_mem (d := ![R, C]) (W := a) v f inb w L (ix2 r l) rfl rfl h

/-- Four pieces of 512 rows each that hold one function hold it everywhere. -/
theorem read_rows4 (v : View sig .tc sp (Sh 2048 C) e) (f : v.ty.Contents (Elt Ideal))
    (i0 : ∀ x : Fin 2, (![0, 0] : Fin 2 → ℕ) x + (![512, C] : Fin 2 → ℕ) x ≤ (Sh 2048 C).size x)
    (i1 : ∀ x : Fin 2, (![512, 0] : Fin 2 → ℕ) x + (![512, C] : Fin 2 → ℕ) x ≤ (Sh 2048 C).size x)
    (i2 : ∀ x : Fin 2, (![1024, 0] : Fin 2 → ℕ) x + (![512, C] : Fin 2 → ℕ) x ≤ (Sh 2048 C).size x)
    (i3 : ∀ x : Fin 2, (![1536, 0] : Fin 2 → ℕ) x + (![512, C] : Fin 2 → ℕ) x ≤ (Sh 2048 C).size x)
    (w0 w1 w2 w3 : (Sh 512 C).Idx → Elt Ideal e) (L : List (View.Piece (Elt Ideal) (Sh 2048 C) e)) (G : Fin 2048 → Fin C → Elt Ideal e)
    (h0 : ∀ (p : Fin 512) l, w0 (ix2 p l) = G ⟨0 + p.val, by omega⟩ l) (h1 : ∀ (p : Fin 512) l, w1 (ix2 p l) = G ⟨512 + p.val, by omega⟩ l)
    (h2 : ∀ (p : Fin 512) l, w2 (ix2 p l) = G ⟨1024 + p.val, by omega⟩ l) (h3 : ∀ (p : Fin 512) l, w3 (ix2 p l) = G ⟨1536 + p.val, by omega⟩ l)
    (r : Fin 2048) (l : Fin C) :
    v.read (Elt Ideal) (v.writes (Elt Ideal) f (⟨Rect.unit (s := Sh 2048 C) ![1536, 0] ![512, C] i3, w3⟩ :: ⟨Rect.unit (s := Sh 2048 C) ![1024, 0] ![512, C] i2, w2⟩
      :: ⟨Rect.unit (s := Sh 2048 C) ![512, 0] ![512, C] i1, w1⟩ :: ⟨Rect.unit (s := Sh 2048 C) ![0, 0] ![512, C] i0, w0⟩ :: L)) (ix2 r l) = G r l := by
  have key : ∀ (o : ℕ) (hr : o ≤ r.val) (hr2 : r.val < o + 512) (ho : o + 512 ≤ 2048) (w : (Sh 512 C).Idx → Elt Ideal e),
      (∀ (p : Fin 512) l, w (ix2 p l) = G ⟨o + p.val, by omega⟩ l) → w (ix2 ⟨r.val - o, by omega⟩ l) = G r l := by
    intro o hr hr2 ho w hw
    rw [hw]
    exact congrArg (fun x => G x l) (Fin.ext (by show o + (r.val - o) = r.val; omega))
  by_cases c3 : 1536 ≤ r.val
  · rw [read_hit v f i3 w3 _ r ⟨r.val - 1536, by omega⟩ l (by show r.val = 1536 + (r.val - 1536); omega)]
    exact key 1536 c3 (by omega) (by omega) w3 h3
  rw [read_miss v f i3 w3 _ r l (by omega)]
  by_cases c2 : 1024 ≤ r.val
  · rw [read_hit v f i2 w2 _ r ⟨r.val - 1024, by omega⟩ l (by show r.val = 1024 + (r.val - 1024); omega)]
    exact key 1024 c2 (by omega) (by omega) w2 h2
  rw [read_miss v f i2 w2 _ r l (by omega)]
  by_cases c1 : 512 ≤ r.val
  · rw [read_hit v f i1 w1 _ r ⟨r.val - 512, by omega⟩ l (by show r.val = 512 + (r.val - 512); omega)]
    exact key 512 c1 (by omega) (by omega) w1 h1
  rw [read_miss v f i1 w1 _ r l (by omega)]
  rw [read_hit v f i0 w0 _ r ⟨r.val - 0, by omega⟩ l (by show r.val = 0 + (r.val - 0); omega)]
  exact key 0 (by omega) (by omega) (by omega) w0 h0

/-- A piece that holds the left half of the columns. -/
theorem read_left (v : View sig .tc sp (Sh 2048 256) e) (f : v.ty.Contents (Elt Ideal))
    (i0 : ∀ x : Fin 2, (![0, 0] : Fin 2 → ℕ) x + (![2048, 128] : Fin 2 → ℕ) x ≤ (Sh 2048 256).size x)
    (w : (Sh 2048 128).Idx → Elt Ideal e) (L : List (View.Piece (Elt Ideal) (Sh 2048 256) e)) (r : Fin 2048) (l : Fin 256) :
    v.read (Elt Ideal) (v.writes (Elt Ideal) f (⟨Rect.unit (s := Sh 2048 256) ![0, 0] ![2048, 128] i0, w⟩ :: L)) (ix2 r l)
      = if h : l.val < 128 then w (ix2 r ⟨l.val, h⟩) else v.read (Elt Ideal) (v.writes (Elt Ideal) f L) (ix2 r l) := by
  by_cases h : l.val < 128
  · rw [dif_pos h]
    exact View.read_writes_cons_unit_of_mem v f i0 w L (ix2 r l) (ix2 r ⟨l.val, h⟩) rfl
      (Fin.forall_fin_two.mpr ⟨by show r.val = 0 + r.val; omega, by show l.val = 0 + l.val; omega⟩)
  · rw [dif_neg h]
    exact View.read_writes_cons_unit_of_not_mem v f i0 w L (ix2 r l) rfl (1 : Fin 2) (Or.inr (by show 0 + 128 ≤ l.val; omega))

/-- A piece that holds the right half of the columns. -/
theorem read_right (v : View sig .tc sp (Sh 2048 256) e) (f : v.ty.Contents (Elt Ideal))
    (i0 : ∀ x : Fin 2, (![0, 128] : Fin 2 → ℕ) x + (![2048, 128] : Fin 2 → ℕ) x ≤ (Sh 2048 256).size x)
    (w : (Sh 2048 128).Idx → Elt Ideal e) (L : List (View.Piece (Elt Ideal) (Sh 2048 256) e)) (r : Fin 2048) (l : Fin 256) :
    v.read (Elt Ideal) (v.writes (Elt Ideal) f (⟨Rect.unit (s := Sh 2048 256) ![0, 128] ![2048, 128] i0, w⟩ :: L)) (ix2 r l)
      = if h : l.val < 128 then v.read (Elt Ideal) (v.writes (Elt Ideal) f L) (ix2 r l) else w (ix2 r ⟨l.val - 128, by omega⟩) := by
  by_cases h : l.val < 128
  · rw [dif_pos h]
    exact View.read_writes_cons_unit_of_not_mem v f i0 w L (ix2 r l) rfl (1 : Fin 2) (Or.inl (by show l.val < 128; omega))
  · rw [dif_neg h]
    exact View.read_writes_cons_unit_of_mem v f i0 w L (ix2 r l) (ix2 r ⟨l.val - 128, by omega⟩) rfl
      (Fin.forall_fin_two.mpr ⟨by show r.val = 0 + r.val; omega, by show l.val = 128 + (l.val - 128); omega⟩)

end Generic

end Cert.KernelIdeal.Attn
-- ==== Proof.KernelIdeal.Views.lean ====
module

public import proofs.«01_k».proof.Proof.KernelIdeal.Rows
public import proofs.«01_k».proof.Proof.KernelIdeal.Loads

/-! Contents and blocks by row and column. -/

@[expose] public section

set_option maxRecDepth 16384

noncomputable section

namespace Cert.KernelIdeal.Attn

open Cert.KernelIdeal Cert.KernelIdeal.Gen
open Idealize.ShloMosaic
open Idealize.ShloMosaic.TcCoe

/-- What a view reads of contents, by row and column. -/
abbrev rd {sp : Space} {e : EltTy} {R C : ℕ} (v : View sig .tc sp (Sh R C) e) (x : v.ty.Contents (Elt Ideal)) (r : Fin R) (d : Fin C) : Elt Ideal e :=
  v.read (Elt Ideal) x (ix2 r d)

/-- A block by row and column. -/
abbrev blk {e : EltTy} {R C : ℕ} (x : (Sh R C).Idx → Elt Ideal e) (r : Fin R) (d : Fin C) : Elt Ideal e := x (ix2 r d)

/-- The query with its rotated half: columns 128 to 255 turned by the angles. -/
def qrot (q : Fin 2048 → Fin 256 → EReal) (co si : Fin 2048 → Fin 128 → EReal) (r : Fin 2048) (l : Fin 256) : EReal :=
  if h : l.val < 128 then q r l
  else q r l * co r ⟨l.val - 128, by omega⟩
    + (if l.val - 128 < 32 then q r ⟨128 + (l.val - 128 + 32) % 128, by omega⟩ else q r ⟨128 + (l.val - 128 + 96) % 128, by omega⟩) * si r ⟨l.val - 128, by omega⟩

end Cert.KernelIdeal.Attn
-- ==== Proof.KernelIdeal.StepA.lean ====
module

public import proofs.«01_k».proof.Proof.KernelIdeal.Views

/-! What a step that is first and diagonal leaves. -/

@[expose] public section

set_option maxRecDepth 16384

noncomputable section

namespace Cert.KernelIdeal.Attn

open Cert.KernelIdeal Cert.KernelIdeal.Gen
open Idealize.ShloMosaic
open Idealize.ShloMosaic.TcCoe

variable (arg5 : Memref sig .tc .vmem S2048x256 .bf16) (arg6 arg7 : Memref sig .tc .vmem S2048x128 .f32)
  (arg8 : Memref sig .tc .vmem S2048x256 .bf16) (arg9 : Memref sig .tc .vmem S2048x128 .bf16)
  (x0 : S2048x256.Idx → Elt Ideal .bf16) (x1 x2 : S2048x128.Idx → Elt Ideal .f32)
  (x3 : S2048x256.Idx → Elt Ideal .bf16) (x4 : S2048x128.Idx → Elt Ideal .bf16)

theorem A_va (f : (View.whole cc0_scratch1).ty.Contents (Elt Ideal)) (r : Fin 2048) (l : Fin 256) :
    rd scM0_1.view (scM0_1.view.writes (Elt Ideal) f (kernelRun0_A.sl.HS1_2 arg9 x4)) r l = if h : l.val < 128 then x4 (ix2 r ⟨l.val, h⟩) else (1 : EReal) := by
  refine (read_left (e := .bf16) scM0_1.view _ _ _ _ r l).trans ?_
  by_cases h : l.val < 128
  · rw [dif_pos h, dif_pos h]
    show k0_pay31 (F := Ideal) (View.readAt (Elt Ideal) arg9.view (Rect.unit (s := S2048x128) ![0, 0] S2048x128.size inb_S2048x128_S2048x128_0_0).toLoadRect (arg9.view.rep x4)) (ix2 r ⟨l.val, h⟩) = _
    rw [pay31_eq]
    exact (readAt_top (e := .bf16) arg9.view inb_S2048x128_S2048x128_0_0 (arg9.view.rep x4) r ⟨l.val, h⟩).trans (congrFun (View.read_rep arg9.view x4) _)
  · rw [dif_neg h, dif_neg h]
    refine (read_right (e := .bf16) scM0_1.view _ _ _ [] r l).trans ?_
    rw [dif_neg h]
    exact pay11_apply _

/-- The rotated query a first step stores. -/
theorem A_qf (f : (View.whole cc0_scratch0).ty.Contents (Elt Ideal)) (r : Fin 2048) (l : Fin 256) :
    rd scM0_0.view (scM0_0.view.writes (Elt Ideal) f (kernelRun0_A.sl.HS0_2 arg5 arg6 arg7 x0 x1 x2)) r l = qrot (blk x0) (blk x1) (blk x2) r l := by
  refine (read_right (e := .bf16) scM0_0.view _ _ _ _ r l).trans ?_
  unfold qrot
  by_cases h : l.val < 128
  · rw [dif_pos h, dif_pos h]
    refine (read_left (e := .bf16) scM0_0.view _ _ _ [] r l).trans ?_
    rw [dif_pos h]
    refine (congrFun (pay9_eq _) _).trans ?_
    exact (readAt_top (e := .bf16) arg5.view inb_S2048x256_S2048x128_0_0 (arg5.view.rep x0) r ⟨l.val, h⟩).trans (congrFun (View.read_rep arg5.view x0) _)
  · rw [dif_neg h, dif_neg h]
    refine (pay10_apply _ _ _ r ⟨l.val - 128, by omega⟩).trans ?_
    have e0 : ∀ d : Fin 128, View.readAt (Elt Ideal) arg5.view (Rect.unit (s := S2048x256) ![0, 128] S2048x128.size inb_S2048x256_S2048x128_0_128).toLoadRect (arg5.view.rep x0) (ix2 r d)
        = x0 (ix2 r ⟨128 + d.val, by omega⟩) := fun d =>
      (readAt_box (e := .bf16) arg5.view inb_S2048x256_S2048x128_0_128 (arg5.view.rep x0) r d).trans
        ((congrFun (View.read_rep arg5.view x0) _).trans (congrArg (fun y => x0 (ix2 y (⟨128 + d.val, by omega⟩ : Fin 256))) (Fin.ext (Nat.zero_add r.val))))
    have e1 : ∀ d : Fin 128, View.readAt (Elt Ideal) arg6.view (Rect.unit (s := S2048x128) ![0, 0] S2048x128.size inb_S2048x128_S2048x128_0_0).toLoadRect (arg6.view.rep x1) (ix2 r d)
        = x1 (ix2 r d) := fun d => (readAt_top (e := .f32) arg6.view inb_S2048x128_S2048x128_0_0 (arg6.view.rep x1) r d).trans (congrFun (View.read_rep arg6.view x1) _)
    have e2 : ∀ d : Fin 128, View.readAt (Elt Ideal) arg7.view (Rect.unit (s := S2048x128) ![0, 0] S2048x128.size inb_S2048x128_S2048x128_0_0).toLoadRect (arg7.view.rep x2) (ix2 r d)
        = x2 (ix2 r d) := fun d => (readAt_top (e := .f32) arg7.view inb_S2048x128_S2048x128_0_0 (arg7.view.rep x2) r d).trans (congrFun (View.read_rep arg7.view x2) _)
    simp only [e0, e1, e2]
    have e3 : (⟨128 + (l.val - 128), by omega⟩ : Fin 256) = l := Fin.ext (by show 128 + (l.val - 128) = l.val; omega)
    rw [e3]

theorem A_m0 (r : Fin 2048) (l : Fin 128) : rd scM0_2.view (scM0_2.view.writes (Elt Ideal) scM0_2.view.junk (kernelRun0_A.sl.HS2_1)) r l = (⊥ : EReal) :=
  (read_hit (e := .f32) scM0_2.view _ inb_S2048x128_S2048x128_0_0 _ [] r r l (by omega)).trans (pay12_apply _)
theorem A_a0 (r : Fin 2048) (l : Fin 256) : rd scM0_3.view (scM0_3.view.writes (Elt Ideal) scM0_3.view.junk (kernelRun0_A.sl.HS3_1)) r l = (0 : EReal) :=
  (read_hit (e := .f32) scM0_3.view _ inb_S2048x256_S2048x256_0_0 _ [] r r l (by omega)).trans (pay13_apply _)

theorem A_m1 (r : Fin 2048) (l : Fin 128) (h : 512 ≤ r.val) : rd scM0_2.view (scM0_2.view.writes (Elt Ideal) scM0_2.view.junk (kernelRun0_A.sl.HS2_2 arg5 arg6 arg7 arg8 x0 x1 x2 x3)) r l = (⊥ : EReal) :=
  (read_miss (e := .f32) scM0_2.view _ inb_S2048x128_S512x128_0_0 _ _ r l (Or.inr h)).trans (A_m0  r l )
theorem A_a1 (r : Fin 2048) (l : Fin 256) (h : 512 ≤ r.val) : rd scM0_3.view (scM0_3.view.writes (Elt Ideal) scM0_3.view.junk (kernelRun0_A.sl.HS3_2 arg5 arg6 arg7 arg8 arg9 x0 x1 x2 x3 x4)) r l = (0 : EReal) :=
  (read_miss (e := .f32) scM0_3.view _ inb_S2048x256_S512x256_0_0 _ _ r l (Or.inr h)).trans (A_a0  r l )

theorem A_m2 (r : Fin 2048) (l : Fin 128) (h : 1024 ≤ r.val) : rd scM0_2.view (scM0_2.view.writes (Elt Ideal) scM0_2.view.junk (kernelRun0_A.sl.HS2_3 arg5 arg6 arg7 arg8 x0 x1 x2 x3)) r l = (⊥ : EReal) :=
  (read_miss (e := .f32) scM0_2.view _ inb_S2048x128_S512x128_512_0 _ _ r l (Or.inr h)).trans (A_m1 arg5 arg6 arg7 arg8 x0 x1 x2 x3 r l (by omega))
theorem A_a2 (r : Fin 2048) (l : Fin 256) (h : 1024 ≤ r.val) : rd scM0_3.view (scM0_3.view.writes (Elt Ideal) scM0_3.view.junk (kernelRun0_A.sl.HS3_3 arg5 arg6 arg7 arg8 arg9 x0 x1 x2 x3 x4)) r l = (0 : EReal) :=
  (read_miss (e := .f32) scM0_3.view _ inb_S2048x256_S512x256_512_0 _ _ r l (Or.inr h)).trans (A_a1 arg5 arg6 arg7 arg8 arg9 x0 x1 x2 x3 x4 r l (by omega))

theorem A_m3 (r : Fin 2048) (l : Fin 128) (h : 1536 ≤ r.val) : rd scM0_2.view (scM0_2.view.writes (Elt Ideal) scM0_2.view.junk (kernelRun0_A.sl.HS2_4 arg5 arg6 arg7 arg8 x0 x1 x2 x3)) r l = (⊥ : EReal) :=
  (read_miss (e := .f32) scM0_2.view _ inb_S2048x128_S512x128_1024_0 _ _ r l (Or.inr h)).trans (A_m2 arg5 arg6 arg7 arg8 x0 x1 x2 x3 r l (by omega))
theorem A_a3 (r : Fin 2048) (l : Fin 256) (h : 1536 ≤ r.val) : rd scM0_3.view (scM0_3.view.writes (Elt Ideal) scM0_3.view.junk (kernelRun0_A.sl.HS3_4 arg5 arg6 arg7 arg8 arg9 x0 x1 x2 x3 x4)) r l = (0 : EReal) :=
  (read_miss (e := .f32) scM0_3.view _ inb_S2048x256_S512x256_1024_0 _ _ r l (Or.inr h)).trans (A_a2 arg5 arg6 arg7 arg8 arg9 x0 x1 x2 x3 x4 r l (by omega))

theorem A_m (f : (View.whole cc0_scratch2).ty.Contents (Elt Ideal)) (r : Fin 2048) (l : Fin 128) :
    rd scM0_2.view (scM0_2.view.writes (Elt Ideal) f (kernelRun0_A.sl.HS2_5 arg5 arg6 arg7 arg8 x0 x1 x2 x3)) r l = mNext True (rd scM0_0.view (scM0_0.view.writes (Elt Ideal) scM0_0.view.junk (kernelRun0_A.sl.HS0_2 arg5 arg6 arg7 x0 x1 x2))) (blk x3) (fun _ _ => (⊥ : EReal)) r l :=
  read_rows4 (e := .f32) scM0_2.view f inb_S2048x128_S512x128_0_0 inb_S2048x128_S512x128_512_0 inb_S2048x128_S512x128_1024_0 inb_S2048x128_S512x128_1536_0 _ _ _ _ _
    (mNext True (rd scM0_0.view (scM0_0.view.writes (Elt Ideal) scM0_0.view.junk (kernelRun0_A.sl.HS0_2 arg5 arg6 arg7 x0 x1 x2))) (blk x3) (fun _ _ => (⊥ : EReal)))
    (fun p l => by
      show shapeCast S512x128 (pm512 (k0_pay33 (F := Ideal) (View.readAt (Elt Ideal) scM0_0.view (Rect.unit (s := S2048x256) ![0, 0] S512x256.size inb_S2048x256_S512x256_0_0).toLoadRect (scM0_0.view.writes (Elt Ideal) scM0_0.view.junk (kernelRun0_A.sl.HS0_2 arg5 arg6 arg7 x0 x1 x2))) (View.readAt (Elt Ideal) arg8.view (Rect.unit (s := S2048x256) ![0, 0] S512x256.size inb_S2048x256_S512x256_0_0).toLoadRect (arg8.view.rep x3))) (View.readAt (Elt Ideal) scM0_2.view (Rect.unit (s := S2048x128) ![0, 0] S512x128.size inb_S2048x128_S512x128_0_0).toLoadRect (scM0_2.view.writes (Elt Ideal) scM0_2.view.junk (kernelRun0_A.sl.HS2_1)))) shapeCasts_S512x128_S512x128 (ix2 p l) = _
      rw [shapeCast_self]
      exact diag512_m (rd scM0_0.view (scM0_0.view.writes (Elt Ideal) scM0_0.view.junk (kernelRun0_A.sl.HS0_2 arg5 arg6 arg7 x0 x1 x2))) (blk x3) (fun _ _ => (⊥ : EReal)) (View.readAt (Elt Ideal) scM0_0.view (Rect.unit (s := S2048x256) ![0, 0] S512x256.size inb_S2048x256_S512x256_0_0).toLoadRect (scM0_0.view.writes (Elt Ideal) scM0_0.view.junk (kernelRun0_A.sl.HS0_2 arg5 arg6 arg7 x0 x1 x2))) (View.readAt (Elt Ideal) arg8.view (Rect.unit (s := S2048x256) ![0, 0] S512x256.size inb_S2048x256_S512x256_0_0).toLoadRect (arg8.view.rep x3)) (View.readAt (Elt Ideal) scM0_2.view (Rect.unit (s := S2048x128) ![0, 0] S512x128.size inb_S2048x128_S512x128_0_0).toLoadRect (scM0_2.view.writes (Elt Ideal) scM0_2.view.junk (kernelRun0_A.sl.HS2_1))) (fun p d => readAt_rows (e := .bf16) scM0_0.view inb_S2048x256_S512x256_0_0 (scM0_0.view.writes (Elt Ideal) scM0_0.view.junk (kernelRun0_A.sl.HS0_2 arg5 arg6 arg7 x0 x1 x2)) p d) (fun j d => (readAt_top (e := .bf16) arg8.view inb_S2048x256_S512x256_0_0 (arg8.view.rep x3) j d).trans (congrFun (View.read_rep arg8.view x3) _)) (fun p d => (readAt_rows (e := .f32) scM0_2.view inb_S2048x128_S512x128_0_0 (scM0_2.view.writes (Elt Ideal) scM0_2.view.junk (kernelRun0_A.sl.HS2_1)) p d).trans (A_m0  _ _ )) p l)
    (fun p l => by
      show shapeCast S512x128 (pm1024 (k0_pay39 (F := Ideal) (sc1024 (View.readAt (Elt Ideal) scM0_0.view (Rect.unit (s := S2048x256) ![512, 0] S512x256.size inb_S2048x256_S512x256_512_0).toLoadRect (scM0_0.view.writes (Elt Ideal) scM0_0.view.junk (kernelRun0_A.sl.HS0_2 arg5 arg6 arg7 x0 x1 x2))) (View.readAt (Elt Ideal) arg8.view (Rect.unit (s := S2048x256) ![0, 0] S1024x256.size inb_S2048x256_S1024x256_0_0).toLoadRect (arg8.view.rep x3)))) (View.readAt (Elt Ideal) scM0_2.view (Rect.unit (s := S2048x128) ![512, 0] S512x128.size inb_S2048x128_S512x128_512_0).toLoadRect (scM0_2.view.writes (Elt Ideal) scM0_2.view.junk (kernelRun0_A.sl.HS2_2 arg5 arg6 arg7 arg8 x0 x1 x2 x3)))) shapeCasts_S512x128_S512x128 (ix2 p l) = _
      rw [shapeCast_self]
      exact diag1024_m (rd scM0_0.view (scM0_0.view.writes (Elt Ideal) scM0_0.view.junk (kernelRun0_A.sl.HS0_2 arg5 arg6 arg7 x0 x1 x2))) (blk x3) (fun _ _ => (⊥ : EReal)) (View.readAt (Elt Ideal) scM0_0.view (Rect.unit (s := S2048x256) ![512, 0] S512x256.size inb_S2048x256_S512x256_512_0).toLoadRect (scM0_0.view.writes (Elt Ideal) scM0_0.view.junk (kernelRun0_A.sl.HS0_2 arg5 arg6 arg7 x0 x1 x2))) (View.readAt (Elt Ideal) arg8.view (Rect.unit (s := S2048x256) ![0, 0] S1024x256.size inb_S2048x256_S1024x256_0_0).toLoadRect (arg8.view.rep x3)) (View.readAt (Elt Ideal) scM0_2.view (Rect.unit (s := S2048x128) ![512, 0] S512x128.size inb_S2048x128_S512x128_512_0).toLoadRect (scM0_2.view.writes (Elt Ideal) scM0_2.view.junk (kernelRun0_A.sl.HS2_2 arg5 arg6 arg7 arg8 x0 x1 x2 x3))) (fun p d => readAt_rows (e := .bf16) scM0_0.view inb_S2048x256_S512x256_512_0 (scM0_0.view.writes (Elt Ideal) scM0_0.view.junk (kernelRun0_A.sl.HS0_2 arg5 arg6 arg7 x0 x1 x2)) p d) (fun j d => (readAt_top (e := .bf16) arg8.view inb_S2048x256_S1024x256_0_0 (arg8.view.rep x3) j d).trans (congrFun (View.read_rep arg8.view x3) _)) (fun p d => (readAt_rows (e := .f32) scM0_2.view inb_S2048x128_S512x128_512_0 (scM0_2.view.writes (Elt Ideal) scM0_2.view.junk (kernelRun0_A.sl.HS2_2 arg5 arg6 arg7 arg8 x0 x1 x2 x3)) p d).trans (A_m1 arg5 arg6 arg7 arg8 x0 x1 x2 x3 _ _ (Nat.le_add_right _ _))) p l)
    (fun p l => by
      show shapeCast S512x128 (pm1536 (k0_pay44 (F := Ideal) (sc1536 (View.readAt (Elt Ideal) scM0_0.view (Rect.unit (s := S2048x256) ![1024, 0] S512x256.size inb_S2048x256_S512x256_1024_0).toLoadRect (scM0_0.view.writes (Elt Ideal) scM0_0.view.junk (kernelRun0_A.sl.HS0_2 arg5 arg6 arg7 x0 x1 x2))) (View.readAt (Elt Ideal) arg8.view (Rect.unit (s := S2048x256) ![0, 0] S1536x256.size inb_S2048x256_S1536x256_0_0).toLoadRect (arg8.view.rep x3)))) (View.readAt (Elt Ideal) scM0_2.view (Rect.unit (s := S2048x128) ![1024, 0] S512x128.size inb_S2048x128_S512x128_1024_0).toLoadRect (scM0_2.view.writes (Elt Ideal) scM0_2.view.junk (kernelRun0_A.sl.HS2_3 arg5 arg6 arg7 arg8 x0 x1 x2 x3)))) shapeCasts_S512x128_S512x128 (ix2 p l) = _
      rw [shapeCast_self]
      exact diag1536_m (rd scM0_0.view (scM0_0.view.writes (Elt Ideal) scM0_0.view.junk (kernelRun0_A.sl.HS0_2 arg5 arg6 arg7 x0 x1 x2))) (blk x3) (fun _ _ => (⊥ : EReal)) (View.readAt (Elt Ideal) scM0_0.view (Rect.unit (s := S2048x256) ![1024, 0] S512x256.size inb_S2048x256_S512x256_1024_0).toLoadRect (scM0_0.view.writes (Elt Ideal) scM0_0.view.junk (kernelRun0_A.sl.HS0_2 arg5 arg6 arg7 x0 x1 x2))) (View.readAt (Elt Ideal) arg8.view (Rect.unit (s := S2048x256) ![0, 0] S1536x256.size inb_S2048x256_S1536x256_0_0).toLoadRect (arg8.view.rep x3)) (View.readAt (Elt Ideal) scM0_2.view (Rect.unit (s := S2048x128) ![1024, 0] S512x128.size inb_S2048x128_S512x128_1024_0).toLoadRect (scM0_2.view.writes (Elt Ideal) scM0_2.view.junk (kernelRun0_A.sl.HS2_3 arg5 arg6 arg7 arg8 x0 x1 x2 x3))) (fun p d => readAt_rows (e := .bf16) scM0_0.view inb_S2048x256_S512x256_1024_0 (scM0_0.view.writes (Elt Ideal) scM0_0.view.junk (kernelRun0_A.sl.HS0_2 arg5 arg6 arg7 x0 x1 x2)) p d) (fun j d => (readAt_top (e := .bf16) arg8.view inb_S2048x256_S1536x256_0_0 (arg8.view.rep x3) j d).trans (congrFun (View.read_rep arg8.view x3) _)) (fun p d => (readAt_rows (e := .f32) scM0_2.view inb_S2048x128_S512x128_1024_0 (scM0_2.view.writes (Elt Ideal) scM0_2.view.junk (kernelRun0_A.sl.HS2_3 arg5 arg6 arg7 arg8 x0 x1 x2 x3)) p d).trans (A_m2 arg5 arg6 arg7 arg8 x0 x1 x2 x3 _ _ (Nat.le_add_right _ _))) p l)
    (fun p l => by
      show shapeCast S512x128 (pm2048 (k0_pay4 (F := Ideal) (sc2048 (View.readAt (Elt Ideal) scM0_0.view (Rect.unit (s := S2048x256) ![1536, 0] S512x256.size inb_S2048x256_S512x256_1536_0).toLoadRect (scM0_0.view.writes (Elt Ideal) scM0_0.view.junk (kernelRun0_A.sl.HS0_2 arg5 arg6 arg7 x0 x1 x2))) (View.readAt (Elt Ideal) arg8.view (Rect.unit (s := S2048x256) ![0, 0] S2048x256.size inb_S2048x256_S2048x256_0_0).toLoadRect (arg8.view.rep x3)))) (View.readAt (Elt Ideal) scM0_2.view (Rect.unit (s := S2048x128) ![1536, 0] S512x128.size inb_S2048x128_S512x128_1536_0).toLoadRect (scM0_2.view.writes (Elt Ideal) scM0_2.view.junk (kernelRun0_A.sl.HS2_4 arg5 arg6 arg7 arg8 x0 x1 x2 x3)))) shapeCasts_S512x128_S512x128 (ix2 p l) = _
      rw [shapeCast_self]
      exact diag2048_m (rd scM0_0.view (scM0_0.view.writes (Elt Ideal) scM0_0.view.junk (kernelRun0_A.sl.HS0_2 arg5 arg6 arg7 x0 x1 x2))) (blk x3) (fun _ _ => (⊥ : EReal)) (View.readAt (Elt Ideal) scM0_0.view (Rect.unit (s := S2048x256) ![1536, 0] S512x256.size inb_S2048x256_S512x256_1536_0).toLoadRect (scM0_0.view.writes (Elt Ideal) scM0_0.view.junk (kernelRun0_A.sl.HS0_2 arg5 arg6 arg7 x0 x1 x2))) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![1536, 0] S512x128.size inb_S2048x128_S512x128_1536_0).toLoadRect (scM0_2.view.writes (Elt Ideal) scM0_2.view.junk (kernelRun0_A.sl.HS2_4 arg5 arg6 arg7 arg8 x0 x1 x2 x3))) (fun p d => readAt_rows (e := .bf16) scM0_0.view inb_S2048x256_S512x256_1536_0 (scM0_0.view.writes (Elt Ideal) scM0_0.view.junk (kernelRun0_A.sl.HS0_2 arg5 arg6 arg7 x0 x1 x2)) p d) (fun j d => (readAt_top (e := .bf16) arg8.view inb_S2048x256_S2048x256_0_0 (arg8.view.rep x3) j d).trans (congrFun (View.read_rep arg8.view x3) _)) (fun p d => (readAt_rows (e := .f32) scM0_2.view inb_S2048x128_S512x128_1536_0 (scM0_2.view.writes (Elt Ideal) scM0_2.view.junk (kernelRun0_A.sl.HS2_4 arg5 arg6 arg7 arg8 x0 x1 x2 x3)) p d).trans (A_m3 arg5 arg6 arg7 arg8 x0 x1 x2 x3 _ _ (Nat.le_add_right _ _))) p l) r l

theorem A_a (f : (View.whole cc0_scratch3).ty.Contents (Elt Ideal)) (r : Fin 2048) (l : Fin 256) :
    rd scM0_3.view (scM0_3.view.writes (Elt Ideal) f (kernelRun0_A.sl.HS3_5 arg5 arg6 arg7 arg8 arg9 x0 x1 x2 x3 x4)) r l = aNext True (rd scM0_0.view (scM0_0.view.writes (Elt Ideal) scM0_0.view.junk (kernelRun0_A.sl.HS0_2 arg5 arg6 arg7 x0 x1 x2))) (blk x3) (rd scM0_1.view (scM0_1.view.writes (Elt Ideal) scM0_1.view.junk (kernelRun0_A.sl.HS1_2 arg9 x4))) (fun _ _ => (⊥ : EReal)) (fun _ _ => (0 : EReal)) r l :=
  read_rows4 (e := .f32) scM0_3.view f inb_S2048x256_S512x256_0_0 inb_S2048x256_S512x256_512_0 inb_S2048x256_S512x256_1024_0 inb_S2048x256_S512x256_1536_0 _ _ _ _ _
    (aNext True (rd scM0_0.view (scM0_0.view.writes (Elt Ideal) scM0_0.view.junk (kernelRun0_A.sl.HS0_2 arg5 arg6 arg7 x0 x1 x2))) (blk x3) (rd scM0_1.view (scM0_1.view.writes (Elt Ideal) scM0_1.view.junk (kernelRun0_A.sl.HS1_2 arg9 x4))) (fun _ _ => (⊥ : EReal)) (fun _ _ => (0 : EReal)))
    (fun p l => by
      show pa512 (k0_pay33 (F := Ideal) (View.readAt (Elt Ideal) scM0_0.view (Rect.unit (s := S2048x256) ![0, 0] S512x256.size inb_S2048x256_S512x256_0_0).toLoadRect (scM0_0.view.writes (Elt Ideal) scM0_0.view.junk (kernelRun0_A.sl.HS0_2 arg5 arg6 arg7 x0 x1 x2))) (View.readAt (Elt Ideal) arg8.view (Rect.unit (s := S2048x256) ![0, 0] S512x256.size inb_S2048x256_S512x256_0_0).toLoadRect (arg8.view.rep x3))) (View.readAt (Elt Ideal) scM0_2.view (Rect.unit (s := S2048x128) ![0, 0] S512x128.size inb_S2048x128_S512x128_0_0).toLoadRect (scM0_2.view.writes (Elt Ideal) scM0_2.view.junk (kernelRun0_A.sl.HS2_1))) (View.readAt (Elt Ideal) scM0_3.view (Rect.unit (s := S2048x256) ![0, 0] S512x256.size inb_S2048x256_S512x256_0_0).toLoadRect (scM0_3.view.writes (Elt Ideal) scM0_3.view.junk (kernelRun0_A.sl.HS3_1))) (View.readAt (Elt Ideal) scM0_1.view (Rect.unit (s := S2048x256) ![0, 0] S512x256.size inb_S2048x256_S512x256_0_0).toLoadRect (scM0_1.view.writes (Elt Ideal) scM0_1.view.junk (kernelRun0_A.sl.HS1_2 arg9 x4))) (ix2 p l) = _
      exact diag512_a (rd scM0_0.view (scM0_0.view.writes (Elt Ideal) scM0_0.view.junk (kernelRun0_A.sl.HS0_2 arg5 arg6 arg7 x0 x1 x2))) (blk x3) (rd scM0_1.view (scM0_1.view.writes (Elt Ideal) scM0_1.view.junk (kernelRun0_A.sl.HS1_2 arg9 x4))) (fun _ _ => (⊥ : EReal)) (fun _ _ => (0 : EReal)) (View.readAt (Elt Ideal) scM0_0.view (Rect.unit (s := S2048x256) ![0, 0] S512x256.size inb_S2048x256_S512x256_0_0).toLoadRect (scM0_0.view.writes (Elt Ideal) scM0_0.view.junk (kernelRun0_A.sl.HS0_2 arg5 arg6 arg7 x0 x1 x2))) (View.readAt (Elt Ideal) arg8.view (Rect.unit (s := S2048x256) ![0, 0] S512x256.size inb_S2048x256_S512x256_0_0).toLoadRect (arg8.view.rep x3)) (View.readAt (Elt Ideal) scM0_2.view (Rect.unit (s := S2048x128) ![0, 0] S512x128.size inb_S2048x128_S512x128_0_0).toLoadRect (scM0_2.view.writes (Elt Ideal) scM0_2.view.junk (kernelRun0_A.sl.HS2_1))) (View.readAt (Elt Ideal) scM0_3.view (Rect.unit (s := S2048x256) ![0, 0] S512x256.size inb_S2048x256_S512x256_0_0).toLoadRect (scM0_3.view.writes (Elt Ideal) scM0_3.view.junk (kernelRun0_A.sl.HS3_1))) (View.readAt (Elt Ideal) scM0_1.view (Rect.unit (s := S2048x256) ![0, 0] S512x256.size inb_S2048x256_S512x256_0_0).toLoadRect (scM0_1.view.writes (Elt Ideal) scM0_1.view.junk (kernelRun0_A.sl.HS1_2 arg9 x4))) (fun p d => readAt_rows (e := .bf16) scM0_0.view inb_S2048x256_S512x256_0_0 (scM0_0.view.writes (Elt Ideal) scM0_0.view.junk (kernelRun0_A.sl.HS0_2 arg5 arg6 arg7 x0 x1 x2)) p d) (fun j d => (readAt_top (e := .bf16) arg8.view inb_S2048x256_S512x256_0_0 (arg8.view.rep x3) j d).trans (congrFun (View.read_rep arg8.view x3) _)) (fun p d => (readAt_rows (e := .f32) scM0_2.view inb_S2048x128_S512x128_0_0 (scM0_2.view.writes (Elt Ideal) scM0_2.view.junk (kernelRun0_A.sl.HS2_1)) p d).trans (A_m0  _ _ )) (fun p d => (readAt_rows (e := .f32) scM0_3.view inb_S2048x256_S512x256_0_0 (scM0_3.view.writes (Elt Ideal) scM0_3.view.junk (kernelRun0_A.sl.HS3_1)) p d).trans (A_a0  _ _ )) (fun j d => readAt_top (e := .bf16) scM0_1.view inb_S2048x256_S512x256_0_0 (scM0_1.view.writes (Elt Ideal) scM0_1.view.junk (kernelRun0_A.sl.HS1_2 arg9 x4)) j d) p l)
    (fun p l => by
      show pa1024 (k0_pay39 (F := Ideal) (sc1024 (View.readAt (Elt Ideal) scM0_0.view (Rect.unit (s := S2048x256) ![512, 0] S512x256.size inb_S2048x256_S512x256_512_0).toLoadRect (scM0_0.view.writes (Elt Ideal) scM0_0.view.junk (kernelRun0_A.sl.HS0_2 arg5 arg6 arg7 x0 x1 x2))) (View.readAt (Elt Ideal) arg8.view (Rect.unit (s := S2048x256) ![0, 0] S1024x256.size inb_S2048x256_S1024x256_0_0).toLoadRect (arg8.view.rep x3)))) (View.readAt (Elt Ideal) scM0_2.view (Rect.unit (s := S2048x128) ![512, 0] S512x128.size inb_S2048x128_S512x128_512_0).toLoadRect (scM0_2.view.writes (Elt Ideal) scM0_2.view.junk (kernelRun0_A.sl.HS2_2 arg5 arg6 arg7 arg8 x0 x1 x2 x3))) (View.readAt (Elt Ideal) scM0_3.view (Rect.unit (s := S2048x256) ![512, 0] S512x256.size inb_S2048x256_S512x256_512_0).toLoadRect (scM0_3.view.writes (Elt Ideal) scM0_3.view.junk (kernelRun0_A.sl.HS3_2 arg5 arg6 arg7 arg8 arg9 x0 x1 x2 x3 x4))) (View.readAt (Elt Ideal) scM0_1.view (Rect.unit (s := S2048x256) ![0, 0] S1024x256.size inb_S2048x256_S1024x256_0_0).toLoadRect (scM0_1.view.writes (Elt Ideal) scM0_1.view.junk (kernelRun0_A.sl.HS1_2 arg9 x4))) (ix2 p l) = _
      exact diag1024_a (rd scM0_0.view (scM0_0.view.writes (Elt Ideal) scM0_0.view.junk (kernelRun0_A.sl.HS0_2 arg5 arg6 arg7 x0 x1 x2))) (blk x3) (rd scM0_1.view (scM0_1.view.writes (Elt Ideal) scM0_1.view.junk (kernelRun0_A.sl.HS1_2 arg9 x4))) (fun _ _ => (⊥ : EReal)) (fun _ _ => (0 : EReal)) (View.readAt (Elt Ideal) scM0_0.view (Rect.unit (s := S2048x256) ![512, 0] S512x256.size inb_S2048x256_S512x256_512_0).toLoadRect (scM0_0.view.writes (Elt Ideal) scM0_0.view.junk (kernelRun0_A.sl.HS0_2 arg5 arg6 arg7 x0 x1 x2))) (View.readAt (Elt Ideal) arg8.view (Rect.unit (s := S2048x256) ![0, 0] S1024x256.size inb_S2048x256_S1024x256_0_0).toLoadRect (arg8.view.rep x3)) (View.readAt (Elt Ideal) scM0_2.view (Rect.unit (s := S2048x128) ![512, 0] S512x128.size inb_S2048x128_S512x128_512_0).toLoadRect (scM0_2.view.writes (Elt Ideal) scM0_2.view.junk (kernelRun0_A.sl.HS2_2 arg5 arg6 arg7 arg8 x0 x1 x2 x3))) (View.readAt (Elt Ideal) scM0_3.view (Rect.unit (s := S2048x256) ![512, 0] S512x256.size inb_S2048x256_S512x256_512_0).toLoadRect (scM0_3.view.writes (Elt Ideal) scM0_3.view.junk (kernelRun0_A.sl.HS3_2 arg5 arg6 arg7 arg8 arg9 x0 x1 x2 x3 x4))) (View.readAt (Elt Ideal) scM0_1.view (Rect.unit (s := S2048x256) ![0, 0] S1024x256.size inb_S2048x256_S1024x256_0_0).toLoadRect (scM0_1.view.writes (Elt Ideal) scM0_1.view.junk (kernelRun0_A.sl.HS1_2 arg9 x4))) (fun p d => readAt_rows (e := .bf16) scM0_0.view inb_S2048x256_S512x256_512_0 (scM0_0.view.writes (Elt Ideal) scM0_0.view.junk (kernelRun0_A.sl.HS0_2 arg5 arg6 arg7 x0 x1 x2)) p d) (fun j d => (readAt_top (e := .bf16) arg8.view inb_S2048x256_S1024x256_0_0 (arg8.view.rep x3) j d).trans (congrFun (View.read_rep arg8.view x3) _)) (fun p d => (readAt_rows (e := .f32) scM0_2.view inb_S2048x128_S512x128_512_0 (scM0_2.view.writes (Elt Ideal) scM0_2.view.junk (kernelRun0_A.sl.HS2_2 arg5 arg6 arg7 arg8 x0 x1 x2 x3)) p d).trans (A_m1 arg5 arg6 arg7 arg8 x0 x1 x2 x3 _ _ (Nat.le_add_right _ _))) (fun p d => (readAt_rows (e := .f32) scM0_3.view inb_S2048x256_S512x256_512_0 (scM0_3.view.writes (Elt Ideal) scM0_3.view.junk (kernelRun0_A.sl.HS3_2 arg5 arg6 arg7 arg8 arg9 x0 x1 x2 x3 x4)) p d).trans (A_a1 arg5 arg6 arg7 arg8 arg9 x0 x1 x2 x3 x4 _ _ (Nat.le_add_right _ _))) (fun j d => readAt_top (e := .bf16) scM0_1.view inb_S2048x256_S1024x256_0_0 (scM0_1.view.writes (Elt Ideal) scM0_1.view.junk (kernelRun0_A.sl.HS1_2 arg9 x4)) j d) p l)
    (fun p l => by
      show pa1536 (k0_pay44 (F := Ideal) (sc1536 (View.readAt (Elt Ideal) scM0_0.view (Rect.unit (s := S2048x256) ![1024, 0] S512x256.size inb_S2048x256_S512x256_1024_0).toLoadRect (scM0_0.view.writes (Elt Ideal) scM0_0.view.junk (kernelRun0_A.sl.HS0_2 arg5 arg6 arg7 x0 x1 x2))) (View.readAt (Elt Ideal) arg8.view (Rect.unit (s := S2048x256) ![0, 0] S1536x256.size inb_S2048x256_S1536x256_0_0).toLoadRect (arg8.view.rep x3)))) (View.readAt (Elt Ideal) scM0_2.view (Rect.unit (s := S2048x128) ![1024, 0] S512x128.size inb_S2048x128_S512x128_1024_0).toLoadRect (scM0_2.view.writes (Elt Ideal) scM0_2.view.junk (kernelRun0_A.sl.HS2_3 arg5 arg6 arg7 arg8 x0 x1 x2 x3))) (View.readAt (Elt Ideal) scM0_3.view (Rect.unit (s := S2048x256) ![1024, 0] S512x256.size inb_S2048x256_S512x256_1024_0).toLoadRect (scM0_3.view.writes (Elt Ideal) scM0_3.view.junk (kernelRun0_A.sl.HS3_3 arg5 arg6 arg7 arg8 arg9 x0 x1 x2 x3 x4))) (View.readAt (Elt Ideal) scM0_1.view (Rect.unit (s := S2048x256) ![0, 0] S1536x256.size inb_S2048x256_S1536x256_0_0).toLoadRect (scM0_1.view.writes (Elt Ideal) scM0_1.view.junk (kernelRun0_A.sl.HS1_2 arg9 x4))) (ix2 p l) = _
      exact diag1536_a (rd scM0_0.view (scM0_0.view.writes (Elt Ideal) scM0_0.view.junk (kernelRun0_A.sl.HS0_2 arg5 arg6 arg7 x0 x1 x2))) (blk x3) (rd scM0_1.view (scM0_1.view.writes (Elt Ideal) scM0_1.view.junk (kernelRun0_A.sl.HS1_2 arg9 x4))) (fun _ _ => (⊥ : EReal)) (fun _ _ => (0 : EReal)) (View.readAt (Elt Ideal) scM0_0.view (Rect.unit (s := S2048x256) ![1024, 0] S512x256.size inb_S2048x256_S512x256_1024_0).toLoadRect (scM0_0.view.writes (Elt Ideal) scM0_0.view.junk (kernelRun0_A.sl.HS0_2 arg5 arg6 arg7 x0 x1 x2))) (View.readAt (Elt Ideal) arg8.view (Rect.unit (s := S2048x256) ![0, 0] S1536x256.size inb_S2048x256_S1536x256_0_0).toLoadRect (arg8.view.rep x3)) (View.readAt (Elt Ideal) scM0_2.view (Rect.unit (s := S2048x128) ![1024, 0] S512x128.size inb_S2048x128_S512x128_1024_0).toLoadRect (scM0_2.view.writes (Elt Ideal) scM0_2.view.junk (kernelRun0_A.sl.HS2_3 arg5 arg6 arg7 arg8 x0 x1 x2 x3))) (View.readAt (Elt Ideal) scM0_3.view (Rect.unit (s := S2048x256) ![1024, 0] S512x256.size inb_S2048x256_S512x256_1024_0).toLoadRect (scM0_3.view.writes (Elt Ideal) scM0_3.view.junk (kernelRun0_A.sl.HS3_3 arg5 arg6 arg7 arg8 arg9 x0 x1 x2 x3 x4))) (View.readAt (Elt Ideal) scM0_1.view (Rect.unit (s := S2048x256) ![0, 0] S1536x256.size inb_S2048x256_S1536x256_0_0).toLoadRect (scM0_1.view.writes (Elt Ideal) scM0_1.view.junk (kernelRun0_A.sl.HS1_2 arg9 x4))) (fun p d => readAt_rows (e := .bf16) scM0_0.view inb_S2048x256_S512x256_1024_0 (scM0_0.view.writes (Elt Ideal) scM0_0.view.junk (kernelRun0_A.sl.HS0_2 arg5 arg6 arg7 x0 x1 x2)) p d) (fun j d => (readAt_top (e := .bf16) arg8.view inb_S2048x256_S1536x256_0_0 (arg8.view.rep x3) j d).trans (congrFun (View.read_rep arg8.view x3) _)) (fun p d => (readAt_rows (e := .f32) scM0_2.view inb_S2048x128_S512x128_1024_0 (scM0_2.view.writes (Elt Ideal) scM0_2.view.junk (kernelRun0_A.sl.HS2_3 arg5 arg6 arg7 arg8 x0 x1 x2 x3)) p d).trans (A_m2 arg5 arg6 arg7 arg8 x0 x1 x2 x3 _ _ (Nat.le_add_right _ _))) (fun p d => (readAt_rows (e := .f32) scM0_3.view inb_S2048x256_S512x256_1024_0 (scM0_3.view.writes (Elt Ideal) scM0_3.view.junk (kernelRun0_A.sl.HS3_3 arg5 arg6 arg7 arg8 arg9 x0 x1 x2 x3 x4)) p d).trans (A_a2 arg5 arg6 arg7 arg8 arg9 x0 x1 x2 x3 x4 _ _ (Nat.le_add_right _ _))) (fun j d => readAt_top (e := .bf16) scM0_1.view inb_S2048x256_S1536x256_0_0 (scM0_1.view.writes (Elt Ideal) scM0_1.view.junk (kernelRun0_A.sl.HS1_2 arg9 x4)) j d) p l)
    (fun p l => by
      show pa2048 (k0_pay4 (F := Ideal) (sc2048 (View.readAt (Elt Ideal) scM0_0.view (Rect.unit (s := S2048x256) ![1536, 0] S512x256.size inb_S2048x256_S512x256_1536_0).toLoadRect (scM0_0.view.writes (Elt Ideal) scM0_0.view.junk (kernelRun0_A.sl.HS0_2 arg5 arg6 arg7 x0 x1 x2))) (View.readAt (Elt Ideal) arg8.view (Rect.unit (s := S2048x256) ![0, 0] S2048x256.size inb_S2048x256_S2048x256_0_0).toLoadRect (arg8.view.rep x3)))) (View.readAt (Elt Ideal) scM0_2.view (Rect.unit (s := S2048x128) ![1536, 0] S512x128.size inb_S2048x128_S512x128_1536_0).toLoadRect (scM0_2.view.writes (Elt Ideal) scM0_2.view.junk (kernelRun0_A.sl.HS2_4 arg5 arg6 arg7 arg8 x0 x1 x2 x3))) (View.readAt (Elt Ideal) scM0_3.view (Rect.unit (s := S2048x256) ![1536, 0] S512x256.size inb_S2048x256_S512x256_1536_0).toLoadRect (scM0_3.view.writes (Elt Ideal) scM0_3.view.junk (kernelRun0_A.sl.HS3_4 arg5 arg6 arg7 arg8 arg9 x0 x1 x2 x3 x4))) (View.readAt (Elt Ideal) scM0_1.view (Rect.unit (s := S2048x256) ![0, 0] S2048x256.size inb_S2048x256_S2048x256_0_0).toLoadRect (scM0_1.view.writes (Elt Ideal) scM0_1.view.junk (kernelRun0_A.sl.HS1_2 arg9 x4))) (ix2 p l) = _
      exact diag2048_a (rd scM0_0.view (scM0_0.view.writes (Elt Ideal) scM0_0.view.junk (kernelRun0_A.sl.HS0_2 arg5 arg6 arg7 x0 x1 x2))) (blk x3) (rd scM0_1.view (scM0_1.view.writes (Elt Ideal) scM0_1.view.junk (kernelRun0_A.sl.HS1_2 arg9 x4))) (fun _ _ => (⊥ : EReal)) (fun _ _ => (0 : EReal)) (View.readAt (Elt Ideal) scM0_0.view (Rect.unit (s := S2048x256) ![1536, 0] S512x256.size inb_S2048x256_S512x256_1536_0).toLoadRect (scM0_0.view.writes (Elt Ideal) scM0_0.view.junk (kernelRun0_A.sl.HS0_2 arg5 arg6 arg7 x0 x1 x2))) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![1536, 0] S512x128.size inb_S2048x128_S512x128_1536_0).toLoadRect (scM0_2.view.writes (Elt Ideal) scM0_2.view.junk (kernelRun0_A.sl.HS2_4 arg5 arg6 arg7 arg8 x0 x1 x2 x3))) (View.readAt (Elt Ideal) scM0_3.view (Rect.unit (s := S2048x256) ![1536, 0] S512x256.size inb_S2048x256_S512x256_1536_0).toLoadRect (scM0_3.view.writes (Elt Ideal) scM0_3.view.junk (kernelRun0_A.sl.HS3_4 arg5 arg6 arg7 arg8 arg9 x0 x1 x2 x3 x4))) (View.readAt (Elt Ideal) scM0_1.view (Rect.unit (s := S2048x256) ![0, 0] S2048x256.size inb_S2048x256_S2048x256_0_0).toLoadRect (scM0_1.view.writes (Elt Ideal) scM0_1.view.junk (kernelRun0_A.sl.HS1_2 arg9 x4))) (fun p d => readAt_rows (e := .bf16) scM0_0.view inb_S2048x256_S512x256_1536_0 (scM0_0.view.writes (Elt Ideal) scM0_0.view.junk (kernelRun0_A.sl.HS0_2 arg5 arg6 arg7 x0 x1 x2)) p d) (fun j d => (readAt_top (e := .bf16) arg8.view inb_S2048x256_S2048x256_0_0 (arg8.view.rep x3) j d).trans (congrFun (View.read_rep arg8.view x3) _)) (fun p d => (readAt_rows (e := .f32) scM0_2.view inb_S2048x128_S512x128_1536_0 (scM0_2.view.writes (Elt Ideal) scM0_2.view.junk (kernelRun0_A.sl.HS2_4 arg5 arg6 arg7 arg8 x0 x1 x2 x3)) p d).trans (A_m3 arg5 arg6 arg7 arg8 x0 x1 x2 x3 _ _ (Nat.le_add_right _ _))) (fun p d => (readAt_rows (e := .f32) scM0_3.view inb_S2048x256_S512x256_1536_0 (scM0_3.view.writes (Elt Ideal) scM0_3.view.junk (kernelRun0_A.sl.HS3_4 arg5 arg6 arg7 arg8 arg9 x0 x1 x2 x3 x4)) p d).trans (A_a3 arg5 arg6 arg7 arg8 arg9 x0 x1 x2 x3 x4 _ _ (Nat.le_add_right _ _))) (fun j d => readAt_top (e := .bf16) scM0_1.view inb_S2048x256_S2048x256_0_0 (scM0_1.view.writes (Elt Ideal) scM0_1.view.junk (kernelRun0_A.sl.HS1_2 arg9 x4)) j d) p l) r l

/-- What a diagonal step stores in the result block. -/
theorem A_out (f : VO0_5.ty.Contents (Elt Ideal)) (r : Fin 2048) (l : Fin 128) :
    rd VO0_5 (VO0_5.writes (Elt Ideal) f (kernelRun0_A.sl.HO5_1 arg5 arg6 arg7 arg8 arg9 x0 x1 x2 x3 x4)) r l
      = Ideal.div (aNext True (rd scM0_0.view (scM0_0.view.writes (Elt Ideal) scM0_0.view.junk (kernelRun0_A.sl.HS0_2 arg5 arg6 arg7 x0 x1 x2))) (blk x3) (rd scM0_1.view (scM0_1.view.writes (Elt Ideal) scM0_1.view.junk (kernelRun0_A.sl.HS1_2 arg9 x4))) (fun _ _ => (⊥ : EReal)) (fun _ _ => (0 : EReal)) r ⟨l.val, by omega⟩) (aNext True (rd scM0_0.view (scM0_0.view.writes (Elt Ideal) scM0_0.view.junk (kernelRun0_A.sl.HS0_2 arg5 arg6 arg7 x0 x1 x2))) (blk x3) (rd scM0_1.view (scM0_1.view.writes (Elt Ideal) scM0_1.view.junk (kernelRun0_A.sl.HS1_2 arg9 x4))) (fun _ _ => (⊥ : EReal)) (fun _ _ => (0 : EReal)) r ⟨128 + l.val, by omega⟩) := by
  refine (read_hit (e := .bf16) VO0_5 _ inb_S2048x128_S2048x128_0_0 _ [] r r l (by omega)).trans ?_
  refine (pay8_apply _ r l).trans ?_
  have e : ∀ d : Fin 256, View.readAt (Elt Ideal) scM0_3.view (Rect.unit (s := S2048x256) ![0, 0] S2048x256.size inb_S2048x256_S2048x256_0_0).toLoadRect (scM0_3.view.writes (Elt Ideal) scM0_3.view.junk (kernelRun0_A.sl.HS3_5 arg5 arg6 arg7 arg8 arg9 x0 x1 x2 x3 x4)) (ix2 r d)
      = aNext True (rd scM0_0.view (scM0_0.view.writes (Elt Ideal) scM0_0.view.junk (kernelRun0_A.sl.HS0_2 arg5 arg6 arg7 x0 x1 x2))) (blk x3) (rd scM0_1.view (scM0_1.view.writes (Elt Ideal) scM0_1.view.junk (kernelRun0_A.sl.HS1_2 arg9 x4))) (fun _ _ => (⊥ : EReal)) (fun _ _ => (0 : EReal)) r d := fun d =>
    (readAt_top (e := .f32) scM0_3.view inb_S2048x256_S2048x256_0_0 _ r d).trans (A_a arg5 arg6 arg7 arg8 arg9 x0 x1 x2 x3 x4 _ r d)
  exact congrArg₂ Ideal.div (e _) (e _)

end Cert.KernelIdeal.Attn
-- ==== Proof.KernelIdeal.StepB.lean ====
module

public import proofs.«01_k».proof.Proof.KernelIdeal.Views

/-! What a step that is first, not diagonal leaves. -/

@[expose] public section

set_option maxRecDepth 16384

noncomputable section

namespace Cert.KernelIdeal.Attn

open Cert.KernelIdeal Cert.KernelIdeal.Gen
open Idealize.ShloMosaic
open Idealize.ShloMosaic.TcCoe

variable (arg5 : Memref sig .tc .vmem S2048x256 .bf16) (arg6 arg7 : Memref sig .tc .vmem S2048x128 .f32)
  (arg8 : Memref sig .tc .vmem S2048x256 .bf16) (arg9 : Memref sig .tc .vmem S2048x128 .bf16)
  (x0 : S2048x256.Idx → Elt Ideal .bf16) (x1 x2 : S2048x128.Idx → Elt Ideal .f32)
  (x3 : S2048x256.Idx → Elt Ideal .bf16) (x4 : S2048x128.Idx → Elt Ideal .bf16)

theorem B_va (f : (View.whole cc0_scratch1).ty.Contents (Elt Ideal)) (r : Fin 2048) (l : Fin 256) :
    rd scM0_1.view (scM0_1.view.writes (Elt Ideal) f (kernelRun0_B.sl.HS1_2 arg9 x4)) r l = if h : l.val < 128 then x4 (ix2 r ⟨l.val, h⟩) else (1 : EReal) := by
  refine (read_left (e := .bf16) scM0_1.view _ _ _ _ r l).trans ?_
  by_cases h : l.val < 128
  · rw [dif_pos h, dif_pos h]
    show k0_pay31 (F := Ideal) (View.readAt (Elt Ideal) arg9.view (Rect.unit (s := S2048x128) ![0, 0] S2048x128.size inb_S2048x128_S2048x128_0_0).toLoadRect (arg9.view.rep x4)) (ix2 r ⟨l.val, h⟩) = _
    rw [pay31_eq]
    exact (readAt_top (e := .bf16) arg9.view inb_S2048x128_S2048x128_0_0 (arg9.view.rep x4) r ⟨l.val, h⟩).trans (congrFun (View.read_rep arg9.view x4) _)
  · rw [dif_neg h, dif_neg h]
    refine (read_right (e := .bf16) scM0_1.view _ _ _ [] r l).trans ?_
    rw [dif_neg h]
    exact pay11_apply _

/-- The rotated query a first step stores. -/
theorem B_qf (f : (View.whole cc0_scratch0).ty.Contents (Elt Ideal)) (r : Fin 2048) (l : Fin 256) :
    rd scM0_0.view (scM0_0.view.writes (Elt Ideal) f (kernelRun0_B.sl.HS0_2 arg5 arg6 arg7 x0 x1 x2)) r l = qrot (blk x0) (blk x1) (blk x2) r l := by
  refine (read_right (e := .bf16) scM0_0.view _ _ _ _ r l).trans ?_
  unfold qrot
  by_cases h : l.val < 128
  · rw [dif_pos h, dif_pos h]
    refine (read_left (e := .bf16) scM0_0.view _ _ _ [] r l).trans ?_
    rw [dif_pos h]
    refine (congrFun (pay9_eq _) _).trans ?_
    exact (readAt_top (e := .bf16) arg5.view inb_S2048x256_S2048x128_0_0 (arg5.view.rep x0) r ⟨l.val, h⟩).trans (congrFun (View.read_rep arg5.view x0) _)
  · rw [dif_neg h, dif_neg h]
    refine (pay10_apply _ _ _ r ⟨l.val - 128, by omega⟩).trans ?_
    have e0 : ∀ d : Fin 128, View.readAt (Elt Ideal) arg5.view (Rect.unit (s := S2048x256) ![0, 128] S2048x128.size inb_S2048x256_S2048x128_0_128).toLoadRect (arg5.view.rep x0) (ix2 r d)
        = x0 (ix2 r ⟨128 + d.val, by omega⟩) := fun d =>
      (readAt_box (e := .bf16) arg5.view inb_S2048x256_S2048x128_0_128 (arg5.view.rep x0) r d).trans
        ((congrFun (View.read_rep arg5.view x0) _).trans (congrArg (fun y => x0 (ix2 y (⟨128 + d.val, by omega⟩ : Fin 256))) (Fin.ext (Nat.zero_add r.val))))
    have e1 : ∀ d : Fin 128, View.readAt (Elt Ideal) arg6.view (Rect.unit (s := S2048x128) ![0, 0] S2048x128.size inb_S2048x128_S2048x128_0_0).toLoadRect (arg6.view.rep x1) (ix2 r d)
        = x1 (ix2 r d) := fun d => (readAt_top (e := .f32) arg6.view inb_S2048x128_S2048x128_0_0 (arg6.view.rep x1) r d).trans (congrFun (View.read_rep arg6.view x1) _)
    have e2 : ∀ d : Fin 128, View.readAt (Elt Ideal) arg7.view (Rect.unit (s := S2048x128) ![0, 0] S2048x128.size inb_S2048x128_S2048x128_0_0).toLoadRect (arg7.view.rep x2) (ix2 r d)
        = x2 (ix2 r d) := fun d => (readAt_top (e := .f32) arg7.view inb_S2048x128_S2048x128_0_0 (arg7.view.rep x2) r d).trans (congrFun (View.read_rep arg7.view x2) _)
    simp only [e0, e1, e2]
    have e3 : (⟨128 + (l.val - 128), by omega⟩ : Fin 256) = l := Fin.ext (by show 128 + (l.val - 128) = l.val; omega)
    rw [e3]

theorem B_m0 (r : Fin 2048) (l : Fin 128) : rd scM0_2.view (scM0_2.view.writes (Elt Ideal) scM0_2.view.junk (kernelRun0_B.sl.HS2_1)) r l = (⊥ : EReal) :=
  (read_hit (e := .f32) scM0_2.view _ inb_S2048x128_S2048x128_0_0 _ [] r r l (by omega)).trans (pay12_apply _)
theorem B_a0 (r : Fin 2048) (l : Fin 256) : rd scM0_3.view (scM0_3.view.writes (Elt Ideal) scM0_3.view.junk (kernelRun0_B.sl.HS3_1)) r l = (0 : EReal) :=
  (read_hit (e := .f32) scM0_3.view _ inb_S2048x256_S2048x256_0_0 _ [] r r l (by omega)).trans (pay13_apply _)

theorem B_m1 (r : Fin 2048) (l : Fin 128) (h : 512 ≤ r.val) : rd scM0_2.view (scM0_2.view.writes (Elt Ideal) scM0_2.view.junk (kernelRun0_B.sl.HS2_2 arg5 arg6 arg7 arg8 x0 x1 x2 x3)) r l = (⊥ : EReal) :=
  (read_miss (e := .f32) scM0_2.view _ inb_S2048x128_S512x128_0_0 _ _ r l (Or.inr h)).trans (B_m0  r l )
theorem B_a1 (r : Fin 2048) (l : Fin 256) (h : 512 ≤ r.val) : rd scM0_3.view (scM0_3.view.writes (Elt Ideal) scM0_3.view.junk (kernelRun0_B.sl.HS3_2 arg5 arg6 arg7 arg8 arg9 x0 x1 x2 x3 x4)) r l = (0 : EReal) :=
  (read_miss (e := .f32) scM0_3.view _ inb_S2048x256_S512x256_0_0 _ _ r l (Or.inr h)).trans (B_a0  r l )

theorem B_m2 (r : Fin 2048) (l : Fin 128) (h : 1024 ≤ r.val) : rd scM0_2.view (scM0_2.view.writes (Elt Ideal) scM0_2.view.junk (kernelRun0_B.sl.HS2_3 arg5 arg6 arg7 arg8 x0 x1 x2 x3)) r l = (⊥ : EReal) :=
  (read_miss (e := .f32) scM0_2.view _ inb_S2048x128_S512x128_512_0 _ _ r l (Or.inr h)).trans (B_m1 arg5 arg6 arg7 arg8 x0 x1 x2 x3 r l (by omega))
theorem B_a2 (r : Fin 2048) (l : Fin 256) (h : 1024 ≤ r.val) : rd scM0_3.view (scM0_3.view.writes (Elt Ideal) scM0_3.view.junk (kernelRun0_B.sl.HS3_3 arg5 arg6 arg7 arg8 arg9 x0 x1 x2 x3 x4)) r l = (0 : EReal) :=
  (read_miss (e := .f32) scM0_3.view _ inb_S2048x256_S512x256_512_0 _ _ r l (Or.inr h)).trans (B_a1 arg5 arg6 arg7 arg8 arg9 x0 x1 x2 x3 x4 r l (by omega))

theorem B_m3 (r : Fin 2048) (l : Fin 128) (h : 1536 ≤ r.val) : rd scM0_2.view (scM0_2.view.writes (Elt Ideal) scM0_2.view.junk (kernelRun0_B.sl.HS2_4 arg5 arg6 arg7 arg8 x0 x1 x2 x3)) r l = (⊥ : EReal) :=
  (read_miss (e := .f32) scM0_2.view _ inb_S2048x128_S512x128_1024_0 _ _ r l (Or.inr h)).trans (B_m2 arg5 arg6 arg7 arg8 x0 x1 x2 x3 r l (by omega))
theorem B_a3 (r : Fin 2048) (l : Fin 256) (h : 1536 ≤ r.val) : rd scM0_3.view (scM0_3.view.writes (Elt Ideal) scM0_3.view.junk (kernelRun0_B.sl.HS3_4 arg5 arg6 arg7 arg8 arg9 x0 x1 x2 x3 x4)) r l = (0 : EReal) :=
  (read_miss (e := .f32) scM0_3.view _ inb_S2048x256_S512x256_1024_0 _ _ r l (Or.inr h)).trans (B_a2 arg5 arg6 arg7 arg8 arg9 x0 x1 x2 x3 x4 r l (by omega))

theorem B_m (f : (View.whole cc0_scratch2).ty.Contents (Elt Ideal)) (r : Fin 2048) (l : Fin 128) :
    rd scM0_2.view (scM0_2.view.writes (Elt Ideal) f (kernelRun0_B.sl.HS2_5 arg5 arg6 arg7 arg8 x0 x1 x2 x3)) r l = mNext False (rd scM0_0.view (scM0_0.view.writes (Elt Ideal) scM0_0.view.junk (kernelRun0_B.sl.HS0_2 arg5 arg6 arg7 x0 x1 x2))) (blk x3) (fun _ _ => (⊥ : EReal)) r l :=
  read_rows4 (e := .f32) scM0_2.view f inb_S2048x128_S512x128_0_0 inb_S2048x128_S512x128_512_0 inb_S2048x128_S512x128_1024_0 inb_S2048x128_S512x128_1536_0 _ _ _ _ _
    (mNext False (rd scM0_0.view (scM0_0.view.writes (Elt Ideal) scM0_0.view.junk (kernelRun0_B.sl.HS0_2 arg5 arg6 arg7 x0 x1 x2))) (blk x3) (fun _ _ => (⊥ : EReal)))
    (fun p l => by
      show shapeCast S512x128 (pm2048 (sc2048 (View.readAt (Elt Ideal) scM0_0.view (Rect.unit (s := S2048x256) ![0, 0] S512x256.size inb_S2048x256_S512x256_0_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![0, 0] S512x128.size inb_S2048x128_S512x128_0_0).toLoadRect (scM0_2.view.writes (Elt Ideal) scM0_2.view.junk (kernelRun0_B.sl.HS2_1)))) shapeCasts_S512x128_S512x128 (ix2 p l) = _
      rw [shapeCast_self]
      exact plain_m (rd scM0_0.view (scM0_0.view.writes (Elt Ideal) scM0_0.view.junk (kernelRun0_B.sl.HS0_2 arg5 arg6 arg7 x0 x1 x2))) (blk x3) (fun _ _ => (⊥ : EReal)) (o := 0) (by decide) (View.readAt (Elt Ideal) scM0_0.view (Rect.unit (s := S2048x256) ![0, 0] S512x256.size inb_S2048x256_S512x256_0_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![0, 0] S512x128.size inb_S2048x128_S512x128_0_0).toLoadRect (scM0_2.view.writes (Elt Ideal) scM0_2.view.junk (kernelRun0_B.sl.HS2_1))) (fun p d => readAt_rows (e := .bf16) scM0_0.view inb_S2048x256_S512x256_0_0 (scM0_0.view.writes (Elt Ideal) scM0_0.view.junk (kernelRun0_B.sl.HS0_2 arg5 arg6 arg7 x0 x1 x2)) p d) (fun j d => (readAt_top (e := .bf16) arg8.view inb_S2048x256_S2048x256_0_0 (arg8.view.rep x3) j d).trans (congrFun (View.read_rep arg8.view x3) _)) (fun p d => (readAt_rows (e := .f32) scM0_2.view inb_S2048x128_S512x128_0_0 (scM0_2.view.writes (Elt Ideal) scM0_2.view.junk (kernelRun0_B.sl.HS2_1)) p d).trans (B_m0  _ _ )) p l)
    (fun p l => by
      show shapeCast S512x128 (pm2048 (sc2048 (View.readAt (Elt Ideal) scM0_0.view (Rect.unit (s := S2048x256) ![512, 0] S512x256.size inb_S2048x256_S512x256_512_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![512, 0] S512x128.size inb_S2048x128_S512x128_512_0).toLoadRect (scM0_2.view.writes (Elt Ideal) scM0_2.view.junk (kernelRun0_B.sl.HS2_2 arg5 arg6 arg7 arg8 x0 x1 x2 x3)))) shapeCasts_S512x128_S512x128 (ix2 p l) = _
      rw [shapeCast_self]
      exact plain_m (rd scM0_0.view (scM0_0.view.writes (Elt Ideal) scM0_0.view.junk (kernelRun0_B.sl.HS0_2 arg5 arg6 arg7 x0 x1 x2))) (blk x3) (fun _ _ => (⊥ : EReal)) (o := 512) (by decide) (View.readAt (Elt Ideal) scM0_0.view (Rect.unit (s := S2048x256) ![512, 0] S512x256.size inb_S2048x256_S512x256_512_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![512, 0] S512x128.size inb_S2048x128_S512x128_512_0).toLoadRect (scM0_2.view.writes (Elt Ideal) scM0_2.view.junk (kernelRun0_B.sl.HS2_2 arg5 arg6 arg7 arg8 x0 x1 x2 x3))) (fun p d => readAt_rows (e := .bf16) scM0_0.view inb_S2048x256_S512x256_512_0 (scM0_0.view.writes (Elt Ideal) scM0_0.view.junk (kernelRun0_B.sl.HS0_2 arg5 arg6 arg7 x0 x1 x2)) p d) (fun j d => (readAt_top (e := .bf16) arg8.view inb_S2048x256_S2048x256_0_0 (arg8.view.rep x3) j d).trans (congrFun (View.read_rep arg8.view x3) _)) (fun p d => (readAt_rows (e := .f32) scM0_2.view inb_S2048x128_S512x128_512_0 (scM0_2.view.writes (Elt Ideal) scM0_2.view.junk (kernelRun0_B.sl.HS2_2 arg5 arg6 arg7 arg8 x0 x1 x2 x3)) p d).trans (B_m1 arg5 arg6 arg7 arg8 x0 x1 x2 x3 _ _ (Nat.le_add_right _ _))) p l)
    (fun p l => by
      show shapeCast S512x128 (pm2048 (sc2048 (View.readAt (Elt Ideal) scM0_0.view (Rect.unit (s := S2048x256) ![1024, 0] S512x256.size inb_S2048x256_S512x256_1024_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![1024, 0] S512x128.size inb_S2048x128_S512x128_1024_0).toLoadRect (scM0_2.view.writes (Elt Ideal) scM0_2.view.junk (kernelRun0_B.sl.HS2_3 arg5 arg6 arg7 arg8 x0 x1 x2 x3)))) shapeCasts_S512x128_S512x128 (ix2 p l) = _
      rw [shapeCast_self]
      exact plain_m (rd scM0_0.view (scM0_0.view.writes (Elt Ideal) scM0_0.view.junk (kernelRun0_B.sl.HS0_2 arg5 arg6 arg7 x0 x1 x2))) (blk x3) (fun _ _ => (⊥ : EReal)) (o := 1024) (by decide) (View.readAt (Elt Ideal) scM0_0.view (Rect.unit (s := S2048x256) ![1024, 0] S512x256.size inb_S2048x256_S512x256_1024_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![1024, 0] S512x128.size inb_S2048x128_S512x128_1024_0).toLoadRect (scM0_2.view.writes (Elt Ideal) scM0_2.view.junk (kernelRun0_B.sl.HS2_3 arg5 arg6 arg7 arg8 x0 x1 x2 x3))) (fun p d => readAt_rows (e := .bf16) scM0_0.view inb_S2048x256_S512x256_1024_0 (scM0_0.view.writes (Elt Ideal) scM0_0.view.junk (kernelRun0_B.sl.HS0_2 arg5 arg6 arg7 x0 x1 x2)) p d) (fun j d => (readAt_top (e := .bf16) arg8.view inb_S2048x256_S2048x256_0_0 (arg8.view.rep x3) j d).trans (congrFun (View.read_rep arg8.view x3) _)) (fun p d => (readAt_rows (e := .f32) scM0_2.view inb_S2048x128_S512x128_1024_0 (scM0_2.view.writes (Elt Ideal) scM0_2.view.junk (kernelRun0_B.sl.HS2_3 arg5 arg6 arg7 arg8 x0 x1 x2 x3)) p d).trans (B_m2 arg5 arg6 arg7 arg8 x0 x1 x2 x3 _ _ (Nat.le_add_right _ _))) p l)
    (fun p l => by
      show shapeCast S512x128 (pm2048 (sc2048 (View.readAt (Elt Ideal) scM0_0.view (Rect.unit (s := S2048x256) ![1536, 0] S512x256.size inb_S2048x256_S512x256_1536_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![1536, 0] S512x128.size inb_S2048x128_S512x128_1536_0).toLoadRect (scM0_2.view.writes (Elt Ideal) scM0_2.view.junk (kernelRun0_B.sl.HS2_4 arg5 arg6 arg7 arg8 x0 x1 x2 x3)))) shapeCasts_S512x128_S512x128 (ix2 p l) = _
      rw [shapeCast_self]
      exact plain_m (rd scM0_0.view (scM0_0.view.writes (Elt Ideal) scM0_0.view.junk (kernelRun0_B.sl.HS0_2 arg5 arg6 arg7 x0 x1 x2))) (blk x3) (fun _ _ => (⊥ : EReal)) (o := 1536) (by decide) (View.readAt (Elt Ideal) scM0_0.view (Rect.unit (s := S2048x256) ![1536, 0] S512x256.size inb_S2048x256_S512x256_1536_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![1536, 0] S512x128.size inb_S2048x128_S512x128_1536_0).toLoadRect (scM0_2.view.writes (Elt Ideal) scM0_2.view.junk (kernelRun0_B.sl.HS2_4 arg5 arg6 arg7 arg8 x0 x1 x2 x3))) (fun p d => readAt_rows (e := .bf16) scM0_0.view inb_S2048x256_S512x256_1536_0 (scM0_0.view.writes (Elt Ideal) scM0_0.view.junk (kernelRun0_B.sl.HS0_2 arg5 arg6 arg7 x0 x1 x2)) p d) (fun j d => (readAt_top (e := .bf16) arg8.view inb_S2048x256_S2048x256_0_0 (arg8.view.rep x3) j d).trans (congrFun (View.read_rep arg8.view x3) _)) (fun p d => (readAt_rows (e := .f32) scM0_2.view inb_S2048x128_S512x128_1536_0 (scM0_2.view.writes (Elt Ideal) scM0_2.view.junk (kernelRun0_B.sl.HS2_4 arg5 arg6 arg7 arg8 x0 x1 x2 x3)) p d).trans (B_m3 arg5 arg6 arg7 arg8 x0 x1 x2 x3 _ _ (Nat.le_add_right _ _))) p l) r l

theorem B_a (f : (View.whole cc0_scratch3).ty.Contents (Elt Ideal)) (r : Fin 2048) (l : Fin 256) :
    rd scM0_3.view (scM0_3.view.writes (Elt Ideal) f (kernelRun0_B.sl.HS3_5 arg5 arg6 arg7 arg8 arg9 x0 x1 x2 x3 x4)) r l = aNext False (rd scM0_0.view (scM0_0.view.writes (Elt Ideal) scM0_0.view.junk (kernelRun0_B.sl.HS0_2 arg5 arg6 arg7 x0 x1 x2))) (blk x3) (rd scM0_1.view (scM0_1.view.writes (Elt Ideal) scM0_1.view.junk (kernelRun0_B.sl.HS1_2 arg9 x4))) (fun _ _ => (⊥ : EReal)) (fun _ _ => (0 : EReal)) r l :=
  read_rows4 (e := .f32) scM0_3.view f inb_S2048x256_S512x256_0_0 inb_S2048x256_S512x256_512_0 inb_S2048x256_S512x256_1024_0 inb_S2048x256_S512x256_1536_0 _ _ _ _ _
    (aNext False (rd scM0_0.view (scM0_0.view.writes (Elt Ideal) scM0_0.view.junk (kernelRun0_B.sl.HS0_2 arg5 arg6 arg7 x0 x1 x2))) (blk x3) (rd scM0_1.view (scM0_1.view.writes (Elt Ideal) scM0_1.view.junk (kernelRun0_B.sl.HS1_2 arg9 x4))) (fun _ _ => (⊥ : EReal)) (fun _ _ => (0 : EReal)))
    (fun p l => by
      show pa2048 (sc2048 (View.readAt (Elt Ideal) scM0_0.view (Rect.unit (s := S2048x256) ![0, 0] S512x256.size inb_S2048x256_S512x256_0_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![0, 0] S512x128.size inb_S2048x128_S512x128_0_0).toLoadRect (scM0_2.view.writes (Elt Ideal) scM0_2.view.junk (kernelRun0_B.sl.HS2_1))) (View.readAt (Elt Ideal) scM0_3.view (Rect.unit (s := S2048x256) ![0, 0] S512x256.size inb_S2048x256_S512x256_0_0).toLoadRect (scM0_3.view.writes (Elt Ideal) scM0_3.view.junk (kernelRun0_B.sl.HS3_1))) (View.readAt (Elt Ideal) scM0_1.view (Rect.unit (s := S2048x256) ![0, 0] S2048x256.size inb_S2048x256_S2048x256_0_0).toLoadRect (scM0_1.view.writes (Elt Ideal) scM0_1.view.junk (kernelRun0_B.sl.HS1_2 arg9 x4))) (ix2 p l) = _
      exact plain_a (rd scM0_0.view (scM0_0.view.writes (Elt Ideal) scM0_0.view.junk (kernelRun0_B.sl.HS0_2 arg5 arg6 arg7 x0 x1 x2))) (blk x3) (rd scM0_1.view (scM0_1.view.writes (Elt Ideal) scM0_1.view.junk (kernelRun0_B.sl.HS1_2 arg9 x4))) (fun _ _ => (⊥ : EReal)) (fun _ _ => (0 : EReal)) (o := 0) (by decide) (View.readAt (Elt Ideal) scM0_0.view (Rect.unit (s := S2048x256) ![0, 0] S512x256.size inb_S2048x256_S512x256_0_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![0, 0] S512x128.size inb_S2048x128_S512x128_0_0).toLoadRect (scM0_2.view.writes (Elt Ideal) scM0_2.view.junk (kernelRun0_B.sl.HS2_1))) (View.readAt (Elt Ideal) scM0_3.view (Rect.unit (s := S2048x256) ![0, 0] S512x256.size inb_S2048x256_S512x256_0_0).toLoadRect (scM0_3.view.writes (Elt Ideal) scM0_3.view.junk (kernelRun0_B.sl.HS3_1))) (View.readAt (Elt Ideal) scM0_1.view (Rect.unit (s := S2048x256) ![0, 0] S2048x256.size inb_S2048x256_S2048x256_0_0).toLoadRect (scM0_1.view.writes (Elt Ideal) scM0_1.view.junk (kernelRun0_B.sl.HS1_2 arg9 x4))) (fun p d => readAt_rows (e := .bf16) scM0_0.view inb_S2048x256_S512x256_0_0 (scM0_0.view.writes (Elt Ideal) scM0_0.view.junk (kernelRun0_B.sl.HS0_2 arg5 arg6 arg7 x0 x1 x2)) p d) (fun j d => (readAt_top (e := .bf16) arg8.view inb_S2048x256_S2048x256_0_0 (arg8.view.rep x3) j d).trans (congrFun (View.read_rep arg8.view x3) _)) (fun p d => (readAt_rows (e := .f32) scM0_2.view inb_S2048x128_S512x128_0_0 (scM0_2.view.writes (Elt Ideal) scM0_2.view.junk (kernelRun0_B.sl.HS2_1)) p d).trans (B_m0  _ _ )) (fun p d => (readAt_rows (e := .f32) scM0_3.view inb_S2048x256_S512x256_0_0 (scM0_3.view.writes (Elt Ideal) scM0_3.view.junk (kernelRun0_B.sl.HS3_1)) p d).trans (B_a0  _ _ )) (fun j d => readAt_top (e := .bf16) scM0_1.view inb_S2048x256_S2048x256_0_0 (scM0_1.view.writes (Elt Ideal) scM0_1.view.junk (kernelRun0_B.sl.HS1_2 arg9 x4)) j d) p l)
    (fun p l => by
      show pa2048 (sc2048 (View.readAt (Elt Ideal) scM0_0.view (Rect.unit (s := S2048x256) ![512, 0] S512x256.size inb_S2048x256_S512x256_512_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![512, 0] S512x128.size inb_S2048x128_S512x128_512_0).toLoadRect (scM0_2.view.writes (Elt Ideal) scM0_2.view.junk (kernelRun0_B.sl.HS2_2 arg5 arg6 arg7 arg8 x0 x1 x2 x3))) (View.readAt (Elt Ideal) scM0_3.view (Rect.unit (s := S2048x256) ![512, 0] S512x256.size inb_S2048x256_S512x256_512_0).toLoadRect (scM0_3.view.writes (Elt Ideal) scM0_3.view.junk (kernelRun0_B.sl.HS3_2 arg5 arg6 arg7 arg8 arg9 x0 x1 x2 x3 x4))) (View.readAt (Elt Ideal) scM0_1.view (Rect.unit (s := S2048x256) ![0, 0] S2048x256.size inb_S2048x256_S2048x256_0_0).toLoadRect (scM0_1.view.writes (Elt Ideal) scM0_1.view.junk (kernelRun0_B.sl.HS1_2 arg9 x4))) (ix2 p l) = _
      exact plain_a (rd scM0_0.view (scM0_0.view.writes (Elt Ideal) scM0_0.view.junk (kernelRun0_B.sl.HS0_2 arg5 arg6 arg7 x0 x1 x2))) (blk x3) (rd scM0_1.view (scM0_1.view.writes (Elt Ideal) scM0_1.view.junk (kernelRun0_B.sl.HS1_2 arg9 x4))) (fun _ _ => (⊥ : EReal)) (fun _ _ => (0 : EReal)) (o := 512) (by decide) (View.readAt (Elt Ideal) scM0_0.view (Rect.unit (s := S2048x256) ![512, 0] S512x256.size inb_S2048x256_S512x256_512_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![512, 0] S512x128.size inb_S2048x128_S512x128_512_0).toLoadRect (scM0_2.view.writes (Elt Ideal) scM0_2.view.junk (kernelRun0_B.sl.HS2_2 arg5 arg6 arg7 arg8 x0 x1 x2 x3))) (View.readAt (Elt Ideal) scM0_3.view (Rect.unit (s := S2048x256) ![512, 0] S512x256.size inb_S2048x256_S512x256_512_0).toLoadRect (scM0_3.view.writes (Elt Ideal) scM0_3.view.junk (kernelRun0_B.sl.HS3_2 arg5 arg6 arg7 arg8 arg9 x0 x1 x2 x3 x4))) (View.readAt (Elt Ideal) scM0_1.view (Rect.unit (s := S2048x256) ![0, 0] S2048x256.size inb_S2048x256_S2048x256_0_0).toLoadRect (scM0_1.view.writes (Elt Ideal) scM0_1.view.junk (kernelRun0_B.sl.HS1_2 arg9 x4))) (fun p d => readAt_rows (e := .bf16) scM0_0.view inb_S2048x256_S512x256_512_0 (scM0_0.view.writes (Elt Ideal) scM0_0.view.junk (kernelRun0_B.sl.HS0_2 arg5 arg6 arg7 x0 x1 x2)) p d) (fun j d => (readAt_top (e := .bf16) arg8.view inb_S2048x256_S2048x256_0_0 (arg8.view.rep x3) j d).trans (congrFun (View.read_rep arg8.view x3) _)) (fun p d => (readAt_rows (e := .f32) scM0_2.view inb_S2048x128_S512x128_512_0 (scM0_2.view.writes (Elt Ideal) scM0_2.view.junk (kernelRun0_B.sl.HS2_2 arg5 arg6 arg7 arg8 x0 x1 x2 x3)) p d).trans (B_m1 arg5 arg6 arg7 arg8 x0 x1 x2 x3 _ _ (Nat.le_add_right _ _))) (fun p d => (readAt_rows (e := .f32) scM0_3.view inb_S2048x256_S512x256_512_0 (scM0_3.view.writes (Elt Ideal) scM0_3.view.junk (kernelRun0_B.sl.HS3_2 arg5 arg6 arg7 arg8 arg9 x0 x1 x2 x3 x4)) p d).trans (B_a1 arg5 arg6 arg7 arg8 arg9 x0 x1 x2 x3 x4 _ _ (Nat.le_add_right _ _))) (fun j d => readAt_top (e := .bf16) scM0_1.view inb_S2048x256_S2048x256_0_0 (scM0_1.view.writes (Elt Ideal) scM0_1.view.junk (kernelRun0_B.sl.HS1_2 arg9 x4)) j d) p l)
    (fun p l => by
      show pa2048 (sc2048 (View.readAt (Elt Ideal) scM0_0.view (Rect.unit (s := S2048x256) ![1024, 0] S512x256.size inb_S2048x256_S512x256_1024_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![1024, 0] S512x128.size inb_S2048x128_S512x128_1024_0).toLoadRect (scM0_2.view.writes (Elt Ideal) scM0_2.view.junk (kernelRun0_B.sl.HS2_3 arg5 arg6 arg7 arg8 x0 x1 x2 x3))) (View.readAt (Elt Ideal) scM0_3.view (Rect.unit (s := S2048x256) ![1024, 0] S512x256.size inb_S2048x256_S512x256_1024_0).toLoadRect (scM0_3.view.writes (Elt Ideal) scM0_3.view.junk (kernelRun0_B.sl.HS3_3 arg5 arg6 arg7 arg8 arg9 x0 x1 x2 x3 x4))) (View.readAt (Elt Ideal) scM0_1.view (Rect.unit (s := S2048x256) ![0, 0] S2048x256.size inb_S2048x256_S2048x256_0_0).toLoadRect (scM0_1.view.writes (Elt Ideal) scM0_1.view.junk (kernelRun0_B.sl.HS1_2 arg9 x4))) (ix2 p l) = _
      exact plain_a (rd scM0_0.view (scM0_0.view.writes (Elt Ideal) scM0_0.view.junk (kernelRun0_B.sl.HS0_2 arg5 arg6 arg7 x0 x1 x2))) (blk x3) (rd scM0_1.view (scM0_1.view.writes (Elt Ideal) scM0_1.view.junk (kernelRun0_B.sl.HS1_2 arg9 x4))) (fun _ _ => (⊥ : EReal)) (fun _ _ => (0 : EReal)) (o := 1024) (by decide) (View.readAt (Elt Ideal) scM0_0.view (Rect.unit (s := S2048x256) ![1024, 0] S512x256.size inb_S2048x256_S512x256_1024_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![1024, 0] S512x128.size inb_S2048x128_S512x128_1024_0).toLoadRect (scM0_2.view.writes (Elt Ideal) scM0_2.view.junk (kernelRun0_B.sl.HS2_3 arg5 arg6 arg7 arg8 x0 x1 x2 x3))) (View.readAt (Elt Ideal) scM0_3.view (Rect.unit (s := S2048x256) ![1024, 0] S512x256.size inb_S2048x256_S512x256_1024_0).toLoadRect (scM0_3.view.writes (Elt Ideal) scM0_3.view.junk (kernelRun0_B.sl.HS3_3 arg5 arg6 arg7 arg8 arg9 x0 x1 x2 x3 x4))) (View.readAt (Elt Ideal) scM0_1.view (Rect.unit (s := S2048x256) ![0, 0] S2048x256.size inb_S2048x256_S2048x256_0_0).toLoadRect (scM0_1.view.writes (Elt Ideal) scM0_1.view.junk (kernelRun0_B.sl.HS1_2 arg9 x4))) (fun p d => readAt_rows (e := .bf16) scM0_0.view inb_S2048x256_S512x256_1024_0 (scM0_0.view.writes (Elt Ideal) scM0_0.view.junk (kernelRun0_B.sl.HS0_2 arg5 arg6 arg7 x0 x1 x2)) p d) (fun j d => (readAt_top (e := .bf16) arg8.view inb_S2048x256_S2048x256_0_0 (arg8.view.rep x3) j d).trans (congrFun (View.read_rep arg8.view x3) _)) (fun p d => (readAt_rows (e := .f32) scM0_2.view inb_S2048x128_S512x128_1024_0 (scM0_2.view.writes (Elt Ideal) scM0_2.view.junk (kernelRun0_B.sl.HS2_3 arg5 arg6 arg7 arg8 x0 x1 x2 x3)) p d).trans (B_m2 arg5 arg6 arg7 arg8 x0 x1 x2 x3 _ _ (Nat.le_add_right _ _))) (fun p d => (readAt_rows (e := .f32) scM0_3.view inb_S2048x256_S512x256_1024_0 (scM0_3.view.writes (Elt Ideal) scM0_3.view.junk (kernelRun0_B.sl.HS3_3 arg5 arg6 arg7 arg8 arg9 x0 x1 x2 x3 x4)) p d).trans (B_a2 arg5 arg6 arg7 arg8 arg9 x0 x1 x2 x3 x4 _ _ (Nat.le_add_right _ _))) (fun j d => readAt_top (e := .bf16) scM0_1.view inb_S2048x256_S2048x256_0_0 (scM0_1.view.writes (Elt Ideal) scM0_1.view.junk (kernelRun0_B.sl.HS1_2 arg9 x4)) j d) p l)
    (fun p l => by
      show pa2048 (sc2048 (View.readAt (Elt Ideal) scM0_0.view (Rect.unit (s := S2048x256) ![1536, 0] S512x256.size inb_S2048x256_S512x256_1536_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![1536, 0] S512x128.size inb_S2048x128_S512x128_1536_0).toLoadRect (scM0_2.view.writes (Elt Ideal) scM0_2.view.junk (kernelRun0_B.sl.HS2_4 arg5 arg6 arg7 arg8 x0 x1 x2 x3))) (View.readAt (Elt Ideal) scM0_3.view (Rect.unit (s := S2048x256) ![1536, 0] S512x256.size inb_S2048x256_S512x256_1536_0).toLoadRect (scM0_3.view.writes (Elt Ideal) scM0_3.view.junk (kernelRun0_B.sl.HS3_4 arg5 arg6 arg7 arg8 arg9 x0 x1 x2 x3 x4))) (View.readAt (Elt Ideal) scM0_1.view (Rect.unit (s := S2048x256) ![0, 0] S2048x256.size inb_S2048x256_S2048x256_0_0).toLoadRect (scM0_1.view.writes (Elt Ideal) scM0_1.view.junk (kernelRun0_B.sl.HS1_2 arg9 x4))) (ix2 p l) = _
      exact plain_a (rd scM0_0.view (scM0_0.view.writes (Elt Ideal) scM0_0.view.junk (kernelRun0_B.sl.HS0_2 arg5 arg6 arg7 x0 x1 x2))) (blk x3) (rd scM0_1.view (scM0_1.view.writes (Elt Ideal) scM0_1.view.junk (kernelRun0_B.sl.HS1_2 arg9 x4))) (fun _ _ => (⊥ : EReal)) (fun _ _ => (0 : EReal)) (o := 1536) (by decide) (View.readAt (Elt Ideal) scM0_0.view (Rect.unit (s := S2048x256) ![1536, 0] S512x256.size inb_S2048x256_S512x256_1536_0).toLoadRect (scM0_0.view.writes (Elt Ideal) scM0_0.view.junk (kernelRun0_B.sl.HS0_2 arg5 arg6 arg7 x0 x1 x2))) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![1536, 0] S512x128.size inb_S2048x128_S512x128_1536_0).toLoadRect (scM0_2.view.writes (Elt Ideal) scM0_2.view.junk (kernelRun0_B.sl.HS2_4 arg5 arg6 arg7 arg8 x0 x1 x2 x3))) (View.readAt (Elt Ideal) scM0_3.view (Rect.unit (s := S2048x256) ![1536, 0] S512x256.size inb_S2048x256_S512x256_1536_0).toLoadRect (scM0_3.view.writes (Elt Ideal) scM0_3.view.junk (kernelRun0_B.sl.HS3_4 arg5 arg6 arg7 arg8 arg9 x0 x1 x2 x3 x4))) (View.readAt (Elt Ideal) scM0_1.view (Rect.unit (s := S2048x256) ![0, 0] S2048x256.size inb_S2048x256_S2048x256_0_0).toLoadRect (scM0_1.view.writes (Elt Ideal) scM0_1.view.junk (kernelRun0_B.sl.HS1_2 arg9 x4))) (fun p d => readAt_rows (e := .bf16) scM0_0.view inb_S2048x256_S512x256_1536_0 (scM0_0.view.writes (Elt Ideal) scM0_0.view.junk (kernelRun0_B.sl.HS0_2 arg5 arg6 arg7 x0 x1 x2)) p d) (fun j d => (readAt_top (e := .bf16) arg8.view inb_S2048x256_S2048x256_0_0 (arg8.view.rep x3) j d).trans (congrFun (View.read_rep arg8.view x3) _)) (fun p d => (readAt_rows (e := .f32) scM0_2.view inb_S2048x128_S512x128_1536_0 (scM0_2.view.writes (Elt Ideal) scM0_2.view.junk (kernelRun0_B.sl.HS2_4 arg5 arg6 arg7 arg8 x0 x1 x2 x3)) p d).trans (B_m3 arg5 arg6 arg7 arg8 x0 x1 x2 x3 _ _ (Nat.le_add_right _ _))) (fun p d => (readAt_rows (e := .f32) scM0_3.view inb_S2048x256_S512x256_1536_0 (scM0_3.view.writes (Elt Ideal) scM0_3.view.junk (kernelRun0_B.sl.HS3_4 arg5 arg6 arg7 arg8 arg9 x0 x1 x2 x3 x4)) p d).trans (B_a3 arg5 arg6 arg7 arg8 arg9 x0 x1 x2 x3 x4 _ _ (Nat.le_add_right _ _))) (fun j d => readAt_top (e := .bf16) scM0_1.view inb_S2048x256_S2048x256_0_0 (scM0_1.view.writes (Elt Ideal) scM0_1.view.junk (kernelRun0_B.sl.HS1_2 arg9 x4)) j d) p l) r l

end Cert.KernelIdeal.Attn
-- ==== Proof.KernelIdeal.StepC.lean ====
module

public import proofs.«01_k».proof.Proof.KernelIdeal.Views

/-! What a step that is diagonal, not first leaves. -/

@[expose] public section

set_option maxRecDepth 16384

noncomputable section

namespace Cert.KernelIdeal.Attn

open Cert.KernelIdeal Cert.KernelIdeal.Gen
open Idealize.ShloMosaic
open Idealize.ShloMosaic.TcCoe

variable (c : Dev nD) (arg8 : Memref sig .tc .vmem S2048x256 .bf16) (arg9 : Memref sig .tc .vmem S2048x128 .bf16)
  (x3 : S2048x256.Idx → Elt Ideal .bf16) (x4 : S2048x128.Idx → Elt Ideal .bf16)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2)) (xa3 : Buf (Elt Ideal) ((c : Thread nD τ).loc cc0_scratch3))

theorem C_va (r : Fin 2048) (l : Fin 256) :
    rd scM0_1.view (scM0_1.view.writes (Elt Ideal) xa1 (kernelRun0_C.sl.HS1_1 arg9 x4)) r l = if h : l.val < 128 then x4 (ix2 r ⟨l.val, h⟩) else rd scM0_1.view xa1 r l := by
  refine (read_left (e := .bf16) scM0_1.view xa1 _ _ [] r l).trans ?_
  by_cases h : l.val < 128
  · rw [dif_pos h, dif_pos h]
    show k0_pay31 (F := Ideal) (View.readAt (Elt Ideal) arg9.view (Rect.unit (s := S2048x128) ![0, 0] S2048x128.size inb_S2048x128_S2048x128_0_0).toLoadRect (arg9.view.rep x4)) (ix2 r ⟨l.val, h⟩) = _
    rw [pay31_eq]
    exact (readAt_top (e := .bf16) arg9.view inb_S2048x128_S2048x128_0_0 (arg9.view.rep x4) r ⟨l.val, h⟩).trans (congrFun (View.read_rep arg9.view x4) _)
  · rw [dif_neg h, dif_neg h]; rfl

theorem C_m (f : (View.whole cc0_scratch2).ty.Contents (Elt Ideal)) (r : Fin 2048) (l : Fin 128) :
    rd scM0_2.view (scM0_2.view.writes (Elt Ideal) f (kernelRun0_C.sl.HS2_4 c arg8 x3 xa0 xa2)) r l = mNext True (rd scM0_0.view xa0) (blk x3) (rd scM0_2.view xa2) r l :=
  read_rows4 (e := .f32) scM0_2.view f inb_S2048x128_S512x128_0_0 inb_S2048x128_S512x128_512_0 inb_S2048x128_S512x128_1024_0 inb_S2048x128_S512x128_1536_0 _ _ _ _ []
    (mNext True (rd scM0_0.view xa0) (blk x3) (rd scM0_2.view xa2))
    (fun p l => by
      show shapeCast S512x128 (pm512 (k0_pay33 (F := Ideal) (View.readAt (Elt Ideal) scM0_0.view (Rect.unit (s := S2048x256) ![0, 0] S512x256.size inb_S2048x256_S512x256_0_0).toLoadRect xa0) (View.readAt (Elt Ideal) arg8.view (Rect.unit (s := S2048x256) ![0, 0] S512x256.size inb_S2048x256_S512x256_0_0).toLoadRect (arg8.view.rep x3))) (View.readAt (Elt Ideal) scM0_2.view (Rect.unit (s := S2048x128) ![0, 0] S512x128.size inb_S2048x128_S512x128_0_0).toLoadRect xa2)) shapeCasts_S512x128_S512x128 (ix2 p l) = _
      rw [shapeCast_self]
      exact diag512_m (rd scM0_0.view xa0) (blk x3) (rd scM0_2.view xa2) (View.readAt (Elt Ideal) scM0_0.view (Rect.unit (s := S2048x256) ![0, 0] S512x256.size inb_S2048x256_S512x256_0_0).toLoadRect xa0) (View.readAt (Elt Ideal) arg8.view (Rect.unit (s := S2048x256) ![0, 0] S512x256.size inb_S2048x256_S512x256_0_0).toLoadRect (arg8.view.rep x3)) (View.readAt (Elt Ideal) scM0_2.view (Rect.unit (s := S2048x128) ![0, 0] S512x128.size inb_S2048x128_S512x128_0_0).toLoadRect xa2) (fun p d => readAt_rows (e := .bf16) scM0_0.view inb_S2048x256_S512x256_0_0 xa0 p d) (fun j d => (readAt_top (e := .bf16) arg8.view inb_S2048x256_S512x256_0_0 (arg8.view.rep x3) j d).trans (congrFun (View.read_rep arg8.view x3) _)) (fun p d => readAt_rows (e := .f32) scM0_2.view inb_S2048x128_S512x128_0_0 xa2 p d) p l)
    (fun p l => by
      show shapeCast S512x128 (pm1024 (k0_pay39 (F := Ideal) (sc1024 (View.readAt (Elt Ideal) scM0_0.view (Rect.unit (s := S2048x256) ![512, 0] S512x256.size inb_S2048x256_S512x256_512_0).toLoadRect xa0) (View.readAt (Elt Ideal) arg8.view (Rect.unit (s := S2048x256) ![0, 0] S1024x256.size inb_S2048x256_S1024x256_0_0).toLoadRect (arg8.view.rep x3)))) (View.readAt (Elt Ideal) scM0_2.view (Rect.unit (s := S2048x128) ![512, 0] S512x128.size inb_S2048x128_S512x128_512_0).toLoadRect xa2)) shapeCasts_S512x128_S512x128 (ix2 p l) = _
      rw [shapeCast_self]
      exact diag1024_m (rd scM0_0.view xa0) (blk x3) (rd scM0_2.view xa2) (View.readAt (Elt Ideal) scM0_0.view (Rect.unit (s := S2048x256) ![512, 0] S512x256.size inb_S2048x256_S512x256_512_0).toLoadRect xa0) (View.readAt (Elt Ideal) arg8.view (Rect.unit (s := S2048x256) ![0, 0] S1024x256.size inb_S2048x256_S1024x256_0_0).toLoadRect (arg8.view.rep x3)) (View.readAt (Elt Ideal) scM0_2.view (Rect.unit (s := S2048x128) ![512, 0] S512x128.size inb_S2048x128_S512x128_512_0).toLoadRect xa2) (fun p d => readAt_rows (e := .bf16) scM0_0.view inb_S2048x256_S512x256_512_0 xa0 p d) (fun j d => (readAt_top (e := .bf16) arg8.view inb_S2048x256_S1024x256_0_0 (arg8.view.rep x3) j d).trans (congrFun (View.read_rep arg8.view x3) _)) (fun p d => readAt_rows (e := .f32) scM0_2.view inb_S2048x128_S512x128_512_0 xa2 p d) p l)
    (fun p l => by
      show shapeCast S512x128 (pm1536 (k0_pay44 (F := Ideal) (sc1536 (View.readAt (Elt Ideal) scM0_0.view (Rect.unit (s := S2048x256) ![1024, 0] S512x256.size inb_S2048x256_S512x256_1024_0).toLoadRect xa0) (View.readAt (Elt Ideal) arg8.view (Rect.unit (s := S2048x256) ![0, 0] S1536x256.size inb_S2048x256_S1536x256_0_0).toLoadRect (arg8.view.rep x3)))) (View.readAt (Elt Ideal) scM0_2.view (Rect.unit (s := S2048x128) ![1024, 0] S512x128.size inb_S2048x128_S512x128_1024_0).toLoadRect xa2)) shapeCasts_S512x128_S512x128 (ix2 p l) = _
      rw [shapeCast_self]
      exact diag1536_m (rd scM0_0.view xa0) (blk x3) (rd scM0_2.view xa2) (View.readAt (Elt Ideal) scM0_0.view (Rect.unit (s := S2048x256) ![1024, 0] S512x256.size inb_S2048x256_S512x256_1024_0).toLoadRect xa0) (View.readAt (Elt Ideal) arg8.view (Rect.unit (s := S2048x256) ![0, 0] S1536x256.size inb_S2048x256_S1536x256_0_0).toLoadRect (arg8.view.rep x3)) (View.readAt (Elt Ideal) scM0_2.view (Rect.unit (s := S2048x128) ![1024, 0] S512x128.size inb_S2048x128_S512x128_1024_0).toLoadRect xa2) (fun p d => readAt_rows (e := .bf16) scM0_0.view inb_S2048x256_S512x256_1024_0 xa0 p d) (fun j d => (readAt_top (e := .bf16) arg8.view inb_S2048x256_S1536x256_0_0 (arg8.view.rep x3) j d).trans (congrFun (View.read_rep arg8.view x3) _)) (fun p d => readAt_rows (e := .f32) scM0_2.view inb_S2048x128_S512x128_1024_0 xa2 p d) p l)
    (fun p l => by
      show shapeCast S512x128 (pm2048 (k0_pay4 (F := Ideal) (sc2048 (View.readAt (Elt Ideal) scM0_0.view (Rect.unit (s := S2048x256) ![1536, 0] S512x256.size inb_S2048x256_S512x256_1536_0).toLoadRect xa0) (View.readAt (Elt Ideal) arg8.view (Rect.unit (s := S2048x256) ![0, 0] S2048x256.size inb_S2048x256_S2048x256_0_0).toLoadRect (arg8.view.rep x3)))) (View.readAt (Elt Ideal) scM0_2.view (Rect.unit (s := S2048x128) ![1536, 0] S512x128.size inb_S2048x128_S512x128_1536_0).toLoadRect xa2)) shapeCasts_S512x128_S512x128 (ix2 p l) = _
      rw [shapeCast_self]
      exact diag2048_m (rd scM0_0.view xa0) (blk x3) (rd scM0_2.view xa2) (View.readAt (Elt Ideal) scM0_0.view (Rect.unit (s := S2048x256) ![1536, 0] S512x256.size inb_S2048x256_S512x256_1536_0).toLoadRect xa0) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![1536, 0] S512x128.size inb_S2048x128_S512x128_1536_0).toLoadRect xa2) (fun p d => readAt_rows (e := .bf16) scM0_0.view inb_S2048x256_S512x256_1536_0 xa0 p d) (fun j d => (readAt_top (e := .bf16) arg8.view inb_S2048x256_S2048x256_0_0 (arg8.view.rep x3) j d).trans (congrFun (View.read_rep arg8.view x3) _)) (fun p d => readAt_rows (e := .f32) scM0_2.view inb_S2048x128_S512x128_1536_0 xa2 p d) p l) r l

theorem C_a (f : (View.whole cc0_scratch3).ty.Contents (Elt Ideal)) (r : Fin 2048) (l : Fin 256) :
    rd scM0_3.view (scM0_3.view.writes (Elt Ideal) f (kernelRun0_C.sl.HS3_4 c arg8 arg9 x3 x4 xa0 xa1 xa2 xa3)) r l = aNext True (rd scM0_0.view xa0) (blk x3) (rd scM0_1.view (scM0_1.view.writes (Elt Ideal) xa1 (kernelRun0_C.sl.HS1_1 arg9 x4))) (rd scM0_2.view xa2) (rd scM0_3.view xa3) r l :=
  read_rows4 (e := .f32) scM0_3.view f inb_S2048x256_S512x256_0_0 inb_S2048x256_S512x256_512_0 inb_S2048x256_S512x256_1024_0 inb_S2048x256_S512x256_1536_0 _ _ _ _ []
    (aNext True (rd scM0_0.view xa0) (blk x3) (rd scM0_1.view (scM0_1.view.writes (Elt Ideal) xa1 (kernelRun0_C.sl.HS1_1 arg9 x4))) (rd scM0_2.view xa2) (rd scM0_3.view xa3))
    (fun p l => by
      show pa512 (k0_pay33 (F := Ideal) (View.readAt (Elt Ideal) scM0_0.view (Rect.unit (s := S2048x256) ![0, 0] S512x256.size inb_S2048x256_S512x256_0_0).toLoadRect xa0) (View.readAt (Elt Ideal) arg8.view (Rect.unit (s := S2048x256) ![0, 0] S512x256.size inb_S2048x256_S512x256_0_0).toLoadRect (arg8.view.rep x3))) (View.readAt (Elt Ideal) scM0_2.view (Rect.unit (s := S2048x128) ![0, 0] S512x128.size inb_S2048x128_S512x128_0_0).toLoadRect xa2) (View.readAt (Elt Ideal) scM0_3.view (Rect.unit (s := S2048x256) ![0, 0] S512x256.size inb_S2048x256_S512x256_0_0).toLoadRect xa3) (View.readAt (Elt Ideal) scM0_1.view (Rect.unit (s := S2048x256) ![0, 0] S512x256.size inb_S2048x256_S512x256_0_0).toLoadRect (scM0_1.view.writes (Elt Ideal) xa1 (kernelRun0_C.sl.HS1_1 arg9 x4))) (ix2 p l) = _
      exact diag512_a (rd scM0_0.view xa0) (blk x3) (rd scM0_1.view (scM0_1.view.writes (Elt Ideal) xa1 (kernelRun0_C.sl.HS1_1 arg9 x4))) (rd scM0_2.view xa2) (rd scM0_3.view xa3) (View.readAt (Elt Ideal) scM0_0.view (Rect.unit (s := S2048x256) ![0, 0] S512x256.size inb_S2048x256_S512x256_0_0).toLoadRect xa0) (View.readAt (Elt Ideal) arg8.view (Rect.unit (s := S2048x256) ![0, 0] S512x256.size inb_S2048x256_S512x256_0_0).toLoadRect (arg8.view.rep x3)) (View.readAt (Elt Ideal) scM0_2.view (Rect.unit (s := S2048x128) ![0, 0] S512x128.size inb_S2048x128_S512x128_0_0).toLoadRect xa2) (View.readAt (Elt Ideal) scM0_3.view (Rect.unit (s := S2048x256) ![0, 0] S512x256.size inb_S2048x256_S512x256_0_0).toLoadRect xa3) (View.readAt (Elt Ideal) scM0_1.view (Rect.unit (s := S2048x256) ![0, 0] S512x256.size inb_S2048x256_S512x256_0_0).toLoadRect (scM0_1.view.writes (Elt Ideal) xa1 (kernelRun0_C.sl.HS1_1 arg9 x4))) (fun p d => readAt_rows (e := .bf16) scM0_0.view inb_S2048x256_S512x256_0_0 xa0 p d) (fun j d => (readAt_top (e := .bf16) arg8.view inb_S2048x256_S512x256_0_0 (arg8.view.rep x3) j d).trans (congrFun (View.read_rep arg8.view x3) _)) (fun p d => readAt_rows (e := .f32) scM0_2.view inb_S2048x128_S512x128_0_0 xa2 p d) (fun p d => readAt_rows (e := .f32) scM0_3.view inb_S2048x256_S512x256_0_0 xa3 p d) (fun j d => readAt_top (e := .bf16) scM0_1.view inb_S2048x256_S512x256_0_0 (scM0_1.view.writes (Elt Ideal) xa1 (kernelRun0_C.sl.HS1_1 arg9 x4)) j d) p l)
    (fun p l => by
      show pa1024 (k0_pay39 (F := Ideal) (sc1024 (View.readAt (Elt Ideal) scM0_0.view (Rect.unit (s := S2048x256) ![512, 0] S512x256.size inb_S2048x256_S512x256_512_0).toLoadRect xa0) (View.readAt (Elt Ideal) arg8.view (Rect.unit (s := S2048x256) ![0, 0] S1024x256.size inb_S2048x256_S1024x256_0_0).toLoadRect (arg8.view.rep x3)))) (View.readAt (Elt Ideal) scM0_2.view (Rect.unit (s := S2048x128) ![512, 0] S512x128.size inb_S2048x128_S512x128_512_0).toLoadRect xa2) (View.readAt (Elt Ideal) scM0_3.view (Rect.unit (s := S2048x256) ![512, 0] S512x256.size inb_S2048x256_S512x256_512_0).toLoadRect xa3) (View.readAt (Elt Ideal) scM0_1.view (Rect.unit (s := S2048x256) ![0, 0] S1024x256.size inb_S2048x256_S1024x256_0_0).toLoadRect (scM0_1.view.writes (Elt Ideal) xa1 (kernelRun0_C.sl.HS1_1 arg9 x4))) (ix2 p l) = _
      exact diag1024_a (rd scM0_0.view xa0) (blk x3) (rd scM0_1.view (scM0_1.view.writes (Elt Ideal) xa1 (kernelRun0_C.sl.HS1_1 arg9 x4))) (rd scM0_2.view xa2) (rd scM0_3.view xa3) (View.readAt (Elt Ideal) scM0_0.view (Rect.unit (s := S2048x256) ![512, 0] S512x256.size inb_S2048x256_S512x256_512_0).toLoadRect xa0) (View.readAt (Elt Ideal) arg8.view (Rect.unit (s := S2048x256) ![0, 0] S1024x256.size inb_S2048x256_S1024x256_0_0).toLoadRect (arg8.view.rep x3)) (View.readAt (Elt Ideal) scM0_2.view (Rect.unit (s := S2048x128) ![512, 0] S512x128.size inb_S2048x128_S512x128_512_0).toLoadRect xa2) (View.readAt (Elt Ideal) scM0_3.view (Rect.unit (s := S2048x256) ![512, 0] S512x256.size inb_S2048x256_S512x256_512_0).toLoadRect xa3) (View.readAt (Elt Ideal) scM0_1.view (Rect.unit (s := S2048x256) ![0, 0] S1024x256.size inb_S2048x256_S1024x256_0_0).toLoadRect (scM0_1.view.writes (Elt Ideal) xa1 (kernelRun0_C.sl.HS1_1 arg9 x4))) (fun p d => readAt_rows (e := .bf16) scM0_0.view inb_S2048x256_S512x256_512_0 xa0 p d) (fun j d => (readAt_top (e := .bf16) arg8.view inb_S2048x256_S1024x256_0_0 (arg8.view.rep x3) j d).trans (congrFun (View.read_rep arg8.view x3) _)) (fun p d => readAt_rows (e := .f32) scM0_2.view inb_S2048x128_S512x128_512_0 xa2 p d) (fun p d => readAt_rows (e := .f32) scM0_3.view inb_S2048x256_S512x256_512_0 xa3 p d) (fun j d => readAt_top (e := .bf16) scM0_1.view inb_S2048x256_S1024x256_0_0 (scM0_1.view.writes (Elt Ideal) xa1 (kernelRun0_C.sl.HS1_1 arg9 x4)) j d) p l)
    (fun p l => by
      show pa1536 (k0_pay44 (F := Ideal) (sc1536 (View.readAt (Elt Ideal) scM0_0.view (Rect.unit (s := S2048x256) ![1024, 0] S512x256.size inb_S2048x256_S512x256_1024_0).toLoadRect xa0) (View.readAt (Elt Ideal) arg8.view (Rect.unit (s := S2048x256) ![0, 0] S1536x256.size inb_S2048x256_S1536x256_0_0).toLoadRect (arg8.view.rep x3)))) (View.readAt (Elt Ideal) scM0_2.view (Rect.unit (s := S2048x128) ![1024, 0] S512x128.size inb_S2048x128_S512x128_1024_0).toLoadRect xa2) (View.readAt (Elt Ideal) scM0_3.view (Rect.unit (s := S2048x256) ![1024, 0] S512x256.size inb_S2048x256_S512x256_1024_0).toLoadRect xa3) (View.readAt (Elt Ideal) scM0_1.view (Rect.unit (s := S2048x256) ![0, 0] S1536x256.size inb_S2048x256_S1536x256_0_0).toLoadRect (scM0_1.view.writes (Elt Ideal) xa1 (kernelRun0_C.sl.HS1_1 arg9 x4))) (ix2 p l) = _
      exact diag1536_a (rd scM0_0.view xa0) (blk x3) (rd scM0_1.view (scM0_1.view.writes (Elt Ideal) xa1 (kernelRun0_C.sl.HS1_1 arg9 x4))) (rd scM0_2.view xa2) (rd scM0_3.view xa3) (View.readAt (Elt Ideal) scM0_0.view (Rect.unit (s := S2048x256) ![1024, 0] S512x256.size inb_S2048x256_S512x256_1024_0).toLoadRect xa0) (View.readAt (Elt Ideal) arg8.view (Rect.unit (s := S2048x256) ![0, 0] S1536x256.size inb_S2048x256_S1536x256_0_0).toLoadRect (arg8.view.rep x3)) (View.readAt (Elt Ideal) scM0_2.view (Rect.unit (s := S2048x128) ![1024, 0] S512x128.size inb_S2048x128_S512x128_1024_0).toLoadRect xa2) (View.readAt (Elt Ideal) scM0_3.view (Rect.unit (s := S2048x256) ![1024, 0] S512x256.size inb_S2048x256_S512x256_1024_0).toLoadRect xa3) (View.readAt (Elt Ideal) scM0_1.view (Rect.unit (s := S2048x256) ![0, 0] S1536x256.size inb_S2048x256_S1536x256_0_0).toLoadRect (scM0_1.view.writes (Elt Ideal) xa1 (kernelRun0_C.sl.HS1_1 arg9 x4))) (fun p d => readAt_rows (e := .bf16) scM0_0.view inb_S2048x256_S512x256_1024_0 xa0 p d) (fun j d => (readAt_top (e := .bf16) arg8.view inb_S2048x256_S1536x256_0_0 (arg8.view.rep x3) j d).trans (congrFun (View.read_rep arg8.view x3) _)) (fun p d => readAt_rows (e := .f32) scM0_2.view inb_S2048x128_S512x128_1024_0 xa2 p d) (fun p d => readAt_rows (e := .f32) scM0_3.view inb_S2048x256_S512x256_1024_0 xa3 p d) (fun j d => readAt_top (e := .bf16) scM0_1.view inb_S2048x256_S1536x256_0_0 (scM0_1.view.writes (Elt Ideal) xa1 (kernelRun0_C.sl.HS1_1 arg9 x4)) j d) p l)
    (fun p l => by
      show pa2048 (k0_pay4 (F := Ideal) (sc2048 (View.readAt (Elt Ideal) scM0_0.view (Rect.unit (s := S2048x256) ![1536, 0] S512x256.size inb_S2048x256_S512x256_1536_0).toLoadRect xa0) (View.readAt (Elt Ideal) arg8.view (Rect.unit (s := S2048x256) ![0, 0] S2048x256.size inb_S2048x256_S2048x256_0_0).toLoadRect (arg8.view.rep x3)))) (View.readAt (Elt Ideal) scM0_2.view (Rect.unit (s := S2048x128) ![1536, 0] S512x128.size inb_S2048x128_S512x128_1536_0).toLoadRect xa2) (View.readAt (Elt Ideal) scM0_3.view (Rect.unit (s := S2048x256) ![1536, 0] S512x256.size inb_S2048x256_S512x256_1536_0).toLoadRect xa3) (View.readAt (Elt Ideal) scM0_1.view (Rect.unit (s := S2048x256) ![0, 0] S2048x256.size inb_S2048x256_S2048x256_0_0).toLoadRect (scM0_1.view.writes (Elt Ideal) xa1 (kernelRun0_C.sl.HS1_1 arg9 x4))) (ix2 p l) = _
      exact diag2048_a (rd scM0_0.view xa0) (blk x3) (rd scM0_1.view (scM0_1.view.writes (Elt Ideal) xa1 (kernelRun0_C.sl.HS1_1 arg9 x4))) (rd scM0_2.view xa2) (rd scM0_3.view xa3) (View.readAt (Elt Ideal) scM0_0.view (Rect.unit (s := S2048x256) ![1536, 0] S512x256.size inb_S2048x256_S512x256_1536_0).toLoadRect xa0) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![1536, 0] S512x128.size inb_S2048x128_S512x128_1536_0).toLoadRect xa2) (View.readAt (Elt Ideal) scM0_3.view (Rect.unit (s := S2048x256) ![1536, 0] S512x256.size inb_S2048x256_S512x256_1536_0).toLoadRect xa3) (View.readAt (Elt Ideal) scM0_1.view (Rect.unit (s := S2048x256) ![0, 0] S2048x256.size inb_S2048x256_S2048x256_0_0).toLoadRect (scM0_1.view.writes (Elt Ideal) xa1 (kernelRun0_C.sl.HS1_1 arg9 x4))) (fun p d => readAt_rows (e := .bf16) scM0_0.view inb_S2048x256_S512x256_1536_0 xa0 p d) (fun j d => (readAt_top (e := .bf16) arg8.view inb_S2048x256_S2048x256_0_0 (arg8.view.rep x3) j d).trans (congrFun (View.read_rep arg8.view x3) _)) (fun p d => readAt_rows (e := .f32) scM0_2.view inb_S2048x128_S512x128_1536_0 xa2 p d) (fun p d => readAt_rows (e := .f32) scM0_3.view inb_S2048x256_S512x256_1536_0 xa3 p d) (fun j d => readAt_top (e := .bf16) scM0_1.view inb_S2048x256_S2048x256_0_0 (scM0_1.view.writes (Elt Ideal) xa1 (kernelRun0_C.sl.HS1_1 arg9 x4)) j d) p l) r l

/-- What a diagonal step stores in the result block. -/
theorem C_out (f : VO0_5.ty.Contents (Elt Ideal)) (r : Fin 2048) (l : Fin 128) :
    rd VO0_5 (VO0_5.writes (Elt Ideal) f (kernelRun0_C.sl.HO5_1 c arg8 arg9 x3 x4 xa0 xa1 xa2 xa3)) r l
      = Ideal.div (aNext True (rd scM0_0.view xa0) (blk x3) (rd scM0_1.view (scM0_1.view.writes (Elt Ideal) xa1 (kernelRun0_C.sl.HS1_1 arg9 x4))) (rd scM0_2.view xa2) (rd scM0_3.view xa3) r ⟨l.val, by omega⟩) (aNext True (rd scM0_0.view xa0) (blk x3) (rd scM0_1.view (scM0_1.view.writes (Elt Ideal) xa1 (kernelRun0_C.sl.HS1_1 arg9 x4))) (rd scM0_2.view xa2) (rd scM0_3.view xa3) r ⟨128 + l.val, by omega⟩) := by
  refine (read_hit (e := .bf16) VO0_5 _ inb_S2048x128_S2048x128_0_0 _ [] r r l (by omega)).trans ?_
  refine (pay8_apply _ r l).trans ?_
  have e : ∀ d : Fin 256, View.readAt (Elt Ideal) scM0_3.view (Rect.unit (s := S2048x256) ![0, 0] S2048x256.size inb_S2048x256_S2048x256_0_0).toLoadRect (scM0_3.view.writes (Elt Ideal) scM0_3.view.junk (kernelRun0_C.sl.HS3_4 c arg8 arg9 x3 x4 xa0 xa1 xa2 xa3)) (ix2 r d)
      = aNext True (rd scM0_0.view xa0) (blk x3) (rd scM0_1.view (scM0_1.view.writes (Elt Ideal) xa1 (kernelRun0_C.sl.HS1_1 arg9 x4))) (rd scM0_2.view xa2) (rd scM0_3.view xa3) r d := fun d =>
    (readAt_top (e := .f32) scM0_3.view inb_S2048x256_S2048x256_0_0 _ r d).trans (C_a c arg8 arg9 x3 x4 xa0 xa1 xa2 xa3 _ r d)
  exact congrArg₂ Ideal.div (e _) (e _)

end Cert.KernelIdeal.Attn
-- ==== Proof.KernelIdeal.StepD.lean ====
module

public import proofs.«01_k».proof.Proof.KernelIdeal.Views

/-! What a step that is neither first nor diagonal leaves. -/

@[expose] public section

set_option maxRecDepth 16384

noncomputable section

namespace Cert.KernelIdeal.Attn

open Cert.KernelIdeal Cert.KernelIdeal.Gen
open Idealize.ShloMosaic
open Idealize.ShloMosaic.TcCoe

variable (c : Dev nD) (arg8 : Memref sig .tc .vmem S2048x256 .bf16) (arg9 : Memref sig .tc .vmem S2048x128 .bf16)
  (x3 : S2048x256.Idx → Elt Ideal .bf16) (x4 : S2048x128.Idx → Elt Ideal .bf16)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2)) (xa3 : Buf (Elt Ideal) ((c : Thread nD τ).loc cc0_scratch3))

theorem D_va (r : Fin 2048) (l : Fin 256) :
    rd scM0_1.view (scM0_1.view.writes (Elt Ideal) xa1 (kernelRun0_D.sl.HS1_1 arg9 x4)) r l = if h : l.val < 128 then x4 (ix2 r ⟨l.val, h⟩) else rd scM0_1.view xa1 r l := by
  refine (read_left (e := .bf16) scM0_1.view xa1 _ _ [] r l).trans ?_
  by_cases h : l.val < 128
  · rw [dif_pos h, dif_pos h]
    show k0_pay31 (F := Ideal) (View.readAt (Elt Ideal) arg9.view (Rect.unit (s := S2048x128) ![0, 0] S2048x128.size inb_S2048x128_S2048x128_0_0).toLoadRect (arg9.view.rep x4)) (ix2 r ⟨l.val, h⟩) = _
    rw [pay31_eq]
    exact (readAt_top (e := .bf16) arg9.view inb_S2048x128_S2048x128_0_0 (arg9.view.rep x4) r ⟨l.val, h⟩).trans (congrFun (View.read_rep arg9.view x4) _)
  · rw [dif_neg h, dif_neg h]; rfl

theorem D_m (f : (View.whole cc0_scratch2).ty.Contents (Elt Ideal)) (r : Fin 2048) (l : Fin 128) :
    rd scM0_2.view (scM0_2.view.writes (Elt Ideal) f (kernelRun0_D.sl.HS2_4 c arg8 x3 xa0 xa2)) r l = mNext False (rd scM0_0.view xa0) (blk x3) (rd scM0_2.view xa2) r l :=
  read_rows4 (e := .f32) scM0_2.view f inb_S2048x128_S512x128_0_0 inb_S2048x128_S512x128_512_0 inb_S2048x128_S512x128_1024_0 inb_S2048x128_S512x128_1536_0 _ _ _ _ []
    (mNext False (rd scM0_0.view xa0) (blk x3) (rd scM0_2.view xa2))
    (fun p l => by
      show shapeCast S512x128 (pm2048 (sc2048 (View.readAt (Elt Ideal) scM0_0.view (Rect.unit (s := S2048x256) ![0, 0] S512x256.size inb_S2048x256_S512x256_0_0).toLoadRect xa0) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![0, 0] S512x128.size inb_S2048x128_S512x128_0_0).toLoadRect xa2)) shapeCasts_S512x128_S512x128 (ix2 p l) = _
      rw [shapeCast_self]
      exact plain_m (rd scM0_0.view xa0) (blk x3) (rd scM0_2.view xa2) (o := 0) (by decide) (View.readAt (Elt Ideal) scM0_0.view (Rect.unit (s := S2048x256) ![0, 0] S512x256.size inb_S2048x256_S512x256_0_0).toLoadRect xa0) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![0, 0] S512x128.size inb_S2048x128_S512x128_0_0).toLoadRect xa2) (fun p d => readAt_rows (e := .bf16) scM0_0.view inb_S2048x256_S512x256_0_0 xa0 p d) (fun j d => (readAt_top (e := .bf16) arg8.view inb_S2048x256_S2048x256_0_0 (arg8.view.rep x3) j d).trans (congrFun (View.read_rep arg8.view x3) _)) (fun p d => readAt_rows (e := .f32) scM0_2.view inb_S2048x128_S512x128_0_0 xa2 p d) p l)
    (fun p l => by
      show shapeCast S512x128 (pm2048 (sc2048 (View.readAt (Elt Ideal) scM0_0.view (Rect.unit (s := S2048x256) ![512, 0] S512x256.size inb_S2048x256_S512x256_512_0).toLoadRect xa0) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![512, 0] S512x128.size inb_S2048x128_S512x128_512_0).toLoadRect xa2)) shapeCasts_S512x128_S512x128 (ix2 p l) = _
      rw [shapeCast_self]
      exact plain_m (rd scM0_0.view xa0) (blk x3) (rd scM0_2.view xa2) (o := 512) (by decide) (View.readAt (Elt Ideal) scM0_0.view (Rect.unit (s := S2048x256) ![512, 0] S512x256.size inb_S2048x256_S512x256_512_0).toLoadRect xa0) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![512, 0] S512x128.size inb_S2048x128_S512x128_512_0).toLoadRect xa2) (fun p d => readAt_rows (e := .bf16) scM0_0.view inb_S2048x256_S512x256_512_0 xa0 p d) (fun j d => (readAt_top (e := .bf16) arg8.view inb_S2048x256_S2048x256_0_0 (arg8.view.rep x3) j d).trans (congrFun (View.read_rep arg8.view x3) _)) (fun p d => readAt_rows (e := .f32) scM0_2.view inb_S2048x128_S512x128_512_0 xa2 p d) p l)
    (fun p l => by
      show shapeCast S512x128 (pm2048 (sc2048 (View.readAt (Elt Ideal) scM0_0.view (Rect.unit (s := S2048x256) ![1024, 0] S512x256.size inb_S2048x256_S512x256_1024_0).toLoadRect xa0) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![1024, 0] S512x128.size inb_S2048x128_S512x128_1024_0).toLoadRect xa2)) shapeCasts_S512x128_S512x128 (ix2 p l) = _
      rw [shapeCast_self]
      exact plain_m (rd scM0_0.view xa0) (blk x3) (rd scM0_2.view xa2) (o := 1024) (by decide) (View.readAt (Elt Ideal) scM0_0.view (Rect.unit (s := S2048x256) ![1024, 0] S512x256.size inb_S2048x256_S512x256_1024_0).toLoadRect xa0) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![1024, 0] S512x128.size inb_S2048x128_S512x128_1024_0).toLoadRect xa2) (fun p d => readAt_rows (e := .bf16) scM0_0.view inb_S2048x256_S512x256_1024_0 xa0 p d) (fun j d => (readAt_top (e := .bf16) arg8.view inb_S2048x256_S2048x256_0_0 (arg8.view.rep x3) j d).trans (congrFun (View.read_rep arg8.view x3) _)) (fun p d => readAt_rows (e := .f32) scM0_2.view inb_S2048x128_S512x128_1024_0 xa2 p d) p l)
    (fun p l => by
      show shapeCast S512x128 (pm2048 (sc2048 (View.readAt (Elt Ideal) scM0_0.view (Rect.unit (s := S2048x256) ![1536, 0] S512x256.size inb_S2048x256_S512x256_1536_0).toLoadRect xa0) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![1536, 0] S512x128.size inb_S2048x128_S512x128_1536_0).toLoadRect xa2)) shapeCasts_S512x128_S512x128 (ix2 p l) = _
      rw [shapeCast_self]
      exact plain_m (rd scM0_0.view xa0) (blk x3) (rd scM0_2.view xa2) (o := 1536) (by decide) (View.readAt (Elt Ideal) scM0_0.view (Rect.unit (s := S2048x256) ![1536, 0] S512x256.size inb_S2048x256_S512x256_1536_0).toLoadRect xa0) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![1536, 0] S512x128.size inb_S2048x128_S512x128_1536_0).toLoadRect xa2) (fun p d => readAt_rows (e := .bf16) scM0_0.view inb_S2048x256_S512x256_1536_0 xa0 p d) (fun j d => (readAt_top (e := .bf16) arg8.view inb_S2048x256_S2048x256_0_0 (arg8.view.rep x3) j d).trans (congrFun (View.read_rep arg8.view x3) _)) (fun p d => readAt_rows (e := .f32) scM0_2.view inb_S2048x128_S512x128_1536_0 xa2 p d) p l) r l

theorem D_a (f : (View.whole cc0_scratch3).ty.Contents (Elt Ideal)) (r : Fin 2048) (l : Fin 256) :
    rd scM0_3.view (scM0_3.view.writes (Elt Ideal) f (kernelRun0_D.sl.HS3_4 c arg8 arg9 x3 x4 xa0 xa1 xa2 xa3)) r l = aNext False (rd scM0_0.view xa0) (blk x3) (rd scM0_1.view (scM0_1.view.writes (Elt Ideal) xa1 (kernelRun0_D.sl.HS1_1 arg9 x4))) (rd scM0_2.view xa2) (rd scM0_3.view xa3) r l :=
  read_rows4 (e := .f32) scM0_3.view f inb_S2048x256_S512x256_0_0 inb_S2048x256_S512x256_512_0 inb_S2048x256_S512x256_1024_0 inb_S2048x256_S512x256_1536_0 _ _ _ _ []
    (aNext False (rd scM0_0.view xa0) (blk x3) (rd scM0_1.view (scM0_1.view.writes (Elt Ideal) xa1 (kernelRun0_D.sl.HS1_1 arg9 x4))) (rd scM0_2.view xa2) (rd scM0_3.view xa3))
    (fun p l => by
      show pa2048 (sc2048 (View.readAt (Elt Ideal) scM0_0.view (Rect.unit (s := S2048x256) ![0, 0] S512x256.size inb_S2048x256_S512x256_0_0).toLoadRect xa0) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![0, 0] S512x128.size inb_S2048x128_S512x128_0_0).toLoadRect xa2) (View.readAt (Elt Ideal) scM0_3.view (Rect.unit (s := S2048x256) ![0, 0] S512x256.size inb_S2048x256_S512x256_0_0).toLoadRect xa3) (View.readAt (Elt Ideal) scM0_1.view (Rect.unit (s := S2048x256) ![0, 0] S2048x256.size inb_S2048x256_S2048x256_0_0).toLoadRect (scM0_1.view.writes (Elt Ideal) xa1 (kernelRun0_D.sl.HS1_1 arg9 x4))) (ix2 p l) = _
      exact plain_a (rd scM0_0.view xa0) (blk x3) (rd scM0_1.view (scM0_1.view.writes (Elt Ideal) xa1 (kernelRun0_D.sl.HS1_1 arg9 x4))) (rd scM0_2.view xa2) (rd scM0_3.view xa3) (o := 0) (by decide) (View.readAt (Elt Ideal) scM0_0.view (Rect.unit (s := S2048x256) ![0, 0] S512x256.size inb_S2048x256_S512x256_0_0).toLoadRect xa0) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![0, 0] S512x128.size inb_S2048x128_S512x128_0_0).toLoadRect xa2) (View.readAt (Elt Ideal) scM0_3.view (Rect.unit (s := S2048x256) ![0, 0] S512x256.size inb_S2048x256_S512x256_0_0).toLoadRect xa3) (View.readAt (Elt Ideal) scM0_1.view (Rect.unit (s := S2048x256) ![0, 0] S2048x256.size inb_S2048x256_S2048x256_0_0).toLoadRect (scM0_1.view.writes (Elt Ideal) xa1 (kernelRun0_D.sl.HS1_1 arg9 x4))) (fun p d => readAt_rows (e := .bf16) scM0_0.view inb_S2048x256_S512x256_0_0 xa0 p d) (fun j d => (readAt_top (e := .bf16) arg8.view inb_S2048x256_S2048x256_0_0 (arg8.view.rep x3) j d).trans (congrFun (View.read_rep arg8.view x3) _)) (fun p d => readAt_rows (e := .f32) scM0_2.view inb_S2048x128_S512x128_0_0 xa2 p d) (fun p d => readAt_rows (e := .f32) scM0_3.view inb_S2048x256_S512x256_0_0 xa3 p d) (fun j d => readAt_top (e := .bf16) scM0_1.view inb_S2048x256_S2048x256_0_0 (scM0_1.view.writes (Elt Ideal) xa1 (kernelRun0_D.sl.HS1_1 arg9 x4)) j d) p l)
    (fun p l => by
      show pa2048 (sc2048 (View.readAt (Elt Ideal) scM0_0.view (Rect.unit (s := S2048x256) ![512, 0] S512x256.size inb_S2048x256_S512x256_512_0).toLoadRect xa0) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![512, 0] S512x128.size inb_S2048x128_S512x128_512_0).toLoadRect xa2) (View.readAt (Elt Ideal) scM0_3.view (Rect.unit (s := S2048x256) ![512, 0] S512x256.size inb_S2048x256_S512x256_512_0).toLoadRect xa3) (View.readAt (Elt Ideal) scM0_1.view (Rect.unit (s := S2048x256) ![0, 0] S2048x256.size inb_S2048x256_S2048x256_0_0).toLoadRect (scM0_1.view.writes (Elt Ideal) xa1 (kernelRun0_D.sl.HS1_1 arg9 x4))) (ix2 p l) = _
      exact plain_a (rd scM0_0.view xa0) (blk x3) (rd scM0_1.view (scM0_1.view.writes (Elt Ideal) xa1 (kernelRun0_D.sl.HS1_1 arg9 x4))) (rd scM0_2.view xa2) (rd scM0_3.view xa3) (o := 512) (by decide) (View.readAt (Elt Ideal) scM0_0.view (Rect.unit (s := S2048x256) ![512, 0] S512x256.size inb_S2048x256_S512x256_512_0).toLoadRect xa0) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![512, 0] S512x128.size inb_S2048x128_S512x128_512_0).toLoadRect xa2) (View.readAt (Elt Ideal) scM0_3.view (Rect.unit (s := S2048x256) ![512, 0] S512x256.size inb_S2048x256_S512x256_512_0).toLoadRect xa3) (View.readAt (Elt Ideal) scM0_1.view (Rect.unit (s := S2048x256) ![0, 0] S2048x256.size inb_S2048x256_S2048x256_0_0).toLoadRect (scM0_1.view.writes (Elt Ideal) xa1 (kernelRun0_D.sl.HS1_1 arg9 x4))) (fun p d => readAt_rows (e := .bf16) scM0_0.view inb_S2048x256_S512x256_512_0 xa0 p d) (fun j d => (readAt_top (e := .bf16) arg8.view inb_S2048x256_S2048x256_0_0 (arg8.view.rep x3) j d).trans (congrFun (View.read_rep arg8.view x3) _)) (fun p d => readAt_rows (e := .f32) scM0_2.view inb_S2048x128_S512x128_512_0 xa2 p d) (fun p d => readAt_rows (e := .f32) scM0_3.view inb_S2048x256_S512x256_512_0 xa3 p d) (fun j d => readAt_top (e := .bf16) scM0_1.view inb_S2048x256_S2048x256_0_0 (scM0_1.view.writes (Elt Ideal) xa1 (kernelRun0_D.sl.HS1_1 arg9 x4)) j d) p l)
    (fun p l => by
      show pa2048 (sc2048 (View.readAt (Elt Ideal) scM0_0.view (Rect.unit (s := S2048x256) ![1024, 0] S512x256.size inb_S2048x256_S512x256_1024_0).toLoadRect xa0) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![1024, 0] S512x128.size inb_S2048x128_S512x128_1024_0).toLoadRect xa2) (View.readAt (Elt Ideal) scM0_3.view (Rect.unit (s := S2048x256) ![1024, 0] S512x256.size inb_S2048x256_S512x256_1024_0).toLoadRect xa3) (View.readAt (Elt Ideal) scM0_1.view (Rect.unit (s := S2048x256) ![0, 0] S2048x256.size inb_S2048x256_S2048x256_0_0).toLoadRect (scM0_1.view.writes (Elt Ideal) xa1 (kernelRun0_D.sl.HS1_1 arg9 x4))) (ix2 p l) = _
      exact plain_a (rd scM0_0.view xa0) (blk x3) (rd scM0_1.view (scM0_1.view.writes (Elt Ideal) xa1 (kernelRun0_D.sl.HS1_1 arg9 x4))) (rd scM0_2.view xa2) (rd scM0_3.view xa3) (o := 1024) (by decide) (View.readAt (Elt Ideal) scM0_0.view (Rect.unit (s := S2048x256) ![1024, 0] S512x256.size inb_S2048x256_S512x256_1024_0).toLoadRect xa0) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![1024, 0] S512x128.size inb_S2048x128_S512x128_1024_0).toLoadRect xa2) (View.readAt (Elt Ideal) scM0_3.view (Rect.unit (s := S2048x256) ![1024, 0] S512x256.size inb_S2048x256_S512x256_1024_0).toLoadRect xa3) (View.readAt (Elt Ideal) scM0_1.view (Rect.unit (s := S2048x256) ![0, 0] S2048x256.size inb_S2048x256_S2048x256_0_0).toLoadRect (scM0_1.view.writes (Elt Ideal) xa1 (kernelRun0_D.sl.HS1_1 arg9 x4))) (fun p d => readAt_rows (e := .bf16) scM0_0.view inb_S2048x256_S512x256_1024_0 xa0 p d) (fun j d => (readAt_top (e := .bf16) arg8.view inb_S2048x256_S2048x256_0_0 (arg8.view.rep x3) j d).trans (congrFun (View.read_rep arg8.view x3) _)) (fun p d => readAt_rows (e := .f32) scM0_2.view inb_S2048x128_S512x128_1024_0 xa2 p d) (fun p d => readAt_rows (e := .f32) scM0_3.view inb_S2048x256_S512x256_1024_0 xa3 p d) (fun j d => readAt_top (e := .bf16) scM0_1.view inb_S2048x256_S2048x256_0_0 (scM0_1.view.writes (Elt Ideal) xa1 (kernelRun0_D.sl.HS1_1 arg9 x4)) j d) p l)
    (fun p l => by
      show pa2048 (sc2048 (View.readAt (Elt Ideal) scM0_0.view (Rect.unit (s := S2048x256) ![1536, 0] S512x256.size inb_S2048x256_S512x256_1536_0).toLoadRect xa0) (View.readAt (Elt Ideal) arg8.view (Rect.unit (s := S2048x256) ![0, 0] S2048x256.size inb_S2048x256_S2048x256_0_0).toLoadRect (arg8.view.rep x3))) (View.readAt (Elt Ideal) scM0_2.view (Rect.unit (s := S2048x128) ![1536, 0] S512x128.size inb_S2048x128_S512x128_1536_0).toLoadRect xa2) (View.readAt (Elt Ideal) scM0_3.view (Rect.unit (s := S2048x256) ![1536, 0] S512x256.size inb_S2048x256_S512x256_1536_0).toLoadRect xa3) (View.readAt (Elt Ideal) scM0_1.view (Rect.unit (s := S2048x256) ![0, 0] S2048x256.size inb_S2048x256_S2048x256_0_0).toLoadRect (scM0_1.view.writes (Elt Ideal) xa1 (kernelRun0_D.sl.HS1_1 arg9 x4))) (ix2 p l) = _
      exact plain_a (rd scM0_0.view xa0) (blk x3) (rd scM0_1.view (scM0_1.view.writes (Elt Ideal) xa1 (kernelRun0_D.sl.HS1_1 arg9 x4))) (rd scM0_2.view xa2) (rd scM0_3.view xa3) (o := 1536) (by decide) (View.readAt (Elt Ideal) scM0_0.view (Rect.unit (s := S2048x256) ![1536, 0] S512x256.size inb_S2048x256_S512x256_1536_0).toLoadRect xa0) (View.readAt (Elt Ideal) arg8.view (Rect.unit (s := S2048x256) ![0, 0] S2048x256.size inb_S2048x256_S2048x256_0_0).toLoadRect (arg8.view.rep x3)) (View.readAt (Elt Ideal) scM0_2.view (Rect.unit (s := S2048x128) ![1536, 0] S512x128.size inb_S2048x128_S512x128_1536_0).toLoadRect xa2) (View.readAt (Elt Ideal) scM0_3.view (Rect.unit (s := S2048x256) ![1536, 0] S512x256.size inb_S2048x256_S512x256_1536_0).toLoadRect xa3) (View.readAt (Elt Ideal) scM0_1.view (Rect.unit (s := S2048x256) ![0, 0] S2048x256.size inb_S2048x256_S2048x256_0_0).toLoadRect (scM0_1.view.writes (Elt Ideal) xa1 (kernelRun0_D.sl.HS1_1 arg9 x4))) (fun p d => readAt_rows (e := .bf16) scM0_0.view inb_S2048x256_S512x256_1536_0 xa0 p d) (fun j d => (readAt_top (e := .bf16) arg8.view inb_S2048x256_S2048x256_0_0 (arg8.view.rep x3) j d).trans (congrFun (View.read_rep arg8.view x3) _)) (fun p d => readAt_rows (e := .f32) scM0_2.view inb_S2048x128_S512x128_1536_0 xa2 p d) (fun p d => readAt_rows (e := .f32) scM0_3.view inb_S2048x256_S512x256_1536_0 xa3 p d) (fun j d => readAt_top (e := .bf16) scM0_1.view inb_S2048x256_S2048x256_0_0 (scM0_1.view.writes (Elt Ideal) xa1 (kernelRun0_D.sl.HS1_1 arg9 x4)) j d) p l) r l

end Cert.KernelIdeal.Attn
-- ==== Proof.KernelIdeal.Points.lean ====
/- The grid at those tables: each point's coordinates and staging buffers, the control's two decisions there, and which buffers still hold nothing determined. -/
module

public import proofs.«01_k».proof.Proof.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_pfN : ok0 (F := Ideal) pfN := ok_pfN_0

def adm : (pcfg0 (F := Ideal)).Adm := ⟨pfN, ok_pfN⟩
abbrev cfgA : Pipeline.Cfg sig Λ₀ := cfg0 (F := Ideal) adm
abbrev pcs : Fin 1 → Pipeline.Cfg sig Λ₀ := Pipeline.pin (pcfgs (F := Ideal)) fun _ => adm

variable (m : (ℓ : Loc nD τ sig) → Buf (Elt Ideal) ℓ) (ρ : Dev nD → PrngReg)

abbrev crd (t : Fin cfgA.N) : cfgA.grid.Coords := cfgA.grid.coords t

abbrev ms0_0 (t : Fin cfgA.N) : Memref sig .tc .vmem S2048x256 .bf16 := spec0_0.stage (cfgA.slots t (0 : Fin 6))
abbrev hs0_0 (t : Fin cfgA.N) : (ms0_0 t).IsWhole := hstage0_0 ((cfgA.slots t (0 : Fin 6)).cast nbuf0_0)
abbrev ms0_1 (t : Fin cfgA.N) : Memref sig .tc .vmem S2048x128 .f32 := spec0_1.stage (cfgA.slots t (1 : Fin 6))
abbrev hs0_1 (t : Fin cfgA.N) : (ms0_1 t).IsWhole := hstage0_1 ((cfgA.slots t (1 : Fin 6)).cast nbuf0_1)
abbrev ms0_2 (t : Fin cfgA.N) : Memref sig .tc .vmem S2048x128 .f32 := spec0_2.stage (cfgA.slots t (2 : Fin 6))
abbrev hs0_2 (t : Fin cfgA.N) : (ms0_2 t).IsWhole := hstage0_2 ((cfgA.slots t (2 : Fin 6)).cast nbuf0_2)
abbrev ms0_3 (t : Fin cfgA.N) : Memref sig .tc .vmem S2048x256 .bf16 := spec0_3.stage (cfgA.slots t (3 : Fin 6))
abbrev hs0_3 (t : Fin cfgA.N) : (ms0_3 t).IsWhole := hstage0_3 ((cfgA.slots t (3 : Fin 6)).cast nbuf0_3)
abbrev ms0_4 (t : Fin cfgA.N) : Memref sig .tc .vmem S2048x128 .bf16 := spec0_4.stage (cfgA.slots t (4 : Fin 6))
abbrev hs0_4 (t : Fin cfgA.N) : (ms0_4 t).IsWhole := hstage0_4 ((cfgA.slots t (4 : Fin 6)).cast nbuf0_4)
abbrev ms0_5 (t : Fin cfgA.N) : Memref sig .tc .vmem S2048x128 .bf16 := spec0_5.stage (cfgA.slots t (5 : Fin 6))
abbrev hs0_5 (t : Fin cfgA.N) : (ms0_5 t).IsWhole := hstage0_5 ((cfgA.slots t (5 : Fin 6)).cast nbuf0_5)

/-- What the region finds in each buffer: the launch contents after the host lines before it. -/
def V (c : Dev nD) : (b : Ref sig .tc) → Buf (Elt Ideal) ((c : Thread nD τ).loc b) :=
  fun b => StableHlo.after (hostOps0 (F := Ideal)) (fun b => m (c, b)) b

/-- Window `w`'s block at point `t`. -/
def iblk (c : Dev nD) (w : Fin cfgA.W) (t : Fin cfgA.N) : ((cfgA.win w).xblock (crd t)).Idx → Elt Ideal (cfgA.win w).elt :=
  ((cfgA.win w).blk t).view.read (Elt Ideal) (V m c (Pipeline.arrRef spec0 w))

abbrev P0_0 (t : Fin cfgA.N) : Prop := (Scalar.cmpi .ne (Scalar.extui (Scalar.cmpi .eq (tabAt tbM0_1 (crd t) pinT_1) 0#32)) 0#32) = 1#1
abbrev P0_1 (t : Fin cfgA.N) : Prop := (Scalar.cmpi .ne (Scalar.extui (Scalar.cmpi .slt (tabAt tbM0_1 (crd t) pinT_1) (Scalar.muli (tabAt tbM0_0 (crd t) pinT_0) 1#32))) 0#32) = 1#1

def sfresh0_0 : ℕ → Bool
  | 0 => true
  | n + 1 => if h : n < cfgA.N then (if P0_0 ⟨n, h⟩ then (if P0_1 ⟨n, h⟩ then false else false) else (if P0_1 ⟨n, h⟩ then sfresh0_0 n else sfresh0_0 n)) else true

def sfirst0_0 : ℕ := 0
def sfrTab0_0 : ℕ → Bool := fun n => decide (n ≤ sfirst0_0)

def sfresh0_1 : ℕ → Bool
  | 0 => true
  | n + 1 => if h : n < cfgA.N then (if P0_0 ⟨n, h⟩ then (if P0_1 ⟨n, h⟩ then false else false) else (if P0_1 ⟨n, h⟩ then sfresh0_1 n else sfresh0_1 n)) else true

def sfirst0_1 : ℕ := 0
def sfrTab0_1 : ℕ → Bool := fun n => decide (n ≤ sfirst0_1)

def sfresh0_2 : ℕ → Bool
  | 0 => true
  | n + 1 => if h : n < cfgA.N then (if P0_0 ⟨n, h⟩ then (if P0_1 ⟨n, h⟩ then false else false) else (if P0_1 ⟨n, h⟩ then sfresh0_2 n else sfresh0_2 n)) else true

def sfirst0_2 : ℕ := 0
def sfrTab0_2 : ℕ → Bool := fun n => decide (n ≤ sfirst0_2)

def sfresh0_3 : ℕ → Bool
  | 0 => true
  | n + 1 => if h : n < cfgA.N then (if P0_0 ⟨n, h⟩ then (if P0_1 ⟨n, h⟩ then false else false) else (if P0_1 ⟨n, h⟩ then sfresh0_3 n else sfresh0_3 n)) else true

def sfirst0_3 : ℕ := 0
def sfrTab0_3 : ℕ → Bool := fun n => decide (n ≤ sfirst0_3)

set_option backward.proofsInPublic true in
def frMask0_5 : ℕ := 0xffffffffffffffffffffffffffffffffffffffffffffffffffffffffffff
def frTab0_5 : ℕ → Bool
  | 0 => true
  | n + 1 => frMask0_5.testBit n

variable (m : (ℓ : Loc nD τ sig) → Buf (Elt Ideal) ℓ) (ρ : Dev nD → PrngReg)

abbrev FactsAt (t : Fin cfgA.N) : Prop :=
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (sfrTab0_2 (t.val + 1) = (if P0_0 t then (if P0_1 t then false else false) else (if P0_1 t then sfrTab0_2 t.val else sfrTab0_2 t.val)))
  ∧ (sfrTab0_3 (t.val + 1) = (if P0_0 t then (if P0_1 t then false else false) else (if P0_1 t then sfrTab0_3 t.val else sfrTab0_3 t.val)))
  ∧ (frTab0_5 (t.val + 1) = ((cfgA.win (5 : Fin 6)).flush t || (cfgA.idle (5 : Fin 6) (cfgA.grid.coords t) && frTab0_5 t.val)))
  ∧ (P0_0 t → ¬P0_1 t → ((Scalar.cmpi .ne (Scalar.extui (Scalar.cmpi .eq (tabAt tbM0_1 (crd t) pinT_1) 0#32)) 0#32) = 1#1) ∧ ((¬((Scalar.cmpi .ne (Scalar.extui (Scalar.cmpi .slt (tabAt tbM0_1 (crd t) pinT_1) (Scalar.muli (tabAt tbM0_0 (crd t) pinT_0) 1#32))) 0#32) = 1#1)) ∧ (((Scalar.cmpi .ne (Scalar.extui (Scalar.cmpi .sge (tabAt tbM0_1 (crd t) pinT_1) (Scalar.muli (tabAt tbM0_0 (crd t) pinT_0) 1#32))) 0#32) = 1#1) ∧ ((k0_cond4 (tabAt tbM0_0 (crd t) pinT_0) (tabAt tbM0_1 (crd t) pinT_1) = 1#1) ∧ (True)))))
  ∧ (P0_0 t → ¬P0_1 t → cfgA.idle (5 : Fin 6) (cfgA.grid.coords t) = false ∧ (cfgA.win (5 : Fin 6)).flush t = true ∧ frTab0_5 t.val = true ∧ sfrTab0_0 (t.val + 1) = false ∧ sfrTab0_1 (t.val + 1) = false ∧ sfrTab0_2 (t.val + 1) = false ∧ sfrTab0_3 (t.val + 1) = false)
  ∧ (P0_0 t → P0_1 t → ((Scalar.cmpi .ne (Scalar.extui (Scalar.cmpi .eq (tabAt tbM0_1 (crd t) pinT_1) 0#32)) 0#32) = 1#1) ∧ (((Scalar.cmpi .ne (Scalar.extui (Scalar.cmpi .slt (tabAt tbM0_1 (crd t) pinT_1) (Scalar.muli (tabAt tbM0_0 (crd t) pinT_0) 1#32))) 0#32) = 1#1) ∧ ((¬((Scalar.cmpi .ne (Scalar.extui (Scalar.cmpi .sge (tabAt tbM0_1 (crd t) pinT_1) (Scalar.muli (tabAt tbM0_0 (crd t) pinT_0) 1#32))) 0#32) = 1#1)) ∧ ((¬(k0_cond4 (tabAt tbM0_0 (crd t) pinT_0) (tabAt tbM0_1 (crd t) pinT_1) = 1#1)) ∧ (True)))))
  ∧ (P0_0 t → P0_1 t → cfgA.idle (5 : Fin 6) (cfgA.grid.coords t) = true ∧ (cfgA.win (5 : Fin 6)).flush t = false ∧ frTab0_5 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false ∧ sfrTab0_3 t.val = false ∧ sfrTab0_3 (t.val + 1) = false)
  ∧ (¬P0_0 t → ¬P0_1 t → (¬((Scalar.cmpi .ne (Scalar.extui (Scalar.cmpi .eq (tabAt tbM0_1 (crd t) pinT_1) 0#32)) 0#32) = 1#1)) ∧ ((¬((Scalar.cmpi .ne (Scalar.extui (Scalar.cmpi .slt (tabAt tbM0_1 (crd t) pinT_1) (Scalar.muli (tabAt tbM0_0 (crd t) pinT_0) 1#32))) 0#32) = 1#1)) ∧ (((Scalar.cmpi .ne (Scalar.extui (Scalar.cmpi .sge (tabAt tbM0_1 (crd t) pinT_1) (Scalar.muli (tabAt tbM0_0 (crd t) pinT_0) 1#32))) 0#32) = 1#1) ∧ ((k0_cond4 (tabAt tbM0_0 (crd t) pinT_0) (tabAt tbM0_1 (crd t) pinT_1) = 1#1) ∧ (True)))))
  ∧ (¬P0_0 t → ¬P0_1 t → cfgA.idle (5 : Fin 6) (cfgA.grid.coords t) = false ∧ (cfgA.win (5 : Fin 6)).flush t = true ∧ frTab0_5 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false ∧ sfrTab0_3 t.val = false ∧ sfrTab0_3 (t.val + 1) = false)
  ∧ (¬P0_0 t → P0_1 t → (¬((Scalar.cmpi .ne (Scalar.extui (Scalar.cmpi .eq (tabAt tbM0_1 (crd t) pinT_1) 0#32)) 0#32) = 1#1)) ∧ (((Scalar.cmpi .ne (Scalar.extui (Scalar.cmpi .slt (tabAt tbM0_1 (crd t) pinT_1) (Scalar.muli (tabAt tbM0_0 (crd t) pinT_0) 1#32))) 0#32) = 1#1) ∧ ((¬((Scalar.cmpi .ne (Scalar.extui (Scalar.cmpi .sge (tabAt tbM0_1 (crd t) pinT_1) (Scalar.muli (tabAt tbM0_0 (crd t) pinT_0) 1#32))) 0#32) = 1#1)) ∧ ((¬(k0_cond4 (tabAt tbM0_0 (crd t) pinT_0) (tabAt tbM0_1 (crd t) pinT_1) = 1#1)) ∧ (True)))))
  ∧ (¬P0_0 t → P0_1 t → cfgA.idle (5 : Fin 6) (cfgA.grid.coords t) = true ∧ (cfgA.win (5 : Fin 6)).flush t = false ∧ frTab0_5 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false ∧ sfrTab0_3 t.val = false ∧ sfrTab0_3 (t.val + 1) = false)

set_option synthInstance.maxSize 65536 in
instance FactsAt.dec (t : Fin cfgA.N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))

theorem allFacts_0_0 : ∀ t : Fin cfgA.N, 0 ≤ t.val → t.val < 30 → FactsAt t := by decide +kernel
theorem allFacts_0_1 : ∀ t : Fin cfgA.N, 30 ≤ t.val → t.val < 60 → FactsAt t := by decide +kernel
theorem allFacts_0_2 : ∀ t : Fin cfgA.N, 60 ≤ t.val → t.val < 90 → FactsAt t := by decide +kernel
theorem allFacts_0_3 : ∀ t : Fin cfgA.N, 90 ≤ t.val → t.val < 120 → FactsAt t := by decide +kernel
theorem allFacts_0_4 : ∀ t : Fin cfgA.N, 120 ≤ t.val → t.val < 150 → FactsAt t := by decide +kernel
theorem allFacts_0_5 : ∀ t : Fin cfgA.N, 150 ≤ t.val → t.val < 180 → FactsAt t := by decide +kernel
theorem allFacts_0_6 : ∀ t : Fin cfgA.N, 180 ≤ t.val → t.val < 210 → FactsAt t := by decide +kernel
theorem allFacts_0_7 : ∀ t : Fin cfgA.N, 210 ≤ t.val → t.val < 240 → FactsAt t := by decide +kernel
theorem allFacts_0 : ∀ t : Fin cfgA.N, FactsAt t := fun t => by
  have h0 : 0 ≤ t.val := Nat.zero_le _
  rcases Nat.lt_or_ge t.val 30 with h1 | h1; · exact allFacts_0_0 t h0 h1
  rcases Nat.lt_or_ge t.val 60 with h2 | h2; · exact allFacts_0_1 t h1 h2
  rcases Nat.lt_or_ge t.val 90 with h3 | h3; · exact allFacts_0_2 t h2 h3
  rcases Nat.lt_or_ge t.val 120 with h4 | h4; · exact allFacts_0_3 t h3 h4
  rcases Nat.lt_or_ge t.val 150 with h5 | h5; · exact allFacts_0_4 t h4 h5
  rcases Nat.lt_or_ge t.val 180 with h6 | h6; · exact allFacts_0_5 t h5 h6
  rcases Nat.lt_or_ge t.val 210 with h7 | h7; · exact allFacts_0_6 t h6 h7
  exact allFacts_0_7 t h7 t.isLt

end Cert.KernelIdeal.Attn

end
-- ==== Proof.KernelIdeal.Body.lean ====
/- The body at every point, as the pipeline asks for it: the trajectory of the output block and the scratch buffers, and the triple per control path. -/
module

public import proofs.«01_k».proof.Proof.KernelIdeal.Runs
public import proofs.«01_k».proof.Proof.KernelIdeal.Points

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

theorem allFacts : ∀ (t : Fin cfgA.N), FactsAt t := allFacts_0

theorem sfrTab0_0_step : ∀ (t : Fin cfgA.N), sfrTab0_0 (t.val + 1) = (if P0_0 t then (if P0_1 t then false else false) else (if P0_1 t then sfrTab0_0 t.val else sfrTab0_0 t.val)) := fun t => (allFacts t).1
theorem sfresh0_0_eq : ∀ n, n ≤ cfgA.N → sfresh0_0 n = sfrTab0_0 n
  | 0, _ => by simp only [sfresh0_0, sfrTab0_0, Nat.zero_le, decide_true]
  | n + 1, h => by simp only [sfresh0_0, dif_pos (show n < cfgA.N from h), sfresh0_0_eq n (Nat.le_of_lt h), sfrTab0_0_step ⟨n, h⟩]
theorem sfreshF0_0 (t : Fin cfgA.N) : sfresh0_0 t.val = sfrTab0_0 t.val := sfresh0_0_eq t.val (Nat.le_of_lt t.isLt)
theorem sfreshS0_0 (t : Fin cfgA.N) : sfresh0_0 (t.val + 1) = sfrTab0_0 (t.val + 1) := sfresh0_0_eq (t.val + 1) t.isLt

theorem sfrTab0_1_step : ∀ (t : Fin cfgA.N), sfrTab0_1 (t.val + 1) = (if P0_0 t then (if P0_1 t then false else false) else (if P0_1 t then sfrTab0_1 t.val else sfrTab0_1 t.val)) := fun t => (allFacts t).2.1
theorem sfresh0_1_eq : ∀ n, n ≤ cfgA.N → sfresh0_1 n = sfrTab0_1 n
  | 0, _ => by simp only [sfresh0_1, sfrTab0_1, Nat.zero_le, decide_true]
  | n + 1, h => by simp only [sfresh0_1, dif_pos (show n < cfgA.N from h), sfresh0_1_eq n (Nat.le_of_lt h), sfrTab0_1_step ⟨n, h⟩]
theorem sfreshF0_1 (t : Fin cfgA.N) : sfresh0_1 t.val = sfrTab0_1 t.val := sfresh0_1_eq t.val (Nat.le_of_lt t.isLt)
theorem sfreshS0_1 (t : Fin cfgA.N) : sfresh0_1 (t.val + 1) = sfrTab0_1 (t.val + 1) := sfresh0_1_eq (t.val + 1) t.isLt

theorem sfrTab0_2_step : ∀ (t : Fin cfgA.N), sfrTab0_2 (t.val + 1) = (if P0_0 t then (if P0_1 t then false else false) else (if P0_1 t then sfrTab0_2 t.val else sfrTab0_2 t.val)) := fun t => (allFacts t).2.2.1
theorem sfresh0_2_eq : ∀ n, n ≤ cfgA.N → sfresh0_2 n = sfrTab0_2 n
  | 0, _ => by simp only [sfresh0_2, sfrTab0_2, Nat.zero_le, decide_true]
  | n + 1, h => by simp only [sfresh0_2, dif_pos (show n < cfgA.N from h), sfresh0_2_eq n (Nat.le_of_lt h), sfrTab0_2_step ⟨n, h⟩]
theorem sfreshF0_2 (t : Fin cfgA.N) : sfresh0_2 t.val = sfrTab0_2 t.val := sfresh0_2_eq t.val (Nat.le_of_lt t.isLt)
theorem sfreshS0_2 (t : Fin cfgA.N) : sfresh0_2 (t.val + 1) = sfrTab0_2 (t.val + 1) := sfresh0_2_eq (t.val + 1) t.isLt

theorem sfrTab0_3_step : ∀ (t : Fin cfgA.N), sfrTab0_3 (t.val + 1) = (if P0_0 t then (if P0_1 t then false else false) else (if P0_1 t then sfrTab0_3 t.val else sfrTab0_3 t.val)) := fun t => (allFacts t).2.2.2.1
theorem sfresh0_3_eq : ∀ n, n ≤ cfgA.N → sfresh0_3 n = sfrTab0_3 n
  | 0, _ => by simp only [sfresh0_3, sfrTab0_3, Nat.zero_le, decide_true]
  | n + 1, h => by simp only [sfresh0_3, dif_pos (show n < cfgA.N from h), sfresh0_3_eq n (Nat.le_of_lt h), sfrTab0_3_step ⟨n, h⟩]
theorem sfreshF0_3 (t : Fin cfgA.N) : sfresh0_3 t.val = sfrTab0_3 t.val := sfresh0_3_eq t.val (Nat.le_of_lt t.isLt)
theorem sfreshS0_3 (t : Fin cfgA.N) : sfresh0_3 (t.val + 1) = sfrTab0_3 (t.val + 1) := sfresh0_3_eq (t.val + 1) t.isLt

theorem frTab0_5_step : ∀ (t : Fin cfgA.N),
    frTab0_5 (t.val + 1) = ((cfgA.win (5 : Fin 6)).flush t || (cfgA.idle (5 : Fin 6) (cfgA.grid.coords t) && frTab0_5 t.val)) := fun t => (allFacts t).2.2.2.2.1
theorem freshF0_5 (t : Fin cfgA.N) : cfgA.fresh (5 : Fin 6) t.val = frTab0_5 t.val :=
  Pipeline.Cfg.fresh_tab cfgA (5 : Fin 6) frTab0_5 rfl frTab0_5_step t.val (Nat.le_of_lt t.isLt)

theorem hyps0_A : ∀ (t : Fin cfgA.N), P0_0 t → ¬P0_1 t →
    ((Scalar.cmpi .ne (Scalar.extui (Scalar.cmpi .eq (tabAt tbM0_1 (crd t) pinT_1) 0#32)) 0#32) = 1#1) ∧ ((¬((Scalar.cmpi .ne (Scalar.extui (Scalar.cmpi .slt (tabAt tbM0_1 (crd t) pinT_1) (Scalar.muli (tabAt tbM0_0 (crd t) pinT_0) 1#32))) 0#32) = 1#1)) ∧ (((Scalar.cmpi .ne (Scalar.extui (Scalar.cmpi .sge (tabAt tbM0_1 (crd t) pinT_1) (Scalar.muli (tabAt tbM0_0 (crd t) pinT_0) 1#32))) 0#32) = 1#1) ∧ ((k0_cond4 (tabAt tbM0_0 (crd t) pinT_0) (tabAt tbM0_1 (crd t) pinT_1) = 1#1) ∧ (True)))) := fun t => (allFacts t).2.2.2.2.2.1

theorem hypsR0_A : ∀ (t : Fin cfgA.N), P0_0 t → ¬P0_1 t →
    ((Scalar.cmpi .ne (Scalar.extui (Scalar.cmpi .eq (tabAt tbM0_1 (crd t) pinT_1) 0#32)) 0#32) = 1#1) ∧ ((¬((Scalar.cmpi .ne (Scalar.extui (Scalar.cmpi .slt (tabAt tbM0_1 (crd t) pinT_1) (Scalar.muli (tabAt tbM0_0 (crd t) pinT_0) 1#32))) 0#32) = 1#1)) ∧ (((Scalar.cmpi .ne (Scalar.extui (Scalar.cmpi .sge (tabAt tbM0_1 (crd t) pinT_1) (Scalar.muli (tabAt tbM0_0 (crd t) pinT_0) 1#32))) 0#32) = 1#1) ∧ ((k0_cond4 (tabAt tbM0_0 (crd t) pinT_0) (tabAt tbM0_1 (crd t) pinT_1) = 1#1) ∧ (True)))) := hyps0_A

theorem sched0_A : ∀ (t : Fin cfgA.N), P0_0 t → ¬P0_1 t →
    cfgA.idle (5 : Fin 6) (cfgA.grid.coords t) = false ∧ (cfgA.win (5 : Fin 6)).flush t = true ∧ cfgA.fresh (5 : Fin 6) t.val = true ∧ sfresh0_0 (t.val + 1) = false ∧ sfresh0_1 (t.val + 1) = false ∧ sfresh0_2 (t.val + 1) = false ∧ sfresh0_3 (t.val + 1) = false := by
  intro t; rw [freshF0_5 t, sfreshS0_0 t, sfreshS0_1 t, sfreshS0_2 t, sfreshS0_3 t]; exact (fun t => (allFacts t).2.2.2.2.2.2.1) t

theorem hyps0_B : ∀ (t : Fin cfgA.N), P0_0 t → P0_1 t →
    ((Scalar.cmpi .ne (Scalar.extui (Scalar.cmpi .eq (tabAt tbM0_1 (crd t) pinT_1) 0#32)) 0#32) = 1#1) ∧ (((Scalar.cmpi .ne (Scalar.extui (Scalar.cmpi .slt (tabAt tbM0_1 (crd t) pinT_1) (Scalar.muli (tabAt tbM0_0 (crd t) pinT_0) 1#32))) 0#32) = 1#1) ∧ ((¬((Scalar.cmpi .ne (Scalar.extui (Scalar.cmpi .sge (tabAt tbM0_1 (crd t) pinT_1) (Scalar.muli (tabAt tbM0_0 (crd t) pinT_0) 1#32))) 0#32) = 1#1)) ∧ ((¬(k0_cond4 (tabAt tbM0_0 (crd t) pinT_0) (tabAt tbM0_1 (crd t) pinT_1) = 1#1)) ∧ (True)))) := fun t => (allFacts t).2.2.2.2.2.2.2.1

theorem hypsR0_B : ∀ (t : Fin cfgA.N), P0_0 t → P0_1 t →
    ((Scalar.cmpi .ne (Scalar.extui (Scalar.cmpi .eq (tabAt tbM0_1 (crd t) pinT_1) 0#32)) 0#32) = 1#1) ∧ (((Scalar.cmpi .ne (Scalar.extui (Scalar.cmpi .slt (tabAt tbM0_1 (crd t) pinT_1) (Scalar.muli (tabAt tbM0_0 (crd t) pinT_0) 1#32))) 0#32) = 1#1) ∧ ((¬((Scalar.cmpi .ne (Scalar.extui (Scalar.cmpi .sge (tabAt tbM0_1 (crd t) pinT_1) (Scalar.muli (tabAt tbM0_0 (crd t) pinT_0) 1#32))) 0#32) = 1#1)) ∧ ((¬(k0_cond4 (tabAt tbM0_0 (crd t) pinT_0) (tabAt tbM0_1 (crd t) pinT_1) = 1#1)) ∧ (True)))) := hyps0_B

theorem sched0_B : ∀ (t : Fin cfgA.N), P0_0 t → P0_1 t →
    cfgA.idle (5 : Fin 6) (cfgA.grid.coords t) = true ∧ (cfgA.win (5 : Fin 6)).flush t = false ∧ cfgA.fresh (5 : Fin 6) t.val = true ∧ sfresh0_0 t.val = false ∧ sfresh0_0 (t.val + 1) = false ∧ sfresh0_1 t.val = false ∧ sfresh0_1 (t.val + 1) = false ∧ sfresh0_2 t.val = false ∧ sfresh0_2 (t.val + 1) = false ∧ sfresh0_3 t.val = false ∧ sfresh0_3 (t.val + 1) = false := by
  intro t; rw [freshF0_5 t, sfreshF0_0 t, sfreshS0_0 t, sfreshF0_1 t, sfreshS0_1 t, sfreshF0_2 t, sfreshS0_2 t, sfreshF0_3 t, sfreshS0_3 t]; exact (fun t => (allFacts t).2.2.2.2.2.2.2.2.1) t

theorem hyps0_C : ∀ (t : Fin cfgA.N), ¬P0_0 t → ¬P0_1 t →
    (¬((Scalar.cmpi .ne (Scalar.extui (Scalar.cmpi .eq (tabAt tbM0_1 (crd t) pinT_1) 0#32)) 0#32) = 1#1)) ∧ ((¬((Scalar.cmpi .ne (Scalar.extui (Scalar.cmpi .slt (tabAt tbM0_1 (crd t) pinT_1) (Scalar.muli (tabAt tbM0_0 (crd t) pinT_0) 1#32))) 0#32) = 1#1)) ∧ (((Scalar.cmpi .ne (Scalar.extui (Scalar.cmpi .sge (tabAt tbM0_1 (crd t) pinT_1) (Scalar.muli (tabAt tbM0_0 (crd t) pinT_0) 1#32))) 0#32) = 1#1) ∧ ((k0_cond4 (tabAt tbM0_0 (crd t) pinT_0) (tabAt tbM0_1 (crd t) pinT_1) = 1#1) ∧ (True)))) := fun t => (allFacts t).2.2.2.2.2.2.2.2.2.1

theorem hypsR0_C : ∀ (t : Fin cfgA.N), ¬P0_0 t → ¬P0_1 t →
    (¬((Scalar.cmpi .ne (Scalar.extui (Scalar.cmpi .eq (tabAt tbM0_1 (crd t) pinT_1) 0#32)) 0#32) = 1#1)) ∧ ((¬((Scalar.cmpi .ne (Scalar.extui (Scalar.cmpi .slt (tabAt tbM0_1 (crd t) pinT_1) (Scalar.muli (tabAt tbM0_0 (crd t) pinT_0) 1#32))) 0#32) = 1#1)) ∧ (((Scalar.cmpi .ne (Scalar.extui (Scalar.cmpi .sge (tabAt tbM0_1 (crd t) pinT_1) (Scalar.muli (tabAt tbM0_0 (crd t) pinT_0) 1#32))) 0#32) = 1#1) ∧ ((k0_cond4 (tabAt tbM0_0 (crd t) pinT_0) (tabAt tbM0_1 (crd t) pinT_1) = 1#1) ∧ (True)))) := hyps0_C

theorem sched0_C : ∀ (t : Fin cfgA.N), ¬P0_0 t → ¬P0_1 t →
    cfgA.idle (5 : Fin 6) (cfgA.grid.coords t) = false ∧ (cfgA.win (5 : Fin 6)).flush t = true ∧ cfgA.fresh (5 : Fin 6) t.val = true ∧ sfresh0_0 t.val = false ∧ sfresh0_0 (t.val + 1) = false ∧ sfresh0_1 t.val = false ∧ sfresh0_1 (t.val + 1) = false ∧ sfresh0_2 t.val = false ∧ sfresh0_2 (t.val + 1) = false ∧ sfresh0_3 t.val = false ∧ sfresh0_3 (t.val + 1) = false := by
  intro t; rw [freshF0_5 t, sfreshF0_0 t, sfreshS0_0 t, sfreshF0_1 t, sfreshS0_1 t, sfreshF0_2 t, sfreshS0_2 t, sfreshF0_3 t, sfreshS0_3 t]; exact (fun t => (allFacts t).2.2.2.2.2.2.2.2.2.2.1) t

theorem hyps0_D : ∀ (t : Fin cfgA.N), ¬P0_0 t → P0_1 t →
    (¬((Scalar.cmpi .ne (Scalar.extui (Scalar.cmpi .eq (tabAt tbM0_1 (crd t) pinT_1) 0#32)) 0#32) = 1#1)) ∧ (((Scalar.cmpi .ne (Scalar.extui (Scalar.cmpi .slt (tabAt tbM0_1 (crd t) pinT_1) (Scalar.muli (tabAt tbM0_0 (crd t) pinT_0) 1#32))) 0#32) = 1#1) ∧ ((¬((Scalar.cmpi .ne (Scalar.extui (Scalar.cmpi .sge (tabAt tbM0_1 (crd t) pinT_1) (Scalar.muli (tabAt tbM0_0 (crd t) pinT_0) 1#32))) 0#32) = 1#1)) ∧ ((¬(k0_cond4 (tabAt tbM0_0 (crd t) pinT_0) (tabAt tbM0_1 (crd t) pinT_1) = 1#1)) ∧ (True)))) := fun t => (allFacts t).2.2.2.2.2.2.2.2.2.2.2.1

theorem hypsR0_D : ∀ (t : Fin cfgA.N), ¬P0_0 t → P0_1 t →
    (¬((Scalar.cmpi .ne (Scalar.extui (Scalar.cmpi .eq (tabAt tbM0_1 (crd t) pinT_1) 0#32)) 0#32) = 1#1)) ∧ (((Scalar.cmpi .ne (Scalar.extui (Scalar.cmpi .slt (tabAt tbM0_1 (crd t) pinT_1) (Scalar.muli (tabAt tbM0_0 (crd t) pinT_0) 1#32))) 0#32) = 1#1) ∧ ((¬((Scalar.cmpi .ne (Scalar.extui (Scalar.cmpi .sge (tabAt tbM0_1 (crd t) pinT_1) (Scalar.muli (tabAt tbM0_0 (crd t) pinT_0) 1#32))) 0#32) = 1#1)) ∧ ((¬(k0_cond4 (tabAt tbM0_0 (crd t) pinT_0) (tabAt tbM0_1 (crd t) pinT_1) = 1#1)) ∧ (True)))) := hyps0_D

theorem sched0_D : ∀ (t : Fin cfgA.N), ¬P0_0 t → P0_1 t →
    cfgA.idle (5 : Fin 6) (cfgA.grid.coords t) = true ∧ (cfgA.win (5 : Fin 6)).flush t = false ∧ cfgA.fresh (5 : Fin 6) t.val = true ∧ sfresh0_0 t.val = false ∧ sfresh0_0 (t.val + 1) = false ∧ sfresh0_1 t.val = false ∧ sfresh0_1 (t.val + 1) = false ∧ sfresh0_2 t.val = false ∧ sfresh0_2 (t.val + 1) = false ∧ sfresh0_3 t.val = false ∧ sfresh0_3 (t.val + 1) = false := by
  intro t; rw [freshF0_5 t, sfreshF0_0 t, sfreshS0_0 t, sfreshF0_1 t, sfreshS0_1 t, sfreshF0_2 t, sfreshS0_2 t, sfreshF0_3 t, sfreshS0_3 t]; exact (fun t => (allFacts t).2.2.2.2.2.2.2.2.2.2.2.2) t

/-- The output block and the four scratch buffers. -/
abbrev Carried (c : Dev nD) : Type :=
  (S2048x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)

def step0 (c : Dev nD) (t : Fin cfgA.N) (prev : Carried c) : Carried c :=
  if q0 : P0_0 t then
    if q1 : P0_1 t then
      ((if cfgA.fresh (5 : Fin 6) t.val then default else prev.1), (kernelRun0_B c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_B t q0 q1).1 (hypsR0_B t q0 q1).2.1 (hypsR0_B t q0 q1).2.2.1 (hypsR0_B t q0 q1).2.2.2.1).1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_B t q0 q1).1 (hypsR0_B t q0 q1).2.1 (hypsR0_B t q0 q1).2.2.1 (hypsR0_B t q0 q1).2.2.2.1).2.1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_B t q0 q1).1 (hypsR0_B t q0 q1).2.1 (hypsR0_B t q0 q1).2.2.1 (hypsR0_B t q0 q1).2.2.2.1).2.2.1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_B t q0 q1).1 (hypsR0_B t q0 q1).2.1 (hypsR0_B t q0 q1).2.2.1 (hypsR0_B t q0 q1).2.2.2.1).2.2.2.1)
    else
      (out0_A_5 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1).2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1).2.2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1).2.2.2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1).2.2.2.2.1)
  else
    if q1 : P0_1 t then
      ((if cfgA.fresh (5 : Fin 6) t.val then default else prev.1), (kernelRun0_D c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_D t q0 q1).1 (hypsR0_D t q0 q1).2.1 (hypsR0_D t q0 q1).2.2.1 (hypsR0_D t q0 q1).2.2.2.1).1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_D t q0 q1).1 (hypsR0_D t q0 q1).2.1 (hypsR0_D t q0 q1).2.2.1 (hypsR0_D t q0 q1).2.2.2.1).2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_D t q0 q1).1 (hypsR0_D t q0 q1).2.1 (hypsR0_D t q0 q1).2.2.1 (hypsR0_D t q0 q1).2.2.2.1).2.2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_D t q0 q1).1 (hypsR0_D t q0 q1).2.1 (hypsR0_D t q0 q1).2.2.1 (hypsR0_D t q0 q1).2.2.2.1).2.2.2.1)
    else
      (out0_C_5 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1).2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1).2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1).2.2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1).2.2.2.2.1)

def traj0 (c : Dev nD) : (n : ℕ) → n < cfgA.N → Carried c
  | 0, h => step0 m c ⟨0, h⟩ (default, default, default, default, default)
  | n + 1, h => step0 m c ⟨n + 1, h⟩ (traj0 c n (Nat.lt_of_succ_lt h))

def prev0 (c : Dev nD) (t : Fin cfgA.N) : Carried c :=
  if h : t.val = 0 then (default, default, default, default, default) else traj0 m c (t.val - 1) (by omega)

theorem traj0_eq (c : Dev nD) (t : Fin cfgA.N) : traj0 m c t.val t.isLt = step0 m c t (prev0 m c t) := by
  obtain ⟨n, hn⟩ := t
  cases n with
  | zero => rfl
  | succ n => unfold prev0; simp only [Nat.add_one_ne_zero, dif_neg, not_false_eq_true]; rfl

theorem step0_A (c : Dev nD) (t : Fin cfgA.N) (prev : Carried c) (q0 : P0_0 t) (q1 : ¬P0_1 t) :
    step0 m c t prev = (out0_A_5 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1).2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1).2.2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1).2.2.2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1).2.2.2.2.1) := by
  unfold step0; simp only [dif_pos q0, dif_neg q1]

theorem step0_B (c : Dev nD) (t : Fin cfgA.N) (prev : Carried c) (q0 : P0_0 t) (q1 : P0_1 t) :
    step0 m c t prev = ((if cfgA.fresh (5 : Fin 6) t.val then default else prev.1), (kernelRun0_B c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_B t q0 q1).1 (hypsR0_B t q0 q1).2.1 (hypsR0_B t q0 q1).2.2.1 (hypsR0_B t q0 q1).2.2.2.1).1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_B t q0 q1).1 (hypsR0_B t q0 q1).2.1 (hypsR0_B t q0 q1).2.2.1 (hypsR0_B t q0 q1).2.2.2.1).2.1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_B t q0 q1).1 (hypsR0_B t q0 q1).2.1 (hypsR0_B t q0 q1).2.2.1 (hypsR0_B t q0 q1).2.2.2.1).2.2.1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_B t q0 q1).1 (hypsR0_B t q0 q1).2.1 (hypsR0_B t q0 q1).2.2.1 (hypsR0_B t q0 q1).2.2.2.1).2.2.2.1) := by
  unfold step0; simp only [dif_pos q0, dif_pos q1]

theorem step0_C (c : Dev nD) (t : Fin cfgA.N) (prev : Carried c) (q0 : ¬P0_0 t) (q1 : ¬P0_1 t) :
    step0 m c t prev = (out0_C_5 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1).2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1).2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1).2.2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1).2.2.2.2.1) := by
  unfold step0; simp only [dif_neg q0, dif_neg q1]

theorem step0_D (c : Dev nD) (t : Fin cfgA.N) (prev : Carried c) (q0 : ¬P0_0 t) (q1 : P0_1 t) :
    step0 m c t prev = ((if cfgA.fresh (5 : Fin 6) t.val then default else prev.1), (kernelRun0_D c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_D t q0 q1).1 (hypsR0_D t q0 q1).2.1 (hypsR0_D t q0 q1).2.2.1 (hypsR0_D t q0 q1).2.2.2.1).1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_D t q0 q1).1 (hypsR0_D t q0 q1).2.1 (hypsR0_D t q0 q1).2.2.1 (hypsR0_D t q0 q1).2.2.2.1).2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_D t q0 q1).1 (hypsR0_D t q0 q1).2.1 (hypsR0_D t q0 q1).2.2.1 (hypsR0_D t q0 q1).2.2.2.1).2.2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_D t q0 q1).1 (hypsR0_D t q0 q1).2.1 (hypsR0_D t q0 q1).2.2.1 (hypsR0_D t q0 q1).2.2.2.1).2.2.2.1) := by
  unfold step0; simp only [dif_neg q0, dif_pos q1]

def prev0T (c : Dev nD) (t : Fin (cfgA.N + 1)) : Carried c :=
  if h : t.val = 0 then (default, default, default, default, default) else traj0 m c (t.val - 1) (by omega)

theorem prev0T_castSucc (c : Dev nD) (t : Fin cfgA.N) : prev0T m c t.castSucc = prev0 m c t := by
  unfold prev0T prev0; simp only [Fin.val_castSucc]
theorem prev0T_succ (c : Dev nD) (t : Fin cfgA.N) : prev0T m c t.succ = traj0 m c t.val t.isLt := by
  unfold prev0T; simp only [Fin.val_succ, Nat.add_one_ne_zero, ↓reduceDIte, Nat.add_one_sub_one]

def Phi (m : (ℓ : Loc nD τ sig) → Buf (Elt Ideal) ℓ) (c : Dev nD) (t : Fin (cfgA.N + 1)) : sProp 𝕄 :=
  iprop((∃ a, ⌜sfresh0_0 t.val = false → a = (prev0T m c t).2.1⌝ ∗ (scM0_0.view.loc (c : Thread nD τ) ↦{fullShare} a)) ∗ (∃ a, ⌜sfresh0_1 t.val = false → a = (prev0T m c t).2.2.1⌝ ∗ (scM0_1.view.loc (c : Thread nD τ) ↦{fullShare} a)) ∗ (∃ a, ⌜sfresh0_2 t.val = false → a = (prev0T m c t).2.2.2.1⌝ ∗ (scM0_2.view.loc (c : Thread nD τ) ↦{fullShare} a)) ∗ (∃ a, ⌜sfresh0_3 t.val = false → a = (prev0T m c t).2.2.2.2⌝ ∗ (scM0_3.view.loc (c : Thread nD τ) ↦{fullShare} a)) ∗ (tbM0_0.view.loc (c : Thread nD τ) ↦{fullShare.right} pinT_0) ∗ (tbM0_1.view.loc (c : Thread nD τ) ↦{fullShare.right} pinT_1) ∗ (∃ r, prngReg c r))

def dats (_ : Fin 1) (c : Dev nD) : Dat τ (Elt Ideal) Unit ℕ (UR sig nD τ) ℕ cfgA c where
  A w := V m c (Pipeline.arrRef spec0 w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => iblk m c (4 : Fin 6) t
    | ⟨5, _⟩ => (traj0 m c t.val t.isLt).1
  Φ t := Phi m c t
  q w := Pipeline.shareOf spec0 w
  owed _ := 0

theorem after0_0 (c : Dev nD) (t : Fin cfgA.N) : (dats m 0 c).after (0 : Fin 6) t = iblk m c (0 : Fin 6) t := rfl
theorem after0_1 (c : Dev nD) (t : Fin cfgA.N) : (dats m 0 c).after (1 : Fin 6) t = iblk m c (1 : Fin 6) t := rfl
theorem after0_2 (c : Dev nD) (t : Fin cfgA.N) : (dats m 0 c).after (2 : Fin 6) t = iblk m c (2 : Fin 6) t := rfl
theorem after0_3 (c : Dev nD) (t : Fin cfgA.N) : (dats m 0 c).after (3 : Fin 6) t = iblk m c (3 : Fin 6) t := rfl
theorem after0_4 (c : Dev nD) (t : Fin cfgA.N) : (dats m 0 c).after (4 : Fin 6) t = iblk m c (4 : Fin 6) t := rfl
theorem after0_5 (c : Dev nD) (t : Fin cfgA.N) : (dats m 0 c).after (5 : Fin 6) t = (traj0 m c t.val t.isLt).1 := rfl

theorem before0_0 (c : Dev nD) (t : Fin cfgA.N) (d) : (dats m 0 c).before (0 : Fin 6) t d = iblk m c (0 : Fin 6) t :=
  ((dats m 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem before0_1 (c : Dev nD) (t : Fin cfgA.N) (d) : (dats m 0 c).before (1 : Fin 6) t d = iblk m c (1 : Fin 6) t :=
  ((dats m 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem before0_2 (c : Dev nD) (t : Fin cfgA.N) (d) : (dats m 0 c).before (2 : Fin 6) t d = iblk m c (2 : Fin 6) t :=
  ((dats m 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem before0_3 (c : Dev nD) (t : Fin cfgA.N) (d) : (dats m 0 c).before (3 : Fin 6) t d = iblk m c (3 : Fin 6) t :=
  ((dats m 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem before0_4 (c : Dev nD) (t : Fin cfgA.N) (d) : (dats m 0 c).before (4 : Fin 6) t d = iblk m c (4 : Fin 6) t :=
  ((dats m 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem hcarry0_5 (c : Dev nD) : ∀ (t : Fin cfgA.N) (ht : t.val ≠ 0), cfgA.idle (5 : Fin 6) (cfgA.grid.coords t) = true → cfgA.fresh (5 : Fin 6) t.val = false →
    (dats m 0 c).after (5 : Fin 6) t = (dats m 0 c).after (5 : Fin 6) ⟨t.val - 1, by omega⟩ := by
  intro t ht hi hf
  rw [after0_5, after0_5, traj0_eq]
  by_cases q0 : P0_0 t
  · by_cases q1 : P0_1 t
    · rw [step0_B m c t _ q0 q1]
      simp only [hf, Bool.false_eq_true, ↓reduceIte]
      unfold prev0; rw [dif_neg ht]
    · obtain ⟨i5, -, -, -, -, -, -⟩ := sched0_A t q0 q1
      rw [i5] at hi; exact absurd hi (by decide)
  · by_cases q1 : P0_1 t
    · rw [step0_D m c t _ q0 q1]
      simp only [hf, Bool.false_eq_true, ↓reduceIte]
      unfold prev0; rw [dif_neg ht]
    · obtain ⟨i5, -, -, -, -, -, -, -, -, -, -⟩ := sched0_C t q0 q1
      rw [i5] at hi; exact absurd hi (by decide)

theorem before0_5 (c : Dev nD) (t : Fin cfgA.N) (d) :
    (dats m 0 c).before (5 : Fin 6) t d = if cfgA.fresh (5 : Fin 6) t.val then d else (prev0 m c t).1 := by
  rw [(dats m 0 c).before_out_traj (5 : Fin 6) rfl (fun _ _ => rfl) (hcarry0_5 m c) t.val t rfl d]
  by_cases hf : cfgA.fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

abbrev bodyAt0 (t : Fin cfgA.N) : Prog (TpuEff nD τ sig (Elt Ideal) Λ₀ .tc) PUnit :=
  cc0_flash_rope (crd t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (ms0_4 t) (hs0_4 t) (ms0_5 t) (hs0_5 t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 4000000 in
theorem sound_body (c : Dev nD) (t : Fin cfgA.N) :
    iprop((dats m 0 c).Φ t.castSucc ∗ (dats m 0 c).owesAt () t.castSucc
        ∗ (∃ d, owns (c : Thread nD τ) (ms0_0 t) fullShare ((dats m 0 c).before (0 : Fin 6) t d))
        ∗ (∃ d, owns (c : Thread nD τ) (ms0_1 t) fullShare ((dats m 0 c).before (1 : Fin 6) t d))
        ∗ (∃ d, owns (c : Thread nD τ) (ms0_2 t) fullShare ((dats m 0 c).before (2 : Fin 6) t d))
        ∗ (∃ d, owns (c : Thread nD τ) (ms0_3 t) fullShare ((dats m 0 c).before (3 : Fin 6) t d))
        ∗ (∃ d, owns (c : Thread nD τ) (ms0_4 t) fullShare ((dats m 0 c).before (4 : Fin 6) t d))
        ∗ (∃ d, owns (c : Thread nD τ) (ms0_5 t) fullShare ((dats m 0 c).before (5 : Fin 6) t d)))
      ⊢ wp frame (wpE (defs₀ (F := Ideal)) Variants.none c none) Set.univ (bodyAt0 t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  by_cases q0 : P0_0 t
  · by_cases q1 : P0_1 t
    · obtain ⟨i5, f5, fr5, sf0, sfn0, sf1, sfn1, sf2, sfn2, sf3, sfn3⟩ := sched0_B t q0 q1
      have F0 := hypsR0_B t q0 q1
      have hc0 := F0.1; have F1 := F0.2
      have hc1 := F1.1; have F2 := F1.2
      have hc2 := F2.1; have F3 := F2.2
      have k0_h4 := F3.1; have F4 := F3.2
      clear F0 F1 F2 F3 F4
      rewrite [i5]
      simp only [before0_0, before0_1, before0_2, before0_3, before0_4, before0_5, after0_0, after0_1, after0_2, after0_3, after0_4, after0_5, f5]
      simp only [fr5, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_B m c t _ q0 q1]
      unfold Phi; simp only [prev0T_castSucc, prev0T_succ, traj0_eq, step0_B m c t _ q0 q1, Fin.val_castSucc, Fin.val_succ]
      iintro ⟨⟨⟨%a0, %ha0, HS0⟩, ⟨%a1, %ha1, HS1⟩, ⟨%a2, %ha2, HS2⟩, ⟨%a3, %ha3, HS3⟩, HT0, HT1, HR⟩, Ho, ⟨%d0, H0⟩, ⟨%d1, H1⟩, ⟨%d2, H2⟩, ⟨%d3, H3⟩, ⟨%d4, H4⟩, ⟨%d5, H5⟩⟩
      iapply ((kernelRun0_B c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) hc0 hc1 hc2 k0_h4).2.2.2.2 _ a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1 HR]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        isplitl [HT1]
        · iexact HT1
        iexact HR
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · obtain ⟨i5, f5, fr5, sfn0, sfn1, sfn2, sfn3⟩ := sched0_A t q0 q1
      have F0 := hypsR0_A t q0 q1
      have hc0 := F0.1; have F1 := F0.2
      have hc1 := F1.1; have F2 := F1.2
      have hc2 := F2.1; have F3 := F2.2
      have k0_h4 := F3.1; have F4 := F3.2
      clear F0 F1 F2 F3 F4
      rewrite [i5]
      simp only [before0_0, before0_1, before0_2, before0_3, before0_4, before0_5, after0_0, after0_1, after0_2, after0_3, after0_4, after0_5, f5]
      simp only [fr5, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_A m c t _ q0 q1]
      unfold Phi; simp only [prev0T_castSucc, prev0T_succ, traj0_eq, step0_A m c t _ q0 q1, Fin.val_castSucc, Fin.val_succ]
      iintro ⟨⟨⟨%a0, %ha0, HS0⟩, ⟨%a1, %ha1, HS1⟩, ⟨%a2, %ha2, HS2⟩, ⟨%a3, %ha3, HS3⟩, HT0, HT1, HR⟩, Ho, ⟨%d0, H0⟩, ⟨%d1, H1⟩, ⟨%d2, H2⟩, ⟨%d3, H3⟩, ⟨%d4, H4⟩, ⟨%d5, H5⟩⟩
      iapply ((kernelRun0_A c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) hc0 hc1 hc2 k0_h4).2.2.2.2.2 a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      isplitl [HS3]; · iexact HS3
      iintro ⟨H0, H1, H2, H3, H4, HT0, HT1, ⟨%e5, H5⟩, HS0, HS1, HS2, HS3⟩
      isplitl [HS0 HS1 HS2 HS3 HT0 HT1 HR]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        isplitl [HT1]
        · iexact HT1
        iexact HR
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_A_5 c _ _ _ _ _ _ _ _ _ _ _ _ _ _ _ _ _ _ _ _ _ _ _ _)
  · by_cases q1 : P0_1 t
    · obtain ⟨i5, f5, fr5, sf0, sfn0, sf1, sfn1, sf2, sfn2, sf3, sfn3⟩ := sched0_D t q0 q1
      have F0 := hypsR0_D t q0 q1
      have hc0 := F0.1; have F1 := F0.2
      have hc1 := F1.1; have F2 := F1.2
      have hc2 := F2.1; have F3 := F2.2
      have k0_h4 := F3.1; have F4 := F3.2
      clear F0 F1 F2 F3 F4
      rewrite [i5]
      simp only [before0_0, before0_1, before0_2, before0_3, before0_4, before0_5, after0_0, after0_1, after0_2, after0_3, after0_4, after0_5, f5]
      simp only [fr5, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_D m c t _ q0 q1]
      unfold Phi; simp only [prev0T_castSucc, prev0T_succ, traj0_eq, step0_D m c t _ q0 q1, Fin.val_castSucc, Fin.val_succ]
      simp only [exists_held sf0, exists_held sf1, exists_held sf2, exists_held sf3]
      iintro ⟨⟨HS0, HS1, HS2, HS3, HT0, HT1, HR⟩, Ho, ⟨%d0, H0⟩, ⟨%d1, H1⟩, ⟨%d2, H2⟩, ⟨%d3, H3⟩, ⟨%d4, H4⟩, ⟨%d5, H5⟩⟩
      iapply ((kernelRun0_D c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) _ _ _ _ hc0 hc1 hc2 k0_h4).2.2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1 HR]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        isplitl [HT1]
        · iexact HT1
        iexact HR
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · obtain ⟨i5, f5, fr5, sf0, sfn0, sf1, sfn1, sf2, sfn2, sf3, sfn3⟩ := sched0_C t q0 q1
      have F0 := hypsR0_C t q0 q1
      have hc0 := F0.1; have F1 := F0.2
      have hc1 := F1.1; have F2 := F1.2
      have hc2 := F2.1; have F3 := F2.2
      have k0_h4 := F3.1; have F4 := F3.2
      clear F0 F1 F2 F3 F4
      rewrite [i5]
      simp only [before0_0, before0_1, before0_2, before0_3, before0_4, before0_5, after0_0, after0_1, after0_2, after0_3, after0_4, after0_5, f5]
      simp only [fr5, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_C m c t _ q0 q1]
      unfold Phi; simp only [prev0T_castSucc, prev0T_succ, traj0_eq, step0_C m c t _ q0 q1, Fin.val_castSucc, Fin.val_succ]
      simp only [exists_held sf0, exists_held sf1, exists_held sf2, exists_held sf3]
      iintro ⟨⟨HS0, HS1, HS2, HS3, HT0, HT1, HR⟩, Ho, ⟨%d0, H0⟩, ⟨%d1, H1⟩, ⟨%d2, H2⟩, ⟨%d3, H3⟩, ⟨%d4, H4⟩, ⟨%d5, H5⟩⟩
      iapply ((kernelRun0_C c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) _ _ _ _ hc0 hc1 hc2 k0_h4).2.2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      isplitl [HS3]; · iexact HS3
      iintro ⟨H0, H1, H2, H3, H4, HT0, HT1, ⟨%e5, H5⟩, HS0, HS1, HS2, HS3⟩
      isplitl [HS0 HS1 HS2 HS3 HT0 HT1 HR]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        isplitl [HT1]
        · iexact HT1
        iexact HR
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_C_5 c _ _ _ _ _ _ _ _ _ _ _ _ _ _ _ _ _ _ _ _ _ _ _ _ _ _ _ _)

theorem body_obligation (c : Dev nD) : BodyObligation (dats m 0 c) (defs₀ (F := Ideal)) Variants.none () Set.univ := fun t => by
  rw [bigSep_W0]
  exact sound_body m c t

end Cert.KernelIdeal.Attn

end
-- ==== Proof.KernelIdeal.Parts.lean ====
module

public import proofs.«01_k».proof.Proof.KernelIdeal.Runs

/-! The buffers each path leaves, named. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic

variable (c : Dev nD) (i : grid0.Coords) (arg5 : Memref sig .tc .vmem S2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x256 .bf16) (harg8 : arg8.IsWhole) (arg9 : Memref sig .tc .vmem S2048x128 .bf16) (harg9 : arg9.IsWhole) (arg10 : Memref sig .tc .vmem S2048x128 .bf16) (harg10 : arg10.IsWhole) (T0 : (S10.Idx → Elt Ideal .i32)) (T1 : (S10.Idx → Elt Ideal .i32))
     (x0 : (S2048x256.Idx → Elt Ideal .bf16)) (x1 : (S2048x128.Idx → Elt Ideal .f32)) (x2 : (S2048x128.Idx → Elt Ideal .f32)) (x3 : (S2048x256.Idx → Elt Ideal .bf16)) (x4 : (S2048x128.Idx → Elt Ideal .bf16))

section

variable (hc0 : (Scalar.cmpi .ne (Scalar.extui (Scalar.cmpi .eq (tabAt tbM0_1 i T1) 0#32)) 0#32) = 1#1) (hc1 : ¬((Scalar.cmpi .ne (Scalar.extui (Scalar.cmpi .slt (tabAt tbM0_1 i T1) (Scalar.muli (tabAt tbM0_0 i T0) 1#32))) 0#32) = 1#1)) (hc2 : (Scalar.cmpi .ne (Scalar.extui (Scalar.cmpi .sge (tabAt tbM0_1 i T1) (Scalar.muli (tabAt tbM0_0 i T0) 1#32))) 0#32) = 1#1) (k0_h4 : k0_cond4 (tabAt tbM0_0 i T0) (tabAt tbM0_1 i T1) = 1#1)

theorem part_A_o :
    (kernelRun0_A c i arg5 harg5 arg6 harg6 arg7 harg7 arg8 harg8 arg9 harg9 arg10 harg10 T0 T1 x0 x1 x2 x3 x4 hc0 hc1 hc2 k0_h4).1 = (kernelRun0_A.sl.HO5_1 arg5 arg6 arg7 arg8 arg9 x0 x1 x2 x3 x4) := by
  delta kernelRun0_A; dsimp only

theorem part_A_0 :
    ∃ f, (kernelRun0_A c i arg5 harg5 arg6 harg6 arg7 harg7 arg8 harg8 arg9 harg9 arg10 harg10 T0 T1 x0 x1 x2 x3 x4 hc0 hc1 hc2 k0_h4).2.1 = scM0_0.view.writes (Elt Ideal) f (kernelRun0_A.sl.HS0_2 arg5 arg6 arg7 x0 x1 x2) := by
  delta kernelRun0_A; dsimp only; exact ⟨_, rfl⟩

theorem part_A_1 :
    ∃ f, (kernelRun0_A c i arg5 harg5 arg6 harg6 arg7 harg7 arg8 harg8 arg9 harg9 arg10 harg10 T0 T1 x0 x1 x2 x3 x4 hc0 hc1 hc2 k0_h4).2.2.1 = scM0_1.view.writes (Elt Ideal) f (kernelRun0_A.sl.HS1_2 arg9 x4) := by
  delta kernelRun0_A; dsimp only; exact ⟨_, rfl⟩

theorem part_A_2 :
    ∃ f, (kernelRun0_A c i arg5 harg5 arg6 harg6 arg7 harg7 arg8 harg8 arg9 harg9 arg10 harg10 T0 T1 x0 x1 x2 x3 x4 hc0 hc1 hc2 k0_h4).2.2.2.1 = scM0_2.view.writes (Elt Ideal) f (kernelRun0_A.sl.HS2_5 arg5 arg6 arg7 arg8 x0 x1 x2 x3) := by
  delta kernelRun0_A; dsimp only; exact ⟨_, rfl⟩

theorem part_A_3 :
    ∃ f, (kernelRun0_A c i arg5 harg5 arg6 harg6 arg7 harg7 arg8 harg8 arg9 harg9 arg10 harg10 T0 T1 x0 x1 x2 x3 x4 hc0 hc1 hc2 k0_h4).2.2.2.2.1 = scM0_3.view.writes (Elt Ideal) f (kernelRun0_A.sl.HS3_5 arg5 arg6 arg7 arg8 arg9 x0 x1 x2 x3 x4) := by
  delta kernelRun0_A; dsimp only; exact ⟨_, rfl⟩

end

section

variable (hc0 : (Scalar.cmpi .ne (Scalar.extui (Scalar.cmpi .eq (tabAt tbM0_1 i T1) 0#32)) 0#32) = 1#1) (hc1 : (Scalar.cmpi .ne (Scalar.extui (Scalar.cmpi .slt (tabAt tbM0_1 i T1) (Scalar.muli (tabAt tbM0_0 i T0) 1#32))) 0#32) = 1#1) (hc2 : ¬((Scalar.cmpi .ne (Scalar.extui (Scalar.cmpi .sge (tabAt tbM0_1 i T1) (Scalar.muli (tabAt tbM0_0 i T0) 1#32))) 0#32) = 1#1)) (k0_h4 : ¬(k0_cond4 (tabAt tbM0_0 i T0) (tabAt tbM0_1 i T1) = 1#1))

theorem part_B_0 :
    ∃ f, (kernelRun0_B c i arg5 harg5 arg6 harg6 arg7 harg7 arg8 harg8 arg9 harg9 arg10 harg10 T0 T1 x0 x1 x2 x3 x4 hc0 hc1 hc2 k0_h4).1 = scM0_0.view.writes (Elt Ideal) f (kernelRun0_B.sl.HS0_2 arg5 arg6 arg7 x0 x1 x2) := by
  delta kernelRun0_B; dsimp only; exact ⟨_, rfl⟩

theorem part_B_1 :
    ∃ f, (kernelRun0_B c i arg5 harg5 arg6 harg6 arg7 harg7 arg8 harg8 arg9 harg9 arg10 harg10 T0 T1 x0 x1 x2 x3 x4 hc0 hc1 hc2 k0_h4).2.1 = scM0_1.view.writes (Elt Ideal) f (kernelRun0_B.sl.HS1_2 arg9 x4) := by
  delta kernelRun0_B; dsimp only; exact ⟨_, rfl⟩

theorem part_B_2 :
    ∃ f, (kernelRun0_B c i arg5 harg5 arg6 harg6 arg7 harg7 arg8 harg8 arg9 harg9 arg10 harg10 T0 T1 x0 x1 x2 x3 x4 hc0 hc1 hc2 k0_h4).2.2.1 = scM0_2.view.writes (Elt Ideal) f (kernelRun0_B.sl.HS2_5 arg5 arg6 arg7 arg8 x0 x1 x2 x3) := by
  delta kernelRun0_B; dsimp only; exact ⟨_, rfl⟩

theorem part_B_3 :
    ∃ f, (kernelRun0_B c i arg5 harg5 arg6 harg6 arg7 harg7 arg8 harg8 arg9 harg9 arg10 harg10 T0 T1 x0 x1 x2 x3 x4 hc0 hc1 hc2 k0_h4).2.2.2.1 = scM0_3.view.writes (Elt Ideal) f (kernelRun0_B.sl.HS3_5 arg5 arg6 arg7 arg8 arg9 x0 x1 x2 x3 x4) := by
  delta kernelRun0_B; dsimp only; exact ⟨_, rfl⟩

end

section

variable (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (tabAt tbM0_1 i T1) 0#32)) 0#32) = 1#1)) (hc1 : ¬((Scalar.cmpi .ne (Scalar.extui (Scalar.cmpi .slt (tabAt tbM0_1 i T1) (Scalar.muli (tabAt tbM0_0 i T0) 1#32))) 0#32) = 1#1)) (hc2 : (Scalar.cmpi .ne (Scalar.extui (Scalar.cmpi .sge (tabAt tbM0_1 i T1) (Scalar.muli (tabAt tbM0_0 i T0) 1#32))) 0#32) = 1#1) (k0_h4 : k0_cond4 (tabAt tbM0_0 i T0) (tabAt tbM0_1 i T1) = 1#1)

theorem part_C_o :
    (kernelRun0_C c i arg5 harg5 arg6 harg6 arg7 harg7 arg8 harg8 arg9 harg9 arg10 harg10 T0 T1 x0 x1 x2 x3 x4 xa0 xa1 xa2 xa3 hc0 hc1 hc2 k0_h4).1 = (kernelRun0_C.sl.HO5_1 c arg8 arg9 x3 x4 xa0 xa1 xa2 xa3) := by
  delta kernelRun0_C; dsimp only

theorem part_C_0 :
    (kernelRun0_C c i arg5 harg5 arg6 harg6 arg7 harg7 arg8 harg8 arg9 harg9 arg10 harg10 T0 T1 x0 x1 x2 x3 x4 xa0 xa1 xa2 xa3 hc0 hc1 hc2 k0_h4).2.1 = xa0 := by
  delta kernelRun0_C; dsimp only

theorem part_C_1 :
    (kernelRun0_C c i arg5 harg5 arg6 harg6 arg7 harg7 arg8 harg8 arg9 harg9 arg10 harg10 T0 T1 x0 x1 x2 x3 x4 xa0 xa1 xa2 xa3 hc0 hc1 hc2 k0_h4).2.2.1 = scM0_1.view.writes (Elt Ideal) xa1 (kernelRun0_C.sl.HS1_1 arg9 x4) := by
  delta kernelRun0_C; dsimp only

theorem part_C_2 :
    ∃ f, (kernelRun0_C c i arg5 harg5 arg6 harg6 arg7 harg7 arg8 harg8 arg9 harg9 arg10 harg10 T0 T1 x0 x1 x2 x3 x4 xa0 xa1 xa2 xa3 hc0 hc1 hc2 k0_h4).2.2.2.1 = scM0_2.view.writes (Elt Ideal) f (kernelRun0_C.sl.HS2_4 c arg8 x3 xa0 xa2) := by
  delta kernelRun0_C; dsimp only; exact ⟨_, rfl⟩

theorem part_C_3 :
    ∃ f, (kernelRun0_C c i arg5 harg5 arg6 harg6 arg7 harg7 arg8 harg8 arg9 harg9 arg10 harg10 T0 T1 x0 x1 x2 x3 x4 xa0 xa1 xa2 xa3 hc0 hc1 hc2 k0_h4).2.2.2.2.1 = scM0_3.view.writes (Elt Ideal) f (kernelRun0_C.sl.HS3_4 c arg8 arg9 x3 x4 xa0 xa1 xa2 xa3) := by
  delta kernelRun0_C; dsimp only; exact ⟨_, rfl⟩

end

section

variable (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (tabAt tbM0_1 i T1) 0#32)) 0#32) = 1#1)) (hc1 : (Scalar.cmpi .ne (Scalar.extui (Scalar.cmpi .slt (tabAt tbM0_1 i T1) (Scalar.muli (tabAt tbM0_0 i T0) 1#32))) 0#32) = 1#1) (hc2 : ¬((Scalar.cmpi .ne (Scalar.extui (Scalar.cmpi .sge (tabAt tbM0_1 i T1) (Scalar.muli (tabAt tbM0_0 i T0) 1#32))) 0#32) = 1#1)) (k0_h4 : ¬(k0_cond4 (tabAt tbM0_0 i T0) (tabAt tbM0_1 i T1) = 1#1))

theorem part_D_0 :
    (kernelRun0_D c i arg5 harg5 arg6 harg6 arg7 harg7 arg8 harg8 arg9 harg9 arg10 harg10 T0 T1 x0 x1 x2 x3 x4 xa0 xa1 xa2 xa3 hc0 hc1 hc2 k0_h4).1 = xa0 := by
  delta kernelRun0_D; dsimp only

theorem part_D_1 :
    (kernelRun0_D c i arg5 harg5 arg6 harg6 arg7 harg7 arg8 harg8 arg9 harg9 arg10 harg10 T0 T1 x0 x1 x2 x3 x4 xa0 xa1 xa2 xa3 hc0 hc1 hc2 k0_h4).2.1 = scM0_1.view.writes (Elt Ideal) xa1 (kernelRun0_D.sl.HS1_1 arg9 x4) := by
  delta kernelRun0_D; dsimp only

theorem part_D_2 :
    ∃ f, (kernelRun0_D c i arg5 harg5 arg6 harg6 arg7 harg7 arg8 harg8 arg9 harg9 arg10 harg10 T0 T1 x0 x1 x2 x3 x4 xa0 xa1 xa2 xa3 hc0 hc1 hc2 k0_h4).2.2.1 = scM0_2.view.writes (Elt Ideal) f (kernelRun0_D.sl.HS2_4 c arg8 x3 xa0 xa2) := by
  delta kernelRun0_D; dsimp only; exact ⟨_, rfl⟩

theorem part_D_3 :
    ∃ f, (kernelRun0_D c i arg5 harg5 arg6 harg6 arg7 harg7 arg8 harg8 arg9 harg9 arg10 harg10 T0 T1 x0 x1 x2 x3 x4 xa0 xa1 xa2 xa3 hc0 hc1 hc2 k0_h4).2.2.2.1 = scM0_3.view.writes (Elt Ideal) f (kernelRun0_D.sl.HS3_4 c arg8 arg9 x3 x4 xa0 xa1 xa2 xa3) := by
  delta kernelRun0_D; dsimp only; exact ⟨_, rfl⟩

end

end Cert.KernelIdeal.Attn
-- ==== Proof.KernelIdeal.StepAll.lean ====
module

public import proofs.«01_k».proof.Proof.KernelIdeal.StepA
public import proofs.«01_k».proof.Proof.KernelIdeal.StepB
public import proofs.«01_k».proof.Proof.KernelIdeal.StepC
public import proofs.«01_k».proof.Proof.KernelIdeal.StepD
public import proofs.«01_k».proof.Proof.KernelIdeal.Body
public import proofs.«01_k».proof.Proof.KernelIdeal.Parts

/-! One grid point: what the rotated query, the extended values, the running maximum and the accumulator become. -/

@[expose] public section

set_option maxRecDepth 16384

noncomputable section

namespace Cert.KernelIdeal.Attn

open Cert.KernelIdeal Cert.KernelIdeal.Gen
open Idealize.ShloMosaic
open Idealize.ShloMosaic.TcCoe

/-- The output block and the four scratch buffers. -/
abbrev St (c : Dev nD) : Type := (S2048x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)

def sQ {c : Dev nD} (s : St c) : Fin 2048 → Fin 256 → EReal := rd scM0_0.view s.2.1
def sW {c : Dev nD} (s : St c) : Fin 2048 → Fin 256 → EReal := rd scM0_1.view s.2.2.1
def sM {c : Dev nD} (s : St c) : Fin 2048 → Fin 128 → EReal := rd scM0_2.view s.2.2.2.1
def sA {c : Dev nD} (s : St c) : Fin 2048 → Fin 256 → EReal := rd scM0_3.view s.2.2.2.2
def sO {c : Dev nD} (s : St c) : Fin 2048 → Fin 128 → EReal := blk (e := .bf16) s.1

theorem sQ_mk {c : Dev nD} (o a b d e) : sQ (c := c) (o, a, b, d, e) = rd scM0_0.view a := rfl
theorem sW_mk {c : Dev nD} (o a b d e) : sW (c := c) (o, a, b, d, e) = rd scM0_1.view b := rfl
theorem sM_mk {c : Dev nD} (o a b d e) : sM (c := c) (o, a, b, d, e) = rd scM0_2.view d := rfl
theorem sA_mk {c : Dev nD} (o a b d e) : sA (c := c) (o, a, b, d, e) = rd scM0_3.view e := rfl
theorem sO_mk {c : Dev nD} (o a b d e) : sO (c := c) (o, a, b, d, e) = blk (e := .bf16) o := rfl

/-- The values with a column of ones to their right. -/
def ext1 (v : Fin 2048 → Fin 128 → EReal) (r : Fin 2048) (l : Fin 256) : EReal := if h : l.val < 128 then v r ⟨l.val, h⟩ else 1
/-- The values put to the left of what stands to the right. -/
def extW (v : Fin 2048 → Fin 128 → EReal) (w : Fin 2048 → Fin 256 → EReal) (r : Fin 2048) (l : Fin 256) : EReal :=
  if h : l.val < 128 then v r ⟨l.val, h⟩ else w r l
/-- The accumulated values over the accumulated weights. -/
def quot (a : Fin 2048 → Fin 256 → EReal) (r : Fin 2048) (l : Fin 128) : EReal := Ideal.div (a r ⟨l.val, by omega⟩) (a r ⟨128 + l.val, by omega⟩)

variable (m : (ℓ : Loc nD τ sig) → Buf (Elt Ideal) ℓ) (c : Dev nD) (t : Fin cfgA.N)

def bQ : Fin 2048 → Fin 256 → EReal :=
  qrot (blk (e := .bf16) (iblk m c (0 : Fin 6) t)) (blk (e := .f32) (iblk m c (1 : Fin 6) t)) (blk (e := .f32) (iblk m c (2 : Fin 6) t))
def bK : Fin 2048 → Fin 256 → EReal := blk (e := .bf16) (iblk m c (3 : Fin 6) t)
def bV : Fin 2048 → Fin 128 → EReal := blk (e := .bf16) (iblk m c (4 : Fin 6) t)

set_option maxHeartbeats 1000000 in
theorem next_A (prev : St c) (q0 : P0_0 t) (q1 : ¬P0_1 t) :
    sQ (step0 m c t prev) = (bQ m c t)
      ∧ sW (step0 m c t prev) = (ext1 (bV m c t))
      ∧ sM (step0 m c t prev) = mNext True (bQ m c t) (bK m c t) (fun _ _ => (⊥ : EReal))
      ∧ sA (step0 m c t prev) = aNext True (bQ m c t) (bK m c t) (ext1 (bV m c t)) (fun _ _ => (⊥ : EReal)) (fun _ _ => (0 : EReal))
      ∧ sO (step0 m c t prev) = quot (aNext True (bQ m c t) (bK m c t) (ext1 (bV m c t)) (fun _ _ => (⊥ : EReal)) (fun _ _ => (0 : EReal))) := by
  rw [step0_A m c t prev q0 q1]
  have eQ : ∀ f, rd scM0_0.view (scM0_0.view.writes (Elt Ideal) f (kernelRun0_A.sl.HS0_2 (ms0_0 t) (ms0_1 t) (ms0_2 t) (iblk m c (0 : Fin 6) t) (iblk m c (1 : Fin 6) t) (iblk m c (2 : Fin 6) t))) = bQ m c t := fun f => funext fun r => funext fun l => A_qf (ms0_0 t) (ms0_1 t) (ms0_2 t) (iblk m c (0 : Fin 6) t) (iblk m c (1 : Fin 6) t) (iblk m c (2 : Fin 6) t) f r l
  have eW : ∀ f, rd scM0_1.view (scM0_1.view.writes (Elt Ideal) f (kernelRun0_A.sl.HS1_2 (ms0_4 t) (iblk m c (4 : Fin 6) t))) = ext1 (bV m c t) := fun f => funext fun r => funext fun l => A_va (ms0_4 t) (iblk m c (4 : Fin 6) t) f r l
  refine ⟨?_, ?_, ?_, ?_, ?_⟩
  · obtain ⟨f, hf⟩ := part_A_0 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1
    refine (sQ_mk _ _ _ _ _).trans ((congrArg (rd scM0_0.view) hf).trans ?_)
    exact eQ f
  · obtain ⟨f, hf⟩ := part_A_1 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1
    refine (sW_mk _ _ _ _ _).trans ((congrArg (rd scM0_1.view) hf).trans ?_)
    exact eW f
  · obtain ⟨f, hf⟩ := part_A_2 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1
    refine (sM_mk _ _ _ _ _).trans ((congrArg (rd scM0_2.view) hf).trans ?_)
    funext r l
    have this := A_m (ms0_0 t) (ms0_1 t) (ms0_2 t) (ms0_3 t) (iblk m c (0 : Fin 6) t) (iblk m c (1 : Fin 6) t) (iblk m c (2 : Fin 6) t) (iblk m c (3 : Fin 6) t) f r l
    rw [eQ] at this
    exact this
  · obtain ⟨f, hf⟩ := part_A_3 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1
    refine (sA_mk _ _ _ _ _).trans ((congrArg (rd scM0_3.view) hf).trans ?_)
    funext r l
    have this := A_a (ms0_0 t) (ms0_1 t) (ms0_2 t) (ms0_3 t) (ms0_4 t) (iblk m c (0 : Fin 6) t) (iblk m c (1 : Fin 6) t) (iblk m c (2 : Fin 6) t) (iblk m c (3 : Fin 6) t) (iblk m c (4 : Fin 6) t) f r l
    rw [eQ, eW] at this
    exact this
  · refine (sO_mk _ _ _ _ _).trans ?_
    unfold out0_A_5
    rw [part_A_o c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_A t q0 q1).1 (hypsR0_A t q0 q1).2.1 (hypsR0_A t q0 q1).2.2.1 (hypsR0_A t q0 q1).2.2.2.1]
    funext r l
    have this := A_out (ms0_0 t) (ms0_1 t) (ms0_2 t) (ms0_3 t) (ms0_4 t) (iblk m c (0 : Fin 6) t) (iblk m c (1 : Fin 6) t) (iblk m c (2 : Fin 6) t) (iblk m c (3 : Fin 6) t) (iblk m c (4 : Fin 6) t) (View.junk _) r l
    rw [eQ, eW] at this
    exact this

set_option maxHeartbeats 1000000 in
theorem next_B (prev : St c) (q0 : P0_0 t) (q1 : P0_1 t) :
    sQ (step0 m c t prev) = (bQ m c t)
      ∧ sW (step0 m c t prev) = (ext1 (bV m c t))
      ∧ sM (step0 m c t prev) = mNext False (bQ m c t) (bK m c t) (fun _ _ => (⊥ : EReal))
      ∧ sA (step0 m c t prev) = aNext False (bQ m c t) (bK m c t) (ext1 (bV m c t)) (fun _ _ => (⊥ : EReal)) (fun _ _ => (0 : EReal)) := by
  rw [step0_B m c t prev q0 q1]
  have eQ : ∀ f, rd scM0_0.view (scM0_0.view.writes (Elt Ideal) f (kernelRun0_B.sl.HS0_2 (ms0_0 t) (ms0_1 t) (ms0_2 t) (iblk m c (0 : Fin 6) t) (iblk m c (1 : Fin 6) t) (iblk m c (2 : Fin 6) t))) = bQ m c t := fun f => funext fun r => funext fun l => B_qf (ms0_0 t) (ms0_1 t) (ms0_2 t) (iblk m c (0 : Fin 6) t) (iblk m c (1 : Fin 6) t) (iblk m c (2 : Fin 6) t) f r l
  have eW : ∀ f, rd scM0_1.view (scM0_1.view.writes (Elt Ideal) f (kernelRun0_B.sl.HS1_2 (ms0_4 t) (iblk m c (4 : Fin 6) t))) = ext1 (bV m c t) := fun f => funext fun r => funext fun l => B_va (ms0_4 t) (iblk m c (4 : Fin 6) t) f r l
  refine ⟨?_, ?_, ?_, ?_⟩
  · obtain ⟨f, hf⟩ := part_B_0 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_B t q0 q1).1 (hypsR0_B t q0 q1).2.1 (hypsR0_B t q0 q1).2.2.1 (hypsR0_B t q0 q1).2.2.2.1
    refine (sQ_mk _ _ _ _ _).trans ((congrArg (rd scM0_0.view) hf).trans ?_)
    exact eQ f
  · obtain ⟨f, hf⟩ := part_B_1 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_B t q0 q1).1 (hypsR0_B t q0 q1).2.1 (hypsR0_B t q0 q1).2.2.1 (hypsR0_B t q0 q1).2.2.2.1
    refine (sW_mk _ _ _ _ _).trans ((congrArg (rd scM0_1.view) hf).trans ?_)
    exact eW f
  · obtain ⟨f, hf⟩ := part_B_2 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_B t q0 q1).1 (hypsR0_B t q0 q1).2.1 (hypsR0_B t q0 q1).2.2.1 (hypsR0_B t q0 q1).2.2.2.1
    refine (sM_mk _ _ _ _ _).trans ((congrArg (rd scM0_2.view) hf).trans ?_)
    funext r l
    have this := B_m (ms0_0 t) (ms0_1 t) (ms0_2 t) (ms0_3 t) (iblk m c (0 : Fin 6) t) (iblk m c (1 : Fin 6) t) (iblk m c (2 : Fin 6) t) (iblk m c (3 : Fin 6) t) f r l
    rw [eQ] at this
    exact this
  · obtain ⟨f, hf⟩ := part_B_3 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) (hypsR0_B t q0 q1).1 (hypsR0_B t q0 q1).2.1 (hypsR0_B t q0 q1).2.2.1 (hypsR0_B t q0 q1).2.2.2.1
    refine (sA_mk _ _ _ _ _).trans ((congrArg (rd scM0_3.view) hf).trans ?_)
    funext r l
    have this := B_a (ms0_0 t) (ms0_1 t) (ms0_2 t) (ms0_3 t) (ms0_4 t) (iblk m c (0 : Fin 6) t) (iblk m c (1 : Fin 6) t) (iblk m c (2 : Fin 6) t) (iblk m c (3 : Fin 6) t) (iblk m c (4 : Fin 6) t) f r l
    rw [eQ, eW] at this
    exact this

set_option maxHeartbeats 1000000 in
theorem next_C (prev : St c) (q0 : ¬P0_0 t) (q1 : ¬P0_1 t) :
    sQ (step0 m c t prev) = (sQ prev)
      ∧ sW (step0 m c t prev) = (extW (bV m c t) (sW prev))
      ∧ sM (step0 m c t prev) = mNext True (sQ prev) (bK m c t) (sM prev)
      ∧ sA (step0 m c t prev) = aNext True (sQ prev) (bK m c t) (extW (bV m c t) (sW prev)) (sM prev) (sA prev)
      ∧ sO (step0 m c t prev) = quot (aNext True (sQ prev) (bK m c t) (extW (bV m c t) (sW prev)) (sM prev) (sA prev)) := by
  rw [step0_C m c t prev q0 q1]
  have eW : rd scM0_1.view (scM0_1.view.writes (Elt Ideal) prev.2.2.1 (kernelRun0_C.sl.HS1_1 (ms0_4 t) (iblk m c (4 : Fin 6) t))) = extW (bV m c t) (sW prev) := funext fun r => funext fun l => C_va c (ms0_4 t) (iblk m c (4 : Fin 6) t) prev.2.2.1 r l
  refine ⟨?_, ?_, ?_, ?_, ?_⟩
  · exact (sQ_mk _ _ _ _ _).trans ((congrArg (rd scM0_0.view) (part_C_0 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1)).trans rfl)
  · exact (sW_mk _ _ _ _ _).trans ((congrArg (rd scM0_1.view) (part_C_1 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1)).trans eW)
  · obtain ⟨f, hf⟩ := part_C_2 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1
    refine (sM_mk _ _ _ _ _).trans ((congrArg (rd scM0_2.view) hf).trans ?_)
    funext r l
    have this := C_m c (ms0_3 t) (iblk m c (3 : Fin 6) t) prev.2.1 prev.2.2.2.1 f r l
    skip
    exact this
  · obtain ⟨f, hf⟩ := part_C_3 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1
    refine (sA_mk _ _ _ _ _).trans ((congrArg (rd scM0_3.view) hf).trans ?_)
    funext r l
    have this := C_a c (ms0_3 t) (ms0_4 t) (iblk m c (3 : Fin 6) t) (iblk m c (4 : Fin 6) t) prev.2.1 prev.2.2.1 prev.2.2.2.1 prev.2.2.2.2 f r l
    rw [eW] at this
    exact this
  · refine (sO_mk _ _ _ _ _).trans ?_
    unfold out0_C_5
    rw [part_C_o c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_C t q0 q1).1 (hypsR0_C t q0 q1).2.1 (hypsR0_C t q0 q1).2.2.1 (hypsR0_C t q0 q1).2.2.2.1]
    funext r l
    have this := C_out c (ms0_3 t) (ms0_4 t) (iblk m c (3 : Fin 6) t) (iblk m c (4 : Fin 6) t) prev.2.1 prev.2.2.1 prev.2.2.2.1 prev.2.2.2.2 (View.junk _) r l
    rw [eW] at this
    exact this

set_option maxHeartbeats 1000000 in
theorem next_D (prev : St c) (q0 : ¬P0_0 t) (q1 : P0_1 t) :
    sQ (step0 m c t prev) = (sQ prev)
      ∧ sW (step0 m c t prev) = (extW (bV m c t) (sW prev))
      ∧ sM (step0 m c t prev) = mNext False (sQ prev) (bK m c t) (sM prev)
      ∧ sA (step0 m c t prev) = aNext False (sQ prev) (bK m c t) (extW (bV m c t) (sW prev)) (sM prev) (sA prev) := by
  rw [step0_D m c t prev q0 q1]
  have eW : rd scM0_1.view (scM0_1.view.writes (Elt Ideal) prev.2.2.1 (kernelRun0_D.sl.HS1_1 (ms0_4 t) (iblk m c (4 : Fin 6) t))) = extW (bV m c t) (sW prev) := funext fun r => funext fun l => D_va c (ms0_4 t) (iblk m c (4 : Fin 6) t) prev.2.2.1 r l
  refine ⟨?_, ?_, ?_, ?_⟩
  · exact (sQ_mk _ _ _ _ _).trans ((congrArg (rd scM0_0.view) (part_D_0 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_D t q0 q1).1 (hypsR0_D t q0 q1).2.1 (hypsR0_D t q0 q1).2.2.1 (hypsR0_D t q0 q1).2.2.2.1)).trans rfl)
  · exact (sW_mk _ _ _ _ _).trans ((congrArg (rd scM0_1.view) (part_D_1 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_D t q0 q1).1 (hypsR0_D t q0 q1).2.1 (hypsR0_D t q0 q1).2.2.1 (hypsR0_D t q0 q1).2.2.2.1)).trans eW)
  · obtain ⟨f, hf⟩ := part_D_2 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_D t q0 q1).1 (hypsR0_D t q0 q1).2.1 (hypsR0_D t q0 q1).2.2.1 (hypsR0_D t q0 q1).2.2.2.1
    refine (sM_mk _ _ _ _ _).trans ((congrArg (rd scM0_2.view) hf).trans ?_)
    funext r l
    have this := D_m c (ms0_3 t) (iblk m c (3 : Fin 6) t) prev.2.1 prev.2.2.2.1 f r l
    skip
    exact this
  · obtain ⟨f, hf⟩ := part_D_3 c (crd t) (ms0_0 t) (hs0_0 t) (ms0_1 t) (hs0_1 t) (ms0_2 t) (hs0_2 t) (ms0_3 t) (hs0_3 t) (ms0_4 t) (hs0_4 t) (ms0_5 t) (hs0_5 t) pinT_0 pinT_1 (iblk m c (0 : Fin 6) t) (iblk m c (1 : Fin 6) t) (iblk m c (2 : Fin 6) t) (iblk m c (3 : Fin 6) t) (iblk m c (4 : Fin 6) t) prev.2.1 prev.2.2.1 prev.2.2.2.1 prev.2.2.2.2 (hypsR0_D t q0 q1).1 (hypsR0_D t q0 q1).2.1 (hypsR0_D t q0 q1).2.2.1 (hypsR0_D t q0 q1).2.2.2.1
    refine (sA_mk _ _ _ _ _).trans ((congrArg (rd scM0_3.view) hf).trans ?_)
    funext r l
    have this := D_a c (ms0_3 t) (ms0_4 t) (iblk m c (3 : Fin 6) t) (iblk m c (4 : Fin 6) t) prev.2.1 prev.2.2.1 prev.2.2.2.1 prev.2.2.2.2 f r l
    rw [eW] at this
    exact this

end Cert.KernelIdeal.Attn
-- ==== Proof.KernelIdeal.Online.lean ====
module

public import proofs.«01_k».proof.Proof.KernelIdeal.Rows

/-! The running maximum, the running weighted sum and the running weight, over the reals: what they stand for after some keys. -/

@[expose] public section

set_option maxRecDepth 16384

noncomputable section

namespace Cert.KernelIdeal.Attn

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A maximum of values below ⊤ of which one is above ⊥ is a real. -/
theorem sup_real {ι : Type} (s : Finset ι) (f : ι → EReal) (h : ∀ i ∈ s, f i ≠ ⊤) (i : ι) (hi : i ∈ s) (h0 : f i ≠ ⊥) : ∃ μ : ℝ, s.sup f = μ := by
  have h1 : s.sup f ≠ ⊤ := ne_of_lt ((Finset.sup_lt_iff (by simp)).mpr fun j hj => lt_top_iff_ne_top.mpr (h j hj))
  have h2 : s.sup f ≠ ⊥ := fun e => h0 (le_bot_iff.mp (e ▸ Finset.le_sup hi))
  exact ⟨(s.sup f).toReal, (EReal.coe_toReal h1 h2).symm⟩

/-- The row's maximum is one real along the lanes, and its accumulator the sum `Z` scaled by that maximum. -/
def Inv (M : Fin 128 → EReal) (A : Fin 256 → EReal) (Z : Fin 256 → ℝ) : Prop :=
  ∃ μ : ℝ, (∀ l, M l = (μ : EReal)) ∧ ∀ l, A l = ((Real.rpow 2 (-μ) * Z l : ℝ) : EReal)

theorem exp2_sub (a b : ℝ) : Ideal.exp2 ((a : EReal) - (b : EReal)) = ((Real.rpow 2 (-b) * Real.rpow 2 a : ℝ) : EReal) := by
  rw [← EReal.coe_sub, Ideal.exp2_coe]
  refine congrArg _ ?_
  show (2 : ℝ) ^ (a - b) = (2 : ℝ) ^ (-b) * (2 : ℝ) ^ a
  rw [← Real.rpow_add (by norm_num)]
  congr 1; ring

theorem exp2_bot_sub (b : ℝ) : Ideal.exp2 ((⊥ : EReal) - (b : EReal)) = 0 := by
  rw [EReal.bot_sub]; rfl

section
variable (diag : Prop) [Decidable diag] (Q K W : Fin 2048 → Fin 256 → EReal) (r : Fin 2048)
  (s : Fin 2048 → ℝ) (w : Fin 2048 → Fin 256 → ℝ)

/-- What one tile adds to the sum. -/
def tileSum (l : Fin 256) : ℝ := ∑ j : Fin 2048, if diag ∧ r < j then 0 else Real.rpow 2 (s j) * w j l

variable (hs : ∀ j, score Q K r j = (s j : EReal)) (hw : ∀ j l, W j l = (w j l : EReal))

include hs in
theorem sg_ne_top (j : Fin 2048) : sg diag Q K r j ≠ ⊤ := by
  unfold sg; split
  · exact bot_ne_top
  · rw [hs]; exact EReal.coe_ne_top _

include hs in
theorem sg_some : ∃ j, sg diag Q K r j ≠ ⊥ := by
  refine ⟨0, ?_⟩
  unfold sg
  rw [if_neg (by rintro ⟨-, h⟩; exact absurd (Fin.lt_def.mp h) (Nat.not_lt_zero _)), hs]
  exact EReal.coe_ne_bot _

include hs hw in
theorem weights (μ : ℝ) (l : Fin 256) :
    ∑ j : Fin 2048, Ideal.exp2 (sg diag Q K r j - (μ : EReal)) * W j l = ((Real.rpow 2 (-μ) * tileSum diag r s w l : ℝ) : EReal) := by
  unfold tileSum
  rw [Finset.mul_sum, coe_sum]
  refine Finset.sum_congr rfl fun j _ => ?_
  unfold sg
  by_cases h : diag ∧ r < j
  · rw [if_pos h, if_pos h, exp2_bot_sub, zero_mul, mul_zero, EReal.coe_zero]
  · rw [if_neg h, if_neg h, hs, hw, exp2_sub, ← EReal.coe_mul, mul_assoc]

include hs hw in
theorem inv_next (M : Fin 2048 → Fin 128 → EReal) (A : Fin 2048 → Fin 256 → EReal) (Z : Fin 256 → ℝ) (h : Inv (M r) (A r) Z) :
    Inv (mNext diag Q K M r) (aNext diag Q K W M A r) (fun l => Z l + tileSum diag r s w l) := by
  obtain ⟨μ, hM, hA⟩ := h
  obtain ⟨j0, hj0⟩ := sg_some diag Q K r s hs
  obtain ⟨σ, hσ⟩ := sup_real Finset.univ (sg diag Q K r) (fun j _ => sg_ne_top diag Q K r s hs j) j0 (Finset.mem_univ _) hj0
  have e : ∀ l, mNext diag Q K M r l = ((max μ σ : ℝ) : EReal) := fun l => by
    unfold mNext; rw [hM, hσ]; exact (EReal.coe_strictMono.monotone.map_max (a := μ) (b := σ)).symm
  refine ⟨max μ σ, e, fun l => ?_⟩
  unfold aNext
  simp only [e, hM, hA]
  rw [weights diag Q K W r s w hs hw, exp2_sub, ← EReal.coe_mul, ← EReal.coe_add]
  refine congrArg _ ?_
  have h2 : Real.rpow 2 μ * Real.rpow 2 (-μ) = 1 := by
    show (2 : ℝ) ^ μ * (2 : ℝ) ^ (-μ) = 1
    rw [← Real.rpow_add (by norm_num)]; simp
  calc _ = Real.rpow 2 (-max μ σ) * (Real.rpow 2 μ * Real.rpow 2 (-μ)) * Z l + Real.rpow 2 (-max μ σ) * tileSum diag r s w l := by ring
    _ = _ := by rw [h2]; ring

include hs hw in
theorem inv_first : Inv (mNext diag Q K (fun _ _ => (⊥ : EReal)) r) (aNext diag Q K W (fun _ _ => (⊥ : EReal)) (fun _ _ => (0 : EReal)) r) (tileSum diag r s w) := by
  obtain ⟨j0, hj0⟩ := sg_some diag Q K r s hs
  obtain ⟨σ, hσ⟩ := sup_real Finset.univ (sg diag Q K r) (fun j _ => sg_ne_top diag Q K r s hs j) j0 (Finset.mem_univ _) hj0
  have e : ∀ l, mNext diag Q K (fun _ _ => (⊥ : EReal)) r l = ((σ : ℝ) : EReal) := fun l => by
    unfold mNext; rw [hσ]; exact max_eq_right bot_le
  refine ⟨σ, e, fun l => ?_⟩
  unfold aNext
  simp only [e]
  rw [weights diag Q K W r s w hs hw, mul_zero, zero_add]

end

theorem inv_quot (M : Fin 128 → EReal) (A : Fin 256 → EReal) (Z : Fin 256 → ℝ) (h : Inv M A Z) (a b : Fin 256) (hb : 0 < Z b) :
    Ideal.div (A a) (A b) = ((Z a / Z b : ℝ) : EReal) := by
  obtain ⟨μ, -, hA⟩ := h
  have hp : 0 < Real.rpow 2 (-μ) := Real.rpow_pos_of_pos (by norm_num) _
  rw [hA, hA, Ideal.div_coe (mul_pos hp hb).ne', ← EReal.coe_mul]
  refine congrArg _ ?_
  field_simp

end Cert.KernelIdeal.Attn
-- ==== Proof.KernelIdeal.Traj.lean ====
module

public import proofs.«01_k».proof.Proof.KernelIdeal.StepAll
public import proofs.«01_k».proof.Proof.KernelIdeal.Online

/-! What the scratch buffers stand for after each grid point, and what the point before the next query tile stores. -/

@[expose] public section

set_option maxRecDepth 16384

noncomputable section

namespace Cert.KernelIdeal.Attn

open Cert.KernelIdeal Cert.KernelIdeal.Gen
open Idealize.ShloMosaic
open Idealize.ShloMosaic.TcCoe

/-- The query tile of the `p`-th pair. -/
def tq (p : ℕ) : ℕ := if p < 1 then 0 else if p < 3 then 1 else if p < 6 then 2 else 3
/-- The key tile of the `p`-th pair. -/
def tk (p : ℕ) : ℕ := if p < 1 then 0 else if p < 3 then p - 1 else if p < 6 then p - 3 else p - 6

theorem tk_le (p : ℕ) (h : p < 10) : tk p ≤ tq p := by
  unfold tk tq; split_ifs <;> omega
theorem tk_pred (p : ℕ) (h : p < 10) (h0 : tk p ≠ 0) : 0 < p ∧ tk (p - 1) + 1 = tk p ∧ tq (p - 1) = tq p := by
  unfold tk tq at *; split_ifs at * <;> omega
theorem tq_lt (p : ℕ) : tq p < 4 := by unfold tq; split_ifs <;> omega

theorem N_eq : cfgA.N = 240 := by decide +kernel

theorem P00_iff : ∀ t : Fin cfgA.N, P0_0 t ↔ tk (t.val % 10) = 0 := by decide +kernel
theorem P01_iff : ∀ t : Fin cfgA.N, P0_1 t ↔ tk (t.val % 10) < tq (t.val % 10) := by decide +kernel

section
variable (qK kK vK : ℕ → ℕ → ℕ → ℕ → ℝ)

/-- The score of query `i` against key `j`. -/
def sc (b h i j : ℕ) : ℝ := ∑ d : Fin 256, qK b h i d.val * kK b h j d.val
/-- The values, then ones. -/
def wv (b h j l : ℕ) : ℝ := if l < 128 then vK b h j l else 1
/-- The weighted sum over the keys below `n` that query `i` sees. -/
def Zs (b h i n l : ℕ) : ℝ := ∑ j ∈ Finset.range n, if j ≤ i then Real.rpow 2 (sc qK kK b h i j) * wv vK b h j l else 0

theorem Zs_zero (b h i l : ℕ) : Zs qK kK vK b h i 0 l = 0 := by unfold Zs; simp

theorem Zs_step (b h q k : ℕ) (r : Fin 2048) (diag : Prop) [Decidable diag] (hk : k ≤ q) (hd : diag ↔ k = q) (l : Fin 256) :
    Zs qK kK vK b h (2048 * q + r.val) (2048 * k) l.val
      + tileSum diag r (fun j => sc qK kK b h (2048 * q + r.val) (2048 * k + j.val)) (fun j l => wv vK b h (2048 * k + j.val) l.val) l
      = Zs qK kK vK b h (2048 * q + r.val) (2048 * (k + 1)) l.val := by
  unfold Zs tileSum
  rw [show 2048 * (k + 1) = 2048 * k + 2048 by ring, Finset.sum_range_add]
  refine congrArg _ ?_
  rw [Finset.sum_range]
  refine Finset.sum_congr rfl fun j _ => ?_
  have hj := j.isLt
  have hr := r.isLt
  by_cases h : diag ∧ r < j
  · have := hd.mp h.1
    have h2 := Fin.lt_def.mp h.2
    rw [if_pos h, if_neg (by omega)]
  · rw [if_neg h, if_pos]
    by_contra h3
    refine h ⟨hd.mpr (by omega), Fin.lt_def.mpr ?_⟩
    have : k = q := by omega
    subst this; omega

variable (m : (ℓ : Loc nD τ sig) → Buf (Elt Ideal) ℓ) (c : Dev nD)

/-- The blocks a point reads, as reals. -/
structure Blocks (t : Fin cfgA.N) : Prop where
  q : ∀ r l, bQ m c t r l = ((qK (t.val / 120) (t.val / 10 % 12) (2048 * tq (t.val % 10) + r.val) l.val : ℝ) : EReal)
  k : ∀ r l, bK m c t r l = ((kK (t.val / 120) (t.val / 10 % 12) (2048 * tk (t.val % 10) + r.val) l.val : ℝ) : EReal)
  v : ∀ r l, bV m c t r l = ((vK (t.val / 120) (t.val / 10 % 12) (2048 * tk (t.val % 10) + r.val) l.val : ℝ) : EReal)

/-- What the scratch buffers hold after a point. -/
structure Held (t : Fin cfgA.N) (s : St c) : Prop where
  q : ∀ r l, sQ s r l = ((qK (t.val / 120) (t.val / 10 % 12) (2048 * tq (t.val % 10) + r.val) l.val : ℝ) : EReal)
  w : ∀ r (l : Fin 256), 128 ≤ l.val → sW s r l = 1
  i : ∀ r, Inv (sM s r) (sA s r) (fun l => Zs qK kK vK (t.val / 120) (t.val / 10 % 12) (2048 * tq (t.val % 10) + r.val) (2048 * (tk (t.val % 10) + 1)) l.val)

theorem score_coe (Q K : Fin 2048 → Fin 256 → EReal) (r j : Fin 2048) (q k : ℕ → ℝ)
    (hq : ∀ d, Q r d = ((q d.val : ℝ) : EReal)) (hk : ∀ d, K j d = ((k d.val : ℝ) : EReal)) :
    score Q K r j = ((∑ d : Fin 256, q d.val * k d.val : ℝ) : EReal) := by
  unfold score
  rw [coe_sum]
  exact Finset.sum_congr rfl fun d _ => by rw [hq, hk, EReal.coe_mul]

theorem held_first (t : Fin cfgA.N) (hb : Blocks qK kK vK m c t) (h0 : tk (t.val % 10) = 0) (diag : Prop) [Decidable diag]
    (hd : diag ↔ tk (t.val % 10) = tq (t.val % 10)) (s : St c)
    (eQ : sQ s = bQ m c t) (eW : sW s = ext1 (bV m c t))
    (eM : sM s = mNext diag (bQ m c t) (bK m c t) (fun _ _ => (⊥ : EReal)))
    (eA : sA s = aNext diag (bQ m c t) (bK m c t) (ext1 (bV m c t)) (fun _ _ => (⊥ : EReal)) (fun _ _ => (0 : EReal))) :
    Held qK kK vK c t s where
  q := fun r l => by rw [eQ, hb.q]
  w := fun r l hl => by rw [eW]; unfold ext1; rw [dif_neg (by omega)]
  i := fun r => by
    rw [eM, eA]
    have := inv_first diag (bQ m c t) (bK m c t) (ext1 (bV m c t)) r
      (fun j => sc qK kK (t.val / 120) (t.val / 10 % 12) (2048 * tq (t.val % 10) + r.val) (2048 * tk (t.val % 10) + j.val))
      (fun j l => wv vK (t.val / 120) (t.val / 10 % 12) (2048 * tk (t.val % 10) + j.val) l.val)
      (fun j => score_coe _ _ _ _ _ _ (hb.q r) (hb.k j))
      (fun j l => by
        unfold ext1 wv
        by_cases h : l.val < 128
        · rw [dif_pos h, if_pos h, hb.v]
        · rw [dif_neg h, if_neg h]; rfl)
    refine cast (congrArg (Inv _ _) (funext fun l => ?_)) this
    rw [← Zs_step qK kK vK _ _ (tq (t.val % 10)) (tk (t.val % 10)) r diag (tk_le _ (Nat.mod_lt _ (by decide))) hd l]
    rw [h0, Nat.mul_zero, Zs_zero, zero_add]

theorem held_next (t t' : Fin cfgA.N) (hb : Blocks qK kK vK m c t) (prev : St c) (hp : Held qK kK vK c t' prev)
    (e1 : t'.val / 120 = t.val / 120) (e2 : t'.val / 10 % 12 = t.val / 10 % 12) (e3 : tq (t'.val % 10) = tq (t.val % 10))
    (e4 : tk (t'.val % 10) + 1 = tk (t.val % 10)) (diag : Prop) [Decidable diag]
    (hd : diag ↔ tk (t.val % 10) = tq (t.val % 10)) (s : St c)
    (eQ : sQ s = sQ prev) (eW : sW s = extW (bV m c t) (sW prev))
    (eM : sM s = mNext diag (sQ prev) (bK m c t) (sM prev))
    (eA : sA s = aNext diag (sQ prev) (bK m c t) (extW (bV m c t) (sW prev)) (sM prev) (sA prev)) :
    Held qK kK vK c t s where
  q := fun r l => by rw [eQ, hp.q, e1, e2, e3]
  w := fun r l hl => by rw [eW]; unfold extW; rw [dif_neg (by omega), hp.w r l hl]
  i := fun r => by
    rw [eM, eA]
    have hI := hp.i r
    rw [e1, e2, e3, e4] at hI
    have := inv_next diag (sQ prev) (bK m c t) (extW (bV m c t) (sW prev)) r
      (fun j => sc qK kK (t.val / 120) (t.val / 10 % 12) (2048 * tq (t.val % 10) + r.val) (2048 * tk (t.val % 10) + j.val))
      (fun j l => wv vK (t.val / 120) (t.val / 10 % 12) (2048 * tk (t.val % 10) + j.val) l.val)
      (fun j => score_coe _ _ _ _ _ _ (fun d => by rw [hp.q, e1, e2, e3]) (hb.k j))
      (fun j l => by
        unfold extW wv
        by_cases h : l.val < 128
        · rw [dif_pos h, if_pos h, hb.v]
        · rw [dif_neg h, if_neg h, hp.w j l (by omega)]; rfl) (sM prev) (sA prev) _ hI
    refine cast (congrArg (Inv _ _) (funext fun l => ?_)) this
    exact Zs_step qK kK vK _ _ (tq (t.val % 10)) (tk (t.val % 10)) r diag (tk_le _ (Nat.mod_lt _ (by decide))) hd l

variable (hb : ∀ t, Blocks qK kK vK m c t)

include hb in
theorem held (n : ℕ) : ∀ (t : Fin cfgA.N), t.val = n → Held qK kK vK c t (traj0 m c t.val t.isLt) := by
  induction n with
  | zero =>
    intro t ht
    rw [traj0_eq]
    have h0 : tk (t.val % 10) = 0 := by rw [ht]; rfl
    have hq : tq (t.val % 10) = 0 := by rw [ht]; rfl
    have q0 : P0_0 t := (P00_iff t).mpr h0
    have q1 : ¬P0_1 t := fun h => by have := (P01_iff t).mp h; omega
    obtain ⟨a1, a2, a3, a4, -⟩ := next_A m c t (prev0 m c t) q0 q1
    exact held_first qK kK vK m c t (hb t) h0 True (by rw [h0, hq]; simp) _ a1 a2 a3 a4
  | succ n ih =>
    intro t ht
    rw [traj0_eq]
    have hm : t.val % 10 < 10 := Nat.mod_lt _ (by decide)
    by_cases q0 : P0_0 t
    · have h0 := (P00_iff t).mp q0
      by_cases q1 : P0_1 t
      · obtain ⟨a1, a2, a3, a4⟩ := next_B m c t (prev0 m c t) q0 q1
        have h1 := (P01_iff t).mp q1
        exact held_first qK kK vK m c t (hb t) h0 False (by constructor; · exact False.elim
                                                            · intro h; omega) _ a1 a2 a3 a4
      · obtain ⟨a1, a2, a3, a4, -⟩ := next_A m c t (prev0 m c t) q0 q1
        have h1 := mt (P01_iff t).mpr q1
        have := tk_le _ hm
        exact held_first qK kK vK m c t (hb t) h0 True (by simp only [true_iff]; omega) _ a1 a2 a3 a4
    · have h0 := mt (P00_iff t).mpr q0
      obtain ⟨p0, p1, p2⟩ := tk_pred _ hm h0
      have hlt := t.isLt
      have e5 : (t.val - 1) % 10 = t.val % 10 - 1 := by omega
      have ep : prev0 m c t = traj0 m c (t.val - 1) (by omega) := by unfold prev0; rw [dif_neg (by omega)]
      have hp : Held qK kK vK c ⟨t.val - 1, by omega⟩ (prev0 m c t) := by
        rw [ep]; exact ih ⟨t.val - 1, by omega⟩ (by show t.val - 1 = n; omega)
      have e1 : (t.val - 1) / 120 = t.val / 120 := by omega
      have e2 : (t.val - 1) / 10 % 12 = t.val / 10 % 12 := by omega
      by_cases q1 : P0_1 t
      · obtain ⟨a1, a2, a3, a4⟩ := next_D m c t (prev0 m c t) q0 q1
        have h1 := (P01_iff t).mp q1
        exact held_next qK kK vK m c t ⟨t.val - 1, by omega⟩ (hb t) _ hp e1 e2 (by show tq ((t.val - 1) % 10) = _; rw [e5, p2])
          (by show tk ((t.val - 1) % 10) + 1 = _; rw [e5, p1]) False (by constructor; · exact False.elim
                                                                         · intro h; omega) _ a1 a2 a3 a4
      · obtain ⟨a1, a2, a3, a4, -⟩ := next_C m c t (prev0 m c t) q0 q1
        have h1 := mt (P01_iff t).mpr q1
        have := tk_le _ hm
        exact held_next qK kK vK m c t ⟨t.val - 1, by omega⟩ (hb t) _ hp e1 e2 (by show tq ((t.val - 1) % 10) = _; rw [e5, p2])
          (by show tk ((t.val - 1) % 10) + 1 = _; rw [e5, p1]) True (by simp only [true_iff]; omega) _ a1 a2 a3 a4

theorem Zs_pos (b h i n l : ℕ) (hn : 0 < n) (hl : 128 ≤ l) : 0 < Zs qK kK vK b h i n l := by
  unfold Zs
  refine Finset.sum_pos' (fun j _ => ?_) ⟨0, Finset.mem_range.mpr hn, ?_⟩
  · split
    · unfold wv; rw [if_neg (by omega), mul_one]; exact (Real.rpow_pos_of_pos (by norm_num) _).le
    · exact le_refl _
  · rw [if_pos (Nat.zero_le _)]; unfold wv; rw [if_neg (by omega), mul_one]; exact Real.rpow_pos_of_pos (by norm_num) _

include hb in
/-- What a diagonal point stores. -/
theorem stored (t : Fin cfgA.N) (hd : tk (t.val % 10) = tq (t.val % 10)) (r : Fin 2048) (l : Fin 128) :
    sO (traj0 m c t.val t.isLt) r l
      = ((Zs qK kK vK (t.val / 120) (t.val / 10 % 12) (2048 * tq (t.val % 10) + r.val) (2048 * (tk (t.val % 10) + 1)) l.val
        / Zs qK kK vK (t.val / 120) (t.val / 10 % 12) (2048 * tq (t.val % 10) + r.val) (2048 * (tk (t.val % 10) + 1)) (128 + l.val) : ℝ) : EReal) := by
  have h := (held qK kK vK m c hb t.val t rfl).i r
  have q1 : ¬P0_1 t := fun h => by have := (P01_iff t).mp h; omega
  have e : sO (traj0 m c t.val t.isLt) = quot (sA (traj0 m c t.val t.isLt)) := by
    rw [traj0_eq]
    by_cases q0 : P0_0 t
    · obtain ⟨-, -, -, a4, a5⟩ := next_A m c t (prev0 m c t) q0 q1
      rw [a5, a4]
    · obtain ⟨-, -, -, a4, a5⟩ := next_C m c t (prev0 m c t) q0 q1
      rw [a5, a4]
  rw [e]
  exact inv_quot _ _ _ h ⟨l.val, by omega⟩ ⟨128 + l.val, by omega⟩ (Zs_pos qK kK vK _ _ _ _ _ (by omega) (Nat.le_add_right _ _))

end

end Cert.KernelIdeal.Attn
-- ==== Proof.KernelIdeal.Blocks.lean ====
module

public import proofs.«01_k».proof.Proof.KernelIdeal.Traj
public import Idealize.ShloMosaic.Lib.Pipeline.ValueKit

/-! Where each block stands in its array. -/

@[expose] public section

set_option maxRecDepth 16384

noncomputable section

namespace Cert.KernelIdeal.Attn

open Cert.KernelIdeal Cert.KernelIdeal.Gen
open Idealize.ShloMosaic
open Idealize.ShloMosaic.TcCoe

theorem index_0 : ∀ t : Fin cfgA.N, (cfgA.win (0 : Fin 6)).index t = ![4 * (t.val / 120) + tq (t.val % 10), t.val / 10 % 12] := by decide +kernel
theorem index_1 : ∀ t : Fin cfgA.N, (cfgA.win (1 : Fin 6)).index t = ![4 * (t.val / 120) + tq (t.val % 10), 0] := by decide +kernel
theorem index_2 : ∀ t : Fin cfgA.N, (cfgA.win (2 : Fin 6)).index t = ![4 * (t.val / 120) + tq (t.val % 10), 0] := by decide +kernel
theorem index_3 : ∀ t : Fin cfgA.N, (cfgA.win (3 : Fin 6)).index t = ![4 * (t.val / 120) + tk (t.val % 10), t.val / 10 % 12] := by decide +kernel
theorem index_4 : ∀ t : Fin cfgA.N, (cfgA.win (4 : Fin 6)).index t = ![4 * (t.val / 120) + tk (t.val % 10), 24 + t.val / 10 % 12] := by decide +kernel
theorem index_5 : ∀ t : Fin cfgA.N, (cfgA.win (5 : Fin 6)).index t = ![4 * (t.val / 120) + tq (t.val % 10), t.val / 10 % 12] := by decide +kernel
theorem covers_5 : (cfgA.win (5 : Fin 6)).Covers := by decide +kernel
theorem flush_5 : ∀ t : Fin cfgA.N, (cfgA.win (5 : Fin 6)).flush t = true → tk (t.val % 10) = tq (t.val % 10) := by decide +kernel

variable (m : (ℓ : Loc nD τ sig) → Buf (Elt Ideal) ℓ) (c : Dev nD) (t : Fin cfgA.N)

theorem ext2 {a b : ℕ} {i j : (⟨2, ![a, b]⟩ : Shape).Idx} (h0 : (i (0 : Fin 2)).val = (j (0 : Fin 2)).val)
    (h1 : (i (1 : Fin 2)).val = (j (1 : Fin 2)).val) : i = j :=
  funext fun x => Fin.ext (by
    match x with
    | ⟨0, _⟩ => exact h0
    | ⟨1, _⟩ => exact h1)

theorem blkQ (r : Fin 2048) (l : Fin 256) (R : Fin 16384) (C : Fin 3072)
    (hR : R.val = 8192 * (t.val / 120) + (2048 * tq (t.val % 10) + r.val)) (hC : C.val = 256 * (t.val / 10 % 12) + l.val) :
    iblk m c (0 : Fin 6) t (ix2 r l) = V m c main_v14 (ix2 R C) := by
  have e0 : ((((cfgA.win (0 : Fin 6)).blk t).view.emb (ix2 r l)) (0 : Fin 2)).val
      = (cfgA.win (0 : Fin 6)).index t (0 : Fin 2) * 2048 + r.val :=
    Pipeline.Window.rect_emb_val (cfgA.win (0 : Fin 6)) t (ix2 r l) (0 : Fin 2)
  have e1 : ((((cfgA.win (0 : Fin 6)).blk t).view.emb (ix2 r l)) (1 : Fin 2)).val
      = (cfgA.win (0 : Fin 6)).index t (1 : Fin 2) * 256 + l.val :=
    Pipeline.Window.rect_emb_val (cfgA.win (0 : Fin 6)) t (ix2 r l) (1 : Fin 2)
  have h0 : (cfgA.win (0 : Fin 6)).index t (0 : Fin 2) = 4 * (t.val / 120) + tq (t.val % 10) := congrFun (index_0 t) (0 : Fin 2)
  have h1 : (cfgA.win (0 : Fin 6)).index t (1 : Fin 2) = t.val / 10 % 12 := congrFun (index_0 t) (1 : Fin 2)
  rw [h0] at e0
  rw [h1] at e1
  have hj : ((cfgA.win (0 : Fin 6)).blk t).view.emb (ix2 r l) = ix2 R C := by
    refine ext2 ?_ ?_
    · exact e0.trans (by show _ = R.val; omega)
    · exact e1.trans (by show _ = C.val; omega)
  exact congrArg (V m c main_v14) hj

theorem blkCos (r : Fin 2048) (l : Fin 128) (R : Fin 16384) (C : Fin 128)
    (hR : R.val = 8192 * (t.val / 120) + (2048 * tq (t.val % 10) + r.val)) (hC : C.val = l.val) :
    iblk m c (1 : Fin 6) t (ix2 r l) = V m c main_v5 (ix2 R C) := by
  have e0 : ((((cfgA.win (1 : Fin 6)).blk t).view.emb (ix2 r l)) (0 : Fin 2)).val
      = (cfgA.win (1 : Fin 6)).index t (0 : Fin 2) * 2048 + r.val :=
    Pipeline.Window.rect_emb_val (cfgA.win (1 : Fin 6)) t (ix2 r l) (0 : Fin 2)
  have e1 : ((((cfgA.win (1 : Fin 6)).blk t).view.emb (ix2 r l)) (1 : Fin 2)).val
      = (cfgA.win (1 : Fin 6)).index t (1 : Fin 2) * 128 + l.val :=
    Pipeline.Window.rect_emb_val (cfgA.win (1 : Fin 6)) t (ix2 r l) (1 : Fin 2)
  have h0 : (cfgA.win (1 : Fin 6)).index t (0 : Fin 2) = 4 * (t.val / 120) + tq (t.val % 10) := congrFun (index_1 t) (0 : Fin 2)
  have h1 : (cfgA.win (1 : Fin 6)).index t (1 : Fin 2) = 0 := congrFun (index_1 t) (1 : Fin 2)
  rw [h0] at e0
  rw [h1] at e1
  have hj : ((cfgA.win (1 : Fin 6)).blk t).view.emb (ix2 r l) = ix2 R C := by
    refine ext2 ?_ ?_
    · exact e0.trans (by show _ = R.val; omega)
    · exact e1.trans (by show _ = C.val; omega)
  exact congrArg (V m c main_v5) hj

theorem blkSin (r : Fin 2048) (l : Fin 128) (R : Fin 16384) (C : Fin 128)
    (hR : R.val = 8192 * (t.val / 120) + (2048 * tq (t.val % 10) + r.val)) (hC : C.val = l.val) :
    iblk m c (2 : Fin 6) t (ix2 r l) = V m c main_v7 (ix2 R C) := by
  have e0 : ((((cfgA.win (2 : Fin 6)).blk t).view.emb (ix2 r l)) (0 : Fin 2)).val
      = (cfgA.win (2 : Fin 6)).index t (0 : Fin 2) * 2048 + r.val :=
    Pipeline.Window.rect_emb_val (cfgA.win (2 : Fin 6)) t (ix2 r l) (0 : Fin 2)
  have e1 : ((((cfgA.win (2 : Fin 6)).blk t).view.emb (ix2 r l)) (1 : Fin 2)).val
      = (cfgA.win (2 : Fin 6)).index t (1 : Fin 2) * 128 + l.val :=
    Pipeline.Window.rect_emb_val (cfgA.win (2 : Fin 6)) t (ix2 r l) (1 : Fin 2)
  have h0 : (cfgA.win (2 : Fin 6)).index t (0 : Fin 2) = 4 * (t.val / 120) + tq (t.val % 10) := congrFun (index_2 t) (0 : Fin 2)
  have h1 : (cfgA.win (2 : Fin 6)).index t (1 : Fin 2) = 0 := congrFun (index_2 t) (1 : Fin 2)
  rw [h0] at e0
  rw [h1] at e1
  have hj : ((cfgA.win (2 : Fin 6)).blk t).view.emb (ix2 r l) = ix2 R C := by
    refine ext2 ?_ ?_
    · exact e0.trans (by show _ = R.val; omega)
    · exact e1.trans (by show _ = C.val; omega)
  exact congrArg (V m c main_v7) hj

theorem blkK (r : Fin 2048) (l : Fin 256) (R : Fin 16384) (C : Fin 4608)
    (hR : R.val = 8192 * (t.val / 120) + (2048 * tk (t.val % 10) + r.val)) (hC : C.val = 256 * (t.val / 10 % 12) + l.val) :
    iblk m c (3 : Fin 6) t (ix2 r l) = V m c main_v34 (ix2 R C) := by
  have e0 : ((((cfgA.win (3 : Fin 6)).blk t).view.emb (ix2 r l)) (0 : Fin 2)).val
      = (cfgA.win (3 : Fin 6)).index t (0 : Fin 2) * 2048 + r.val :=
    Pipeline.Window.rect_emb_val (cfgA.win (3 : Fin 6)) t (ix2 r l) (0 : Fin 2)
  have e1 : ((((cfgA.win (3 : Fin 6)).blk t).view.emb (ix2 r l)) (1 : Fin 2)).val
      = (cfgA.win (3 : Fin 6)).index t (1 : Fin 2) * 256 + l.val :=
    Pipeline.Window.rect_emb_val (cfgA.win (3 : Fin 6)) t (ix2 r l) (1 : Fin 2)
  have h0 : (cfgA.win (3 : Fin 6)).index t (0 : Fin 2) = 4 * (t.val / 120) + tk (t.val % 10) := congrFun (index_3 t) (0 : Fin 2)
  have h1 : (cfgA.win (3 : Fin 6)).index t (1 : Fin 2) = t.val / 10 % 12 := congrFun (index_3 t) (1 : Fin 2)
  rw [h0] at e0
  rw [h1] at e1
  have hj : ((cfgA.win (3 : Fin 6)).blk t).view.emb (ix2 r l) = ix2 R C := by
    refine ext2 ?_ ?_
    · exact e0.trans (by show _ = R.val; omega)
    · exact e1.trans (by show _ = C.val; omega)
  exact congrArg (V m c main_v34) hj

theorem blkV (r : Fin 2048) (l : Fin 128) (R : Fin 16384) (C : Fin 4608)
    (hR : R.val = 8192 * (t.val / 120) + (2048 * tk (t.val % 10) + r.val)) (hC : C.val = 3072 + 128 * (t.val / 10 % 12) + l.val) :
    iblk m c (4 : Fin 6) t (ix2 r l) = V m c main_v34 (ix2 R C) := by
  have e0 : ((((cfgA.win (4 : Fin 6)).blk t).view.emb (ix2 r l)) (0 : Fin 2)).val
      = (cfgA.win (4 : Fin 6)).index t (0 : Fin 2) * 2048 + r.val :=
    Pipeline.Window.rect_emb_val (cfgA.win (4 : Fin 6)) t (ix2 r l) (0 : Fin 2)
  have e1 : ((((cfgA.win (4 : Fin 6)).blk t).view.emb (ix2 r l)) (1 : Fin 2)).val
      = (cfgA.win (4 : Fin 6)).index t (1 : Fin 2) * 128 + l.val :=
    Pipeline.Window.rect_emb_val (cfgA.win (4 : Fin 6)) t (ix2 r l) (1 : Fin 2)
  have h0 : (cfgA.win (4 : Fin 6)).index t (0 : Fin 2) = 4 * (t.val / 120) + tk (t.val % 10) := congrFun (index_4 t) (0 : Fin 2)
  have h1 : (cfgA.win (4 : Fin 6)).index t (1 : Fin 2) = 24 + t.val / 10 % 12 := congrFun (index_4 t) (1 : Fin 2)
  rw [h0] at e0
  rw [h1] at e1
  have hj : ((cfgA.win (4 : Fin 6)).blk t).view.emb (ix2 r l) = ix2 R C := by
    refine ext2 ?_ ?_
    · exact e0.trans (by show _ = R.val; omega)
    · exact e1.trans (by show _ = C.val; omega)
  exact congrArg (V m c main_v34) hj

/-- The result array holds `G` when every diagonal point stores `G`'s block. -/
theorem array_eq (G : S16384x1536.Idx → EReal)
    (hG : ∀ t : Fin cfgA.N, tk (t.val % 10) = tq (t.val % 10) → ∀ (r : Fin 2048) (l : Fin 128) (R : Fin 16384) (C : Fin 1536),
      R.val = 8192 * (t.val / 120) + (2048 * tq (t.val % 10) + r.val) → C.val = 128 * (t.val / 10 % 12) + l.val →
      sO (traj0 m c t.val t.isLt) r l = G (ix2 R C)) :
    (dats m 0 c).arrAt (5 : Fin 6) cfgA.N = G := by
  refine (dats m 0 c).arrAt_eq_of_covers (5 : Fin 6) _ covers_5 fun t hf y => ?_
  blk_simp
  rw [after0_5]
  have hd := flush_5 t hf
  have hy : y = ix2 (y (0 : Fin 2)) (y (1 : Fin 2)) := ext2 rfl rfl
  have e0 : ((((cfgA.win (5 : Fin 6)).blk t).view.emb y) (0 : Fin 2)).val
      = (cfgA.win (5 : Fin 6)).index t (0 : Fin 2) * 2048 + (y (0 : Fin 2)).val :=
    Pipeline.Window.rect_emb_val (cfgA.win (5 : Fin 6)) t y (0 : Fin 2)
  have e1 : ((((cfgA.win (5 : Fin 6)).blk t).view.emb y) (1 : Fin 2)).val
      = (cfgA.win (5 : Fin 6)).index t (1 : Fin 2) * 128 + (y (1 : Fin 2)).val :=
    Pipeline.Window.rect_emb_val (cfgA.win (5 : Fin 6)) t y (1 : Fin 2)
  have h0 : (cfgA.win (5 : Fin 6)).index t (0 : Fin 2) = 4 * (t.val / 120) + tq (t.val % 10) := congrFun (index_5 t) (0 : Fin 2)
  have h1 : (cfgA.win (5 : Fin 6)).index t (1 : Fin 2) = t.val / 10 % 12 := congrFun (index_5 t) (1 : Fin 2)
  rw [h0] at e0
  rw [h1] at e1
  have h := hG t hd (y (0 : Fin 2)) (y (1 : Fin 2)) ((((cfgA.win (5 : Fin 6)).blk t).view.emb y) (0 : Fin 2))
    ((((cfgA.win (5 : Fin 6)).blk t).view.emb y) (1 : Fin 2)) (e0.trans (by omega)) (e1.trans (by omega))
  refine (congrArg (traj0 m c t.val t.isLt).1 hy).trans (h.trans (congrArg G ?_))
  exact ext2 rfl rfl

end Cert.KernelIdeal.Attn
-- ==== Proof.KernelIdeal.Real.lean ====
module

public import proofs.«01_k».proof.Proof.KernelIdeal.Traj

/-! The attention of the two programs over the reals. -/

@[expose] public section

noncomputable section

namespace Cert.KernelIdeal.Attn

open Idealize.ShloMosaic

/-- An array's number at three natural coordinates. -/
def at3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

def at4 {a b c : ℕ} (x : (⟨4, ![a, b, 1, c]⟩ : Shape).Idx → EReal) (i j k : ℕ) : ℝ :=
  if h : i < a ∧ j < b ∧ k < c then (x (ix4 ⟨i, h.1⟩ ⟨j, h.2.1⟩ 0 ⟨k, h.2.2⟩)).toReal else 0

/-- Every entry is a number. -/
def Num {s : Shape} (x : s.Idx → EReal) : Prop := ∀ p, x p ≠ ⊤ ∧ x p ≠ ⊥

theorem at3_ix {a b c : ℕ} {x : (⟨3, ![a, b, c]⟩ : Shape).Idx → EReal} (hx : Num x) (i : Fin a) (j : Fin b) (k : Fin c)
    (i' j' k' : ℕ) (hi : i.val = i') (hj : j.val = j') (hk : k.val = k') : x (ix3 i j k) = ((at3 x i' j' k' : ℝ) : EReal) := by
  subst hi hj hk
  unfold at3
  rw [dif_pos ⟨i.isLt, j.isLt, k.isLt⟩]
  exact (EReal.coe_toReal (hx _).1 (hx _).2).symm

theorem at4_ix {a b c : ℕ} {x : (⟨4, ![a, b, 1, c]⟩ : Shape).Idx → EReal} (hx : Num x) (i : Fin a) (j : Fin b) (o : Fin 1) (k : Fin c)
    (i' j' k' : ℕ) (hi : i.val = i') (hj : j.val = j') (hk : k.val = k') : x (ix4 i j o k) = ((at4 x i' j' k' : ℝ) : EReal) := by
  subst hi hj hk
  unfold at4
  rw [dif_pos ⟨i.isLt, j.isLt, k.isLt⟩]
  have ho : o = 0 := Fin.ext (by omega)
  subst ho
  exact (EReal.coe_toReal (hx _).1 (hx _).2).symm

variable (A0 A1 A2 A3 A4 : ℕ → ℕ → ℕ → ℝ) (s c0 : ℝ)

/-- The rotated part of a query. -/
def qpe (b h i e : ℕ) : ℝ :=
  if e < 32 then A0 b i (192 * h + 128 + e) * A3 b i e - A0 b i (192 * h + 160 + e) * A4 b i e
  else A0 b i (192 * h + 128 + (e - 32)) * A4 b i (e - 32) + A0 b i (192 * h + 160 + (e - 32)) * A3 b i (e - 32)

/-- The rotated part of a key, one for all heads. -/
def kpe (b j e : ℕ) : ℝ :=
  if e < 32 then A2 b j e * A3 b j e - A2 b j (32 + e) * A4 b j e
  else A2 b j (e - 32) * A4 b j (e - 32) + A2 b j (32 + (e - 32)) * A3 b j (e - 32)

def qf (b h i d : ℕ) : ℝ := if d < 128 then A0 b i (192 * h + d) else qpe A0 A3 A4 b h i (d - 128)
def kf (b h j d : ℕ) : ℝ := if d < 128 then A1 b j (256 * h + d) else kpe A2 A3 A4 b j (d - 128)
def vf (b h j l : ℕ) : ℝ := A1 b j (256 * h + 128 + l)

/-- A query's product with a key. -/
def lg (b h i j : ℕ) : ℝ := ∑ d : Fin 192, qf A0 A3 A4 b h i d.val * kf A1 A2 A3 A4 b h j d.val

/-- The queries as the kernel reads them, scaled and padded with zeros. -/
def qK (b h i d : ℕ) : ℝ := if d < 192 then s * qf A0 A3 A4 b h i d else 0
def kK (b h j d : ℕ) : ℝ := if d < 192 then kf A1 A2 A3 A4 b h j d else 0

/-- The sum of the values `i` sees, each by the exponential of its product. -/
def num (b h i l : ℕ) : ℝ := ∑ j : Fin 8192, if j.val ≤ i then Real.exp (c0 * lg A0 A1 A2 A3 A4 b h i j.val) * vf A1 b h j.val l else 0
def den (b h i : ℕ) : ℝ := ∑ j : Fin 8192, if j.val ≤ i then Real.exp (c0 * lg A0 A1 A2 A3 A4 b h i j.val) else 0
def attn (b h i l : ℕ) : ℝ := num A0 A1 A2 A3 A4 c0 b h i l / den A0 A1 A2 A3 A4 c0 b h i

theorem sc_eq (b h i j : ℕ) : sc (qK A0 A3 A4 s) (kK A1 A2 A3 A4) b h i j = s * lg A0 A1 A2 A3 A4 b h i j := by
  unfold sc lg
  rw [Fin.sum_univ_eq_sum_range (fun d => qK A0 A3 A4 s b h i d * kK A1 A2 A3 A4 b h j d) 256,
    Fin.sum_univ_eq_sum_range (fun d => qf A0 A3 A4 b h i d * kf A1 A2 A3 A4 b h j d) 192, Finset.mul_sum,
    show (256 : ℕ) = 192 + 64 from rfl, Finset.sum_range_add]
  rw [Finset.sum_congr rfl (g := fun d => s * (qf A0 A3 A4 b h i d * kf A1 A2 A3 A4 b h j d)) (fun d hd => ?_)]
  · rw [Finset.sum_eq_zero (s := Finset.range 64) (fun d hd => ?_), add_zero]
    unfold qK
    rw [if_neg (by omega), zero_mul]
  · have hd := Finset.mem_range.mp hd
    unfold qK kK
    rw [if_pos hd, if_pos hd, mul_assoc]

theorem Zs_eq (hs : s * Real.log 2 = c0) (b h i n l : ℕ) (hi : i < n) (hn : n ≤ 8192) :
    Zs (qK A0 A3 A4 s) (kK A1 A2 A3 A4) (vf A1) b h i n l
      = ∑ j : Fin 8192, if j.val ≤ i then Real.exp (c0 * lg A0 A1 A2 A3 A4 b h i j.val) * wv (vf A1) b h j.val l else 0 := by
  unfold Zs
  rw [Fin.sum_univ_eq_sum_range (fun j => if j ≤ i then Real.exp (c0 * lg A0 A1 A2 A3 A4 b h i j) * wv (vf A1) b h j l else 0) 8192]
  rw [← Finset.sum_subset (Finset.range_mono hn) (fun j _ hj => if_neg (by have := Finset.mem_range.not.mp hj; omega))]
  refine Finset.sum_congr rfl fun j _ => ?_
  by_cases hj : j ≤ i
  · rw [if_pos hj, if_pos hj, sc_eq]
    congr 1
    show (2 : ℝ) ^ (s * lg A0 A1 A2 A3 A4 b h i j) = _
    rw [Real.rpow_def_of_pos (by norm_num)]
    congr 1
    rw [← hs]
    ring
  · rw [if_neg hj, if_neg hj]

theorem quot_eq (hs : s * Real.log 2 = c0) (b h i n l : ℕ) (hi : i < n) (hn : n ≤ 8192) (hl : l < 128) :
    Zs (qK A0 A3 A4 s) (kK A1 A2 A3 A4) (vf A1) b h i n l / Zs (qK A0 A3 A4 s) (kK A1 A2 A3 A4) (vf A1) b h i n (128 + l)
      = attn A0 A1 A2 A3 A4 c0 b h i l := by
  rw [Zs_eq A0 A1 A2 A3 A4 s c0 hs b h i n _ hi hn, Zs_eq A0 A1 A2 A3 A4 s c0 hs b h i n _ hi hn]
  unfold attn num den wv
  simp only [if_pos hl, if_neg (show ¬ 128 + l < 128 by omega), mul_one]

theorem den_pos (b h i : ℕ) (hi : i < 8192) : 0 < den A0 A1 A2 A3 A4 c0 b h i := by
  unfold den
  refine Finset.sum_pos' (fun j _ => ?_) ⟨⟨i, hi⟩, Finset.mem_univ _, ?_⟩
  · split
    · exact (Real.exp_pos _).le
    · exact le_refl _
  · rw [if_pos (le_refl _)]
    exact Real.exp_pos _

end Cert.KernelIdeal.Attn
-- ==== Proof.KernelIdeal.Host.lean ====
module

public import proofs.«01_k».proof.Proof.KernelIdeal.Blocks
public import proofs.«01_k».proof.Proof.KernelIdeal.Real
public import Idealize.ShloMosaic.Lib.StableHlo.ReadAt

/-! What the host arrays hold at an index. -/

@[expose] public section

set_option maxRecDepth 16384

noncomputable section

namespace Cert.KernelIdeal.Attn

open Cert.KernelIdeal Cert.KernelIdeal.Gen
open Idealize.ShloMosaic
open Idealize.ShloMosaic.TcCoe

/-- The scale of the products, as the two programs spell it. -/
def c0 : ℝ := (Ideal.ofBits .f32 0x3D93CD3A#32).toReal

theorem c0_eq : Ideal.ofBits .f32 0x3D93CD3A#32 = ((c0 : ℝ) : EReal) := by
  refine (EReal.coe_toReal ?_ ?_).symm
  · simp [Ideal.ofBits, Ideal.ieee]
    exact EReal.coe_ne_top _
  · simp [Ideal.ofBits, Ideal.ieee]
    exact EReal.coe_ne_bot _

theorem two_eq : Ideal.ofBits .f32 0x40000000#32 = ((2 : ℝ) : EReal) := by
  simp [Ideal.ofBits, Ideal.ieee, -EReal.coe_mul]; norm_num

def sK : ℝ := c0 * (1 / Real.log 2)

theorem log2_pos : 0 < Real.log 2 := Real.log_pos (by norm_num)

theorem sK_log : sK * Real.log 2 = c0 := by
  unfold sK
  rw [mul_assoc, one_div, inv_mul_cancel₀ (ne_of_gt log2_pos), mul_one]

theorem scale_eq : Ideal.div (Ideal.ofBits FTy.f32 1033096506#32) (Ideal.log (Ideal.ofBits FTy.f32 1073741824#32)) = ((sK : ℝ) : EReal) := by
  rw [show Ideal.ofBits FTy.f32 1033096506#32 = ((c0 : ℝ) : EReal) from c0_eq,
    show Ideal.ofBits FTy.f32 1073741824#32 = ((2 : ℝ) : EReal) from two_eq, Ideal.log_coe, if_neg (by norm_num),
    Ideal.div_coe (ne_of_gt log2_pos), ← EReal.coe_mul]
  rfl

variable (m : (ℓ : Loc nD τ sig) → Buf (Elt Ideal) ℓ) (c : Dev nD)

abbrev X0 : S2x8192x2304.Idx → EReal := m ((c : Thread nD τ).loc main_arg0)
abbrev X1 : S2x8192x3072.Idx → EReal := m ((c : Thread nD τ).loc main_arg1)
abbrev X2 : S2x8192x64.Idx → EReal := m ((c : Thread nD τ).loc main_arg2)
abbrev X3 : S2x8192x1x32.Idx → EReal := m ((c : Thread nD τ).loc main_arg3)
abbrev X4 : S2x8192x1x32.Idx → EReal := m ((c : Thread nD τ).loc main_arg4)

/-- Every argument's entries are numbers. -/
structure Nums : Prop where
  n0 : Num (X0 m c)
  n1 : Num (X1 m c)
  n2 : Num (X2 m c)
  n3 : Num (X3 m c)
  n4 : Num (X4 m c)

variable (hn : Nums m c)
include hn

theorem host_cos (R : Fin 16384) (L : Fin 128) (b i : ℕ) (hb : R.val / 8192 = b) (hi : R.val % 8192 = i) :
    V m c main_v5 (ix2 R L) = (((if L.val < 32 then at4 (X3 m c) b i L.val
      else if L.val < 64 then at4 (X3 m c) b i (L.val - 32) else 0 : ℝ)) : EReal) := by
  generalize hz : (((if L.val < 32 then at4 (X3 m c) b i L.val
      else if L.val < 64 then at4 (X3 m c) b i (L.val - 32) else 0 : ℝ)) : EReal) = z
  unfold V hostOps0
  after_reads_at
  try after_reads_at
  try after_reads_at
  by_cases h : L.val < 32
  · rw [if_pos h] at hz
    exact (dif_pos h).trans (Eq.trans (at4_ix hn.n3 _ _ _ _ _ _ _ hb hi rfl) hz)
  · rw [if_neg h] at hz
    refine (dif_neg h).trans ?_
    by_cases h' : L.val < 64
    · rw [if_pos h'] at hz
      exact (dif_pos (by omega)).trans (Eq.trans (at4_ix hn.n3 _ _ _ _ _ _ _ hb hi rfl) hz)
    · rw [if_neg h'] at hz
      exact (dif_neg (by omega)).trans hz

theorem host_sin (R : Fin 16384) (L : Fin 128) (b i : ℕ) (hb : R.val / 8192 = b) (hi : R.val % 8192 = i) :
    V m c main_v7 (ix2 R L) = (((if L.val < 32 then - at4 (X4 m c) b i L.val
      else if L.val < 64 then at4 (X4 m c) b i (L.val - 32) else 0 : ℝ)) : EReal) := by
  generalize hz : (((if L.val < 32 then - at4 (X4 m c) b i L.val
      else if L.val < 64 then at4 (X4 m c) b i (L.val - 32) else 0 : ℝ)) : EReal) = z
  unfold V hostOps0
  after_reads_at
  try after_reads_at
  try after_reads_at
  by_cases h : L.val < 32
  · rw [if_pos h] at hz
    exact (dif_pos h).trans (Eq.trans ((congrArg (fun y : EReal => -y) (at4_ix hn.n4 _ _ _ _ _ _ _ hb hi rfl)).trans (EReal.coe_neg _).symm) hz)
  · rw [if_neg h] at hz
    refine (dif_neg h).trans ?_
    by_cases h' : L.val < 64
    · rw [if_pos h'] at hz
      exact (dif_pos (by omega)).trans (Eq.trans (at4_ix hn.n4 _ _ _ _ _ _ _ hb hi rfl) hz)
    · rw [if_neg h'] at hz
      exact (dif_neg (by omega)).trans hz

theorem host_q (R : Fin 16384) (L : Fin 3072) (b i h d : ℕ) (hb : R.val / 8192 = b) (hi : R.val % 8192 = i)
    (hh : L.val / 256 = h) (hd : L.val % 256 = d) :
    V m c main_v14 (ix2 R L) = (((if d < 192 then at3 (X0 m c) b i (192 * h + d) * sK else 0 : ℝ)) : EReal) := by
  generalize hz : (((if d < 192 then at3 (X0 m c) b i (192 * h + d) * sK else 0 : ℝ)) : EReal) = z
  unfold V hostOps0
  after_reads_at
  try after_reads_at
  try after_reads_at
  by_cases h' : d < 192
  · rw [if_pos h', EReal.coe_mul] at hz
    exact (dif_pos (by omega)).trans (Eq.trans (congrArg₂ (fun y z : EReal => y * z)
      (at3_ix hn.n0 _ _ _ _ _ _ hb hi (by show L.val / 256 * 192 + L.val % 256 = _; omega)) scale_eq) hz)
  · rw [if_neg h'] at hz
    exact (dif_neg (by omega)).trans hz

theorem host_k (R : Fin 16384) (L : Fin 4608) (b i h d : ℕ) (hb : R.val / 8192 = b) (hi : R.val % 8192 = i)
    (hh : L.val / 256 = h) (hd : L.val % 256 = d) (hL : L.val < 3072) :
    V m c main_v34 (ix2 R L) = ((kK (at3 (X1 m c)) (at3 (X2 m c)) (at4 (X3 m c)) (at4 (X4 m c)) b h i d : ℝ) : EReal) := by
  generalize hz : ((kK (at3 (X1 m c)) (at3 (X2 m c)) (at4 (X3 m c)) (at4 (X4 m c)) b h i d : ℝ) : EReal) = z
  unfold kK kf kpe at hz
  unfold V hostOps0
  after_reads_at
  try after_reads_at
  try after_reads_at
  try after_reads_at
  refine (dif_pos hL).trans ?_
  by_cases h1 : d < 128
  · rw [if_pos (by omega), if_pos h1] at hz
    exact (dif_pos (by omega)).trans (Eq.trans (at3_ix hn.n1 _ _ _ _ _ _ hb hi (by show L.val / 256 * 256 + L.val % 256 = _; omega)) hz)
  · refine (dif_neg (by omega)).trans ?_
    by_cases h2 : d - 128 < 32
    · rw [if_pos (by omega), if_neg h1, if_pos h2, EReal.coe_sub, EReal.coe_mul, EReal.coe_mul] at hz
      exact (dif_pos (by omega)).trans (Eq.trans (congrArg₂ (fun y z : EReal => y - z)
        (congrArg₂ (fun y z : EReal => y * z) (at3_ix hn.n2 _ _ _ _ _ _ hb hi (by show L.val % 256 - 128 = _; omega)) (at4_ix hn.n3 _ _ _ _ _ _ _ hb hi (by show L.val % 256 - 128 = _; omega)))
        (congrArg₂ (fun y z : EReal => y * z) (at3_ix hn.n2 _ _ _ _ _ _ hb hi (by show 32 + (L.val % 256 - 128) = _; omega)) (at4_ix hn.n4 _ _ _ _ _ _ _ hb hi (by show L.val % 256 - 128 = _; omega)))) hz)
    · refine (dif_neg (by omega)).trans ?_
      by_cases h3 : d < 192
      · rw [if_pos h3, if_neg h1, if_neg h2, EReal.coe_add, EReal.coe_mul, EReal.coe_mul] at hz
        exact (dif_pos (by omega)).trans (Eq.trans (congrArg₂ (fun y z : EReal => y + z)
          (congrArg₂ (fun y z : EReal => y * z) (at3_ix hn.n2 _ _ _ _ _ _ hb hi (by show L.val % 256 - 128 - 32 = _; omega)) (at4_ix hn.n4 _ _ _ _ _ _ _ hb hi (by show L.val % 256 - 128 - 32 = _; omega)))
          (congrArg₂ (fun y z : EReal => y * z) (at3_ix hn.n2 _ _ _ _ _ _ hb hi (by show 32 + (L.val % 256 - 128 - 32) = _; omega)) (at4_ix hn.n3 _ _ _ _ _ _ _ hb hi (by show L.val % 256 - 128 - 32 = _; omega)))) hz)
      · rw [if_neg h3] at hz
        exact (dif_neg (by omega)).trans hz

theorem host_v (R : Fin 16384) (L : Fin 4608) (b i h l : ℕ) (hb : R.val / 8192 = b) (hi : R.val % 8192 = i)
    (hl : l < 128) (hL : L.val = 3072 + 128 * h + l) :
    V m c main_v34 (ix2 R L) = ((vf (at3 (X1 m c)) b h i l : ℝ) : EReal) := by
  generalize hz : ((vf (at3 (X1 m c)) b h i l : ℝ) : EReal) = z
  unfold vf at hz
  unfold V hostOps0
  after_reads_at
  try after_reads_at
  try after_reads_at
  try after_reads_at
  exact (dif_neg (by omega)).trans (Eq.trans (at3_ix hn.n1 _ _ _ _ _ _ hb hi
    (by show (L.val - 3072) / 128 * 256 + (128 + (L.val - 3072) % 128) = _; omega)) hz)

end Cert.KernelIdeal.Attn
-- ==== Proof.KernelIdeal.Array.lean ====
module

public import proofs.«01_k».proof.Proof.KernelIdeal.Host

/-! The result array is the attention of the arguments. -/

@[expose] public section

set_option maxRecDepth 16384

noncomputable section

namespace Cert.KernelIdeal.Attn

open Cert.KernelIdeal Cert.KernelIdeal.Gen
open Idealize.ShloMosaic
open Idealize.ShloMosaic.TcCoe

/-- The rotation of a scaled query, over the reals. -/
theorem qrot_coe (A0 A3 A4 : ℕ → ℕ → ℕ → ℝ) (s : ℝ) (b h i : ℕ) (q : Fin 2048 → Fin 256 → EReal) (co si : Fin 2048 → Fin 128 → EReal) (r : Fin 2048)
    (hq : ∀ l : Fin 256, q r l = (((if l.val < 192 then A0 b i (192 * h + l.val) * s else 0 : ℝ)) : EReal))
    (hc : ∀ l : Fin 128, co r l = (((if l.val < 32 then A3 b i l.val else if l.val < 64 then A3 b i (l.val - 32) else 0 : ℝ)) : EReal))
    (hs : ∀ l : Fin 128, si r l = (((if l.val < 32 then - A4 b i l.val else if l.val < 64 then A4 b i (l.val - 32) else 0 : ℝ)) : EReal))
    (l : Fin 256) : qrot q co si r l = ((qK A0 A3 A4 s b h i l.val : ℝ) : EReal) := by
  unfold qrot qK qf qpe
  by_cases h1 : l.val < 128
  · rw [dif_pos h1, hq, if_pos (by omega), if_pos (by omega), if_pos h1, mul_comm]
  · rw [dif_neg h1]
    simp only [hq, hc, hs]
    by_cases h2 : l.val - 128 < 32
    · rw [if_pos h2]
      have e : 128 + (l.val - 128 + 32) % 128 = l.val + 32 := by omega
      rw [e, if_pos (by omega), if_pos h2, if_pos (by omega), if_pos h2, if_pos (by omega), if_neg h1, if_pos h2, ← EReal.coe_mul, ← EReal.coe_mul, ← EReal.coe_add]
      congr 1
      rw [show 192 * h + 128 + (l.val - 128) = 192 * h + l.val by omega, show 192 * h + 160 + (l.val - 128) = 192 * h + (l.val + 32) by omega]
      ring
    · rw [if_neg h2, if_neg h2, if_neg h2]
      by_cases h3 : l.val < 192
      · have e : 128 + (l.val - 128 + 96) % 128 = l.val - 32 := by omega
        rw [e, if_pos h3, if_pos (by omega), if_pos (by omega), if_pos (by omega), if_pos h3, if_neg h1, if_neg h2, ← EReal.coe_mul, ← EReal.coe_mul, ← EReal.coe_add]
        congr 1
        rw [show 192 * h + 128 + (l.val - 128 - 32) = 192 * h + (l.val - 32) by omega, show 192 * h + 160 + (l.val - 128 - 32) = 192 * h + l.val by omega]
        ring
      · simp only [if_neg h3, if_neg (show ¬ l.val - 128 < 64 by omega)]
        rw [← EReal.coe_mul, ← EReal.coe_mul, ← EReal.coe_add]
        congr 1
        ring

variable (m : (ℓ : Loc nD τ sig) → Buf (Elt Ideal) ℓ) (c : Dev nD) (hn : Nums m c)
include hn

theorem blocks_hold (t : Fin cfgA.N) :
    Blocks (qK (at3 (X0 m c)) (at4 (X3 m c)) (at4 (X4 m c)) sK) (kK (at3 (X1 m c)) (at3 (X2 m c)) (at4 (X3 m c)) (at4 (X4 m c)))
      (vf (at3 (X1 m c))) m c t := by
  have ht : t.val < 240 := N_eq ▸ t.isLt
  have h1 := tq_lt (t.val % 10)
  have h2 := tk_le (t.val % 10)
  constructor
  · intro r l
    have hr := r.isLt
    have hR : 8192 * (t.val / 120) + (2048 * tq (t.val % 10) + r.val) < 16384 := by omega
    refine qrot_coe _ _ _ sK _ _ _ _ _ _ r (fun l => ?_) (fun l => ?_) (fun l => ?_) l
    · have hl := l.isLt
      have hC : 256 * (t.val / 10 % 12) + l.val < 3072 := by omega
      exact (blkQ m c t r l ⟨_, hR⟩ ⟨_, hC⟩ rfl rfl).trans
        (host_q m c hn ⟨_, hR⟩ ⟨_, hC⟩ _ _ _ _ (by show (8192 * (t.val / 120) + (2048 * tq (t.val % 10) + r.val)) / 8192 = _; omega)
          (by show (8192 * (t.val / 120) + (2048 * tq (t.val % 10) + r.val)) % 8192 = _; omega)
          (by show (256 * (t.val / 10 % 12) + l.val) / 256 = _; omega) (by show (256 * (t.val / 10 % 12) + l.val) % 256 = _; omega))
    · exact (blkCos m c t r l ⟨_, hR⟩ l rfl rfl).trans
        (host_cos m c hn ⟨_, hR⟩ l _ _ (by show (8192 * (t.val / 120) + (2048 * tq (t.val % 10) + r.val)) / 8192 = _; omega)
          (by show (8192 * (t.val / 120) + (2048 * tq (t.val % 10) + r.val)) % 8192 = _; omega))
    · exact (blkSin m c t r l ⟨_, hR⟩ l rfl rfl).trans
        (host_sin m c hn ⟨_, hR⟩ l _ _ (by show (8192 * (t.val / 120) + (2048 * tq (t.val % 10) + r.val)) / 8192 = _; omega)
          (by show (8192 * (t.val / 120) + (2048 * tq (t.val % 10) + r.val)) % 8192 = _; omega))
  · intro r l
    have hr := r.isLt
    have hl := l.isLt
    have hR : 8192 * (t.val / 120) + (2048 * tk (t.val % 10) + r.val) < 16384 := by omega
    have hC : 256 * (t.val / 10 % 12) + l.val < 4608 := by omega
    exact (blkK m c t r l ⟨_, hR⟩ ⟨_, hC⟩ rfl rfl).trans
        (host_k m c hn ⟨_, hR⟩ ⟨_, hC⟩ _ _ _ _ (by show (8192 * (t.val / 120) + (2048 * tk (t.val % 10) + r.val)) / 8192 = _; omega)
          (by show (8192 * (t.val / 120) + (2048 * tk (t.val % 10) + r.val)) % 8192 = _; omega)
          (by show (256 * (t.val / 10 % 12) + l.val) / 256 = _; omega) (by show (256 * (t.val / 10 % 12) + l.val) % 256 = _; omega)
          (by show 256 * (t.val / 10 % 12) + l.val < 3072; omega))
  · intro r l
    have hr := r.isLt
    have hl := l.isLt
    have hR : 8192 * (t.val / 120) + (2048 * tk (t.val % 10) + r.val) < 16384 := by omega
    have hC : 3072 + 128 * (t.val / 10 % 12) + l.val < 4608 := by omega
    exact (blkV m c t r l ⟨_, hR⟩ ⟨_, hC⟩ rfl rfl).trans
        (host_v m c hn ⟨_, hR⟩ ⟨_, hC⟩ _ _ _ _ (by show (8192 * (t.val / 120) + (2048 * tk (t.val % 10) + r.val)) / 8192 = _; omega)
          (by show (8192 * (t.val / 120) + (2048 * tk (t.val % 10) + r.val)) % 8192 = _; omega) l.isLt rfl)

/-- What the result holds at row `R` and column `C`. -/
def out (p : S16384x1536.Idx) : EReal :=
  ((attn (at3 (X0 m c)) (at3 (X1 m c)) (at3 (X2 m c)) (at4 (X3 m c)) (at4 (X4 m c)) c0
    ((p (0 : Fin 2)).val / 8192) ((p (1 : Fin 2)).val / 128) ((p (0 : Fin 2)).val % 8192) ((p (1 : Fin 2)).val % 128) : ℝ) : EReal)

theorem result_eq : (dats m 0 c).arrAt (5 : Fin 6) cfgA.N = out m c := by
  refine array_eq m c _ fun t hd r l R C hR hC => ?_
  have ht : t.val < 240 := N_eq ▸ t.isLt
  have h1 := tq_lt (t.val % 10)
  have hr := r.isLt
  have hl := l.isLt
  rw [stored _ _ _ m c (blocks_hold m c hn) t hd r l,
    quot_eq _ _ _ _ _ sK c0 sK_log _ _ _ _ _ (by rw [hd]; omega) (by rw [hd]; omega) hl]
  unfold out
  show _ = ((attn _ _ _ _ _ c0 (R.val / 8192) (C.val / 128) (R.val % 8192) (C.val % 128) : ℝ) : EReal)
  rw [show R.val / 8192 = t.val / 120 by omega, show C.val / 128 = t.val / 10 % 12 by omega,
    show R.val % 8192 = 2048 * tq (t.val % 10) + r.val by omega, show C.val % 128 = l.val by omega]

end Cert.KernelIdeal.Attn
-- ==== Proof.KernelIdeal.Run.lean ====
/- The run of the whole program. -/
module

public import proofs.«01_k».proof.Proof.KernelIdeal.Body

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The launch -/

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the scratch buffers, the generator register and the tables. -/
theorem phi0_intro (c : Dev nD) :
    iprop(Pipeline.ΦA spec0 c ∗ Pipeline.ΦT pre0 adm.1 c) ⊢ (dats m 0 c).Φ 0 := by
  unfold Pipeline.ΦA Pipeline.ΦT
  rw [prefHeld_eq, scopedRest0_eq, show (dats m 0 c).Φ 0 = Phi m c 0 from rfl]
  unfold Phi
  iintro ⟨⟨⟨⟨%a0, HS0⟩, ⟨%a1, HS1⟩, ⟨%a2, HS2⟩, ⟨%a3, HS3⟩⟩, HR⟩, ⟨HT0, HT1⟩⟩
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HS2]
  · iexists a2; isplitr; swap
    · iexact HS2
    · ipureintro; intro h; exact absurd (h.symm.trans (show sfresh0_2 0 = true from rfl)) Bool.false_ne_true
  isplitl [HS3]
  · iexists a3; isplitr; swap
    · iexact HS3
    · ipureintro; intro h; exact absurd (h.symm.trans (show sfresh0_3 0 = true from rfl)) Bool.false_ne_true
  isplitl [HT0]
  · iexact HT0
  isplitl [HT1]
  · iexact HT1
  iexact HR

/-- The invariant at the last point gives the scratch buffers and the register back. -/
theorem phiN_exit (c : Dev nD) : (dats m 0 c).Φ (Fin.last cfgA.N) ⊢ Pipeline.ΦA spec0 c := by
  unfold Pipeline.ΦA
  rw [scopedRest0_eq, show (dats m 0 c).Φ (Fin.last cfgA.N) = Phi m c (Fin.last _) from rfl]
  unfold Phi
  iintro ⟨⟨%a0, -, HS0⟩, ⟨%a1, -, HS1⟩, ⟨%a2, -, HS2⟩, ⟨%a3, -, HS3⟩, -, -, HR⟩
  isplitr [HR]; swap
  · iexact HR
  isplitl [HS0]
  · iexists a0; iexact HS0
  isplitl [HS1]
  · iexists a1; iexact HS1
  isplitl [HS2]
  · iexists a2; iexact HS2
  iexists a3; iexact HS3

theorem hostOps0_fresh : (hostOps0 : List (HloOp τ sig (Elt Ideal))).Forall fun op => op.fresh = ∅ := by
  simp only [List.Forall]; repeat' constructor

set_option maxHeartbeats 800000 in
theorem hmain (𝒱 : Variants) : Pipeline.HMainP (Ix := Unit) (Name := ℕ) (U := UR sig nD τ) (Lvl := ℕ) (pcfgs (F := Ideal)) 0 defs₀ 𝒱 m (main (F := Ideal)) (V m) :=
  Pipeline.hmainP_prefix (pcfgs (F := Ideal)) 0 defs₀ 𝒱 m main hostOps0 hostOps0_sub hostOps0_fresh main_chain

/-- A buffer no host line writes is found as launched. -/
theorem V_kept (c : Dev nD) (b : Ref sig .tc)
    (h : (hostOps0 (F := Ideal)).Forall fun op => (b : DevRef τ sig) ∉ op.writes) : V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) :=
  V_kept m c main_arg0 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))

theorem V_main_arg1 (c : Dev nD) : V m c main_arg1 = m ((c : Thread nD τ).loc main_arg1) :=
  V_kept m c main_arg1 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))

theorem V_main_arg2 (c : Dev nD) : V m c main_arg2 = m ((c : Thread nD τ).loc main_arg2) :=
  V_kept m c main_arg2 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))

theorem V_main_arg3 (c : Dev nD) : V m c main_arg3 = m ((c : Thread nD τ).loc main_arg3) :=
  V_kept m c main_arg3 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))

theorem V_main_arg4 (c : Dev nD) : V m c main_arg4 = m ((c : Thread nD τ).loc main_arg4) :=
  V_kept m c main_arg4 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))

theorem table0_eq : (fun i => lit0 (S10.rowMajor i) : S10.Idx → BitVec 32) = pinT_0 := by
  funext i; revert i; decide +kernel

theorem table1_eq : (fun i => lit1 (S10.rowMajor i) : S10.Idx → BitVec 32) = pinT_1 := by
  funext i; revert i; decide +kernel

theorem V_main_c (c : Dev nD) : V m c main_c = pinT_0 := by
  rw [← table0_eq]
  unfold V
  rw [hostOps0, StableHlo.after_cons]
  refine (StableHlo.after_of_forall_not_mem (b := Proc.devRef .tc main_c) _ _ (List.forall_iff_forall_mem.mp (by
    simp only [List.Forall, StableHlo.nullary_writes, StableHlo.unary_writes, StableHlo.binary_writes, StableHlo.reshape_writes, StableHlo.nary_writes, Finset.mem_singleton]
    repeat' apply And.intro
    all_goals exact StableHlo.devRef_ne_of_ne (by decide)))).trans ?_
  exact StableHlo.nullary_result ..

theorem V_main_c_0 (c : Dev nD) : V m c main_c_0 = pinT_1 := by
  rw [← table1_eq]
  unfold V
  rw [hostOps0, StableHlo.after_cons, StableHlo.after_cons]
  refine (StableHlo.after_of_forall_not_mem (b := Proc.devRef .tc main_c_0) _ _ (List.forall_iff_forall_mem.mp (by
    simp only [List.Forall, StableHlo.nullary_writes, StableHlo.unary_writes, StableHlo.binary_writes, StableHlo.reshape_writes, StableHlo.nary_writes, Finset.mem_singleton]
    repeat' apply And.intro
    all_goals exact StableHlo.devRef_ne_of_ne (by decide)))).trans ?_
  exact StableHlo.nullary_result ..

theorem V_pre (c : Dev nD) (j : Fin 2) : V m c (pre0.ref j) = adm.1 j := by
  fin_cases j
  · exact V_main_c m c
  · exact V_main_c_0 m c

set_option backward.isDefEq.respectTransparency.types false in
set_option maxHeartbeats 4000000 in
/-- The run from any launch memory: every window's array ends at what the pipeline leaves in it, every other buffer at
    what the host lines left, and every semaphore counter at zero. -/
theorem run_main : θ_run (defs (F := Ideal)) (onTc (τ := τ) (main (F := Ideal))) (s₀ m ρ) (fun r =>
    Pipeline.FramePost pcs (dats m) 0 (V m) r ∧ r.2.sem = fun _ => 0) :=
  Pipeline.θ_run_frameP_track_shared (pcfgs (F := Ideal)) (fun _ => adm) (dats m) 0 launch₀0 defs₀ Variants.none m ρ main
    (fun c => (body_obligation m c).loose) (fun _ _ _ => rfl) (fun _ _ => rfl) (V m) (hmain m Variants.none)
    (fun _ _ => rfl) (V_pre m) (phi0_intro m) (phiN_exit m) (Q' := _)

/-- What the run leaves: the result at the pipeline's output array, the arguments as launched, every counter at zero. -/
theorem run_result : θ_run (defs (F := Ideal)) (onTc (τ := τ) (main (F := Ideal))) ⟨m, fun _ => 0, ρ⟩ (fun r => (∀ c : Dev nD,
      r.2.mem ((c.tc : Thread nD τ).loc main_v35) = (dats m 0 c).arrAt (5 : Fin 6) cfgA.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r (h : _ ∧ _) => ⟨fun c => ⟨(h.1 c).1 (5 : Fin 6),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩, h.2⟩) (run_main m ρ)

/-- The frame: from any launch memory the run ends, the arguments unchanged and every counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r (h : _ ∧ _) => ⟨fun c => (h.1 c).2, h.2⟩) (run_result m ρ)

end Cert.KernelIdeal.Attn

end
-- ==== Proof.Kernel.Runs.lean ====
/- One run of the kernel body per control path, with what it leaves in the output block and the four scratch buffers. -/
module

public import proofs.«01_k».proof.Proof.Kernel.Tables

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev VO0_5 : View sig .tc .vmem S2048x128 .bf16 := (Memref.whole cc0_stg5_0 : Memref sig .tc .vmem S2048x128 .bf16).view

variable (c : Dev nD) (i : grid0.Coords) (arg5 : Memref sig .tc .vmem S2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x256 .bf16) (harg8 : arg8.IsWhole) (arg9 : Memref sig .tc .vmem S2048x128 .bf16) (harg9 : arg9.IsWhole) (arg10 : Memref sig .tc .vmem S2048x128 .bf16) (harg10 : arg10.IsWhole) (T0 : (S10.Idx → Elt Bits .i32)) (T1 : (S10.Idx → Elt Bits .i32))
     (x0 : (S2048x256.Idx → Elt Bits .bf16)) (x1 : (S2048x128.Idx → Elt Bits .f32)) (x2 : (S2048x128.Idx → Elt Bits .f32)) (x3 : (S2048x256.Idx → Elt Bits .bf16)) (x4 : (S2048x128.Idx → Elt Bits .bf16))

section

variable (hc0 : (Scalar.cmpi .ne (Scalar.extui (Scalar.cmpi .eq (tabAt tbM0_1 i T1) 0#32)) 0#32) = 1#1) (hc1 : ¬((Scalar.cmpi .ne (Scalar.extui (Scalar.cmpi .slt (tabAt tbM0_1 i T1) (Scalar.muli (tabAt tbM0_0 i T0) 1#32))) 0#32) = 1#1)) (hc2 : (Scalar.cmpi .ne (Scalar.extui (Scalar.cmpi .sge (tabAt tbM0_1 i T1) (Scalar.muli (tabAt tbM0_0 i T0) 1#32))) 0#32) = 1#1) (k0_h4 : k0_cond4 (tabAt tbM0_0 i T0) (tabAt tbM0_1 i T1) = 1#1)

set_option backward.proofsInPublic true in
set_option maxHeartbeats 8000000 in
noncomputable def kernelRun0_A :
    Σ' (out0 : List (View.Piece (Elt Bits) S2048x128 .bf16)) (out1 : Buf (Elt Bits) ((c : Thread nD τ).loc cc0_scratch0)) (out2 : Buf (Elt Bits) ((c : Thread nD τ).loc cc0_scratch1)) (out3 : Buf (Elt Bits) ((c : Thread nD τ).loc cc0_scratch2)), { out4 : Buf (Elt Bits) ((c : Thread nD τ).loc cc0_scratch3) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Bits)) Variants.none c none) Set.univ (cc0_flash_rope i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) K => by
    unfold owns
    rw [cc0_flash_rope_eq_skeleton]; unfold cc0_flash_rope_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

theorem cover0_A_5 (y : S2048x128.Idx) :
    ∃ pc ∈ (kernelRun0_A c i arg5 harg5 arg6 harg6 arg7 harg7 arg8 harg8 arg9 harg9 arg10 harg10 T0 T1 x0 x1 x2 x3 x4 hc0 hc1 hc2 k0_h4).1, y ∈ pc.1.set :=
  View.cover_of_tiledL (kernelRun0_A c i arg5 harg5 arg6 harg6 arg7 harg7 arg8 harg8 arg9 harg9 arg10 harg10 T0 T1 x0 x1 x2 x3 x4 hc0 hc1 hc2 k0_h4).1 S2048x128.size (by sl_kernel_rfl) y

def out0_A_5 : (S2048x128.Idx → Elt Bits .bf16) :=
  VO0_5.read (Elt Bits) (VO0_5.writes (Elt Bits) VO0_5.junk (kernelRun0_A c i arg5 harg5 arg6 harg6 arg7 harg7 arg8 harg8 arg9 harg9 arg10 harg10 T0 T1 x0 x1 x2 x3 x4 hc0 hc1 hc2 k0_h4).1)

end

set_option backward.proofsInPublic true in
set_option maxHeartbeats 8000000 in
noncomputable def kernelRun0_B (hc0 : (Scalar.cmpi .ne (Scalar.extui (Scalar.cmpi .eq (tabAt tbM0_1 i T1) 0#32)) 0#32) = 1#1) (hc1 : (Scalar.cmpi .ne (Scalar.extui (Scalar.cmpi .slt (tabAt tbM0_1 i T1) (Scalar.muli (tabAt tbM0_0 i T0) 1#32))) 0#32) = 1#1) (hc2 : ¬((Scalar.cmpi .ne (Scalar.extui (Scalar.cmpi .sge (tabAt tbM0_1 i T1) (Scalar.muli (tabAt tbM0_0 i T0) 1#32))) 0#32) = 1#1)) (k0_h4 : ¬(k0_cond4 (tabAt tbM0_0 i T0) (tabAt tbM0_1 i T1) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y5 : (S2048x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_flash_rope i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S2048x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) K => by
    unfold owns
    rw [cc0_flash_rope_eq_skeleton]; unfold cc0_flash_rope_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

section

variable (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (tabAt tbM0_1 i T1) 0#32)) 0#32) = 1#1)) (hc1 : ¬((Scalar.cmpi .ne (Scalar.extui (Scalar.cmpi .slt (tabAt tbM0_1 i T1) (Scalar.muli (tabAt tbM0_0 i T0) 1#32))) 0#32) = 1#1)) (hc2 : (Scalar.cmpi .ne (Scalar.extui (Scalar.cmpi .sge (tabAt tbM0_1 i T1) (Scalar.muli (tabAt tbM0_0 i T0) 1#32))) 0#32) = 1#1) (k0_h4 : k0_cond4 (tabAt tbM0_0 i T0) (tabAt tbM0_1 i T1) = 1#1)

set_option backward.proofsInPublic true in
set_option maxHeartbeats 8000000 in
noncomputable def kernelRun0_C :
    Σ' (out0 : List (View.Piece (Elt Bits) S2048x128 .bf16)) (out1 : Buf (Elt Bits) ((c : Thread nD τ).loc cc0_scratch0)) (out2 : Buf (Elt Bits) ((c : Thread nD τ).loc cc0_scratch1)) (out3 : Buf (Elt Bits) ((c : Thread nD τ).loc cc0_scratch2)), { out4 : Buf (Elt Bits) ((c : Thread nD τ).loc cc0_scratch3) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Bits)) Variants.none c none) Set.univ (cc0_flash_rope i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, _, fun K => by
    unfold owns
    rw [cc0_flash_rope_eq_skeleton]; unfold cc0_flash_rope_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

theorem cover0_C_5 (y : S2048x128.Idx) :
    ∃ pc ∈ (kernelRun0_C c i arg5 harg5 arg6 harg6 arg7 harg7 arg8 harg8 arg9 harg9 arg10 harg10 T0 T1 x0 x1 x2 x3 x4 xa0 xa1 xa2 xa3 hc0 hc1 hc2 k0_h4).1, y ∈ pc.1.set :=
  View.cover_of_tiledL (kernelRun0_C c i arg5 harg5 arg6 harg6 arg7 harg7 arg8 harg8 arg9 harg9 arg10 harg10 T0 T1 x0 x1 x2 x3 x4 xa0 xa1 xa2 xa3 hc0 hc1 hc2 k0_h4).1 S2048x128.size (by sl_kernel_rfl) y

def out0_C_5 : (S2048x128.Idx → Elt Bits .bf16) :=
  VO0_5.read (Elt Bits) (VO0_5.writes (Elt Bits) VO0_5.junk (kernelRun0_C c i arg5 harg5 arg6 harg6 arg7 harg7 arg8 harg8 arg9 harg9 arg10 harg10 T0 T1 x0 x1 x2 x3 x4 xa0 xa1 xa2 xa3 hc0 hc1 hc2 k0_h4).1)

end

set_option backward.proofsInPublic true in
set_option maxHeartbeats 8000000 in
noncomputable def kernelRun0_D (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (tabAt tbM0_1 i T1) 0#32)) 0#32) = 1#1)) (hc1 : (Scalar.cmpi .ne (Scalar.extui (Scalar.cmpi .slt (tabAt tbM0_1 i T1) (Scalar.muli (tabAt tbM0_0 i T0) 1#32))) 0#32) = 1#1) (hc2 : ¬((Scalar.cmpi .ne (Scalar.extui (Scalar.cmpi .sge (tabAt tbM0_1 i T1) (Scalar.muli (tabAt tbM0_0 i T0) 1#32))) 0#32) = 1#1)) (k0_h4 : ¬(k0_cond4 (tabAt tbM0_0 i T0) (tabAt tbM0_1 i T1) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y5 : (S2048x128.Idx → Elt Bits .bf16)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_flash_rope i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S2048x128.Idx → Elt Bits .bf16)) K => by
    unfold owns
    rw [cc0_flash_rope_eq_skeleton]; unfold cc0_flash_rope_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

end Cert.Kernel.Attn

end
-- ==== Proof.Kernel.Points.lean ====
/- The grid at those tables: each point's coordinates and staging buffers, the control's two decisions there, and which buffers still hold nothing determined. -/
module

public import proofs.«01_k».proof.Proof.Kernel.Tables

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem ok_pfN : ok0 (F := Bits) pfN := ok_pfN_0

def adm : (pcfg0 (F := Bits)).Adm := ⟨pfN, ok_pfN⟩
abbrev cfgA : Pipeline.Cfg sig Λ₀ := cfg0 (F := Bits) adm
abbrev pcs : Fin 1 → Pipeline.Cfg sig Λ₀ := Pipeline.pin (pcfgs (F := Bits)) fun _ => adm

variable (m : (ℓ : Loc nD τ sig) → Buf (Elt Bits) ℓ) (ρ : Dev nD → PrngReg)

abbrev crd (t : Fin cfgA.N) : cfgA.grid.Coords := cfgA.grid.coords t

abbrev ms0_0 (t : Fin cfgA.N) : Memref sig .tc .vmem S2048x256 .bf16 := spec0_0.stage (cfgA.slots t (0 : Fin 6))
abbrev hs0_0 (t : Fin cfgA.N) : (ms0_0 t).IsWhole := hstage0_0 ((cfgA.slots t (0 : Fin 6)).cast nbuf0_0)
abbrev ms0_1 (t : Fin cfgA.N) : Memref sig .tc .vmem S2048x128 .f32 := spec0_1.stage (cfgA.slots t (1 : Fin 6))
abbrev hs0_1 (t : Fin cfgA.N) : (ms0_1 t).IsWhole := hstage0_1 ((cfgA.slots t (1 : Fin 6)).cast nbuf0_1)
abbrev ms0_2 (t : Fin cfgA.N) : Memref sig .tc .vmem S2048x128 .f32 := spec0_2.stage (cfgA.slots t (2 : Fin 6))
abbrev hs0_2 (t : Fin cfgA.N) : (ms0_2 t).IsWhole := hstage0_2 ((cfgA.slots t (2 : Fin 6)).cast nbuf0_2)
abbrev ms0_3 (t : Fin cfgA.N) : Memref sig .tc .vmem S2048x256 .bf16 := spec0_3.stage (cfgA.slots t (3 : Fin 6))
abbrev hs0_3 (t : Fin cfgA.N) : (ms0_3 t).IsWhole := hstage0_3 ((cfgA.slots t (3 : Fin 6)).cast nbuf0_3)
abbrev ms0_4 (t : Fin cfgA.N) : Memref sig .tc .vmem S2048x128 .bf16 := spec0_4.stage (cfgA.slots t (4 : Fin 6))
abbrev hs0_4 (t : Fin cfgA.N) : (ms0_4 t).IsWhole := hstage0_4 ((cfgA.slots t (4 : Fin 6)).cast nbuf0_4)
abbrev ms0_5 (t : Fin cfgA.N) : Memref sig .tc .vmem S2048x128 .bf16 := spec0_5.stage (cfgA.slots t (5 : Fin 6))
abbrev hs0_5 (t : Fin cfgA.N) : (ms0_5 t).IsWhole := hstage0_5 ((cfgA.slots t (5 : Fin 6)).cast nbuf0_5)

/-- What the region finds in each buffer: the launch contents after the host lines before it. -/
def V (c : Dev nD) : (b : Ref sig .tc) → Buf (Elt Bits) ((c : Thread nD τ).loc b) :=
  fun b => StableHlo.after (hostOps0 (F := Bits)) (fun b => m (c, b)) b

/-- Window `w`'s block at point `t`. -/
def iblk (c : Dev nD) (w : Fin cfgA.W) (t : Fin cfgA.N) : ((cfgA.win w).xblock (crd t)).Idx → Elt Bits (cfgA.win w).elt :=
  ((cfgA.win w).blk t).view.read (Elt Bits) (V m c (Pipeline.arrRef spec0 w))

abbrev P0_0 (t : Fin cfgA.N) : Prop := (Scalar.cmpi .ne (Scalar.extui (Scalar.cmpi .eq (tabAt tbM0_1 (crd t) pinT_1) 0#32)) 0#32) = 1#1
abbrev P0_1 (t : Fin cfgA.N) : Prop := (Scalar.cmpi .ne (Scalar.extui (Scalar.cmpi .slt (tabAt tbM0_1 (crd t) pinT_1) (Scalar.muli (tabAt tbM0_0 (crd t) pinT_0) 1#32))) 0#32) = 1#1

def sfresh0_0 : ℕ → Bool
  | 0 => true
  | n + 1 => if h : n < cfgA.N then (if P0_0 ⟨n, h⟩ then (if P0_1 ⟨n, h⟩ then false else false) else (if P0_1 ⟨n, h⟩ then sfresh0_0 n else sfresh0_0 n)) else true

def sfirst0_0 : ℕ := 0
def sfrTab0_0 : ℕ → Bool := fun n => decide (n ≤ sfirst0_0)

def sfresh0_1 : ℕ → Bool
  | 0 => true
  | n + 1 => if h : n < cfgA.N then (if P0_0 ⟨n, h⟩ then (if P0_1 ⟨n, h⟩ then false else false) else (if P0_1 ⟨n, h⟩ then sfresh0_1 n else sfresh0_1 n)) else true

def sfirst0_1 : ℕ := 0
def sfrTab0_1 : ℕ → Bool := fun n => decide (n ≤ sfirst0_1)

def sfresh0_2 : ℕ → Bool
  | 0 => true
  | n + 1 => if h : n < cfgA.N then (if P0_0 ⟨n, h⟩ then (if P0_1 ⟨n, h⟩ then false else false) else (if P0_1 ⟨n, h⟩ then sfresh0_2 n else sfresh0_2 n)) else true

def sfirst0_2 : ℕ := 0
def sfrTab0_2 : ℕ → Bool := fun n => decide (n ≤ sfirst0_2)

def sfresh0_3 : ℕ → Bool
  | 0 => true
  | n + 1 => if h : n < cfgA.N then (if P0_0 ⟨n, h⟩ then (if P0_1 ⟨n, h⟩ then false else false) else (if P0_1 ⟨n, h⟩ then sfresh0_3 n else sfresh0_3 n)) else true

def sfirst0_3 : ℕ := 0
def sfrTab0_3 : ℕ → Bool := fun n => decide (n ≤ sfirst0_3)

set_option backward.proofsInPublic true in
def frMask0_5 : ℕ := 0xffffffffffffffffffffffffffffffffffffffffffffffffffffffffffff
def frTab0_5 : ℕ → Bool
  | 0 => true
  | n + 1 => frMask0_5.testBit n

variable (m : (ℓ : Loc nD τ sig) → Buf (Elt Bits) ℓ) (ρ : Dev nD → PrngReg)

abbrev FactsAt (t : Fin cfgA.N) : Prop :=
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (sfrTab0_2 (t.val + 1) = (if P0_0 t then (if P0_1 t then false else false) else (if P0_1 t then sfrTab0_2 t.val else sfrTab0_2 t.val)))
  ∧ (sfrTab0_3 (t.val + 1) = (if P0_0 t then (if P0_1 t then false else false) else (if P0_1 t then sfrTab0_3 t.val else sfrTab0_3 t.val)))
  ∧ (frTab0_5 (t.val + 1) = ((cfgA.win (5 : Fin 6)).flush t || (cfgA.idle (5 : Fin 6) (cfgA.grid.coords t) && frTab0_5 t.val)))
  ∧ (P0_0 t → ¬P0_1 t → ((Scalar.cmpi .ne (Scalar.extui (Scalar.cmpi .eq (tabAt tbM0_1 (crd t) pinT_1) 0#32)) 0#32) = 1#1) ∧ ((¬((Scalar.cmpi .ne (Scalar.extui (Scalar.cmpi .slt (tabAt tbM0_1 (crd t) pinT_1) (Scalar.muli (tabAt tbM0_0 (crd t) pinT_0) 1#32))) 0#32) = 1#1)) ∧ (((Scalar.cmpi .ne (Scalar.extui (Scalar.cmpi .sge (tabAt tbM0_1 (crd t) pinT_1) (Scalar.muli (tabAt tbM0_0 (crd t) pinT_0) 1#32))) 0#32) = 1#1) ∧ ((k0_cond4 (tabAt tbM0_0 (crd t) pinT_0) (tabAt tbM0_1 (crd t) pinT_1) = 1#1) ∧ (True)))))
  ∧ (P0_0 t → ¬P0_1 t → cfgA.idle (5 : Fin 6) (cfgA.grid.coords t) = false ∧ (cfgA.win (5 : Fin 6)).flush t = true ∧ frTab0_5 t.val = true ∧ sfrTab0_0 (t.val + 1) = false ∧ sfrTab0_1 (t.val + 1) = false ∧ sfrTab0_2 (t.val + 1) = false ∧ sfrTab0_3 (t.val + 1) = false)
  ∧ (P0_0 t → P0_1 t → ((Scalar.cmpi .ne (Scalar.extui (Scalar.cmpi .eq (tabAt tbM0_1 (crd t) pinT_1) 0#32)) 0#32) = 1#1) ∧ (((Scalar.cmpi .ne (Scalar.extui (Scalar.cmpi .slt (tabAt tbM0_1 (crd t) pinT_1) (Scalar.muli (tabAt tbM0_0 (crd t) pinT_0) 1#32))) 0#32) = 1#1) ∧ ((¬((Scalar.cmpi .ne (Scalar.extui (Scalar.cmpi .sge (tabAt tbM0_1 (crd t) pinT_1) (Scalar.muli (tabAt tbM0_0 (crd t) pinT_0) 1#32))) 0#32) = 1#1)) ∧ ((¬(k0_cond4 (tabAt tbM0_0 (crd t) pinT_0) (tabAt tbM0_1 (crd t) pinT_1) = 1#1)) ∧ (True)))))
  ∧ (P0_0 t → P0_1 t → cfgA.idle (5 : Fin 6) (cfgA.grid.coords t) = true ∧ (cfgA.win (5 : Fin 6)).flush t = false ∧ frTab0_5 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false ∧ sfrTab0_3 t.val = false ∧ sfrTab0_3 (t.val + 1) = false)
  ∧ (¬P0_0 t → ¬P0_1 t → (¬((Scalar.cmpi .ne (Scalar.extui (Scalar.cmpi .eq (tabAt tbM0_1 (crd t) pinT_1) 0#32)) 0#32) = 1#1)) ∧ ((¬((Scalar.cmpi .ne (Scalar.extui (Scalar.cmpi .slt (tabAt tbM0_1 (crd t) pinT_1) (Scalar.muli (tabAt tbM0_0 (crd t) pinT_0) 1#32))) 0#32) = 1#1)) ∧ (((Scalar.cmpi .ne (Scalar.extui (Scalar.cmpi .sge (tabAt tbM0_1 (crd t) pinT_1) (Scalar.muli (tabAt tbM0_0 (crd t) pinT_0) 1#32))) 0#32) = 1#1) ∧ ((k0_cond4 (tabAt tbM0_0 (crd t) pinT_0) (tabAt tbM0_1 (crd t) pinT_1) = 1#1) ∧ (True)))))
  ∧ (¬P0_0 t → ¬P0_1 t → cfgA.idle (5 : Fin 6) (cfgA.grid.coords t) = false ∧ (cfgA.win (5 : Fin 6)).flush t = true ∧ frTab0_5 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false ∧ sfrTab0_3 t.val = false ∧ sfrTab0_3 (t.val + 1) = false)
  ∧ (¬P0_0 t → P0_1 t → (¬((Scalar.cmpi .ne (Scalar.extui (Scalar.cmpi .eq (tabAt tbM0_1 (crd t) pinT_1) 0#32)) 0#32) = 1#1)) ∧ (((Scalar.cmpi .ne (Scalar.extui (Scalar.cmpi .slt (tabAt tbM0_1 (crd t) pinT_1) (Scalar.muli (tabAt tbM0_0 (crd t) pinT_0) 1#32))) 0#32) = 1#1) ∧ ((¬((Scalar.cmpi .ne (Scalar.extui (Scalar.cmpi .sge (tabAt tbM0_1 (crd t) pinT_1) (Scalar.muli (tabAt tbM0_0 (crd t) pinT_0) 1#32))) 0#32) = 1#1)) ∧ ((¬(k0_cond4 (tabAt tbM0_0 (crd t) pinT_0) (tabAt tbM0_1 (crd t) pinT_1) = 1#1)) ∧ (True)))))
  ∧ (¬P0_0 t → P0_1 t → cfgA.idle (5 : Fin 6) (cfgA.grid.coords t) = true ∧ (cfgA.win (5 : Fin 6)).flush t = false ∧ frTab0_5 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false ∧ sfrTab0_3 t.val = false ∧ sfrTab0_3 (t.val + 1) = false)

set_option synthInstance.maxSize 65536 in
instance FactsAt.dec (t : Fin cfgA.N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))

theorem allFacts_0_0 : ∀ t : Fin cfgA.N, 0 ≤ t.val → t.val < 30 → FactsAt t := by decide +kernel
theorem allFacts_0_1 : ∀ t : Fin cfgA.N, 30 ≤ t.val → t.val < 60 → FactsAt t := by decide +kernel
theorem allFacts_0_2 : ∀ t : Fin cfgA.N, 60 ≤ t.val → t.val < 90 → FactsAt t := by decide +kernel
theorem allFacts_0_3 : ∀ t : Fin cfgA.N, 90 ≤ t.val → t.val < 120 → FactsAt t := by decide +kernel
theorem allFacts_0_4 : ∀ t : Fin cfgA.N, 120 ≤ t.val → t.val < 150 → FactsAt t := by decide +kernel
theorem allFacts_0_5 : ∀ t : Fin cfgA.N, 150 ≤ t.val → t.val < 180 → FactsAt t := by decide +kernel
theorem allFacts_0_6 : ∀ t : Fin cfgA.N, 180 ≤ t.val → t.val < 210 → FactsAt t := by decide +kernel
theorem allFacts_0_7 : ∀ t : Fin cfgA.N, 210 ≤ t.val → t.val < 240 → FactsAt t := by decide +kernel
theorem allFacts_0 : ∀ t : Fin cfgA.N, FactsAt t := fun t => by
  have h0 : 0 ≤ t.val := Nat.zero_le _
  rcases Nat.lt_or_ge t.val 30 with h1 | h1; · exact allFacts_0_0 t h0 h1
  rcases Nat.lt_or_ge t.val 60 with h2 | h2; · exact allFacts_0_1 t h1 h2
  rcases Nat.lt_or_ge t.val 90 with h3 | h3; · exact allFacts_0_2 t h2 h3
  rcases Nat.lt_or_ge t.val 120 with h4 | h4; · exact allFacts_0_3 t h3 h4
  rcases Nat.lt_or_ge t.val 150 with h5 | h5; · exact allFacts_0_4 t h4 h5
  rcases Nat.lt_or_ge t.val 180 with h6 | h6; · exact allFacts_0_5 t h5 h6
  rcases Nat.lt_or_ge t.val 210 with h7 | h7; · exact allFacts_0_6 t h6 h7
  exact allFacts_0_7 t h7 t.isLt

end Cert.Kernel.Attn

end
-- ==== Proof.ReferenceIdeal.Heads.lean ====
module

public import proofs.«01_k».proof.Proof.KernelIdeal.Real
public import proofs.«01_k».proof.Proof.KernelIdeal.Online
public import proofs.«01_k».proof.Proof.Gen.ReferenceIdeal.Read
public import Idealize.ShloMosaic.Lib.Pointwise

/-! The reference's queries and keys. -/

@[expose] public section

set_option maxRecDepth 16384

noncomputable section

namespace Cert.ReferenceIdeal.Attn

open Cert.ReferenceIdeal Cert.ReferenceIdeal.Gen Cert.ReferenceIdeal.Read
open Cert.KernelIdeal.Attn (at3 at4 Num at3_ix at4_ix qf kf vf qpe kpe lg num den attn)
open Idealize.ShloMosaic
open Idealize.ShloMosaic.TcCoe

variable (x0 : S2x8192x2304.Idx → EReal) (x1 : S2x8192x3072.Idx → EReal) (x2 : S2x8192x64.Idx → EReal) (x3 x4 : S2x8192x1x32.Idx → EReal)
variable (n0 : Num x0) (n1 : Num x1) (n2 : Num x2) (n3 : Num x3) (n4 : Num x4)

include n0 n3 n4 in
theorem q_full (b : Fin 2) (i : Fin 8192) (h : Fin 12) (d : Fin 192) :
    val_main_v29 (F := Ideal) x0 x3 x4 (ix4 b i h d) = ((qf (at3 x0) (at4 x3) (at4 x4) b.val h.val i.val d.val : ℝ) : EReal) := by
  generalize hz : ((qf (at3 x0) (at4 x3) (at4 x4) b.val h.val i.val d.val : ℝ) : EReal) = z
  unfold val_main_v29 val_main_v18 val_main_v1 val_main_v17 val_main_v12 val_main_v14 val_main_v16 val_main_v9 val_main_v11 val_main_v8 val_main_v10 val_main_v13 val_main_v15 val_main_v6 val_main_v7 val_main_v2 val_main_v0
  pointwise
  unfold qf qpe at hz
  by_cases h1 : d.val < 128
  · rw [if_pos h1] at hz
    exact (dif_pos h1).trans (Eq.trans (at3_ix n0 _ _ _ _ _ _ rfl rfl (by show h.val * 192 + d.val = _; omega)) hz)
  · refine (dif_neg h1).trans ?_
    by_cases h2 : d.val - 128 < 32
    · rw [if_neg h1, if_pos h2, EReal.coe_sub, EReal.coe_mul, EReal.coe_mul] at hz
      exact (dif_pos h2).trans (Eq.trans (congrArg₂ (fun y z : EReal => y - z)
        (congrArg₂ (fun y z : EReal => y * z) (at3_ix n0 _ _ _ _ _ _ rfl rfl (by show h.val * 192 + (128 + (d.val - 128)) = _; omega)) (at4_ix n3 _ _ _ _ _ _ _ rfl rfl rfl))
        (congrArg₂ (fun y z : EReal => y * z) (at3_ix n0 _ _ _ _ _ _ rfl rfl (by show h.val * 192 + (128 + (32 + (d.val - 128))) = _; omega)) (at4_ix n4 _ _ _ _ _ _ _ rfl rfl rfl))) hz)
    · rw [if_neg h1, if_neg h2, EReal.coe_add, EReal.coe_mul, EReal.coe_mul] at hz
      exact (dif_neg h2).trans (Eq.trans (congrArg₂ (fun y z : EReal => y + z)
        (congrArg₂ (fun y z : EReal => y * z) (at3_ix n0 _ _ _ _ _ _ rfl rfl (by show h.val * 192 + (128 + (d.val - 128 - 32)) = _; omega)) (at4_ix n4 _ _ _ _ _ _ _ rfl rfl rfl))
        (congrArg₂ (fun y z : EReal => y * z) (at3_ix n0 _ _ _ _ _ _ rfl rfl (by show h.val * 192 + (128 + (32 + (d.val - 128 - 32))) = _; omega)) (at4_ix n3 _ _ _ _ _ _ _ rfl rfl rfl))) hz)

include n1 n2 n3 n4 in
theorem k_full (b : Fin 2) (i : Fin 8192) (h : Fin 12) (d : Fin 192) :
    val_main_v31 (F := Ideal) x1 x2 x3 x4 (ix4 b i h d) = ((kf (at3 x1) (at3 x2) (at4 x3) (at4 x4) b.val h.val i.val d.val : ℝ) : EReal) := by
  generalize hz : ((kf (at3 x1) (at3 x2) (at4 x3) (at4 x4) b.val h.val i.val d.val : ℝ) : EReal) = z
  unfold val_main_v31 val_main_v30 val_main_v28 val_main_v24 val_main_v27 val_main_v22 val_main_v23 val_main_v25 val_main_v26 val_main_v20 val_main_v21 val_main_v19 val_main_v4 val_main_v3
  pointwise
  unfold kf kpe at hz
  by_cases h1 : d.val < 128
  · rw [if_pos h1] at hz
    exact (dif_pos h1).trans (Eq.trans (at3_ix n1 _ _ _ _ _ _ rfl rfl (by show h.val * 256 + d.val = _; omega)) hz)
  · refine (dif_neg h1).trans ?_
    by_cases h2 : d.val - 128 < 32
    · rw [if_neg h1, if_pos h2, EReal.coe_sub, EReal.coe_mul, EReal.coe_mul] at hz
      exact (dif_pos h2).trans (Eq.trans (congrArg₂ (fun y z : EReal => y - z)
        (congrArg₂ (fun y z : EReal => y * z) (at3_ix n2 _ _ _ _ _ _ rfl rfl (by show d.val - 128 = _; omega)) (at4_ix n3 _ _ _ _ _ _ _ rfl rfl rfl))
        (congrArg₂ (fun y z : EReal => y * z) (at3_ix n2 _ _ _ _ _ _ rfl rfl (by show 32 + (d.val - 128) = _; omega)) (at4_ix n4 _ _ _ _ _ _ _ rfl rfl rfl))) hz)
    · rw [if_neg h1, if_neg h2, EReal.coe_add, EReal.coe_mul, EReal.coe_mul] at hz
      exact (dif_neg h2).trans (Eq.trans (congrArg₂ (fun y z : EReal => y + z)
        (congrArg₂ (fun y z : EReal => y * z) (at3_ix n2 _ _ _ _ _ _ rfl rfl (by show d.val - 128 - 32 = _; omega)) (at4_ix n4 _ _ _ _ _ _ _ rfl rfl rfl))
        (congrArg₂ (fun y z : EReal => y * z) (at3_ix n2 _ _ _ _ _ _ rfl rfl (by show 32 + (d.val - 128 - 32) = _; omega)) (at4_ix n3 _ _ _ _ _ _ _ rfl rfl rfl))) hz)

include n1 in
theorem v_full (b : Fin 2) (i : Fin 8192) (h : Fin 12) (l : Fin 128) :
    val_main_v5 (F := Ideal) x1 (ix4 b i h l) = ((vf (at3 x1) b.val h.val i.val l.val : ℝ) : EReal) := by
  generalize hz : ((vf (at3 x1) b.val h.val i.val l.val : ℝ) : EReal) = z
  unfold val_main_v5 val_main_v3
  pointwise
  unfold vf at hz
  exact Eq.trans (at3_ix n1 _ _ _ _ _ _ rfl rfl (by show h.val * 256 + (128 + l.val) = _; omega)) hz

end Cert.ReferenceIdeal.Attn
-- ==== Proof.ReferenceIdeal.Softmax.lean ====
module

public import proofs.«01_k».proof.Proof.ReferenceIdeal.Heads

/-! The reference's softmax and its sum of values. -/

@[expose] public section

set_option maxRecDepth 16384

noncomputable section

namespace Cert.ReferenceIdeal.Attn

open Cert.ReferenceIdeal Cert.ReferenceIdeal.Gen Cert.ReferenceIdeal.Read
open Cert.KernelIdeal.Attn (at3 at4 Num at3_ix at4_ix qf kf vf qpe kpe lg num den attn coe_sum sup_real den_pos)
open Idealize.ShloMosaic
open Idealize.ShloMosaic.TcCoe

theorem idx3 {a b c : ℕ} {i j : (⟨3, ![a, b, c]⟩ : Shape).Idx} (h0 : (i (0 : Fin 3)).val = (j (0 : Fin 3)).val)
    (h1 : (i (1 : Fin 3)).val = (j (1 : Fin 3)).val) (h2 : (i (2 : Fin 3)).val = (j (2 : Fin 3)).val) : i = j :=
  funext fun x => Fin.ext (by
    match x with
    | ⟨0, _⟩ => exact h0
    | ⟨1, _⟩ => exact h1
    | ⟨2, _⟩ => exact h2)

theorem idx4 {a b c d : ℕ} {i j : (⟨4, ![a, b, c, d]⟩ : Shape).Idx} (h0 : (i (0 : Fin 4)).val = (j (0 : Fin 4)).val)
    (h1 : (i (1 : Fin 4)).val = (j (1 : Fin 4)).val) (h2 : (i (2 : Fin 4)).val = (j (2 : Fin 4)).val)
    (h3 : (i (3 : Fin 4)).val = (j (3 : Fin 4)).val) : i = j :=
  funext fun x => Fin.ext (by
    match x with
    | ⟨0, _⟩ => exact h0
    | ⟨1, _⟩ => exact h1
    | ⟨2, _⟩ => exact h2
    | ⟨3, _⟩ => exact h3)

variable (x0 : S2x8192x2304.Idx → EReal) (x1 : S2x8192x3072.Idx → EReal) (x2 : S2x8192x64.Idx → EReal) (x3 x4 : S2x8192x1x32.Idx → EReal)
variable (n0 : Num x0) (n1 : Num x1) (n2 : Num x2) (n3 : Num x3) (n4 : Num x4)
variable (c0 : ℝ) (hc : Ideal.ofBits .f32 0x3D93CD3A#32 = ((c0 : ℝ) : EReal))

/-- A scaled product. -/
abbrev lgc (b h i j : ℕ) : ℝ := c0 * lg (at3 x0) (at3 x1) (at3 x2) (at4 x3) (at4 x4) b h i j

include n0 n1 n2 n3 n4 hc in
theorem logit (b : Fin 2) (h : Fin 12) (i j : Fin 8192) :
    val_main_v34 (F := Ideal) x0 x1 x2 x3 x4 (ix4 b h i j) = ((lgc x0 x1 x2 x3 x4 c0 b.val h.val i.val j.val : ℝ) : EReal) := by
  rw [val_main_v34_apply, val_main_v33_apply, val_main_v32_apply]
  have e : ∀ k : Fin 192, val_main_v29 (F := Ideal) x0 x3 x4 (lidx_main_v32 (ix4 b h i j) k) * val_main_v31 (F := Ideal) x1 x2 x3 x4 (ridx_main_v32 (ix4 b h i j) k)
      = ((qf (at3 x0) (at4 x3) (at4 x4) b.val h.val i.val k.val * kf (at3 x1) (at3 x2) (at4 x3) (at4 x4) b.val h.val j.val k.val : ℝ) : EReal) := by
    intro k
    rw [show lidx_main_v32 (ix4 b h i j) k = ix4 b i h k from idx4 rfl rfl rfl rfl,
      show ridx_main_v32 (ix4 b h i j) k = ix4 b j h k from idx4 rfl rfl rfl rfl,
      q_full x0 x3 x4 n0 n3 n4, k_full x1 x2 x3 x4 n1 n2 n3 n4, ← EReal.coe_mul]
  rw [Finset.sum_congr rfl fun k _ => e k, ← coe_sum]
  show (_ : EReal) * Ideal.ofBits .f32 0x3D93CD3A#32 = _
  rw [hc, ← EReal.coe_mul]
  congr 1
  exact mul_comm _ _

theorem neg_inf : Ideal.ofBits .f32 0xFF800000#32 = (⊥ : EReal) := by simp [Ideal.ofBits, Ideal.ieee]

theorem sees (i j : Fin 8192) : IntOp.cmpi .sle (BitVec.ofNat 32 j.val) (BitVec.ofNat 32 i.val) = BitVec.ofBool (decide (j.val ≤ i.val)) := by
  have hi := i.isLt
  have hj := j.isLt
  have h : (BitVec.ofNat 32 j.val).toInt = (j.val : ℤ) := by
    rw [BitVec.toInt_eq_toNat_of_lt] <;> rw [BitVec.toNat_ofNat, Nat.mod_eq_of_lt (by omega)]; omega
  have h' : (BitVec.ofNat 32 i.val).toInt = (i.val : ℤ) := by
    rw [BitVec.toInt_eq_toNat_of_lt] <;> rw [BitVec.toNat_ofNat, Nat.mod_eq_of_lt (by omega)]; omega
  unfold IntOp.cmpi
  simp only [BitVec.sle, h, h']
  by_cases hab : j.val ≤ i.val
  · simp [hab]
  · simp [hab]

include n0 n1 n2 n3 n4 hc in
theorem masked (b : Fin 2) (h : Fin 12) (i j : Fin 8192) :
    val_main_v41 (F := Ideal) x0 x1 x2 x3 x4 (ix4 b h i j)
      = if j.val ≤ i.val then ((lgc x0 x1 x2 x3 x4 c0 b.val h.val i.val j.val : ℝ) : EReal) else ⊥ := by
  rw [val_main_v41_apply, logit x0 x1 x2 x3 x4 n0 n1 n2 n3 n4 c0 hc, val_main_call0_v1_apply, val_main_call0_v2_apply,
    val_main_v40_apply, val_main_v38_apply, val_main_v39_apply, val_main_v36_apply, val_main_v37_apply, val_main_v35_apply, val_main_v35_apply]
  show Scalar.select (IntOp.cmpi .sle (BitVec.ofNat 32 j.val) (BitVec.ofNat 32 i.val)) _ (Ideal.ofBits .f32 0xFF800000#32) = _
  rw [sees, neg_inf]
  by_cases hj : j.val ≤ i.val
  · rw [if_pos hj, decide_eq_true hj]; rfl
  · rw [if_neg hj, decide_eq_false hj]; rfl

include n0 n1 n2 n3 n4 hc in
theorem rowmax (b : Fin 2) (h : Fin 12) (i : Fin 8192) :
    ∃ μ : ℝ, val_main_v44 (F := Ideal) x0 x1 x2 x3 x4 (ix3 b h i) = ((μ : ℝ) : EReal) := by
  rw [val_main_v44_apply, val_main_v43_apply]
  have hr : S2x12x8192x8192.Reduces [3] S2x12x8192 := by decide
  have e : val_main_v42 (F := Ideal) x0 x1 x2 x3 x4 (ix3 b h i)
      = Finset.univ.sup fun k : Fin 8192 => val_main_v41 (F := Ideal) x0 x1 x2 x3 x4 (ix4 b h i k) := by
    unfold val_main_v42
    rw [Host.reduce_eq_fold_single FloatOps.maximumf _ _ reducesTo_S2x12x8192x8192_S2x12x8192_d3 hr h_S_]
    rw [show val_main_v41 (F := Ideal) x0 x1 x2 x3 x4 ∘ hr.lift (ix3 b h i) = fun k : Fin 8192 => val_main_v41 (F := Ideal) x0 x1 x2 x3 x4 (ix4 b h i k) from
      funext fun k => congrArg (val_main_v41 (F := Ideal) x0 x1 x2 x3 x4) (idx4 rfl rfl rfl rfl)]
    show Finset.fold max (Ideal.ofBits .f32 0xFF800000#32) _ _ = _
    rw [neg_inf]
    rfl
  obtain ⟨μ, hμ⟩ := sup_real Finset.univ (fun k : Fin 8192 => val_main_v41 (F := Ideal) x0 x1 x2 x3 x4 (ix4 b h i k))
    (fun k _ => by
      show val_main_v41 (F := Ideal) x0 x1 x2 x3 x4 (ix4 b h i k) ≠ ⊤
      rw [masked x0 x1 x2 x3 x4 n0 n1 n2 n3 n4 c0 hc]
      split
      · exact EReal.coe_ne_top _
      · exact bot_ne_top) i (Finset.mem_univ _) (by
      show val_main_v41 (F := Ideal) x0 x1 x2 x3 x4 (ix4 b h i i) ≠ ⊥
      rw [masked x0 x1 x2 x3 x4 n0 n1 n2 n3 n4 c0 hc, if_pos (le_refl _)]
      exact EReal.coe_ne_bot _)
  refine ⟨μ, ?_⟩
  rw [e, hμ]
  show max (Ideal.ofBits .f32 0xFF800000#32) _ = _
  rw [neg_inf]
  exact max_eq_right bot_le

include n0 n1 n2 n3 n4 hc in
theorem weights (b : Fin 2) (h : Fin 12) (i : Fin 8192) :
    ∃ μ : ℝ, ∀ j : Fin 8192, val_main_v48 (F := Ideal) x0 x1 x2 x3 x4 (ix4 b h i j)
      = (((if j.val ≤ i.val then Real.exp (lgc x0 x1 x2 x3 x4 c0 b.val h.val i.val j.val - μ) else 0 : ℝ)) : EReal) := by
  obtain ⟨μ, hμ⟩ := rowmax x0 x1 x2 x3 x4 n0 n1 n2 n3 n4 c0 hc b h i
  refine ⟨μ, fun j => ?_⟩
  rw [val_main_v48_apply, val_main_v47_apply, val_main_v46_apply, val_main_v45_apply,
    show idx_main_v45 (idx_main_v46 (ix4 b h i j)) = ix3 b h i from idx3 rfl rfl rfl, hμ,
    masked x0 x1 x2 x3 x4 n0 n1 n2 n3 n4 c0 hc]
  by_cases hj : j.val ≤ i.val
  · rw [if_pos hj, if_pos hj]
    show Ideal.exp (((_ : ℝ) : EReal) - ((μ : ℝ) : EReal)) = _
    rw [← EReal.coe_sub]
    rfl
  · rw [if_neg hj, if_neg hj]
    show Ideal.exp (⊥ - ((μ : ℝ) : EReal)) = _
    rw [EReal.bot_sub]
    rfl

include n0 n1 n2 n3 n4 hc in
theorem sum_eq (b : Fin 2) (h : Fin 12) (i : Fin 8192) (l : Fin 128) :
    val_main_v53 (F := Ideal) x0 x1 x2 x3 x4 (ix4 b h l i)
      = ((attn (at3 x0) (at3 x1) (at3 x2) (at4 x3) (at4 x4) c0 b.val h.val i.val l.val : ℝ) : EReal) := by
  obtain ⟨μ, hw⟩ := weights x0 x1 x2 x3 x4 n0 n1 n2 n3 n4 c0 hc b h i
  have hd := den_pos (at3 x0) (at3 x1) (at3 x2) (at4 x3) (at4 x4) c0 b.val h.val i.val i.isLt
  have hz : ∀ j : Fin 8192, (if j.val ≤ i.val then Real.exp (lgc x0 x1 x2 x3 x4 c0 b.val h.val i.val j.val - μ) else 0 : ℝ)
      = Real.exp (-μ) * (if j.val ≤ i.val then Real.exp (lgc x0 x1 x2 x3 x4 c0 b.val h.val i.val j.val) else 0) := by
    intro j
    split
    · rw [← Real.exp_add]; congr 1; ring
    · rw [mul_zero]
  have e49 : val_main_v49 (F := Ideal) x0 x1 x2 x3 x4 (ix3 b h i)
      = ((Real.exp (-μ) * den (at3 x0) (at3 x1) (at3 x2) (at4 x3) (at4 x4) c0 b.val h.val i.val : ℝ) : EReal) := by
    rw [val_main_v49_apply, Finset.sum_congr rfl (g := fun k : Fin 8192 => ((Real.exp (-μ) * (if k.val ≤ i.val then Real.exp (lgc x0 x1 x2 x3 x4 c0 b.val h.val i.val k.val) else 0) : ℝ) : EReal))
      (fun k _ => by rw [show idx_main_v49 (ix3 b h i) k = ix4 b h i k from idx4 rfl rfl rfl rfl, hw, hz]), ← coe_sum, ← Finset.mul_sum]
    show Ideal.ofBits .f32 0x00000000#32 + _ = _
    rw [Ideal.ofBits_zero_f32, zero_add]
    rfl
  have hne : Real.exp (-μ) * den (at3 x0) (at3 x1) (at3 x2) (at4 x3) (at4 x4) c0 b.val h.val i.val ≠ 0 := ne_of_gt (mul_pos (Real.exp_pos _) hd)
  have e52 : ∀ j : Fin 8192, val_main_v52 (F := Ideal) x0 x1 x2 x3 x4 (ix4 b h i j)
      = ((Real.exp (-μ) * (if j.val ≤ i.val then Real.exp (lgc x0 x1 x2 x3 x4 c0 b.val h.val i.val j.val) else 0)
          * (1 / (Real.exp (-μ) * den (at3 x0) (at3 x1) (at3 x2) (at4 x3) (at4 x4) c0 b.val h.val i.val)) : ℝ) : EReal) := by
    intro j
    rw [val_main_v52_apply, val_main_v51_apply, val_main_v50_apply,
      show idx_main_v50 (idx_main_v51 (ix4 b h i j)) = ix3 b h i from idx3 rfl rfl rfl, e49, hw, hz]
    show Ideal.div _ _ = _
    rw [Ideal.div_coe hne, ← EReal.coe_mul]
  rw [val_main_v53_apply, Finset.sum_congr rfl (g := fun k : Fin 8192 => ((vf (at3 x1) b.val h.val k.val l.val * (Real.exp (-μ) * (if k.val ≤ i.val then Real.exp (lgc x0 x1 x2 x3 x4 c0 b.val h.val i.val k.val) else 0)
          * (1 / (Real.exp (-μ) * den (at3 x0) (at3 x1) (at3 x2) (at4 x3) (at4 x4) c0 b.val h.val i.val))) : ℝ) : EReal))
      (fun k _ => by
        rw [show lidx_main_v53 (ix4 b h l i) k = ix4 b k h l from idx4 rfl rfl rfl rfl,
          show ridx_main_v53 (ix4 b h l i) k = ix4 b h i k from idx4 rfl rfl rfl rfl, v_full x1 n1, e52, ← EReal.coe_mul]), ← coe_sum]
  congr 1
  unfold attn num
  rw [Finset.sum_div]
  refine Finset.sum_congr rfl fun k _ => ?_
  have hx := Real.exp_pos (-μ)
  split
  · field_simp
  · ring

include n0 n1 n2 n3 n4 hc in
theorem value_eq (p : S16384x1536.Idx) :
    val_main_v56 (F := Ideal) x0 x1 x2 x3 x4 p
      = ((attn (at3 x0) (at3 x1) (at3 x2) (at4 x3) (at4 x4) c0
    ((p (0 : Fin 2)).val / 8192) ((p (1 : Fin 2)).val / 128) ((p (0 : Fin 2)).val % 8192) ((p (1 : Fin 2)).val % 128) : ℝ) : EReal) := by
  have h0 : (p (0 : Fin 2)).val < 16384 := (p (0 : Fin 2)).isLt
  have h1 : (p (1 : Fin 2)).val < 1536 := (p (1 : Fin 2)).isLt
  rw [val_main_v56_apply, val_main_v55_apply, val_main_v54_apply]
  show val_main_v53 (F := Ideal) x0 x1 x2 x3 x4 _ = _
  rw [show idx_main_v54 (idx_main_v55 p) = ix4 (⟨(p (0 : Fin 2)).val / 8192, by omega⟩ : Fin 2) (⟨(p (1 : Fin 2)).val / 128, by omega⟩ : Fin 12)
      (⟨(p (1 : Fin 2)).val % 128, by omega⟩ : Fin 128) (⟨(p (0 : Fin 2)).val % 8192, by omega⟩ : Fin 8192) from
    idx4 (by show ((p (0 : Fin 2)).val * 1536 + (p (1 : Fin 2)).val) / 12582912 = (p (0 : Fin 2)).val / 8192; omega)
      (by show ((p (0 : Fin 2)).val * 1536 + (p (1 : Fin 2)).val) / 128 % 12 = (p (1 : Fin 2)).val / 128; omega)
      (by show ((p (0 : Fin 2)).val * 1536 + (p (1 : Fin 2)).val) % 128 = (p (1 : Fin 2)).val % 128; omega)
      (by show ((p (0 : Fin 2)).val * 1536 + (p (1 : Fin 2)).val) / 1536 % 8192 = (p (0 : Fin 2)).val % 8192; omega),
    sum_eq x0 x1 x2 x3 x4 n0 n1 n2 n3 n4 c0 hc]

end Cert.ReferenceIdeal.Attn
-- ==== Proof.Finite.lean ====
module

public import proofs.«01_k».proof.Defs
public import proofs.«01_k».proof.Proof.KernelIdeal.Host
public import Idealize.ShloMosaic.Lib.ReduceAll
public import Idealize.ShloMosaic.Lib.Affine
public import Idealize.ShloMosaic.Lib.Decide

/-! The precondition says that every entry of every argument is a number. -/

@[expose] public section

set_option maxRecDepth 16384

noncomputable section

namespace Cert.Finite

open Idealize.ShloMosaic Idealize.ShloMosaic.TcCoe
open Cert.Pre_finite (S2x8192x2304 S2x8192x3072 S2x8192x64 S2x8192x1x32 S_)

instance facts : Cert.Pre_finite.Facts where
  bcast_S_S2x8192x2304 := by decide
  reducesTo_S2x8192x2304_S_d0_1_2 := by decide
  h_S_ := by decide
  bcast_S_S2x8192x3072 := by decide
  reducesTo_S2x8192x3072_S_d0_1_2 := by decide
  bcast_S_S2x8192x64 := by decide
  reducesTo_S2x8192x64_S_d0_1_2 := by decide
  bcast_S_S2x8192x1x32 := by decide
  reducesTo_S2x8192x1x32_S_d0_1_2_3 := by decide

theorem inf_eq : Ideal.ofBits .f32 0x7F800000#32 = (⊤ : EReal) := by simp [Ideal.ofBits, Ideal.ieee]

/-- An absolute value below the greatest extended real belongs to a number. -/
theorem num_of_lt (x : EReal) (h : Ideal.cmp .olt (max x (-x)) ⊤ = 1#1) : x ≠ ⊤ ∧ x ≠ ⊥ := by
  have h' : max x (-x) < ⊤ := by
    by_contra hn
    simp [Ideal.cmp, hn] at h
  constructor
  · rintro rfl
    simp at h'
  · rintro rfl
    simp at h'

instance : Subsingleton S_.Idx := ⟨fun a b => funext fun x => x.elim0⟩

theorem nums_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (p : s.Idx) : (x p : EReal) ≠ ⊤ ∧ (x p : EReal) ≠ ⊥ := by
  have e := Host.reduce_andi_all _ _ hr hu j h p
  refine num_of_lt (x p) ?_
  rw [← inf_eq]
  exact e

theorem nums (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Attn.Nums m c := by
  have e := congrFun (h c) (Shape.Idx.first (by decide : 0 < S_.numel))
  unfold Cert.Pre_finite.fn Cert.Pre_finite.fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨nums_of_all _ _ _ _ _ e0, nums_of_all _ _ _ _ _ e1, nums_of_all _ _ _ _ _ e2, nums_of_all _ _ _ _ _ e3, nums_of_all _ _ _ _ _ e4⟩

end Cert.Finite
-- ==== Proof.Kernel2Ideal.Gated.lean ====
module

public import proofs.«01_k».proof.Proof.Gen.Kernel2Ideal.Value
public import Idealize.ShloMosaic.Lib.Pointwise
public import Idealize.ShloMosaic.Lib.Pipeline.ValueKit

/-! The gated product: what one grid point leaves in its block, at an index. -/

@[expose] public section

set_option maxRecDepth 16384

noncomputable section

namespace Cert.Kernel2Ideal.Gated

open Cert.Kernel2Ideal Cert.Kernel2Ideal.Gen
open Idealize.ShloMosaic
open Idealize.ShloMosaic.TcCoe

/-- The gate `g` times its logistic function, times `u`. -/
def act (g u : EReal) : EReal := (g * Ideal.div 1 (1 + Ideal.exp (0 - g))) * u

abbrev lane (l : Fin 256) : Fin 128 := ⟨l.val % 128, Nat.mod_lt _ (by decide)⟩

theorem cat (x : FVec Ideal S1024x128 .f32) (p : Fin 1024) (l : Fin 256) :
    concatenate S1024x256 1 [⟨S1024x128, x⟩, ⟨S1024x128, x⟩] concatenates_S1024x128_S1024x128_S1024x256_d1 (ix2 p l) = x (ix2 p (lane l)) :=
  concatenate_replicate_apply (t := S1024x256) (s₁ := S1024x128) 1 2 x concatenates_S1024x128_S1024x128_S1024x256_d1 rfl (ix2 p l) (ix2 p (lane l)) rfl
    (fun b hb => by match b with | ⟨0, _⟩ => rfl | ⟨1, _⟩ => exact absurd rfl hb)

theorem gate_apply (w : Vec Ideal S1x4096x256 .bf16) (a : Vec Ideal S1024x4096 .bf16) (p : Fin 1024) (l : Fin 256) :
    k0_pay7 w a (ix2 p l) = ∑ k : Fin 4096, (a (ix2 p k) : EReal) * w (ix3 (0 : Fin 1) k l) := by
  pointwise [k0_pay7, k0_pay6, k0_pay4]

theorem up_apply (w : Vec Ideal S1x4096x256 .bf16) (a : Vec Ideal S1024x4096 .bf16) (p : Fin 1024) (l : Fin 256) :
    k0_pay8 w a (ix2 p l) = ∑ k : Fin 4096, (a (ix2 p k) : EReal) * w (ix3 (0 : Fin 1) k l) := by
  pointwise [k0_pay8, k0_pay6, k0_pay5]

/-- The pointwise part, over the two products and the row factors spread over the lanes. -/
def fin (g u y : FVec Ideal S1024x256 .f32) : FVec Ideal S1024x256 .f32 :=
  mulf (mulf (mulf g y) (divf (broadcast S1024x256 (Scalar.ofBits .f32 0x3F800000#32))
    (addf (broadcast S1024x256 (Scalar.ofBits .f32 0x3F800000#32)) (exp (subf (broadcast S1024x256 (Scalar.ofBits .f32 0x00000000#32)) (mulf g y)))))) (mulf u y)

theorem fin_apply (g u y : FVec Ideal S1024x256 .f32) (p : Fin 1024) (l : Fin 256) :
    fin g u y (ix2 p l) = act ((g (ix2 p l) : EReal) * y (ix2 p l)) ((u (ix2 p l) : EReal) * y (ix2 p l)) := by
  unfold act
  pointwise [fin]

theorem low_apply (g u : FVec Ideal S1024x256 .f32) (r : Vec Ideal S1024x128 .f32) (p : Fin 1024) (l : Fin 256) :
    k0_pay2 g u r (ix2 p l) = act ((g (ix2 p l) : EReal) * r (ix2 p (lane l))) ((u (ix2 p l) : EReal) * r (ix2 p (lane l))) := by
  have h : k0_pay2 g u r (ix2 p l) = fin g u (concatenate S1024x256 1 [⟨S1024x128, shapeCast S1024x128 r shapeCasts_S1024x128_S1024x128⟩,
    ⟨S1024x128, shapeCast S1024x128 r shapeCasts_S1024x128_S1024x128⟩] concatenates_S1024x128_S1024x128_S1024x256_d1) (ix2 p l) := rfl
  rw [h, shapeCast_self, fin_apply, cat]

theorem high_apply (wg wu : Vec Ideal S1x4096x256 .bf16) (a : Vec Ideal S1024x4096 .bf16) (r : Vec Ideal S1024x128 .f32) (p : Fin 1024) (l : Fin 256) :
    k0_pay1 (k0_pay9 wg wu a r) (ix2 p l) = act ((k0_pay7 wg a (ix2 p l) : EReal) * r (ix2 p (lane l))) ((k0_pay8 wu a (ix2 p l) : EReal) * r (ix2 p (lane l))) := by
  have h : k0_pay1 (k0_pay9 wg wu a r) (ix2 p l) = fin (k0_pay7 wg a) (k0_pay8 wu a) (concatenate S1024x256 1 [⟨S1024x128, shapeCast S1024x128 r shapeCasts_S1024x128_S1024x128⟩,
    ⟨S1024x128, shapeCast S1024x128 r shapeCasts_S1024x128_S1024x128⟩] concatenates_S1024x128_S1024x128_S1024x256_d1) (ix2 p l) := rfl
  rw [h, shapeCast_self, fin_apply, cat]

/-- What one point computes at row `p` and column `l` of its block, from its input blocks. -/
def blockAt (a : Vec Ideal S2048x4096 .bf16) (r : Vec Ideal S2048x128 .f32) (wg wu : Vec Ideal S1x4096x256 .bf16) (p : Fin 2048) (l : Fin 256) : EReal :=
  act ((∑ k : Fin 4096, (a (ix2 p k) : EReal) * wg (ix3 (0 : Fin 1) k l)) * r (ix2 p (lane l)))
    ((∑ k : Fin 4096, (a (ix2 p k) : EReal) * wu (ix3 (0 : Fin 1) k l)) * r (ix2 p (lane l)))

theorem ext2 {a b : ℕ} {i j : (⟨2, ![a, b]⟩ : Shape).Idx} (h0 : (i (0 : Fin 2)).val = (j (0 : Fin 2)).val)
    (h1 : (i (1 : Fin 2)).val = (j (1 : Fin 2)).val) : i = j :=
  funext fun x => Fin.ext (by
    match x with
    | ⟨0, _⟩ => exact h0
    | ⟨1, _⟩ => exact h1)

theorem ext3 {a b d : ℕ} {i j : (⟨3, ![a, b, d]⟩ : Shape).Idx} (h0 : (i (0 : Fin 3)).val = (j (0 : Fin 3)).val)
    (h1 : (i (1 : Fin 3)).val = (j (1 : Fin 3)).val) (h2 : (i (2 : Fin 3)).val = (j (2 : Fin 3)).val) : i = j :=
  funext fun x => Fin.ext (by
    match x with
    | ⟨0, _⟩ => exact h0
    | ⟨1, _⟩ => exact h1
    | ⟨2, _⟩ => exact h2)

section Loads

variable (a : Vec Ideal S2048x4096 .bf16) (r : Vec Ideal S2048x128 .f32) (w : Vec Ideal S1x4096x256 .bf16)

theorem ld_w (k : Fin 4096) (l : Fin 256) : View.ld w r0_1 (ix3 (0 : Fin 1) k l) = w (ix3 (0 : Fin 1) k l) :=
  congrArg w (ext3 (by show 0 + 1 * 0 = 0; omega) (by show 0 + 1 * k.val = k.val; omega) (by show 0 + 1 * l.val = l.val; omega))
theorem ld_a0 (p : Fin 1024) (k : Fin 4096) : View.ld a r0_2 (ix2 p k) = a (ix2 (⟨p.val, by omega⟩ : Fin 2048) k) :=
  congrArg a (ext2 (by show 0 + 1 * p.val = p.val; omega) (by show 0 + 1 * k.val = k.val; omega))
theorem ld_a1 (p : Fin 1024) (k : Fin 4096) : View.ld a r0_3 (ix2 p k) = a (ix2 (⟨1024 + p.val, by omega⟩ : Fin 2048) k) :=
  congrArg a (ext2 (by show 1024 + 1 * p.val = 1024 + p.val; omega) (by show 0 + 1 * k.val = k.val; omega))
theorem ld_r0 (p : Fin 1024) (k : Fin 128) : View.ld r r0_4 (ix2 p k) = r (ix2 (⟨p.val, by omega⟩ : Fin 2048) k) :=
  congrArg r (ext2 (by show 0 + 1 * p.val = p.val; omega) (by show 0 + 1 * k.val = k.val; omega))
theorem ld_r1 (p : Fin 1024) (k : Fin 128) : View.ld r r0_6 (ix2 p k) = r (ix2 (⟨1024 + p.val, by omega⟩ : Fin 2048) k) :=
  congrArg r (ext2 (by show 1024 + 1 * p.val = 1024 + p.val; omega) (by show 0 + 1 * k.val = k.val; omega))

end Loads

/-- The same as a block. -/
def blockFn (a : Vec Ideal S2048x4096 .bf16) (r : Vec Ideal S2048x128 .f32) (wg wu : Vec Ideal S1x4096x256 .bf16) : Vec Ideal S2048x256 .bf16 :=
  fun y => blockAt a r wg wu (y (0 : Fin 2)) (y (1 : Fin 2))

theorem out_apply (x0 : Vec Ideal S2048x4096 .bf16) (x1 : Vec Ideal S2048x128 .f32) (x2 x3 : Vec Ideal S1x4096x256 .bf16) (x4 : Vec Ideal S1x32x4096 .f32)
    (y : S2048x256.Idx) : out0_5 x0 x1 x2 x3 x4 y = blockAt x0 x1 x2 x3 (y (0 : Fin 2)) (y (1 : Fin 2)) := by
  unfold out0_5
  refine View.canon_apply_of_pieces (Val := Elt Ideal) (blockFn x0 x1 x2 x3) _ ?_ y (cover0_5 _ _ y)
  intro pc hpc
  rcases List.mem_cons.mp hpc with rfl | hpc
  · intro x
    obtain ⟨p, l, rfl⟩ : ∃ (p : Fin 1024) (l : Fin 256), x = ix2 p l := ⟨x (0 : Fin 2), x (1 : Fin 2), ext2 rfl rfl⟩
    have hp : (r0_7.emb (ix2 p l)) (0 : Fin 2) = (⟨1024 + p.val, by omega⟩ : Fin 2048) := Fin.ext (by show 1024 + 1 * p.val = 1024 + p.val; omega)
    have hl : (r0_7.emb (ix2 p l)) (1 : Fin 2) = l := Fin.ext (by show 0 + 1 * l.val = l.val; omega)
    refine (low_apply _ _ _ p l).trans ?_
    show _ = blockAt x0 x1 x2 x3 ((r0_7.emb (ix2 p l)) (0 : Fin 2)) ((r0_7.emb (ix2 p l)) (1 : Fin 2))
    rw [hp, hl, gate_apply, up_apply]
    unfold blockAt
    exact congrArg₂ act
      (congrArg₂ (fun a b : EReal => a * b) (Finset.sum_congr rfl fun k _ => congrArg₂ (fun a b : EReal => a * b) (ld_a1 x0 p k) (ld_w x2 k l)) (ld_r1 x1 p (lane l)))
      (congrArg₂ (fun a b : EReal => a * b) (Finset.sum_congr rfl fun k _ => congrArg₂ (fun a b : EReal => a * b) (ld_a1 x0 p k) (ld_w x3 k l)) (ld_r1 x1 p (lane l)))
  rcases List.mem_cons.mp hpc with rfl | hpc
  · intro x
    obtain ⟨p, l, rfl⟩ : ∃ (p : Fin 1024) (l : Fin 256), x = ix2 p l := ⟨x (0 : Fin 2), x (1 : Fin 2), ext2 rfl rfl⟩
    have hp : (r0_5.emb (ix2 p l)) (0 : Fin 2) = (⟨p.val, by omega⟩ : Fin 2048) := Fin.ext (by show 0 + 1 * p.val = p.val; omega)
    have hl : (r0_5.emb (ix2 p l)) (1 : Fin 2) = l := Fin.ext (by show 0 + 1 * l.val = l.val; omega)
    refine (high_apply _ _ _ _ p l).trans ?_
    show _ = blockAt x0 x1 x2 x3 ((r0_5.emb (ix2 p l)) (0 : Fin 2)) ((r0_5.emb (ix2 p l)) (1 : Fin 2))
    rw [hp, hl, gate_apply, up_apply]
    unfold blockAt
    exact congrArg₂ act
      (congrArg₂ (fun a b : EReal => a * b) (Finset.sum_congr rfl fun k _ => congrArg₂ (fun a b : EReal => a * b) (ld_a0 x0 p k) (ld_w x2 k l)) (ld_r0 x1 p (lane l)))
      (congrArg₂ (fun a b : EReal => a * b) (Finset.sum_congr rfl fun k _ => congrArg₂ (fun a b : EReal => a * b) (ld_a0 x0 p k) (ld_w x3 k l)) (ld_r0 x1 p (lane l)))
  nomatch hpc

end Cert.Kernel2Ideal.Gated
-- ==== Proof.Kernel2Ideal.Host.lean ====
module

public import proofs.«01_k».proof.Proof.Kernel2Ideal.Gated
public import Idealize.ShloMosaic.Lib.StableHlo.ReadAt

/-! What the arrays computed before the call hold at an index. -/

@[expose] public section

set_option maxRecDepth 16384

noncomputable section

namespace Cert.Kernel2Ideal.Gated

open Cert.Kernel2Ideal Cert.Kernel2Ideal.Gen
open Idealize.ShloMosaic
open Idealize.ShloMosaic.TcCoe

/-- The factor of a row: one over the root of its mean square and the small constant. -/
def rowFactor (x : S2x8192x4096.Idx → EReal) (b : Fin 2) (i : Fin 8192) : EReal :=
  Ideal.rsqrt (Ideal.div (∑ k : Fin 4096, x (ix3 b i k) * x (ix3 b i k)) (Ideal.ofBits .f32 0x45800000#32) + Ideal.ofBits .f32 0x358637BD#32)

abbrev seqOf (R : Fin 16384) : Fin 2 := ⟨R.val / 8192, by omega⟩
abbrev rowOf (R : Fin 16384) : Fin 8192 := ⟨R.val % 8192, by omega⟩

variable (m : (ℓ : Loc nD τ sig) → Buf (Elt Ideal) ℓ) (c : Dev nD)

abbrev X0 : S2x8192x4096.Idx → EReal := m ((c : Thread nD τ).loc main_arg0)
abbrev X1 : S4096.Idx → EReal := m ((c : Thread nD τ).loc main_arg1)
abbrev X2 : S4096x11008.Idx → EReal := m ((c : Thread nD τ).loc main_arg2)
abbrev X3 : S4096x11008.Idx → EReal := m ((c : Thread nD τ).loc main_arg3)
abbrev X4 : S11008x4096.Idx → EReal := m ((c : Thread nD τ).loc main_arg4)

theorem host_x (R : Fin 16384) (k : Fin 4096) :
    V m c main_v4 (ix2 R k) = X0 m c (ix3 (seqOf R) (rowOf R) k) * X1 m c (ix1 k) := by
  unfold V hostOps0
  after_reads_at
  try rfl

theorem host_r (R : Fin 16384) (L : Fin 128) : V m c main_v13 (ix2 R L) = rowFactor (X0 m c) (seqOf R) (rowOf R) := by
  unfold V hostOps0
  after_reads_at
  rfl

theorem host_g (k : Fin 4096) (C : Fin 11008) : V m c main_v15 (ix3 (0 : Fin 1) k C) = X2 m c (ix2 k C) := by
  unfold V hostOps0
  after_reads_at
  try rfl

theorem host_u (k : Fin 4096) (C : Fin 11008) : V m c main_v17 (ix3 (0 : Fin 1) k C) = X3 m c (ix2 k C) := by
  unfold V hostOps0
  after_reads_at
  try rfl

theorem host_d (k : Fin 11008) (C : Fin 4096) : V m c main_v18 (ix3 (0 : Fin 1) k C) = X4 m c (ix2 k C) := by
  unfold V hostOps0
  after_reads_at
  try rfl

end Cert.Kernel2Ideal.Gated
-- ==== Proof.Kernel2Ideal.Array.lean ====
module

public import proofs.«01_k».proof.Proof.Kernel2Ideal.Host

/-! The two result arrays of the gated product's call. -/

@[expose] public section

set_option maxRecDepth 16384

noncomputable section

namespace Cert.Kernel2Ideal.Gated

open Cert.Kernel2Ideal Cert.Kernel2Ideal.Gen
open Idealize.ShloMosaic
open Idealize.ShloMosaic.TcCoe

theorem index_0 : ∀ t : Fin cfg0.N, (cfg0.win (0 : Fin 7)).index t = ![t.val / 43, 0] := by decide +kernel
theorem index_1 : ∀ t : Fin cfg0.N, (cfg0.win (1 : Fin 7)).index t = ![t.val / 43, 0] := by decide +kernel
theorem index_2 : ∀ t : Fin cfg0.N, (cfg0.win (2 : Fin 7)).index t = ![0, 0, t.val % 43] := by decide +kernel
theorem index_3 : ∀ t : Fin cfg0.N, (cfg0.win (3 : Fin 7)).index t = ![0, 0, t.val % 43] := by decide +kernel
theorem index_4 : ∀ t : Fin cfg0.N, (cfg0.win (4 : Fin 7)).index t = ![0, t.val, 0] := by decide +kernel
theorem index_5 : ∀ t : Fin cfg0.N, (cfg0.win (5 : Fin 7)).index t = ![t.val / 43, t.val % 43] := by decide +kernel
theorem index_6 : ∀ t : Fin cfg0.N, (cfg0.win (6 : Fin 7)).index t = ![0, t.val, 0] := by decide +kernel
theorem covers_5 : (cfg0.win (5 : Fin 7)).Covers := by decide +kernel
theorem covers_6 : (cfg0.win (6 : Fin 7)).Covers := by decide +kernel

variable (m : (ℓ : Loc nD τ sig) → Buf (Elt Ideal) ℓ) (c : Dev nD) (t : Fin cfg0.N)

theorem blkX (r : Fin 2048) (k : Fin 4096) (R : Fin 16384) (hR : R.val = 2048 * (t.val / 43) + r.val) :
    iblk m c (0 : Fin 7) t (ix2 r k) = X0 m c (ix3 (seqOf R) (rowOf R) k) * X1 m c (ix1 k) := by
  have e0 : ((((cfg0.win (0 : Fin 7)).blk t).view.emb (ix2 r k)) (0 : Fin 2)).val
      = (cfg0.win (0 : Fin 7)).index t (0 : Fin 2) * 2048 + r.val :=
    Pipeline.Window.rect_emb_val (cfg0.win (0 : Fin 7)) t (ix2 r k) (0 : Fin 2)
  have e1 : ((((cfg0.win (0 : Fin 7)).blk t).view.emb (ix2 r k)) (1 : Fin 2)).val
      = (cfg0.win (0 : Fin 7)).index t (1 : Fin 2) * 4096 + k.val :=
    Pipeline.Window.rect_emb_val (cfg0.win (0 : Fin 7)) t (ix2 r k) (1 : Fin 2)
  have h0 : (cfg0.win (0 : Fin 7)).index t (0 : Fin 2) = t.val / 43 := congrFun (index_0 t) (0 : Fin 2)
  have h1 : (cfg0.win (0 : Fin 7)).index t (1 : Fin 2) = 0 := congrFun (index_0 t) (1 : Fin 2)
  rw [h0] at e0
  rw [h1] at e1
  have hj : ((cfg0.win (0 : Fin 7)).blk t).view.emb (ix2 r k) = ix2 R k := by
    refine ext2 ?_ ?_
    · exact e0.trans (by show _ = R.val; omega)
    · exact e1.trans (by show _ = k.val; omega)
  exact (congrArg (V m c main_v4) hj).trans (host_x m c R k)

theorem blkR (r : Fin 2048) (k : Fin 128) (R : Fin 16384) (hR : R.val = 2048 * (t.val / 43) + r.val) :
    iblk m c (1 : Fin 7) t (ix2 r k) = rowFactor (X0 m c) (seqOf R) (rowOf R) := by
  have e0 : ((((cfg0.win (1 : Fin 7)).blk t).view.emb (ix2 r k)) (0 : Fin 2)).val
      = (cfg0.win (1 : Fin 7)).index t (0 : Fin 2) * 2048 + r.val :=
    Pipeline.Window.rect_emb_val (cfg0.win (1 : Fin 7)) t (ix2 r k) (0 : Fin 2)
  have e1 : ((((cfg0.win (1 : Fin 7)).blk t).view.emb (ix2 r k)) (1 : Fin 2)).val
      = (cfg0.win (1 : Fin 7)).index t (1 : Fin 2) * 128 + k.val :=
    Pipeline.Window.rect_emb_val (cfg0.win (1 : Fin 7)) t (ix2 r k) (1 : Fin 2)
  have h0 : (cfg0.win (1 : Fin 7)).index t (0 : Fin 2) = t.val / 43 := congrFun (index_1 t) (0 : Fin 2)
  have h1 : (cfg0.win (1 : Fin 7)).index t (1 : Fin 2) = 0 := congrFun (index_1 t) (1 : Fin 2)
  rw [h0] at e0
  rw [h1] at e1
  have hj : ((cfg0.win (1 : Fin 7)).blk t).view.emb (ix2 r k) = ix2 R k := by
    refine ext2 ?_ ?_
    · exact e0.trans (by show _ = R.val; omega)
    · exact e1.trans (by show _ = k.val; omega)
  exact (congrArg (V m c main_v13) hj).trans (host_r m c R k)

theorem blkG (k : Fin 4096) (l : Fin 256) (C : Fin 11008) (hC : C.val = 256 * (t.val % 43) + l.val) :
    iblk m c (2 : Fin 7) t (ix3 (0 : Fin 1) k l) = X2 m c (ix2 k C) := by
  have e0 : ((((cfg0.win (2 : Fin 7)).blk t).view.emb (ix3 (0 : Fin 1) k l)) (0 : Fin 3)).val
      = (cfg0.win (2 : Fin 7)).index t (0 : Fin 3) * 1 + 0 :=
    Pipeline.Window.rect_emb_val (cfg0.win (2 : Fin 7)) t (ix3 (0 : Fin 1) k l) (0 : Fin 3)
  have e1 : ((((cfg0.win (2 : Fin 7)).blk t).view.emb (ix3 (0 : Fin 1) k l)) (1 : Fin 3)).val
      = (cfg0.win (2 : Fin 7)).index t (1 : Fin 3) * 4096 + k.val :=
    Pipeline.Window.rect_emb_val (cfg0.win (2 : Fin 7)) t (ix3 (0 : Fin 1) k l) (1 : Fin 3)
  have e2 : ((((cfg0.win (2 : Fin 7)).blk t).view.emb (ix3 (0 : Fin 1) k l)) (2 : Fin 3)).val
      = (cfg0.win (2 : Fin 7)).index t (2 : Fin 3) * 256 + l.val :=
    Pipeline.Window.rect_emb_val (cfg0.win (2 : Fin 7)) t (ix3 (0 : Fin 1) k l) (2 : Fin 3)
  have h0 : (cfg0.win (2 : Fin 7)).index t (0 : Fin 3) = 0 := congrFun (index_2 t) (0 : Fin 3)
  have h1 : (cfg0.win (2 : Fin 7)).index t (1 : Fin 3) = 0 := congrFun (index_2 t) (1 : Fin 3)
  have h2 : (cfg0.win (2 : Fin 7)).index t (2 : Fin 3) = t.val % 43 := congrFun (index_2 t) (2 : Fin 3)
  rw [h0] at e0
  rw [h1] at e1
  rw [h2] at e2
  have hj : ((cfg0.win (2 : Fin 7)).blk t).view.emb (ix3 (0 : Fin 1) k l) = ix3 (0 : Fin 1) k C := by
    refine ext3 ?_ ?_ ?_
    · exact e0.trans rfl
    · exact e1.trans (by show _ = k.val; omega)
    · exact e2.trans (by show _ = C.val; omega)
  exact (congrArg (V m c main_v15) hj).trans (host_g m c k C)

theorem blkU (k : Fin 4096) (l : Fin 256) (C : Fin 11008) (hC : C.val = 256 * (t.val % 43) + l.val) :
    iblk m c (3 : Fin 7) t (ix3 (0 : Fin 1) k l) = X3 m c (ix2 k C) := by
  have e0 : ((((cfg0.win (3 : Fin 7)).blk t).view.emb (ix3 (0 : Fin 1) k l)) (0 : Fin 3)).val
      = (cfg0.win (3 : Fin 7)).index t (0 : Fin 3) * 1 + 0 :=
    Pipeline.Window.rect_emb_val (cfg0.win (3 : Fin 7)) t (ix3 (0 : Fin 1) k l) (0 : Fin 3)
  have e1 : ((((cfg0.win (3 : Fin 7)).blk t).view.emb (ix3 (0 : Fin 1) k l)) (1 : Fin 3)).val
      = (cfg0.win (3 : Fin 7)).index t (1 : Fin 3) * 4096 + k.val :=
    Pipeline.Window.rect_emb_val (cfg0.win (3 : Fin 7)) t (ix3 (0 : Fin 1) k l) (1 : Fin 3)
  have e2 : ((((cfg0.win (3 : Fin 7)).blk t).view.emb (ix3 (0 : Fin 1) k l)) (2 : Fin 3)).val
      = (cfg0.win (3 : Fin 7)).index t (2 : Fin 3) * 256 + l.val :=
    Pipeline.Window.rect_emb_val (cfg0.win (3 : Fin 7)) t (ix3 (0 : Fin 1) k l) (2 : Fin 3)
  have h0 : (cfg0.win (3 : Fin 7)).index t (0 : Fin 3) = 0 := congrFun (index_3 t) (0 : Fin 3)
  have h1 : (cfg0.win (3 : Fin 7)).index t (1 : Fin 3) = 0 := congrFun (index_3 t) (1 : Fin 3)
  have h2 : (cfg0.win (3 : Fin 7)).index t (2 : Fin 3) = t.val % 43 := congrFun (index_3 t) (2 : Fin 3)
  rw [h0] at e0
  rw [h1] at e1
  rw [h2] at e2
  have hj : ((cfg0.win (3 : Fin 7)).blk t).view.emb (ix3 (0 : Fin 1) k l) = ix3 (0 : Fin 1) k C := by
    refine ext3 ?_ ?_ ?_
    · exact e0.trans rfl
    · exact e1.trans (by show _ = k.val; omega)
    · exact e2.trans (by show _ = C.val; omega)
  exact (congrArg (V m c main_v17) hj).trans (host_u m c k C)

theorem blkD (r : Fin 32) (l : Fin 4096) (R : Fin 11008) (hR : R.val = 32 * t.val + r.val) :
    iblk m c (4 : Fin 7) t (ix3 (0 : Fin 1) r l) = X4 m c (ix2 R l) := by
  have e0 : ((((cfg0.win (4 : Fin 7)).blk t).view.emb (ix3 (0 : Fin 1) r l)) (0 : Fin 3)).val
      = (cfg0.win (4 : Fin 7)).index t (0 : Fin 3) * 1 + 0 :=
    Pipeline.Window.rect_emb_val (cfg0.win (4 : Fin 7)) t (ix3 (0 : Fin 1) r l) (0 : Fin 3)
  have e1 : ((((cfg0.win (4 : Fin 7)).blk t).view.emb (ix3 (0 : Fin 1) r l)) (1 : Fin 3)).val
      = (cfg0.win (4 : Fin 7)).index t (1 : Fin 3) * 32 + r.val :=
    Pipeline.Window.rect_emb_val (cfg0.win (4 : Fin 7)) t (ix3 (0 : Fin 1) r l) (1 : Fin 3)
  have e2 : ((((cfg0.win (4 : Fin 7)).blk t).view.emb (ix3 (0 : Fin 1) r l)) (2 : Fin 3)).val
      = (cfg0.win (4 : Fin 7)).index t (2 : Fin 3) * 4096 + l.val :=
    Pipeline.Window.rect_emb_val (cfg0.win (4 : Fin 7)) t (ix3 (0 : Fin 1) r l) (2 : Fin 3)
  have h0 : (cfg0.win (4 : Fin 7)).index t (0 : Fin 3) = 0 := congrFun (index_4 t) (0 : Fin 3)
  have h1 : (cfg0.win (4 : Fin 7)).index t (1 : Fin 3) = t.val := congrFun (index_4 t) (1 : Fin 3)
  have h2 : (cfg0.win (4 : Fin 7)).index t (2 : Fin 3) = 0 := congrFun (index_4 t) (2 : Fin 3)
  rw [h0] at e0
  rw [h1] at e1
  rw [h2] at e2
  have hj : ((cfg0.win (4 : Fin 7)).blk t).view.emb (ix3 (0 : Fin 1) r l) = ix3 (0 : Fin 1) R l := by
    refine ext3 ?_ ?_ ?_
    · exact e0.trans rfl
    · exact e1.trans (by show _ = R.val; omega)
    · exact e2.trans (by show _ = l.val; omega)
  exact (congrArg (V m c main_v18) hj).trans (host_d m c R l)

/-- One of the two products at row `R` and column `C`, the row's factor outside. -/
def prod (x : S2x8192x4096.Idx → EReal) (g : S4096.Idx → EReal) (w : S4096x11008.Idx → EReal) (R : Fin 16384) (C : Fin 11008) : EReal :=
  (∑ k : Fin 4096, x (ix3 (seqOf R) (rowOf R) k) * g (ix1 k) * w (ix2 k C)) * rowFactor x (seqOf R) (rowOf R)

/-- The gated product, written out once. -/
def out : S16384x11008.Idx → EReal := fun p =>
  act (prod (X0 m c) (X1 m c) (X2 m c) (p (0 : Fin 2)) (p (1 : Fin 2))) (prod (X0 m c) (X1 m c) (X3 m c) (p (0 : Fin 2)) (p (1 : Fin 2)))

/-- The last weight, with its leading axis. -/
def outD : S1x11008x4096.Idx → EReal := fun p => X4 m c (ix2 (p (1 : Fin 3)) (p (2 : Fin 3)))

theorem result_eq : (dats m 0 c).arrAt (5 : Fin 7) cfg0.N = out m c := by
  refine (dats m 0 c).arrAt_eq_of_covers (5 : Fin 7) _ covers_5 fun t hf y => ?_
  blk_simp
  rw [after0_5]
  have hy : y = ix2 (y (0 : Fin 2)) (y (1 : Fin 2)) := ext2 rfl rfl
  have e0 : ((((cfg0.win (5 : Fin 7)).blk t).view.emb y) (0 : Fin 2)).val
      = (cfg0.win (5 : Fin 7)).index t (0 : Fin 2) * 2048 + (y (0 : Fin 2)).val :=
    Pipeline.Window.rect_emb_val (cfg0.win (5 : Fin 7)) t y (0 : Fin 2)
  have e1 : ((((cfg0.win (5 : Fin 7)).blk t).view.emb y) (1 : Fin 2)).val
      = (cfg0.win (5 : Fin 7)).index t (1 : Fin 2) * 256 + (y (1 : Fin 2)).val :=
    Pipeline.Window.rect_emb_val (cfg0.win (5 : Fin 7)) t y (1 : Fin 2)
  have h0 : (cfg0.win (5 : Fin 7)).index t (0 : Fin 2) = t.val / 43 := congrFun (index_5 t) (0 : Fin 2)
  have h1 : (cfg0.win (5 : Fin 7)).index t (1 : Fin 2) = t.val % 43 := congrFun (index_5 t) (1 : Fin 2)
  rw [h0] at e0
  rw [h1] at e1
  have hR : ((((cfg0.win (5 : Fin 7)).blk t).view.emb y) (0 : Fin 2)).val = 2048 * (t.val / 43) + (y (0 : Fin 2)).val :=
    e0.trans (by omega)
  have hC : ((((cfg0.win (5 : Fin 7)).blk t).view.emb y) (1 : Fin 2)).val = 256 * (t.val % 43) + (y (1 : Fin 2)).val :=
    e1.trans (by omega)
  refine (out_apply _ _ _ _ _ y).trans ?_
  exact congrArg₂ act
    (congrArg₂ (fun a b : EReal => a * b)
      (Finset.sum_congr rfl fun k _ => congrArg₂ (fun a b : EReal => a * b) (blkX m c t _ k _ hR) (blkG m c t k _ _ hC))
      (blkR m c t _ _ _ hR))
    (congrArg₂ (fun a b : EReal => a * b)
      (Finset.sum_congr rfl fun k _ => congrArg₂ (fun a b : EReal => a * b) (blkX m c t _ k _ hR) (blkU m c t k _ _ hC))
      (blkR m c t _ _ _ hR))

theorem out6_apply (x0 : Vec Ideal S2048x4096 .bf16) (x1 : Vec Ideal S2048x128 .f32) (x2 x3 : Vec Ideal S1x4096x256 .bf16) (x4 : Vec Ideal S1x32x4096 .f32)
    (y : S1x32x4096.Idx) : out0_6 x0 x1 x2 x3 x4 y = x4 (ix3 (0 : Fin 1) (y (1 : Fin 3)) (y (2 : Fin 3))) := by
  unfold out0_6
  refine (Value.canon6_eq _ y).trans ?_
  exact congrArg x4 (ext3 (by show 0 + 1 * 0 = 0; omega) (by show 0 + 1 * (y (1 : Fin 3)).val = (y (1 : Fin 3)).val; omega)
    (by show 0 + 1 * (y (2 : Fin 3)).val = (y (2 : Fin 3)).val; omega))

theorem resultD_eq : (dats m 0 c).arrAt (6 : Fin 7) cfg0.N = outD m c := by
  refine (dats m 0 c).arrAt_eq_of_covers (6 : Fin 7) _ covers_6 fun t hf y => ?_
  blk_simp
  rw [after0_6]
  have e1 : ((((cfg0.win (6 : Fin 7)).blk t).view.emb y) (1 : Fin 3)).val
      = (cfg0.win (6 : Fin 7)).index t (1 : Fin 3) * 32 + (y (1 : Fin 3)).val :=
    Pipeline.Window.rect_emb_val (cfg0.win (6 : Fin 7)) t y (1 : Fin 3)
  have e2 : ((((cfg0.win (6 : Fin 7)).blk t).view.emb y) (2 : Fin 3)).val
      = (cfg0.win (6 : Fin 7)).index t (2 : Fin 3) * 4096 + (y (2 : Fin 3)).val :=
    Pipeline.Window.rect_emb_val (cfg0.win (6 : Fin 7)) t y (2 : Fin 3)
  have h1 : (cfg0.win (6 : Fin 7)).index t (1 : Fin 3) = t.val := congrFun (index_6 t) (1 : Fin 3)
  have h2 : (cfg0.win (6 : Fin 7)).index t (2 : Fin 3) = 0 := congrFun (index_6 t) (2 : Fin 3)
  rw [h1] at e1
  rw [h2] at e2
  have hR : ((((cfg0.win (6 : Fin 7)).blk t).view.emb y) (1 : Fin 3)).val = 32 * t.val + (y (1 : Fin 3)).val :=
    e1.trans (by omega)
  have hC : (y (2 : Fin 3)).val = ((((cfg0.win (6 : Fin 7)).blk t).view.emb y) (2 : Fin 3)).val := (e2.trans (by omega)).symm
  refine (out6_apply _ _ _ _ _ y).trans ((blkD m c t _ _ _ hR).trans ?_)
  exact congrArg (X4 m c) (ext2 rfl hC)

end Cert.Kernel2Ideal.Gated
-- ==== Proof.Kernel2Ideal.Factor.lean ====
module

public import Idealize.ShloMosaic.PureOps.Ideal.Laws

/-! A row's factor is never negative and never infinite, so it may be taken out of a sum over the extended reals. -/

@[expose] public section

noncomputable section

namespace Cert.Kernel2Ideal.Gated

open Idealize.ShloMosaic

theorem sq_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

theorem rsqrt_pos_arg (x : EReal) (h : 0 < x) : 0 ≤ Ideal.rsqrt x ∧ Ideal.rsqrt x ≠ ⊤ := by
  induction x with
  | bot => exact absurd h (by simp)
  | top => exact ⟨le_refl _, EReal.zero_ne_top⟩
  | coe r =>
    have hr : 0 < r := EReal.coe_pos.mp h
    have e : Ideal.rsqrt (r : EReal) = (((Real.sqrt r)⁻¹ : ℝ) : EReal) := by
      show (if r < 0 then ⊥ else if r = 0 then ⊤ else (((Real.sqrt r)⁻¹ : ℝ) : EReal)) = _
      rw [if_neg (by linarith), if_neg (by linarith)]
    rw [e]
    exact ⟨EReal.coe_nonneg.mpr (inv_nonneg.mpr (Real.sqrt_nonneg r)), EReal.coe_ne_top _⟩

theorem count_eq : Ideal.ofBits .f32 0x45800000#32 = ((4096 : ℝ) : EReal) := by
  simp [Ideal.ofBits, Ideal.ieee, -EReal.coe_mul]; norm_num

theorem small_pos : 0 < Ideal.ofBits .f32 0x358637BD#32 := by
  simp [Ideal.ofBits, Ideal.ieee, -EReal.coe_mul]

theorem factor_bounds {n : ℕ} (f : Fin n → EReal) :
    0 ≤ Ideal.rsqrt (Ideal.div (∑ k, f k * f k) (Ideal.ofBits .f32 0x45800000#32) + Ideal.ofBits .f32 0x358637BD#32)
      ∧ Ideal.rsqrt (Ideal.div (∑ k, f k * f k) (Ideal.ofBits .f32 0x45800000#32) + Ideal.ofBits .f32 0x358637BD#32) ≠ ⊤ := by
  refine rsqrt_pos_arg _ (lt_of_lt_of_le small_pos (le_add_of_nonneg_left ?_))
  rw [count_eq, Ideal.div_coe (by norm_num)]
  exact mul_nonneg (Finset.sum_nonneg fun k _ => sq_nonneg _) (EReal.coe_nonneg.mpr (by norm_num))

/-- A factor that is neither negative nor infinite leaves a sum of extended reals. -/
theorem sum_mul_factor {n : ℕ} (f : Fin n → EReal) (r : EReal) (h0 : 0 ≤ r) (ht : r ≠ ⊤) : (∑ k, f k) * r = ∑ k, f k * r := by
  induction n with
  | zero => simp
  | succ n ih =>
    rw [Fin.sum_univ_succ, Fin.sum_univ_succ, EReal.right_distrib_of_nonneg_of_ne_top h0 ht, ih]

/-- The row's factor inside the product or outside of it. -/
theorem product_factor {n : ℕ} (x g w : Fin n → EReal) (r : EReal) (h0 : 0 ≤ r) (ht : r ≠ ⊤) :
    (∑ k, x k * g k * w k) * r = ∑ k, x k * r * g k * w k := by
  rw [sum_mul_factor _ r h0 ht]
  exact Finset.sum_congr rfl fun k _ => by
    rw [mul_assoc (x k) r (g k), mul_comm r (g k), ← mul_assoc (x k) (g k) r, mul_assoc (x k * g k) r (w k), mul_comm r (w k), ← mul_assoc]

end Cert.Kernel2Ideal.Gated
-- ==== Proof.Reference2Ideal.Gated.lean ====
module

public import proofs.«01_k».proof.Proof.Gen.Reference2Ideal.Read
public import proofs.«01_k».proof.Proof.Kernel2Ideal.Array
public import proofs.«01_k».proof.Proof.Kernel2Ideal.Factor

/-! The reference's gated product at an index: the row's factor taken out of the two products. -/

@[expose] public section

set_option maxRecDepth 16384

noncomputable section

namespace Cert.Reference2Ideal.Gated

open Cert.Reference2Ideal Cert.Reference2Ideal.Read
open Idealize.ShloMosaic
open Idealize.ShloMosaic.TcCoe
open Cert.Kernel2Ideal.Gated (rowFactor prod act seqOf rowOf ext2 ext3 factor_bounds product_factor)

variable (x0 : S2x8192x4096.Idx → EReal) (x1 : S4096.Idx → EReal) (x2 x3 : S4096x11008.Idx → EReal) (x4 : S11008x4096.Idx → EReal)

theorem one_eq : Ideal.ofBits .f32 0x3F800000#32 = (1 : EReal) := Ideal.ofBits_one_f32

theorem sum_sq (b : Fin 2) (i : Fin 8192) : val_main_v1 (F := Ideal) x0 (ix2 b i) = ∑ k : Fin 4096, x0 (ix3 b i k) * x0 (ix3 b i k) := by
  rw [val_main_v1_apply]
  have h : ∀ i, val_main_cst (F := Ideal) i = (0 : EReal) := fun _ => Ideal.ofBits_zero_f32
  rw [h]
  refine (zero_add _).trans (Finset.sum_congr rfl fun k _ => ?_)
  have e : idx_main_v1 (ix2 b i) k = ix3 b i k := ext3 rfl rfl rfl
  rw [e]
  rfl

theorem factor (b : Fin 2) (i : Fin 8192) : val_main_v7 (F := Ideal) x0 (ix3 b i (0 : Fin 1)) = rowFactor x0 b i := by
  have h2 : val_main_v2 (F := Ideal) x0 (ix3 b i (0 : Fin 1)) = ∑ k : Fin 4096, x0 (ix3 b i k) * x0 (ix3 b i k) := by
    rw [val_main_v2_apply]
    have e : idx_main_v2 (ix3 b i (0 : Fin 1)) = ix2 b i := ext2 rfl rfl
    rw [e, sum_sq]
  have h3 : val_main_v3 (F := Ideal) (ix3 b i (0 : Fin 1)) = Ideal.ofBits .f32 0x45800000#32 := by
    rw [val_main_v3_apply]
    rfl
  have h5 : val_main_v5 (F := Ideal) (ix3 b i (0 : Fin 1)) = Ideal.ofBits .f32 0x358637BD#32 := by
    rw [val_main_v5_apply]
    rfl
  unfold rowFactor
  rw [← h2, ← h3, ← h5]
  rfl

theorem normed (b : Fin 2) (i : Fin 8192) (k : Fin 4096) :
    val_main_v12 (F := Ideal) x0 x1 (ix3 b i k) = x0 (ix3 b i k) * rowFactor x0 b i * x1 (ix1 k) := by
  have h8 : val_main_v8 (F := Ideal) x0 (ix3 b i k) = rowFactor x0 b i := by
    rw [val_main_v8_apply]
    have e : idx_main_v8 (ix3 b i k) = ix3 b i (0 : Fin 1) := ext3 rfl rfl rfl
    rw [e, factor]
  have h11 : val_main_v11 (F := Ideal) x1 (ix3 b i k) = x1 (ix1 k) := by
    rw [val_main_v11_apply, val_main_v10_apply]
    exact congrArg x1 (funext fun a => Fin.ext (by match a with | ⟨0, _⟩ => rfl))
  rw [← h8, ← h11]
  rfl

theorem gate (b : Fin 2) (i : Fin 8192) (C : Fin 11008) (R : Fin 16384) (hb : seqOf R = b) (hi : rowOf R = i) :
    val_main_v13 (F := Ideal) x0 x1 x2 (ix3 b i C) = prod x0 x1 x2 R C := by
  rw [val_main_v13_apply]
  unfold prod
  rw [hb, hi]
  obtain ⟨h0, ht⟩ := factor_bounds (fun k : Fin 4096 => x0 (ix3 b i k))
  refine Eq.trans (Finset.sum_congr rfl fun k _ => ?_)
    (product_factor (fun k => x0 (ix3 b i k)) (fun k => x1 (ix1 k)) (fun k => x2 (ix2 k C)) (rowFactor x0 b i) h0 ht).symm
  have e : lidx_main_v13 (ix3 b i C) k = ix3 b i k := ext3 rfl rfl rfl
  have e' : ridx_main_v13 (ix3 b i C) k = ix2 k C := ext2 rfl rfl
  rw [e, e', normed]

theorem up (b : Fin 2) (i : Fin 8192) (C : Fin 11008) (R : Fin 16384) (hb : seqOf R = b) (hi : rowOf R = i) :
    val_main_v15 (F := Ideal) x0 x1 x3 (ix3 b i C) = prod x0 x1 x3 R C := by
  rw [val_main_v15_apply]
  unfold prod
  rw [hb, hi]
  obtain ⟨h0, ht⟩ := factor_bounds (fun k : Fin 4096 => x0 (ix3 b i k))
  refine Eq.trans (Finset.sum_congr rfl fun k _ => ?_)
    (product_factor (fun k => x0 (ix3 b i k)) (fun k => x1 (ix1 k)) (fun k => x3 (ix2 k C)) (rowFactor x0 b i) h0 ht).symm
  have e : lidx_main_v15 (ix3 b i C) k = ix3 b i k := ext3 rfl rfl rfl
  have e' : ridx_main_v15 (ix3 b i C) k = ix2 k C := ext2 rfl rfl
  rw [e, e', normed]

theorem gated (q : S2x8192x11008.Idx) :
    val_main_v16 (F := Ideal) x0 x1 x2 x3 q = act (val_main_v13 (F := Ideal) x0 x1 x2 q) (val_main_v15 (F := Ideal) x0 x1 x3 q) := by
  have h2 : val_main_call0_v2 (F := Ideal) q = (1 : EReal) := by
    rw [val_main_call0_v2_apply]
    exact one_eq
  have h4 : val_main_call0_v4 (F := Ideal) q = (1 : EReal) := by
    rw [val_main_call0_v4_apply]
    exact one_eq
  have h0 : val_main_call0_v0 (F := Ideal) x0 x1 x2 q = (0 : EReal) - val_main_v13 (F := Ideal) x0 x1 x2 q := (zero_sub _).symm
  have h3 : val_main_call0_v3 (F := Ideal) x0 x1 x2 q = (1 : EReal) + Ideal.exp (0 - val_main_v13 (F := Ideal) x0 x1 x2 q) := by
    rw [← h0, ← h2]
    rfl
  have h5 : val_main_call0_v5 (F := Ideal) x0 x1 x2 q = Ideal.div 1 (1 + Ideal.exp (0 - val_main_v13 (F := Ideal) x0 x1 x2 q)) := by
    rw [← h3]
    exact congrArg (fun y : EReal => Ideal.div y (val_main_call0_v3 (F := Ideal) x0 x1 x2 q)) h4
  unfold act
  rw [← h5]
  rfl

/-- The reference's first result, at an index. -/
theorem value_eq (p : S16384x11008.Idx) :
    val_main_v18 (F := Ideal) x0 x1 x2 x3 p = act (prod x0 x1 x2 (p (0 : Fin 2)) (p (1 : Fin 2))) (prod x0 x1 x3 (p (0 : Fin 2)) (p (1 : Fin 2))) := by
  obtain ⟨R, C, rfl⟩ : ∃ (R : Fin 16384) (C : Fin 11008), p = ix2 R C := ⟨p (0 : Fin 2), p (1 : Fin 2), ext2 rfl rfl⟩
  have hR := R.isLt
  have hC := C.isLt
  have h17 : val_main_v18 (F := Ideal) x0 x1 x2 x3 (ix2 R C) = val_main_v17 (F := Ideal) x0 x1 x2 x3 (ix2 R C) := rfl
  have e : idx_main_v17 (ix2 R C) = ix3 (seqOf R) (rowOf R) C := by
    refine ext3 ?_ ?_ ?_
    · show (R.val * 11008 + C.val) / 90177536 = R.val / 8192
      omega
    · show (R.val * 11008 + C.val) / 11008 % 8192 = R.val % 8192
      omega
    · show (R.val * 11008 + C.val) % 11008 = C.val
      omega
  rw [h17, val_main_v17_apply, e, gated, gate x0 x1 x2 _ _ C R rfl rfl, up x0 x1 x3 _ _ C R rfl rfl]
  rfl

/-- The reference's second result, at an index. -/
theorem weight_eq (p : S1x11008x4096.Idx) : val_main_v20 (F := Ideal) x4 p = x4 (ix2 (p (1 : Fin 3)) (p (2 : Fin 3))) := by
  have h : val_main_v20 (F := Ideal) x4 p = val_main_v19 (F := Ideal) x4 p := rfl
  rw [h, val_main_v19_apply]
  exact congrArg x4 (ext2 rfl rfl)

end Cert.Reference2Ideal.Gated
-- ==== Proof.Kernel3Ideal.Down.lean ====
module

public import proofs.«01_k».proof.Proof.Gen.Kernel3Ideal.Value
public import proofs.«01_k».proof.Proof.Kernel2Ideal.Gated
public import Idealize.ShloMosaic.Lib.Pointwise
public import Idealize.ShloMosaic.Lib.Pipeline.ValueKit
public import Idealize.ShloMosaic.Lib.StableHlo.ReadAt

/-! The last product of the feed-forward part: what every grid point leaves in its block, and the whole result array. -/

@[expose] public section

set_option maxRecDepth 16384

noncomputable section

namespace Cert.Kernel3Ideal.Down

open Cert.Kernel3Ideal Cert.Kernel3Ideal.Gen
open Idealize.ShloMosaic
open Idealize.ShloMosaic.TcCoe
open Cert.Kernel2Ideal.Gated (ext2 ext3)

theorem pay_apply (a : Vec Ideal S512x512 .f32) (b : Vec Ideal S512x11008 .bf16) (w : Vec Ideal S1x11008x512 .bf16) (p l : Fin 512) :
    k0_pay1 a b w (ix2 p l) = (a (ix2 p l) : EReal) + ∑ k : Fin 11008, (b (ix2 p k) : EReal) * w (ix3 (0 : Fin 1) k l) := by
  pointwise [k0_pay1]

theorem index_0 : ∀ t : Fin cfg0.N, (cfg0.win (0 : Fin 7)).index t = ![t.val / 8, 0] := by decide +kernel
theorem index_1 : ∀ t : Fin cfg0.N, (cfg0.win (1 : Fin 7)).index t = ![0, 0, t.val % 8] := by decide +kernel
theorem index_2 : ∀ t : Fin cfg0.N, (cfg0.win (2 : Fin 7)).index t = ![t.val / 8, t.val % 8] := by decide +kernel
theorem index_4 : ∀ t : Fin cfg0.N, (cfg0.win (4 : Fin 7)).index t = ![t.val / 8, t.val % 8] := by decide +kernel
theorem covers_4 : (cfg0.win (4 : Fin 7)).Covers := by decide +kernel

variable (m : (ℓ : Loc nD τ sig) → Buf (Elt Ideal) ℓ) (c : Dev nD) (t : Fin cfg0.N)

abbrev X0 : S16384x4096.Idx → EReal := m ((c : Thread nD τ).loc main_arg0)
abbrev X1 : S16384x11008.Idx → EReal := m ((c : Thread nD τ).loc main_arg1)
abbrev X2 : S11008x4096.Idx → EReal := m ((c : Thread nD τ).loc main_arg2)

theorem host_act (p : S16384x11008.Idx) : V m c main_v0 p = X1 m c p := by
  unfold V hostOps0
  after_reads_at
  try rfl

theorem host_res (p : S16384x4096.Idx) : V m c main_arg0 p = X0 m c p := by
  unfold V hostOps0
  after_reads_at
  try rfl

theorem host_w (k : Fin 11008) (C : Fin 4096) : V m c main_v2 (ix3 (0 : Fin 1) k C) = X2 m c (ix2 k C) := by
  unfold V hostOps0
  after_reads_at
  try rfl

theorem blkA (r : Fin 512) (k : Fin 11008) (R : Fin 16384) (hR : R.val = 512 * (t.val / 8) + r.val) :
    iblk m c (0 : Fin 7) t (ix2 r k) = X1 m c (ix2 R k) := by
  have e0 : ((((cfg0.win (0 : Fin 7)).blk t).view.emb (ix2 r k)) (0 : Fin 2)).val
      = (cfg0.win (0 : Fin 7)).index t (0 : Fin 2) * 512 + r.val :=
    Pipeline.Window.rect_emb_val (cfg0.win (0 : Fin 7)) t (ix2 r k) (0 : Fin 2)
  have e1 : ((((cfg0.win (0 : Fin 7)).blk t).view.emb (ix2 r k)) (1 : Fin 2)).val
      = (cfg0.win (0 : Fin 7)).index t (1 : Fin 2) * 11008 + k.val :=
    Pipeline.Window.rect_emb_val (cfg0.win (0 : Fin 7)) t (ix2 r k) (1 : Fin 2)
  have h0 : (cfg0.win (0 : Fin 7)).index t (0 : Fin 2) = t.val / 8 := congrFun (index_0 t) (0 : Fin 2)
  have h1 : (cfg0.win (0 : Fin 7)).index t (1 : Fin 2) = 0 := congrFun (index_0 t) (1 : Fin 2)
  rw [h0] at e0
  rw [h1] at e1
  have hj : ((cfg0.win (0 : Fin 7)).blk t).view.emb (ix2 r k) = ix2 R k := by
    refine ext2 ?_ ?_
    · exact e0.trans (by show _ = R.val; omega)
    · exact e1.trans (by show _ = k.val; omega)
  exact (congrArg (V m c main_v0) hj).trans (host_act m c _)

theorem blkW (k : Fin 11008) (l : Fin 512) (C : Fin 4096) (hC : C.val = 512 * (t.val % 8) + l.val) :
    iblk m c (1 : Fin 7) t (ix3 (0 : Fin 1) k l) = X2 m c (ix2 k C) := by
  have e0 : ((((cfg0.win (1 : Fin 7)).blk t).view.emb (ix3 (0 : Fin 1) k l)) (0 : Fin 3)).val
      = (cfg0.win (1 : Fin 7)).index t (0 : Fin 3) * 1 + 0 :=
    Pipeline.Window.rect_emb_val (cfg0.win (1 : Fin 7)) t (ix3 (0 : Fin 1) k l) (0 : Fin 3)
  have e1 : ((((cfg0.win (1 : Fin 7)).blk t).view.emb (ix3 (0 : Fin 1) k l)) (1 : Fin 3)).val
      = (cfg0.win (1 : Fin 7)).index t (1 : Fin 3) * 11008 + k.val :=
    Pipeline.Window.rect_emb_val (cfg0.win (1 : Fin 7)) t (ix3 (0 : Fin 1) k l) (1 : Fin 3)
  have e2 : ((((cfg0.win (1 : Fin 7)).blk t).view.emb (ix3 (0 : Fin 1) k l)) (2 : Fin 3)).val
      = (cfg0.win (1 : Fin 7)).index t (2 : Fin 3) * 512 + l.val :=
    Pipeline.Window.rect_emb_val (cfg0.win (1 : Fin 7)) t (ix3 (0 : Fin 1) k l) (2 : Fin 3)
  have h0 : (cfg0.win (1 : Fin 7)).index t (0 : Fin 3) = 0 := congrFun (index_1 t) (0 : Fin 3)
  have h1 : (cfg0.win (1 : Fin 7)).index t (1 : Fin 3) = 0 := congrFun (index_1 t) (1 : Fin 3)
  have h2 : (cfg0.win (1 : Fin 7)).index t (2 : Fin 3) = t.val % 8 := congrFun (index_1 t) (2 : Fin 3)
  rw [h0] at e0
  rw [h1] at e1
  rw [h2] at e2
  have hj : ((cfg0.win (1 : Fin 7)).blk t).view.emb (ix3 (0 : Fin 1) k l) = ix3 (0 : Fin 1) k C := by
    refine ext3 ?_ ?_ ?_
    · exact e0.trans rfl
    · exact e1.trans (by show _ = k.val; omega)
    · exact e2.trans (by show _ = C.val; omega)
  exact (congrArg (V m c main_v2) hj).trans (host_w m c k C)

theorem blkX (r l : Fin 512) (R : Fin 16384) (C : Fin 4096) (hR : R.val = 512 * (t.val / 8) + r.val)
    (hC : C.val = 512 * (t.val % 8) + l.val) :
    iblk m c (2 : Fin 7) t (ix2 r l) = X0 m c (ix2 R C) := by
  have e0 : ((((cfg0.win (2 : Fin 7)).blk t).view.emb (ix2 r l)) (0 : Fin 2)).val
      = (cfg0.win (2 : Fin 7)).index t (0 : Fin 2) * 512 + r.val :=
    Pipeline.Window.rect_emb_val (cfg0.win (2 : Fin 7)) t (ix2 r l) (0 : Fin 2)
  have e1 : ((((cfg0.win (2 : Fin 7)).blk t).view.emb (ix2 r l)) (1 : Fin 2)).val
      = (cfg0.win (2 : Fin 7)).index t (1 : Fin 2) * 512 + l.val :=
    Pipeline.Window.rect_emb_val (cfg0.win (2 : Fin 7)) t (ix2 r l) (1 : Fin 2)
  have h0 : (cfg0.win (2 : Fin 7)).index t (0 : Fin 2) = t.val / 8 := congrFun (index_2 t) (0 : Fin 2)
  have h1 : (cfg0.win (2 : Fin 7)).index t (1 : Fin 2) = t.val % 8 := congrFun (index_2 t) (1 : Fin 2)
  rw [h0] at e0
  rw [h1] at e1
  have hj : ((cfg0.win (2 : Fin 7)).blk t).view.emb (ix2 r l) = ix2 R C := by
    refine ext2 ?_ ?_
    · exact e0.trans (by show _ = R.val; omega)
    · exact e1.trans (by show _ = C.val; omega)
  exact (congrArg (V m c main_arg0) hj).trans (host_res m c _)

/-- Every point leaves the product of its rows with its columns, added to its residual block, whatever it does for the norm. -/
theorem left_eq : (outsAt0 m c t.val t.isLt).1 = k0_pay1 (iblk m c (2 : Fin 7) t) (iblk m c (0 : Fin 7) t) (iblk m c (1 : Fin 7) t) := by
  by_cases h0 : t.val % 8 = 0
  · rw [outsAt0_A m c t h0 (by omega) (by omega)]
    dsimp only
    frame_out
  · by_cases h2 : t.val % 8 = 7
    · rw [outsAt0_C m c t h0 (by omega) h2]
      dsimp only
      frame_out
    · rw [outsAt0_B m c t h0 (by omega) h2]
      dsimp only
      frame_out

/-- The result: the residual stream with the product added. -/
def out : S16384x4096.Idx → EReal := fun p =>
  X0 m c (ix2 (p (0 : Fin 2)) (p (1 : Fin 2)))
    + ∑ k : Fin 11008, X1 m c (ix2 (p (0 : Fin 2)) k) * X2 m c (ix2 k (p (1 : Fin 2)))

theorem result_eq : (dats m 0 c).arrAt (4 : Fin 7) cfg0.N = out m c := by
  refine (dats m 0 c).arrAt_eq_of_covers (4 : Fin 7) _ covers_4 fun t hf y => ?_
  blk_simp
  rw [after0_4, left_eq]
  have hy : y = ix2 (y (0 : Fin 2)) (y (1 : Fin 2)) := ext2 rfl rfl
  have e0 : ((((cfg0.win (4 : Fin 7)).blk t).view.emb y) (0 : Fin 2)).val
      = (cfg0.win (4 : Fin 7)).index t (0 : Fin 2) * 512 + (y (0 : Fin 2)).val :=
    Pipeline.Window.rect_emb_val (cfg0.win (4 : Fin 7)) t y (0 : Fin 2)
  have e1 : ((((cfg0.win (4 : Fin 7)).blk t).view.emb y) (1 : Fin 2)).val
      = (cfg0.win (4 : Fin 7)).index t (1 : Fin 2) * 512 + (y (1 : Fin 2)).val :=
    Pipeline.Window.rect_emb_val (cfg0.win (4 : Fin 7)) t y (1 : Fin 2)
  have h0 : (cfg0.win (4 : Fin 7)).index t (0 : Fin 2) = t.val / 8 := congrFun (index_4 t) (0 : Fin 2)
  have h1 : (cfg0.win (4 : Fin 7)).index t (1 : Fin 2) = t.val % 8 := congrFun (index_4 t) (1 : Fin 2)
  rw [h0] at e0
  rw [h1] at e1
  have hR : ((((cfg0.win (4 : Fin 7)).blk t).view.emb y) (0 : Fin 2)).val = 512 * (t.val / 8) + (y (0 : Fin 2)).val :=
    e0.trans (by omega)
  have hC : ((((cfg0.win (4 : Fin 7)).blk t).view.emb y) (1 : Fin 2)).val = 512 * (t.val % 8) + (y (1 : Fin 2)).val :=
    e1.trans (by omega)
  refine (congrArg (k0_pay1 _ _ _) hy).trans ((pay_apply _ _ _ _ _).trans ?_)
  exact congrArg₂ (fun a b : EReal => a + b) (blkX m c t _ _ _ _ hR hC)
    (Finset.sum_congr rfl fun k _ => congrArg₂ (fun a b : EReal => a * b) (blkA m c t _ k _ hR) (blkW m c t k _ _ hC))

end Cert.Kernel3Ideal.Down
-- ==== Proof.Reference3Ideal.Down.lean ====
module

public import proofs.«01_k».proof.Proof.Gen.Reference3Ideal.Read
public import proofs.«01_k».proof.Proof.Kernel3Ideal.Down

/-! The reference's line at an index: the residual stream with the last product added. -/

@[expose] public section

noncomputable section

namespace Cert.Reference3Ideal.Down

open Cert.Reference3Ideal Cert.Reference3Ideal.Read
open Idealize.ShloMosaic
open Idealize.ShloMosaic.TcCoe
open Cert.Kernel2Ideal.Gated (ext2)

theorem value_eq (x0 : S16384x4096.Idx → EReal) (x1 : S16384x11008.Idx → EReal) (x2 : S11008x4096.Idx → EReal) (p : S16384x4096.Idx) :
    val_main_v1 (F := Ideal) x0 x1 x2 p = x0 (ix2 (p (0 : Fin 2)) (p (1 : Fin 2)))
      + ∑ k : Fin 11008, x1 (ix2 (p (0 : Fin 2)) k) * x2 (ix2 k (p (1 : Fin 2))) := by
  refine (val_main_v1_apply (F := Ideal) x0 x1 x2 p).trans ?_
  refine congrArg₂ (fun a b : EReal => a + b) (congrArg x0 (ext2 rfl rfl)) ((val_main_v0_apply x1 x2 p).trans (Finset.sum_congr rfl fun k _ => ?_))
  exact congrArg₂ (fun a b : EReal => a * b) (congrArg x1 (ext2 rfl rfl)) (congrArg x2 (ext2 rfl rfl))

end Cert.Reference3Ideal.Down
-- ==== Proof.Kernel4Ideal.Norm.lean ====
module

public import proofs.«01_k».proof.Proof.Gen.Kernel4Ideal.Value
public import Idealize.ShloMosaic.Lib.Pointwise
public import Idealize.ShloMosaic.Lib.Pipeline.ValueKit
public import Idealize.ShloMosaic.Lib.StableHlo.ReadAt

/-! The norm after the last layer: what every grid point leaves in its block, and the whole result array. -/

@[expose] public section

set_option maxRecDepth 16384

noncomputable section

namespace Cert.Kernel4Ideal.Norm

open Cert.Kernel4Ideal Cert.Kernel4Ideal.Gen
open Idealize.ShloMosaic
open Idealize.ShloMosaic.TcCoe

/-- The factor of a row, from its entries: one over the root of their mean square and the small constant. -/
def factorOf (f : Fin 4096 → EReal) : EReal :=
  Ideal.rsqrt (Ideal.div (∑ k : Fin 4096, f k * f k) (Ideal.ofBits .f32 0x45800000#32) + Ideal.ofBits .f32 0x358637BD#32)

theorem pay_apply (a : Vec Ideal S256x4096 .f32) (w : Vec Ideal S1x4096 .f32) (p : Fin 256) (l : Fin 4096) :
    k0_pay1 a w (ix2 p l) = (a (ix2 p l) : EReal) * factorOf (fun k => a (ix2 p k)) * w (ix2 (0 : Fin 1) l) := by
  unfold factorOf
  pointwise [k0_pay1]

theorem index_0 : ∀ t : Fin cfg0.N, (cfg0.win (0 : Fin 3)).index t = ![t.val, 0] := by decide +kernel
theorem index_1 : ∀ t : Fin cfg0.N, (cfg0.win (1 : Fin 3)).index t = ![0, 0] := by decide +kernel
theorem index_2 : ∀ t : Fin cfg0.N, (cfg0.win (2 : Fin 3)).index t = ![t.val, 0] := by decide +kernel
theorem covers_2 : (cfg0.win (2 : Fin 3)).Covers := by decide +kernel

variable (m : (ℓ : Loc nD τ sig) → Buf (Elt Ideal) ℓ) (c : Dev nD) (t : Fin cfg0.N)

theorem ext2 {a b : ℕ} {i j : (⟨2, ![a, b]⟩ : Shape).Idx} (h0 : (i (0 : Fin 2)).val = (j (0 : Fin 2)).val)
    (h1 : (i (1 : Fin 2)).val = (j (1 : Fin 2)).val) : i = j :=
  funext fun x => Fin.ext (by
    match x with
    | ⟨0, _⟩ => exact h0
    | ⟨1, _⟩ => exact h1)

abbrev X0 : S16384x4096.Idx → EReal := m ((c : Thread nD τ).loc main_arg0)
abbrev X1 : S4096.Idx → EReal := m ((c : Thread nD τ).loc main_arg1)

theorem host_x (p : S16384x4096.Idx) : V m c main_arg0 p = X0 m c p := by
  unfold V hostOps0
  after_reads_at
  try rfl

theorem host_w (k : Fin 4096) : V m c main_v0 (ix2 (0 : Fin 1) k) = X1 m c (ix1 k) := by
  unfold V hostOps0
  after_reads_at
  try rfl

theorem blkX (r : Fin 256) (k : Fin 4096) (R : Fin 16384) (hR : R.val = 256 * t.val + r.val) :
    iblk m c (0 : Fin 3) t (ix2 r k) = X0 m c (ix2 R k) := by
  have e0 : ((((cfg0.win (0 : Fin 3)).blk t).view.emb (ix2 r k)) (0 : Fin 2)).val
      = (cfg0.win (0 : Fin 3)).index t (0 : Fin 2) * 256 + r.val :=
    Pipeline.Window.rect_emb_val (cfg0.win (0 : Fin 3)) t (ix2 r k) (0 : Fin 2)
  have e1 : ((((cfg0.win (0 : Fin 3)).blk t).view.emb (ix2 r k)) (1 : Fin 2)).val
      = (cfg0.win (0 : Fin 3)).index t (1 : Fin 2) * 4096 + k.val :=
    Pipeline.Window.rect_emb_val (cfg0.win (0 : Fin 3)) t (ix2 r k) (1 : Fin 2)
  have h0 : (cfg0.win (0 : Fin 3)).index t (0 : Fin 2) = t.val := congrFun (index_0 t) (0 : Fin 2)
  have h1 : (cfg0.win (0 : Fin 3)).index t (1 : Fin 2) = 0 := congrFun (index_0 t) (1 : Fin 2)
  rw [h0] at e0
  rw [h1] at e1
  have hj : ((cfg0.win (0 : Fin 3)).blk t).view.emb (ix2 r k) = ix2 R k := by
    refine ext2 ?_ ?_
    · exact e0.trans (by show _ = R.val; omega)
    · exact e1.trans (by show _ = k.val; omega)
  exact (congrArg (V m c main_arg0) hj).trans (host_x m c _)

theorem blkW (k : Fin 4096) : iblk m c (1 : Fin 3) t (ix2 (0 : Fin 1) k) = X1 m c (ix1 k) := by
  have e0 : ((((cfg0.win (1 : Fin 3)).blk t).view.emb (ix2 (0 : Fin 1) k)) (0 : Fin 2)).val
      = (cfg0.win (1 : Fin 3)).index t (0 : Fin 2) * 1 + 0 :=
    Pipeline.Window.rect_emb_val (cfg0.win (1 : Fin 3)) t (ix2 (0 : Fin 1) k) (0 : Fin 2)
  have e1 : ((((cfg0.win (1 : Fin 3)).blk t).view.emb (ix2 (0 : Fin 1) k)) (1 : Fin 2)).val
      = (cfg0.win (1 : Fin 3)).index t (1 : Fin 2) * 4096 + k.val :=
    Pipeline.Window.rect_emb_val (cfg0.win (1 : Fin 3)) t (ix2 (0 : Fin 1) k) (1 : Fin 2)
  have h0 : (cfg0.win (1 : Fin 3)).index t (0 : Fin 2) = 0 := congrFun (index_1 t) (0 : Fin 2)
  have h1 : (cfg0.win (1 : Fin 3)).index t (1 : Fin 2) = 0 := congrFun (index_1 t) (1 : Fin 2)
  rw [h0] at e0
  rw [h1] at e1
  have hj : ((cfg0.win (1 : Fin 3)).blk t).view.emb (ix2 (0 : Fin 1) k) = ix2 (0 : Fin 1) k := by
    refine ext2 ?_ ?_
    · exact e0.trans rfl
    · exact e1.trans (by show _ = k.val; omega)
  exact (congrArg (V m c main_v0) hj).trans (host_w m c k)

/-- The result: every row times its factor, times the weight. -/
def out : S16384x4096.Idx → EReal := fun p =>
  X0 m c (ix2 (p (0 : Fin 2)) (p (1 : Fin 2))) * factorOf (fun k => X0 m c (ix2 (p (0 : Fin 2)) k)) * X1 m c (ix1 (p (1 : Fin 2)))

theorem out_apply (x0 : Vec Ideal S256x4096 .f32) (x1 : Vec Ideal S1x4096 .f32) : out0_2 x0 x1 = k0_pay1 x0 x1 := by
  unfold out0_2
  frame_out

theorem result_eq : (dats m 0 c).arrAt (2 : Fin 3) cfg0.N = out m c := by
  refine (dats m 0 c).arrAt_eq_of_covers (2 : Fin 3) _ covers_2 fun t hf y => ?_
  blk_simp
  rw [after0_2, out_apply]
  have hy : y = ix2 (y (0 : Fin 2)) (y (1 : Fin 2)) := ext2 rfl rfl
  have e0 : ((((cfg0.win (2 : Fin 3)).blk t).view.emb y) (0 : Fin 2)).val
      = (cfg0.win (2 : Fin 3)).index t (0 : Fin 2) * 256 + (y (0 : Fin 2)).val :=
    Pipeline.Window.rect_emb_val (cfg0.win (2 : Fin 3)) t y (0 : Fin 2)
  have e1 : ((((cfg0.win (2 : Fin 3)).blk t).view.emb y) (1 : Fin 2)).val
      = (cfg0.win (2 : Fin 3)).index t (1 : Fin 2) * 4096 + (y (1 : Fin 2)).val :=
    Pipeline.Window.rect_emb_val (cfg0.win (2 : Fin 3)) t y (1 : Fin 2)
  have h0 : (cfg0.win (2 : Fin 3)).index t (0 : Fin 2) = t.val := congrFun (index_2 t) (0 : Fin 2)
  have h1 : (cfg0.win (2 : Fin 3)).index t (1 : Fin 2) = 0 := congrFun (index_2 t) (1 : Fin 2)
  rw [h0] at e0
  rw [h1] at e1
  have hR : ((((cfg0.win (2 : Fin 3)).blk t).view.emb y) (0 : Fin 2)).val = 256 * t.val + (y (0 : Fin 2)).val :=
    e0.trans (by omega)
  have hC : (((cfg0.win (2 : Fin 3)).blk t).view.emb y) (1 : Fin 2) = y (1 : Fin 2) := Fin.ext (e1.trans (by omega))
  refine (congrArg (k0_pay1 _ _) hy).trans ((pay_apply _ _ _ _).trans ?_)
  show _ = X0 m c _ * factorOf _ * X1 m c _
  rw [hC]
  exact congrArg₂ (fun a b : EReal => a * b)
    (congrArg₂ (fun a b : EReal => a * b) (blkX m c t _ _ _ hR) (congrArg factorOf (funext fun k => blkX m c t _ k _ hR)))
    (blkW m c t _)

end Cert.Kernel4Ideal.Norm
-- ==== Proof.Reference4Ideal.Norm.lean ====
module

public import proofs.«01_k».proof.Proof.Gen.Reference4Ideal.Read
public import proofs.«01_k».proof.Proof.Kernel4Ideal.Norm

/-! The reference's norm at an index. -/

@[expose] public section

set_option maxRecDepth 16384

noncomputable section

namespace Cert.Reference4Ideal.Norm

open Cert.Reference4Ideal Cert.Reference4Ideal.Read
open Idealize.ShloMosaic
open Idealize.ShloMosaic.TcCoe
open Cert.Kernel4Ideal.Norm (factorOf ext2)

variable (x0 : S16384x4096.Idx → EReal) (x1 : S4096.Idx → EReal)

theorem sum_sq (R : Fin 16384) : val_main_v1 (F := Ideal) x0 (ix1 R) = ∑ k : Fin 4096, x0 (ix2 R k) * x0 (ix2 R k) := by
  rw [val_main_v1_apply]
  have h : ∀ i, val_main_cst (F := Ideal) i = (0 : EReal) := fun _ => Ideal.ofBits_zero_f32
  rw [h]
  refine (zero_add _).trans (Finset.sum_congr rfl fun k _ => ?_)
  have e : idx_main_v1 (ix1 R) k = ix2 R k := ext2 rfl rfl
  rw [e]
  rfl

theorem factor (R : Fin 16384) : val_main_v7 (F := Ideal) x0 (ix2 R (0 : Fin 1)) = factorOf (fun k => x0 (ix2 R k)) := by
  have h2 : val_main_v2 (F := Ideal) x0 (ix2 R (0 : Fin 1)) = ∑ k : Fin 4096, x0 (ix2 R k) * x0 (ix2 R k) := by
    rw [val_main_v2_apply]
    have e : idx_main_v2 (ix2 R (0 : Fin 1)) = ix1 R := funext fun a => Fin.ext (by match a with | ⟨0, _⟩ => rfl)
    rw [e, sum_sq]
  have h3 : val_main_v3 (F := Ideal) (ix2 R (0 : Fin 1)) = Ideal.ofBits .f32 0x45800000#32 := by
    rw [val_main_v3_apply]
    rfl
  have h5 : val_main_v5 (F := Ideal) (ix2 R (0 : Fin 1)) = Ideal.ofBits .f32 0x358637BD#32 := by
    rw [val_main_v5_apply]
    rfl
  unfold factorOf
  rw [← h2, ← h3, ← h5]
  rfl

theorem value_eq (p : S16384x4096.Idx) :
    val_main_v12 (F := Ideal) x0 x1 p
      = x0 (ix2 (p (0 : Fin 2)) (p (1 : Fin 2))) * factorOf (fun k => x0 (ix2 (p (0 : Fin 2)) k)) * x1 (ix1 (p (1 : Fin 2))) := by
  obtain ⟨R, C, rfl⟩ : ∃ (R : Fin 16384) (C : Fin 4096), p = ix2 R C := ⟨p (0 : Fin 2), p (1 : Fin 2), ext2 rfl rfl⟩
  have h8 : val_main_v8 (F := Ideal) x0 (ix2 R C) = factorOf (fun k => x0 (ix2 R k)) := by
    rw [val_main_v8_apply]
    have e : idx_main_v8 (ix2 R C) = ix2 R (0 : Fin 1) := ext2 rfl rfl
    rw [e, factor]
  have h11 : val_main_v11 (F := Ideal) x1 (ix2 R C) = x1 (ix1 C) := by
    rw [val_main_v11_apply, val_main_v10_apply]
    exact congrArg x1 (funext fun a => Fin.ext (by match a with | ⟨0, _⟩ => rfl))
  show _ = x0 (ix2 R C) * factorOf (fun k => x0 (ix2 R k)) * x1 (ix1 C)
  rw [← h8, ← h11]
  rfl

end Cert.Reference4Ideal.Norm
-- ==== Proof.Kernel5Ideal.Proj.lean ====
module

public import proofs.«01_k».proof.Proof.Gen.Kernel5Ideal.Value
public import proofs.«01_k».proof.Proof.Kernel2Ideal.Host
public import proofs.«01_k».proof.Proof.Kernel2Ideal.Factor
public import Idealize.ShloMosaic.Lib.Pointwise
public import Idealize.ShloMosaic.Lib.Pipeline.ValueKit
public import Idealize.ShloMosaic.Lib.StableHlo.ReadAt

/-! The input projections: what every grid point leaves in its block, and the whole result array. -/

@[expose] public section

set_option maxRecDepth 16384

noncomputable section

namespace Cert.Kernel5Ideal.Proj

open Cert.Kernel5Ideal Cert.Kernel5Ideal.Gen
open Idealize.ShloMosaic
open Idealize.ShloMosaic.TcCoe
open Cert.Kernel2Ideal.Gated (rowFactor seqOf rowOf ext2 ext3)

abbrev lane (l : Fin 512) : Fin 128 := ⟨l.val % 128, Nat.mod_lt _ (by decide)⟩

theorem cat (x : FVec Ideal S2048x128 .f32) (p : Fin 2048) (l : Fin 512) :
    concatenate S2048x512 1 [⟨S2048x128, x⟩, ⟨S2048x128, x⟩, ⟨S2048x128, x⟩, ⟨S2048x128, x⟩]
      concatenates_S2048x128_S2048x128_S2048x128_S2048x128_S2048x512_d1 (ix2 p l) = x (ix2 p (lane l)) :=
  concatenate_replicate_apply (t := S2048x512) (s₁ := S2048x128) 1 4 x concatenates_S2048x128_S2048x128_S2048x128_S2048x128_S2048x512_d1 rfl
    (ix2 p l) (ix2 p (lane l)) rfl (fun b hb => by match b with | ⟨0, _⟩ => rfl | ⟨1, _⟩ => exact absurd rfl hb)

/-- The product of a block's rows with a block's columns, these lying as rows. -/
def mm (a : Vec Ideal S2048x4096 .bf16) (w : Vec Ideal S1x512x4096 .bf16) : FVec Ideal S2048x512 .f32 :=
  matmul dot_S2048x4096_S512x4096_S2048x512_1_1_0_0_n_n none (shapeCast S2048x4096 a shapeCasts_S2048x4096_S2048x4096 : FVec Ideal S2048x4096 .bf16)
    (shapeCast S512x4096 w shapeCasts_S1x512x4096_S512x4096 : FVec Ideal S512x4096 .bf16) (constant S2048x512 .f32 0x00000000#32)

theorem mm_apply (a : Vec Ideal S2048x4096 .bf16) (w : Vec Ideal S1x512x4096 .bf16) (p : Fin 2048) (l : Fin 512) :
    mm a w (ix2 p l) = ∑ k : Fin 4096, (a (ix2 p k) : EReal) * w (ix3 (0 : Fin 1) l k) := by
  pointwise [mm]

theorem pay_apply (a : Vec Ideal S2048x4096 .bf16) (w : Vec Ideal S1x512x4096 .bf16) (r : Vec Ideal S2048x128 .f32) (p : Fin 2048) (l : Fin 512) :
    k0_pay1 a w r (ix2 p l) = (∑ k : Fin 4096, (a (ix2 p k) : EReal) * w (ix3 (0 : Fin 1) l k)) * r (ix2 p (lane l)) := by
  have h : k0_pay1 a w r (ix2 p l) = (mm a w (ix2 p l) : EReal) * concatenate S2048x512 1 [⟨S2048x128, shapeCast S2048x128 r shapeCasts_S2048x128_S2048x128⟩,
    ⟨S2048x128, shapeCast S2048x128 r shapeCasts_S2048x128_S2048x128⟩, ⟨S2048x128, shapeCast S2048x128 r shapeCasts_S2048x128_S2048x128⟩,
    ⟨S2048x128, shapeCast S2048x128 r shapeCasts_S2048x128_S2048x128⟩] concatenates_S2048x128_S2048x128_S2048x128_S2048x128_S2048x512_d1 (ix2 p l) := rfl
  rw [h, shapeCast_self, mm_apply, cat]

theorem index_0 : ∀ t : Fin cfg0.N, (cfg0.win (0 : Fin 4)).index t = ![t.val / 17, 0] := by decide +kernel
theorem index_1 : ∀ t : Fin cfg0.N, (cfg0.win (1 : Fin 4)).index t = ![t.val / 17, 0] := by decide +kernel
theorem index_2 : ∀ t : Fin cfg0.N, (cfg0.win (2 : Fin 4)).index t = ![0, t.val % 17, 0] := by decide +kernel
theorem index_3 : ∀ t : Fin cfg0.N, (cfg0.win (3 : Fin 4)).index t = ![t.val / 17, t.val % 17] := by decide +kernel
theorem covers_3 : (cfg0.win (3 : Fin 4)).Covers := by decide +kernel

variable (m : (ℓ : Loc nD τ sig) → Buf (Elt Ideal) ℓ) (c : Dev nD) (t : Fin cfg0.N)

abbrev X0 : S2x8192x4096.Idx → EReal := m ((c : Thread nD τ).loc main_arg0)
abbrev X1 : S4096.Idx → EReal := m ((c : Thread nD τ).loc main_arg1)
abbrev X2 : S4096x10316.Idx → EReal := m ((c : Thread nD τ).loc main_arg2)

theorem host_x (R : Fin 16384) (k : Fin 4096) :
    V m c main_v4 (ix2 R k) = X0 m c (ix3 (seqOf R) (rowOf R) k) * X1 m c (ix1 k) := by
  unfold V hostOps0
  after_reads_at
  try rfl

theorem host_r (R : Fin 16384) (L : Fin 128) : V m c main_v13 (ix2 R L) = rowFactor (X0 m c) (seqOf R) (rowOf R) := by
  unfold V hostOps0
  after_reads_at
  rfl

theorem host_w (C : Fin 10316) (k : Fin 4096) : V m c main_v16 (ix3 (0 : Fin 1) C k) = X2 m c (ix2 k C) := by
  unfold V hostOps0
  after_reads_at
  try rfl

theorem blkX (r : Fin 2048) (k : Fin 4096) (R : Fin 16384) (hR : R.val = 2048 * (t.val / 17) + r.val) :
    iblk m c (0 : Fin 4) t (ix2 r k) = X0 m c (ix3 (seqOf R) (rowOf R) k) * X1 m c (ix1 k) := by
  have e0 : ((((cfg0.win (0 : Fin 4)).blk t).view.emb (ix2 r k)) (0 : Fin 2)).val
      = (cfg0.win (0 : Fin 4)).index t (0 : Fin 2) * 2048 + r.val :=
    Pipeline.Window.rect_emb_val (cfg0.win (0 : Fin 4)) t (ix2 r k) (0 : Fin 2)
  have e1 : ((((cfg0.win (0 : Fin 4)).blk t).view.emb (ix2 r k)) (1 : Fin 2)).val
      = (cfg0.win (0 : Fin 4)).index t (1 : Fin 2) * 4096 + k.val :=
    Pipeline.Window.rect_emb_val (cfg0.win (0 : Fin 4)) t (ix2 r k) (1 : Fin 2)
  have h0 : (cfg0.win (0 : Fin 4)).index t (0 : Fin 2) = t.val / 17 := congrFun (index_0 t) (0 : Fin 2)
  have h1 : (cfg0.win (0 : Fin 4)).index t (1 : Fin 2) = 0 := congrFun (index_0 t) (1 : Fin 2)
  rw [h0] at e0
  rw [h1] at e1
  have hj : ((cfg0.win (0 : Fin 4)).blk t).view.emb (ix2 r k) = ix2 R k := by
    refine ext2 ?_ ?_
    · exact e0.trans (by show _ = R.val; omega)
    · exact e1.trans (by show _ = k.val; omega)
  exact (congrArg (V m c main_v4) hj).trans (host_x m c R k)

theorem blkR (r : Fin 2048) (k : Fin 128) (R : Fin 16384) (hR : R.val = 2048 * (t.val / 17) + r.val) :
    iblk m c (1 : Fin 4) t (ix2 r k) = rowFactor (X0 m c) (seqOf R) (rowOf R) := by
  have e0 : ((((cfg0.win (1 : Fin 4)).blk t).view.emb (ix2 r k)) (0 : Fin 2)).val
      = (cfg0.win (1 : Fin 4)).index t (0 : Fin 2) * 2048 + r.val :=
    Pipeline.Window.rect_emb_val (cfg0.win (1 : Fin 4)) t (ix2 r k) (0 : Fin 2)
  have e1 : ((((cfg0.win (1 : Fin 4)).blk t).view.emb (ix2 r k)) (1 : Fin 2)).val
      = (cfg0.win (1 : Fin 4)).index t (1 : Fin 2) * 128 + k.val :=
    Pipeline.Window.rect_emb_val (cfg0.win (1 : Fin 4)) t (ix2 r k) (1 : Fin 2)
  have h0 : (cfg0.win (1 : Fin 4)).index t (0 : Fin 2) = t.val / 17 := congrFun (index_1 t) (0 : Fin 2)
  have h1 : (cfg0.win (1 : Fin 4)).index t (1 : Fin 2) = 0 := congrFun (index_1 t) (1 : Fin 2)
  rw [h0] at e0
  rw [h1] at e1
  have hj : ((cfg0.win (1 : Fin 4)).blk t).view.emb (ix2 r k) = ix2 R k := by
    refine ext2 ?_ ?_
    · exact e0.trans (by show _ = R.val; omega)
    · exact e1.trans (by show _ = k.val; omega)
  exact (congrArg (V m c main_v13) hj).trans (host_r m c R k)

/-- The weight's block: its array does not split into such blocks, but none that is reached is cut. -/
theorem blkW (l : Fin 512) (k : Fin 4096) (C : Fin 10316) (hC : C.val = 512 * (t.val % 17) + l.val) :
    X0_2 m c t (ix3 (0 : Fin 1) l k) = X2 m c (ix2 k C) := by
  unfold X0_2 Pipeline.Window.fill
  have hm := moved0_2 t (ix3 (0 : Fin 1) l k)
  refine (dif_pos hm).trans ?_
  generalize hz : (fun a => (⟨(ix3 (0 : Fin 1) l k a).val, ((cfg0.win (2 : Fin 4)).moved_iff (cfg0.grid.coords t) (ix3 (0 : Fin 1) l k)).mp hm a⟩ : Fin _)) = z
  have z1 : (z (1 : Fin 3)).val = l.val := by rw [← hz]; rfl
  have z2 : (z (2 : Fin 3)).val = k.val := by rw [← hz]; rfl
  have e1 : ((((cfg0.win (2 : Fin 4)).blk t).view.emb z) (1 : Fin 3)).val
      = (cfg0.win (2 : Fin 4)).index t (1 : Fin 3) * 512 + (z (1 : Fin 3)).val :=
    Pipeline.Window.rect_emb_val (cfg0.win (2 : Fin 4)) t z (1 : Fin 3)
  have e2 : ((((cfg0.win (2 : Fin 4)).blk t).view.emb z) (2 : Fin 3)).val
      = (cfg0.win (2 : Fin 4)).index t (2 : Fin 3) * 4096 + (z (2 : Fin 3)).val :=
    Pipeline.Window.rect_emb_val (cfg0.win (2 : Fin 4)) t z (2 : Fin 3)
  have h1 : (cfg0.win (2 : Fin 4)).index t (1 : Fin 3) = t.val % 17 := congrFun (index_2 t) (1 : Fin 3)
  have h2 : (cfg0.win (2 : Fin 4)).index t (2 : Fin 3) = 0 := congrFun (index_2 t) (2 : Fin 3)
  rw [h1, z1] at e1
  rw [h2, z2] at e2
  have hj : ((cfg0.win (2 : Fin 4)).blk t).view.emb z = ix3 (0 : Fin 1) C k := by
    refine ext3 ?_ ?_ ?_
    · have hlt : ((((cfg0.win (2 : Fin 4)).blk t).view.emb z) (0 : Fin 3)).val < 1 := ((((cfg0.win (2 : Fin 4)).blk t).view.emb z) (0 : Fin 3)).isLt
      show _ = 0
      omega
    · exact e1.trans (by show _ = C.val; omega)
    · exact e2.trans (by show _ = k.val; omega)
  exact (congrArg (V m c main_v16) hj).trans (host_w m c C k)

/-- What a point leaves: the product of its rows with its columns, the rows' factors outside. -/
theorem left_eq : outsAt0 m c t = k0_pay1 (iblk m c (0 : Fin 4) t) (X0_2 m c t) (iblk m c (1 : Fin 4) t) := by
  unfold outsAt0
  frame_out

/-- The product at row `R` and column `C`, the row's factor outside. -/
def prod (x : S2x8192x4096.Idx → EReal) (g : S4096.Idx → EReal) (w : S4096x10316.Idx → EReal) (R : Fin 16384) (C : Fin 10316) : EReal :=
  (∑ k : Fin 4096, x (ix3 (seqOf R) (rowOf R) k) * g (ix1 k) * w (ix2 k C)) * rowFactor x (seqOf R) (rowOf R)

abbrev col (C : Fin 8704) : Fin 10316 := ⟨C.val, by omega⟩

/-- The projections, written out once. -/
def out : S16384x8704.Idx → EReal := fun p => prod (X0 m c) (X1 m c) (X2 m c) (p (0 : Fin 2)) (col (p (1 : Fin 2)))

theorem result_eq : (dats m 0 c).arrAt (3 : Fin 4) cfg0.N = out m c := by
  refine (dats m 0 c).arrAt_eq_of_covers (3 : Fin 4) _ covers_3 fun t hf y => ?_
  blk_simp
  rw [after0_3, left_eq]
  have hy : y = ix2 (y (0 : Fin 2)) (y (1 : Fin 2)) := ext2 rfl rfl
  have e0 : ((((cfg0.win (3 : Fin 4)).blk t).view.emb y) (0 : Fin 2)).val
      = (cfg0.win (3 : Fin 4)).index t (0 : Fin 2) * 2048 + (y (0 : Fin 2)).val :=
    Pipeline.Window.rect_emb_val (cfg0.win (3 : Fin 4)) t y (0 : Fin 2)
  have e1 : ((((cfg0.win (3 : Fin 4)).blk t).view.emb y) (1 : Fin 2)).val
      = (cfg0.win (3 : Fin 4)).index t (1 : Fin 2) * 512 + (y (1 : Fin 2)).val :=
    Pipeline.Window.rect_emb_val (cfg0.win (3 : Fin 4)) t y (1 : Fin 2)
  have h0 : (cfg0.win (3 : Fin 4)).index t (0 : Fin 2) = t.val / 17 := congrFun (index_3 t) (0 : Fin 2)
  have h1 : (cfg0.win (3 : Fin 4)).index t (1 : Fin 2) = t.val % 17 := congrFun (index_3 t) (1 : Fin 2)
  rw [h0] at e0
  rw [h1] at e1
  have hR : ((((cfg0.win (3 : Fin 4)).blk t).view.emb y) (0 : Fin 2)).val = 2048 * (t.val / 17) + (y (0 : Fin 2)).val :=
    e0.trans (by omega)
  have hC : (col ((((cfg0.win (3 : Fin 4)).blk t).view.emb y) (1 : Fin 2))).val = 512 * (t.val % 17) + (y (1 : Fin 2)).val :=
    e1.trans (by omega)
  refine (congrArg (k0_pay1 _ _ _) hy).trans ((pay_apply _ _ _ _ _).trans ?_)
  exact congrArg₂ (fun a b : EReal => a * b)
    (Finset.sum_congr rfl fun k _ => congrArg₂ (fun a b : EReal => a * b) (blkX m c t _ k _ hR) (blkW m c t _ k _ hC))
    (blkR m c t _ _ _ hR)

end Cert.Kernel5Ideal.Proj
-- ==== Proof.Reference5Ideal.Proj.lean ====
module

public import proofs.«01_k».proof.Proof.Gen.Reference5Ideal.Read
public import proofs.«01_k».proof.Proof.Kernel5Ideal.Proj
public import proofs.«01_k».proof.Proof.Kernel2Ideal.Factor

/-! The reference's projections at an index: the row's factor taken out of the product. -/

@[expose] public section

set_option maxRecDepth 16384

noncomputable section

namespace Cert.Reference5Ideal.Proj

open Cert.Reference5Ideal Cert.Reference5Ideal.Read
open Idealize.ShloMosaic
open Idealize.ShloMosaic.TcCoe
open Cert.Kernel2Ideal.Gated (rowFactor seqOf rowOf ext2 ext3 factor_bounds product_factor)
open Cert.Kernel5Ideal.Proj (prod col)

variable (x0 : S2x8192x4096.Idx → EReal) (x1 : S4096.Idx → EReal) (x2 : S4096x10316.Idx → EReal)

theorem sum_sq (b : Fin 2) (i : Fin 8192) : val_main_v1 (F := Ideal) x0 (ix2 b i) = ∑ k : Fin 4096, x0 (ix3 b i k) * x0 (ix3 b i k) := by
  rw [val_main_v1_apply]
  have h : ∀ i, val_main_cst (F := Ideal) i = (0 : EReal) := fun _ => Ideal.ofBits_zero_f32
  rw [h]
  refine (zero_add _).trans (Finset.sum_congr rfl fun k _ => ?_)
  have e : idx_main_v1 (ix2 b i) k = ix3 b i k := ext3 rfl rfl rfl
  rw [e]
  rfl

theorem factor (b : Fin 2) (i : Fin 8192) : val_main_v7 (F := Ideal) x0 (ix3 b i (0 : Fin 1)) = rowFactor x0 b i := by
  have h2 : val_main_v2 (F := Ideal) x0 (ix3 b i (0 : Fin 1)) = ∑ k : Fin 4096, x0 (ix3 b i k) * x0 (ix3 b i k) := by
    rw [val_main_v2_apply]
    have e : idx_main_v2 (ix3 b i (0 : Fin 1)) = ix2 b i := ext2 rfl rfl
    rw [e, sum_sq]
  have h3 : val_main_v3 (F := Ideal) (ix3 b i (0 : Fin 1)) = Ideal.ofBits .f32 0x45800000#32 := by
    rw [val_main_v3_apply]
    rfl
  have h5 : val_main_v5 (F := Ideal) (ix3 b i (0 : Fin 1)) = Ideal.ofBits .f32 0x358637BD#32 := by
    rw [val_main_v5_apply]
    rfl
  unfold rowFactor
  rw [← h2, ← h3, ← h5]
  rfl

theorem normed (b : Fin 2) (i : Fin 8192) (k : Fin 4096) :
    val_main_v12 (F := Ideal) x0 x1 (ix3 b i k) = x0 (ix3 b i k) * rowFactor x0 b i * x1 (ix1 k) := by
  have h8 : val_main_v8 (F := Ideal) x0 (ix3 b i k) = rowFactor x0 b i := by
    rw [val_main_v8_apply]
    have e : idx_main_v8 (ix3 b i k) = ix3 b i (0 : Fin 1) := ext3 rfl rfl rfl
    rw [e, factor]
  have h11 : val_main_v11 (F := Ideal) x1 (ix3 b i k) = x1 (ix1 k) := by
    rw [val_main_v11_apply, val_main_v10_apply]
    exact congrArg x1 (funext fun a => Fin.ext (by match a with | ⟨0, _⟩ => rfl))
  rw [← h8, ← h11]
  rfl

theorem gate (b : Fin 2) (i : Fin 8192) (C : Fin 10316) (R : Fin 16384) (hb : seqOf R = b) (hi : rowOf R = i) :
    val_main_v13 (F := Ideal) x0 x1 x2 (ix3 b i C) = prod x0 x1 x2 R C := by
  rw [val_main_v13_apply]
  unfold prod
  rw [hb, hi]
  obtain ⟨h0, ht⟩ := factor_bounds (fun k : Fin 4096 => x0 (ix3 b i k))
  refine Eq.trans (Finset.sum_congr rfl fun k _ => ?_)
    (product_factor (fun k => x0 (ix3 b i k)) (fun k => x1 (ix1 k)) (fun k => x2 (ix2 k C)) (rowFactor x0 b i) h0 ht).symm
  have e : lidx_main_v13 (ix3 b i C) k = ix3 b i k := ext3 rfl rfl rfl
  have e' : ridx_main_v13 (ix3 b i C) k = ix2 k C := ext2 rfl rfl
  rw [e, e', normed]

/-- The reference's result, at an index. -/
theorem value_eq (p : S16384x8704.Idx) :
    val_main_v16 (F := Ideal) x0 x1 x2 p = prod x0 x1 x2 (p (0 : Fin 2)) (col (p (1 : Fin 2))) := by
  obtain ⟨R, C, rfl⟩ : ∃ (R : Fin 16384) (C : Fin 8704), p = ix2 R C := ⟨p (0 : Fin 2), p (1 : Fin 2), ext2 rfl rfl⟩
  have hR := R.isLt
  have hC := C.isLt
  have h16 : val_main_v16 (F := Ideal) x0 x1 x2 (ix2 R C) = val_main_v15 (F := Ideal) x0 x1 x2 (ix2 R C) := rfl
  have e : idx_main_v15 (ix2 R C) = ix3 (seqOf R) (rowOf R) C := by
    refine ext3 ?_ ?_ ?_
    · show (R.val * 8704 + C.val) / 71303168 = R.val / 8192
      omega
    · show (R.val * 8704 + C.val) / 8704 % 8192 = R.val % 8192
      omega
    · show (R.val * 8704 + C.val) % 8704 = C.val
      omega
  have e' : idx_main_v14 (ix3 (seqOf R) (rowOf R) C) = ix3 (seqOf R) (rowOf R) (col C) := by
    refine ext3 ?_ ?_ ?_
    · first | rfl | (show 0 + _ = _; exact Nat.zero_add _)
    · first | rfl | (show 0 + _ = _; exact Nat.zero_add _)
    · first | rfl | (show 0 + _ = _; exact Nat.zero_add _)
  rw [h16, val_main_v15_apply, e, val_main_v14_apply, e', gate x0 x1 x2 _ _ (col C) R rfl rfl]
  rfl

end Cert.Reference5Ideal.Proj
-- ==== Proof.Kernel7Ideal.Tail.lean ====
module

public import proofs.«01_k».proof.Proof.Gen.Kernel7Ideal.Value
public import proofs.«01_k».proof.Proof.Kernel2Ideal.Host
public import proofs.«01_k».proof.Proof.Kernel2Ideal.Factor
public import Idealize.ShloMosaic.Lib.Pointwise
public import Idealize.ShloMosaic.Lib.KernelVsHost
public import Idealize.ShloMosaic.Lib.Pipeline.ValueKit
public import Idealize.ShloMosaic.Lib.StableHlo.ReadAt

/-! The other input projections: what every grid point leaves in its block, and the whole result array. -/

@[expose] public section

set_option maxRecDepth 16384

noncomputable section

namespace Cert.Kernel7Ideal.Tail

open Cert.Kernel7Ideal Cert.Kernel7Ideal.Gen
open Idealize.ShloMosaic
open Idealize.ShloMosaic.TcCoe
open Cert.Kernel2Ideal.Gated (rowFactor seqOf rowOf ext2 ext3)

abbrev lane (l : Fin 256) : Fin 128 := ⟨l.val % 128, Nat.mod_lt _ (by decide)⟩

theorem cat (x : FVec Ideal S1024x128 .f32) (p : Fin 1024) (l : Fin 256) :
    concatenate S1024x256 1 [⟨S1024x128, x⟩, ⟨S1024x128, x⟩]
      concatenates_S1024x128_S1024x128_S1024x256_d1 (ix2 p l) = x (ix2 p (lane l)) :=
  concatenate_replicate_apply (t := S1024x256) (s₁ := S1024x128) 1 2 x concatenates_S1024x128_S1024x128_S1024x256_d1 rfl
    (ix2 p l) (ix2 p (lane l)) rfl (fun b hb => by match b with | ⟨0, _⟩ => rfl | ⟨1, _⟩ => exact absurd rfl hb)

/-- The product of a block's rows with a block's columns, these lying as rows. -/
def mm (a : Vec Ideal S1024x4096 .bf16) (w : Vec Ideal S1x256x4096 .bf16) : FVec Ideal S1024x256 .f32 :=
  matmul dot_S1024x4096_S256x4096_S1024x256_1_1_0_0_n_n none (shapeCast S1024x4096 a shapeCasts_S1024x4096_S1024x4096 : FVec Ideal S1024x4096 .bf16)
    (shapeCast S256x4096 w shapeCasts_S1x256x4096_S256x4096 : FVec Ideal S256x4096 .bf16) (constant S1024x256 .f32 0x00000000#32)

theorem mm_apply (a : Vec Ideal S1024x4096 .bf16) (w : Vec Ideal S1x256x4096 .bf16) (p : Fin 1024) (l : Fin 256) :
    mm a w (ix2 p l) = ∑ k : Fin 4096, (a (ix2 p k) : EReal) * w (ix3 (0 : Fin 1) l k) := by
  pointwise [mm]

theorem pay_apply (a : Vec Ideal S1024x4096 .bf16) (w : Vec Ideal S1x256x4096 .bf16) (r : Vec Ideal S1024x128 .f32) (p : Fin 1024) (l : Fin 256) :
    k0_pay1 a w r (ix2 p l) = (∑ k : Fin 4096, (a (ix2 p k) : EReal) * w (ix3 (0 : Fin 1) l k)) * r (ix2 p (lane l)) := by
  have h : k0_pay1 a w r (ix2 p l) = (mm a w (ix2 p l) : EReal) * concatenate S1024x256 1 [⟨S1024x128, shapeCast S1024x128 r shapeCasts_S1024x128_S1024x128⟩,
    ⟨S1024x128, shapeCast S1024x128 r shapeCasts_S1024x128_S1024x128⟩] concatenates_S1024x128_S1024x128_S1024x256_d1 (ix2 p l) := rfl
  rw [h, shapeCast_self, mm_apply, cat]

theorem index_0 : ∀ t : Fin cfg0.N, (cfg0.win (0 : Fin 4)).index t = ![t.val / 7, 0] := by decide +kernel
theorem index_1 : ∀ t : Fin cfg0.N, (cfg0.win (1 : Fin 4)).index t = ![t.val / 7, 0] := by decide +kernel
theorem index_2 : ∀ t : Fin cfg0.N, (cfg0.win (2 : Fin 4)).index t = ![0, t.val % 7, 0] := by decide +kernel
theorem index_3 : ∀ t : Fin cfg0.N, (cfg0.win (3 : Fin 4)).index t = ![t.val / 7, t.val % 7] := by decide +kernel
theorem covers_3 : (cfg0.win (3 : Fin 4)).Covers := by decide +kernel

variable (m : (ℓ : Loc nD τ sig) → Buf (Elt Ideal) ℓ) (c : Dev nD) (t : Fin cfg0.N)

abbrev X0 : S2x8192x4096.Idx → EReal := m ((c : Thread nD τ).loc main_arg0)
abbrev X1 : S4096.Idx → EReal := m ((c : Thread nD τ).loc main_arg1)
abbrev X2 : S4096x10316.Idx → EReal := m ((c : Thread nD τ).loc main_arg2)

theorem host_x (R : Fin 16384) (k : Fin 4096) :
    V m c main_v4 (ix2 R k) = X0 m c (ix3 (seqOf R) (rowOf R) k) * X1 m c (ix1 k) := by
  unfold V hostOps0
  after_reads_at
  try rfl

theorem host_r (R : Fin 16384) (L : Fin 128) : V m c main_v13 (ix2 R L) = rowFactor (X0 m c) (seqOf R) (rowOf R) := by
  unfold V hostOps0
  after_reads_at
  rfl

/-- The weight's column `C` of the call at row `k`: the latent attention's columns first, then the forget gates', zeros between and after. -/
def wcol (w : S4096x10316.Idx → EReal) (k : Fin 4096) (C : Fin 1792) : EReal :=
  if h : C.val < 1600 then w (ix2 k (⟨8716 + C.val, by omega⟩ : Fin 10316))
  else if h' : 1664 ≤ C.val ∧ C.val < 1676 then w (ix2 k (⟨8704 + (C.val - 1664), by omega⟩ : Fin 10316)) else 0

theorem update_at (x : S1x1792x4096.Idx → EReal) (u : S1x12x4096.Idx → EReal) (st : Fin 3 → Int)
    (h : S1x1792x4096.Slices (fun _ => 0) S1x12x4096) (h0 : st 0 = 0) (h1 : st 1 = 1664) (h2 : st 2 = 0) (C : Fin 1792) (k : Fin 4096) :
    Host.dynamicUpdateSlice x u st h (ix3 (0 : Fin 1) C k)
      = if hc : 1664 ≤ C.val ∧ C.val < 1676 then u (ix3 (0 : Fin 1) (⟨C.val - 1664, by omega⟩ : Fin 12) k) else x (ix3 (0 : Fin 1) C k) := by
  have c0 : Host.clampedStart S1x1792x4096 S1x12x4096 h.1 st (0 : Fin 3) = 0 := Host.clampedStart_of_le h.1 st (0 : Fin 3) 0 h0 (by show 0 + 1 ≤ 1; omega)
  have c1 : Host.clampedStart S1x1792x4096 S1x12x4096 h.1 st (1 : Fin 3) = 1664 := Host.clampedStart_of_le h.1 st (1 : Fin 3) 1664 h1 (by show 1664 + 12 ≤ 1792; omega)
  have c2 : Host.clampedStart S1x1792x4096 S1x12x4096 h.1 st (2 : Fin 3) = 0 := Host.clampedStart_of_le h.1 st (2 : Fin 3) 0 h2 (by show 0 + 4096 ≤ 4096; omega)
  rw [Host.dynamicUpdateSlice_apply]
  by_cases hc : 1664 ≤ C.val ∧ C.val < 1676
  · rw [dif_pos hc]
    refine (dif_pos fun a => ?_).trans (congrArg u (ext3 ?_ ?_ ?_))
    · match a with
      | ⟨0, _⟩ => exact ⟨c0.trans_le (Nat.zero_le _), c0.symm ▸ (by show 0 < 0 + 1; omega)⟩
      | ⟨1, _⟩ => exact ⟨c1.trans_le hc.1, c1.symm ▸ hc.2⟩
      | ⟨2, _⟩ => exact ⟨c2.trans_le (Nat.zero_le _), c2.symm ▸ (by show k.val < 0 + 4096; omega)⟩
    · show 0 - Host.clampedStart S1x1792x4096 S1x12x4096 h.1 st (0 : Fin 3) = 0
      omega
    · show C.val - Host.clampedStart S1x1792x4096 S1x12x4096 h.1 st (1 : Fin 3) = C.val - 1664
      rw [c1]
    · show k.val - Host.clampedStart S1x1792x4096 S1x12x4096 h.1 st (2 : Fin 3) = k.val
      rw [c2]; rfl
  · rw [dif_neg hc]
    refine dif_neg fun hin => hc ?_
    have h' := hin (1 : Fin 3)
    rw [c1] at h'
    exact h'

set_option maxHeartbeats 4000000 in
theorem host_w (C : Fin 1792) (k : Fin 4096) : V m c main_v20 (ix3 (0 : Fin 1) C k) = wcol (X2 m c) k C := by
  unfold V hostOps0
  after_reads_simp
  refine (update_at _ _ _ _ ?_ ?_ ?_ C k).trans ?_
  · refine (congrArg (fun z => BitVec.toInt (z (Shape.Idx.first h_S_))) (?_ : _ = constantI S_ 32 0#32)).trans rfl
    show cast _ (StableHlo.upto _ _ 28 (Proc.tc.devRef main_c_2)) = _
    after_reads_simp
    rfl
  · refine (congrArg (fun z => BitVec.toInt (z (Shape.Idx.first h_S_))) (?_ : _ = constantI S_ 32 1664#32)).trans rfl
    show cast _ (StableHlo.upto _ _ 28 (Proc.tc.devRef main_c_3)) = _
    after_reads_simp
    rfl
  · refine (congrArg (fun z => BitVec.toInt (z (Shape.Idx.first h_S_))) (?_ : _ = constantI S_ 32 0#32)).trans rfl
    show cast _ (StableHlo.upto _ _ 28 (Proc.tc.devRef main_c_4)) = _
    after_reads_simp
    rfl
  · unfold wcol
    by_cases h : C.val < 1600
    · rw [dif_pos h, dif_neg (by omega)]
      refine (pad_apply_of_inside _ _ _ _ _ pads_S1x1600x4096_S1x1792x4096_000_01920_000 h_S_ (ix3 (0 : Fin 1) C k)
        (ix3 (0 : Fin 1) (⟨C.val, h⟩ : Fin 1600) k) (fun a => ?_)).trans ?_
      · match a with
        | ⟨0, _⟩ => rfl
        | ⟨1, _⟩ => show C.val = 0 + C.val * (0 + 1); omega
        | ⟨2, _⟩ => show k.val = 0 + k.val * (0 + 1); omega
      · simp only [StableHlo.TRef.ofBuf, cast_eq]
        pointwise
    · rw [dif_neg h]
      by_cases h' : 1664 ≤ C.val ∧ C.val < 1676
      · rw [dif_pos h', dif_pos h']
        pointwise
      · rw [dif_neg h', dif_neg h']
        refine (pad_apply_of_not_inside _ _ _ _ _ pads_S1x1600x4096_S1x1792x4096_000_01920_000 h_S_ (ix3 (0 : Fin 1) C k) (1 : Fin 3)
          (fun hc => h ?_)).trans ?_
        · have := hc.2.2
          have e : (C.val - 0) / (0 + 1) < 1600 := this
          omega
        · simp only [StableHlo.TRef.ofBuf, StableHlo.TRef.toBuf, cast_eq]
          show (((0#32 : BitVec 32).toInt : ℝ) : EReal) = 0
          simp

theorem blkX (r : Fin 1024) (k : Fin 4096) (R : Fin 16384) (hR : R.val = 1024 * (t.val / 7) + r.val) :
    iblk m c (0 : Fin 4) t (ix2 r k) = X0 m c (ix3 (seqOf R) (rowOf R) k) * X1 m c (ix1 k) := by
  have e0 : ((((cfg0.win (0 : Fin 4)).blk t).view.emb (ix2 r k)) (0 : Fin 2)).val
      = (cfg0.win (0 : Fin 4)).index t (0 : Fin 2) * 1024 + r.val :=
    Pipeline.Window.rect_emb_val (cfg0.win (0 : Fin 4)) t (ix2 r k) (0 : Fin 2)
  have e1 : ((((cfg0.win (0 : Fin 4)).blk t).view.emb (ix2 r k)) (1 : Fin 2)).val
      = (cfg0.win (0 : Fin 4)).index t (1 : Fin 2) * 4096 + k.val :=
    Pipeline.Window.rect_emb_val (cfg0.win (0 : Fin 4)) t (ix2 r k) (1 : Fin 2)
  have h0 : (cfg0.win (0 : Fin 4)).index t (0 : Fin 2) = t.val / 7 := congrFun (index_0 t) (0 : Fin 2)
  have h1 : (cfg0.win (0 : Fin 4)).index t (1 : Fin 2) = 0 := congrFun (index_0 t) (1 : Fin 2)
  rw [h0] at e0
  rw [h1] at e1
  have hj : ((cfg0.win (0 : Fin 4)).blk t).view.emb (ix2 r k) = ix2 R k := by
    refine ext2 ?_ ?_
    · exact e0.trans (by show _ = R.val; omega)
    · exact e1.trans (by show _ = k.val; omega)
  exact (congrArg (V m c main_v4) hj).trans (host_x m c R k)

theorem blkR (r : Fin 1024) (k : Fin 128) (R : Fin 16384) (hR : R.val = 1024 * (t.val / 7) + r.val) :
    iblk m c (1 : Fin 4) t (ix2 r k) = rowFactor (X0 m c) (seqOf R) (rowOf R) := by
  have e0 : ((((cfg0.win (1 : Fin 4)).blk t).view.emb (ix2 r k)) (0 : Fin 2)).val
      = (cfg0.win (1 : Fin 4)).index t (0 : Fin 2) * 1024 + r.val :=
    Pipeline.Window.rect_emb_val (cfg0.win (1 : Fin 4)) t (ix2 r k) (0 : Fin 2)
  have e1 : ((((cfg0.win (1 : Fin 4)).blk t).view.emb (ix2 r k)) (1 : Fin 2)).val
      = (cfg0.win (1 : Fin 4)).index t (1 : Fin 2) * 128 + k.val :=
    Pipeline.Window.rect_emb_val (cfg0.win (1 : Fin 4)) t (ix2 r k) (1 : Fin 2)
  have h0 : (cfg0.win (1 : Fin 4)).index t (0 : Fin 2) = t.val / 7 := congrFun (index_1 t) (0 : Fin 2)
  have h1 : (cfg0.win (1 : Fin 4)).index t (1 : Fin 2) = 0 := congrFun (index_1 t) (1 : Fin 2)
  rw [h0] at e0
  rw [h1] at e1
  have hj : ((cfg0.win (1 : Fin 4)).blk t).view.emb (ix2 r k) = ix2 R k := by
    refine ext2 ?_ ?_
    · exact e0.trans (by show _ = R.val; omega)
    · exact e1.trans (by show _ = k.val; omega)
  exact (congrArg (V m c main_v13) hj).trans (host_r m c R k)

theorem blkW (l : Fin 256) (k : Fin 4096) (C : Fin 1792) (hC : C.val = 256 * (t.val % 7) + l.val) :
    iblk m c (2 : Fin 4) t (ix3 (0 : Fin 1) l k) = wcol (X2 m c) k C := by
  have e1 : ((((cfg0.win (2 : Fin 4)).blk t).view.emb (ix3 (0 : Fin 1) l k)) (1 : Fin 3)).val
      = (cfg0.win (2 : Fin 4)).index t (1 : Fin 3) * 256 + l.val :=
    Pipeline.Window.rect_emb_val (cfg0.win (2 : Fin 4)) t (ix3 (0 : Fin 1) l k) (1 : Fin 3)
  have e2 : ((((cfg0.win (2 : Fin 4)).blk t).view.emb (ix3 (0 : Fin 1) l k)) (2 : Fin 3)).val
      = (cfg0.win (2 : Fin 4)).index t (2 : Fin 3) * 4096 + k.val :=
    Pipeline.Window.rect_emb_val (cfg0.win (2 : Fin 4)) t (ix3 (0 : Fin 1) l k) (2 : Fin 3)
  have h1 : (cfg0.win (2 : Fin 4)).index t (1 : Fin 3) = t.val % 7 := congrFun (index_2 t) (1 : Fin 3)
  have h2 : (cfg0.win (2 : Fin 4)).index t (2 : Fin 3) = 0 := congrFun (index_2 t) (2 : Fin 3)
  rw [h1] at e1
  rw [h2] at e2
  have hj : ((cfg0.win (2 : Fin 4)).blk t).view.emb (ix3 (0 : Fin 1) l k) = ix3 (0 : Fin 1) C k := by
    refine ext3 ?_ ?_ ?_
    · have hlt : ((((cfg0.win (2 : Fin 4)).blk t).view.emb (ix3 (0 : Fin 1) l k)) (0 : Fin 3)).val < 1 := ((((cfg0.win (2 : Fin 4)).blk t).view.emb (ix3 (0 : Fin 1) l k)) (0 : Fin 3)).isLt
      show _ = 0
      omega
    · exact e1.trans (by show _ = C.val; omega)
    · exact e2.trans (by show _ = k.val; omega)
  exact (congrArg (V m c main_v20) hj).trans (host_w m c C k)

/-- What a point leaves: the product of its rows with its columns, the rows' factors outside. -/
theorem left_eq (a : Vec Ideal S1024x4096 .bf16) (r : Vec Ideal S1024x128 .f32) (w : Vec Ideal S1x256x4096 .bf16) :
    out0_3 a r w = k0_pay1 a w r := by
  unfold out0_3
  frame_out

/-- The product at row `R` and the call's column `C`, the row's factor outside. -/
def prod (x : S2x8192x4096.Idx → EReal) (g : S4096.Idx → EReal) (w : S4096x10316.Idx → EReal) (R : Fin 16384) (C : Fin 1792) : EReal :=
  (∑ k : Fin 4096, x (ix3 (seqOf R) (rowOf R) k) * g (ix1 k) * wcol w k C) * rowFactor x (seqOf R) (rowOf R)

/-- The projections, written out once. -/
def out : S16384x1792.Idx → EReal := fun p => prod (X0 m c) (X1 m c) (X2 m c) (p (0 : Fin 2)) (p (1 : Fin 2))

theorem result_eq : (dats m 0 c).arrAt (3 : Fin 4) cfg0.N = out m c := by
  refine (dats m 0 c).arrAt_eq_of_covers (3 : Fin 4) _ covers_3 fun t hf y => ?_
  blk_simp
  rw [after0_3, left_eq]
  have hy : y = ix2 (y (0 : Fin 2)) (y (1 : Fin 2)) := ext2 rfl rfl
  have e0 : ((((cfg0.win (3 : Fin 4)).blk t).view.emb y) (0 : Fin 2)).val
      = (cfg0.win (3 : Fin 4)).index t (0 : Fin 2) * 1024 + (y (0 : Fin 2)).val :=
    Pipeline.Window.rect_emb_val (cfg0.win (3 : Fin 4)) t y (0 : Fin 2)
  have e1 : ((((cfg0.win (3 : Fin 4)).blk t).view.emb y) (1 : Fin 2)).val
      = (cfg0.win (3 : Fin 4)).index t (1 : Fin 2) * 256 + (y (1 : Fin 2)).val :=
    Pipeline.Window.rect_emb_val (cfg0.win (3 : Fin 4)) t y (1 : Fin 2)
  have h0 : (cfg0.win (3 : Fin 4)).index t (0 : Fin 2) = t.val / 7 := congrFun (index_3 t) (0 : Fin 2)
  have h1 : (cfg0.win (3 : Fin 4)).index t (1 : Fin 2) = t.val % 7 := congrFun (index_3 t) (1 : Fin 2)
  rw [h0] at e0
  rw [h1] at e1
  have hR : ((((cfg0.win (3 : Fin 4)).blk t).view.emb y) (0 : Fin 2)).val = 1024 * (t.val / 7) + (y (0 : Fin 2)).val :=
    e0.trans (by omega)
  have hC : ((((cfg0.win (3 : Fin 4)).blk t).view.emb y) (1 : Fin 2)).val = 256 * (t.val % 7) + (y (1 : Fin 2)).val :=
    e1.trans (by omega)
  refine (congrArg (k0_pay1 _ _ _) hy).trans ((pay_apply _ _ _ _ _).trans ?_)
  exact congrArg₂ (fun a b : EReal => a * b)
    (Finset.sum_congr rfl fun k _ => congrArg₂ (fun a b : EReal => a * b) (blkX m c t _ k _ hR) (blkW m c t _ k _ hC))
    (blkR m c t _ _ _ hR)

end Cert.Kernel7Ideal.Tail
-- ==== Proof.Reference7Ideal.Tail.lean ====
module

public import proofs.«01_k».proof.Proof.Gen.Reference7Ideal.Read
public import proofs.«01_k».proof.Proof.Kernel7Ideal.Tail
public import proofs.«01_k».proof.Proof.Reference5Ideal.Proj

/-! The reference's other projections at an index: each column is one of the input projection's, or zero. -/

@[expose] public section

set_option maxRecDepth 16384

noncomputable section

namespace Cert.Reference7Ideal.Tail

open Cert.Reference7Ideal Cert.Reference7Ideal.Read
open Idealize.ShloMosaic
open Idealize.ShloMosaic.TcCoe
open Cert.Kernel2Ideal.Gated (rowFactor seqOf rowOf ext2 ext3)
open Cert.Kernel7Ideal.Tail (prod wcol)

variable (x0 : S2x8192x4096.Idx → EReal) (x1 : S4096.Idx → EReal) (x2 : S4096x10316.Idx → EReal)

/-- The whole projection is that of the other reference. -/
theorem whole (R : Fin 16384) (C : Fin 10316) :
    val_main_v14 (F := Ideal) x0 x1 x2 (ix2 R C) = Cert.Kernel5Ideal.Proj.prod x0 x1 x2 R C := by
  have hR := R.isLt
  have hC := C.isLt
  have e : idx_main_v14 (ix2 R C) = ix3 (seqOf R) (rowOf R) C := by
    refine ext3 ?_ ?_ ?_
    · show (R.val * 10316 + C.val) / 84508672 = R.val / 8192
      omega
    · show (R.val * 10316 + C.val) / 10316 % 8192 = R.val % 8192
      omega
    · show (R.val * 10316 + C.val) % 10316 = C.val
      omega
  rw [val_main_v14_apply, e]
  exact Cert.Reference5Ideal.Proj.gate x0 x1 x2 _ _ C R rfl rfl

theorem prod_col (R : Fin 16384) (C : Fin 1792) (C' : Fin 10316) (h : ∀ k, wcol x2 k C = x2 (ix2 k C')) :
    prod x0 x1 x2 R C = Cert.Kernel5Ideal.Proj.prod x0 x1 x2 R C' := by
  unfold prod Cert.Kernel5Ideal.Proj.prod
  simp only [h]

theorem prod_zero (R : Fin 16384) (C : Fin 1792) (h : ∀ k, wcol x2 k C = 0) : prod x0 x1 x2 R C = 0 := by
  unfold prod
  simp only [h, mul_zero, Finset.sum_const_zero, zero_mul]

/-- The reference's result, at an index. -/
theorem value_eq (p : S16384x1792.Idx) : val_main_v19 (F := Ideal) x0 x1 x2 p = prod x0 x1 x2 (p (0 : Fin 2)) (p (1 : Fin 2)) := by
  obtain ⟨R, C, rfl⟩ : ∃ (R : Fin 16384) (C : Fin 1792), p = ix2 R C := ⟨p (0 : Fin 2), p (1 : Fin 2), ext2 rfl rfl⟩
  have hC := C.isLt
  show _ = prod x0 x1 x2 R C
  unfold val_main_v19
  by_cases h1 : C.val < 1600
  · rw [prod_col x0 x1 x2 R C ⟨8716 + C.val, by omega⟩ fun k => by unfold wcol; rw [dif_pos h1], ← whole]
    refine (concatenate_apply_piece (t := S16384x1792) 1 _ _ (ix2 R C) 0 (by show 0 < 4; omega) S16384x1600 _ rfl rfl 0 rfl (ix2 R (⟨C.val, h1⟩ : Fin 1600))
      (fun b hb => by match b with | ⟨0, _⟩ => rfl | ⟨1, _⟩ => exact absurd rfl hb) (by show 0 + C.val = C.val; omega)).trans ?_
    rw [val_main_v15_apply]
    exact congrArg _ (ext2 (by first | rfl | (show 0 + _ = _; exact Nat.zero_add _)) (by first | rfl | (show _ = _ + _; exact Nat.add_comm _ _)))
  by_cases h2 : C.val < 1664
  · rw [prod_zero x0 x1 x2 R C fun k => by unfold wcol; rw [dif_neg h1, dif_neg (by omega)]]
    refine (concatenate_apply_piece (t := S16384x1792) 1 _ _ (ix2 R C) 1 (by show 1 < 4; omega) S16384x64 _ rfl rfl 1600 rfl (ix2 R (⟨C.val - 1600, by omega⟩ : Fin 64))
      (fun b hb => by match b with | ⟨0, _⟩ => rfl | ⟨1, _⟩ => exact absurd rfl hb) (by show 1600 + (C.val - 1600) = C.val; omega)).trans ?_
    rw [val_main_v16_apply]
    exact Ideal.ofBits_zero_f32
  by_cases h3 : C.val < 1676
  · rw [prod_col x0 x1 x2 R C ⟨8704 + (C.val - 1664), by omega⟩ fun k => by unfold wcol; rw [dif_neg h1, dif_pos (by omega)], ← whole]
    refine (concatenate_apply_piece (t := S16384x1792) 1 _ _ (ix2 R C) 2 (by show 2 < 4; omega) S16384x12 _ rfl rfl 1664 rfl (ix2 R (⟨C.val - 1664, by omega⟩ : Fin 12))
      (fun b hb => by match b with | ⟨0, _⟩ => rfl | ⟨1, _⟩ => exact absurd rfl hb) (by show 1664 + (C.val - 1664) = C.val; omega)).trans ?_
    rw [val_main_v17_apply]
    exact congrArg _ (ext2 (by first | rfl | (show 0 + _ = _; exact Nat.zero_add _)) (by first | rfl | (show _ = _ + _; exact Nat.add_comm _ _)))
  · rw [prod_zero x0 x1 x2 R C fun k => by unfold wcol; rw [dif_neg h1, dif_neg (by omega)]]
    refine (concatenate_apply_piece (t := S16384x1792) 1 _ _ (ix2 R C) 3 (by show 3 < 4; omega) S16384x116 _ rfl rfl 1676 rfl (ix2 R (⟨C.val - 1676, by omega⟩ : Fin 116))
      (fun b hb => by match b with | ⟨0, _⟩ => rfl | ⟨1, _⟩ => exact absurd rfl hb) (by show 1676 + (C.val - 1676) = C.val; omega)).trans ?_
    rw [val_main_v18_apply]
    exact Ideal.ofBits_zero_f32

end Cert.Reference7Ideal.Tail
-- ==== Proof.Kernel8Ideal.Query.lean ====
module

public import proofs.«01_k».proof.Proof.Gen.Kernel8Ideal.Value
public import proofs.«01_k».proof.Proof.Kernel2Ideal.Gated
public import Idealize.ShloMosaic.Lib.Pointwise
public import Idealize.ShloMosaic.Lib.KernelVsHost
public import Idealize.ShloMosaic.Lib.Pipeline.ValueKit
public import Idealize.ShloMosaic.Lib.StableHlo.ReadAt

/-! The product of the normed latent with the queries' weight: what every grid point leaves in its block, and the whole result array. -/

@[expose] public section

set_option maxRecDepth 16384

noncomputable section

namespace Cert.Kernel8Ideal.Query

open Cert.Kernel8Ideal Cert.Kernel8Ideal.Gen
open Idealize.ShloMosaic
open Idealize.ShloMosaic.TcCoe
open Cert.Kernel2Ideal.Gated (ext2 ext3)

theorem pay_apply (b : Vec Ideal S2048x1024 .bf16) (w : Vec Ideal S1x1024x1536 .bf16) (p : Fin 2048) (l : Fin 1536) :
    k0_pay1 b w (ix2 p l) = ∑ k : Fin 1024, (b (ix2 p k) : EReal) * w (ix3 (0 : Fin 1) k l) := by
  pointwise [k0_pay1]

theorem index_0 : ∀ t : Fin cfg0.N, (cfg0.win (0 : Fin 3)).index t = ![t.val / 2, 0] := by decide +kernel
theorem index_1 : ∀ t : Fin cfg0.N, (cfg0.win (1 : Fin 3)).index t = ![0, 0, t.val % 2] := by decide +kernel
theorem index_2 : ∀ t : Fin cfg0.N, (cfg0.win (2 : Fin 3)).index t = ![t.val / 2, t.val % 2] := by decide +kernel
theorem covers_2 : (cfg0.win (2 : Fin 3)).Covers := by decide +kernel

variable (m : (ℓ : Loc nD τ sig) → Buf (Elt Ideal) ℓ) (c : Dev nD) (t : Fin cfg0.N)

abbrev X0 : S16384x1024.Idx → EReal := m ((c : Thread nD τ).loc main_arg0)
abbrev X1 : S1024x2304.Idx → EReal := m ((c : Thread nD τ).loc main_arg1)

/-- A cast keeps the number. -/
theorem cast_at {s : Shape} (x : FVec Ideal s .f32) (h : FTy.bf16.bits < FTy.f32.bits) (i : s.Idx) : truncf .bf16 x h i = (x i : EReal) := rfl

theorem host_a (p : S16384x1024.Idx) : V m c main_v5 p = X0 m c p := by
  unfold V hostOps0
  after_reads_at
  try rfl

/-- The weight's column `C` of the call at row `k`: a head's 192 columns, then 64 zeros. -/
def wcol (w : S1024x2304.Idx → EReal) (k : Fin 1024) (C : Fin 3072) : EReal :=
  if h : C.val % 256 < 192 then w (ix2 k (⟨192 * (C.val / 256) + C.val % 256, by omega⟩ : Fin 2304)) else 0

set_option maxHeartbeats 4000000 in
theorem host_w (k : Fin 1024) (C : Fin 3072) : V m c main_v4 (ix3 (0 : Fin 1) k C) = wcol (X1 m c) k C := by
  have hk := k.isLt
  have hC := C.isLt
  unfold V hostOps0
  after_reads_simp
  simp only [StableHlo.TRef.ofBuf, StableHlo.TRef.toBuf, cast_eq]
  refine (cast_at _ _ _).trans ?_
  refine (shapeCast_apply _ shapeCasts_S1x1024x12x256_S1x1024x3072 (ix3 (0 : Fin 1) k C)
    (ix4 (0 : Fin 1) k (⟨C.val / 256, by omega⟩ : Fin 12) (⟨C.val % 256, by omega⟩ : Fin 256)) ?_).trans ?_
  · rewrite [Shape.rowMajor_val_four, Shape.rowMajor_val_three]
    show ((0 * 1024 + k.val) * 12 + C.val / 256) * 256 + C.val % 256 = (0 * 1024 + k.val) * 3072 + C.val
    omega
  unfold wcol
  by_cases h : C.val % 256 < 192
  · rw [dif_pos h]
    refine (pad_apply_of_inside _ _ _ _ _ _ h_S_ _
      (ix4 (0 : Fin 1) k (⟨C.val / 256, by omega⟩ : Fin 12) (⟨C.val % 256, h⟩ : Fin 192)) (fun a => ?_)).trans ?_
    · match a with
      | ⟨0, _⟩ => rfl
      | ⟨1, _⟩ => show k.val = 0 + k.val * (0 + 1); omega
      | ⟨2, _⟩ => show C.val / 256 = 0 + C.val / 256 * (0 + 1); omega
      | ⟨3, _⟩ => show C.val % 256 = 0 + C.val % 256 * (0 + 1); omega
    · refine (shapeCast_apply _ shapeCasts_S1x1024x2304_S1x1024x12x192 _
        (ix3 (0 : Fin 1) k (⟨192 * (C.val / 256) + C.val % 256, by omega⟩ : Fin 2304)) ?_).trans ?_
      · rewrite [Shape.rowMajor_val_four, Shape.rowMajor_val_three]
        show (0 * 1024 + k.val) * 2304 + (192 * (C.val / 256) + C.val % 256) = ((0 * 1024 + k.val) * 12 + C.val / 256) * 192 + C.val % 256
        omega
      · pointwise
  · rw [dif_neg h]
    refine (pad_apply_of_not_inside _ _ _ _ _ _ h_S_ _ (3 : Fin 4) (fun hc => h ?_)).trans ?_
    · have := hc.2.2
      have e : (C.val % 256 - 0) / (0 + 1) < 192 := this
      omega
    · show (((0#32 : BitVec 32).toInt : ℝ) : EReal) = 0
      simp

theorem blkA (r : Fin 2048) (k : Fin 1024) (R : Fin 16384) (hR : R.val = 2048 * (t.val / 2) + r.val) :
    iblk m c (0 : Fin 3) t (ix2 r k) = X0 m c (ix2 R k) := by
  have e0 : ((((cfg0.win (0 : Fin 3)).blk t).view.emb (ix2 r k)) (0 : Fin 2)).val
      = (cfg0.win (0 : Fin 3)).index t (0 : Fin 2) * 2048 + r.val :=
    Pipeline.Window.rect_emb_val (cfg0.win (0 : Fin 3)) t (ix2 r k) (0 : Fin 2)
  have e1 : ((((cfg0.win (0 : Fin 3)).blk t).view.emb (ix2 r k)) (1 : Fin 2)).val
      = (cfg0.win (0 : Fin 3)).index t (1 : Fin 2) * 1024 + k.val :=
    Pipeline.Window.rect_emb_val (cfg0.win (0 : Fin 3)) t (ix2 r k) (1 : Fin 2)
  have h0 : (cfg0.win (0 : Fin 3)).index t (0 : Fin 2) = t.val / 2 := congrFun (index_0 t) (0 : Fin 2)
  have h1 : (cfg0.win (0 : Fin 3)).index t (1 : Fin 2) = 0 := congrFun (index_0 t) (1 : Fin 2)
  rw [h0] at e0
  rw [h1] at e1
  have hj : ((cfg0.win (0 : Fin 3)).blk t).view.emb (ix2 r k) = ix2 R k := by
    refine ext2 ?_ ?_
    · exact e0.trans (by show _ = R.val; omega)
    · exact e1.trans (by show _ = k.val; omega)
  exact (congrArg (V m c main_v5) hj).trans (host_a m c _)

theorem blkW (k : Fin 1024) (l : Fin 1536) (C : Fin 3072) (hC : C.val = 1536 * (t.val % 2) + l.val) :
    iblk m c (1 : Fin 3) t (ix3 (0 : Fin 1) k l) = wcol (X1 m c) k C := by
  have e0 : ((((cfg0.win (1 : Fin 3)).blk t).view.emb (ix3 (0 : Fin 1) k l)) (0 : Fin 3)).val
      = (cfg0.win (1 : Fin 3)).index t (0 : Fin 3) * 1 + 0 :=
    Pipeline.Window.rect_emb_val (cfg0.win (1 : Fin 3)) t (ix3 (0 : Fin 1) k l) (0 : Fin 3)
  have e1 : ((((cfg0.win (1 : Fin 3)).blk t).view.emb (ix3 (0 : Fin 1) k l)) (1 : Fin 3)).val
      = (cfg0.win (1 : Fin 3)).index t (1 : Fin 3) * 1024 + k.val :=
    Pipeline.Window.rect_emb_val (cfg0.win (1 : Fin 3)) t (ix3 (0 : Fin 1) k l) (1 : Fin 3)
  have e2 : ((((cfg0.win (1 : Fin 3)).blk t).view.emb (ix3 (0 : Fin 1) k l)) (2 : Fin 3)).val
      = (cfg0.win (1 : Fin 3)).index t (2 : Fin 3) * 1536 + l.val :=
    Pipeline.Window.rect_emb_val (cfg0.win (1 : Fin 3)) t (ix3 (0 : Fin 1) k l) (2 : Fin 3)
  have h0 : (cfg0.win (1 : Fin 3)).index t (0 : Fin 3) = 0 := congrFun (index_1 t) (0 : Fin 3)
  have h1 : (cfg0.win (1 : Fin 3)).index t (1 : Fin 3) = 0 := congrFun (index_1 t) (1 : Fin 3)
  have h2 : (cfg0.win (1 : Fin 3)).index t (2 : Fin 3) = t.val % 2 := congrFun (index_1 t) (2 : Fin 3)
  rw [h0] at e0
  rw [h1] at e1
  rw [h2] at e2
  have hj : ((cfg0.win (1 : Fin 3)).blk t).view.emb (ix3 (0 : Fin 1) k l) = ix3 (0 : Fin 1) k C := by
    refine ext3 ?_ ?_ ?_
    · exact e0.trans rfl
    · exact e1.trans (by show _ = k.val; omega)
    · exact e2.trans (by show _ = C.val; omega)
  exact (congrArg (V m c main_v4) hj).trans (host_w m c k C)

/-- What a point leaves: the product of its rows with its columns. -/
theorem left_eq (a : Vec Ideal S2048x1024 .bf16) (w : Vec Ideal S1x1024x1536 .bf16) : out0_2 a w = k0_pay1 a w := by
  unfold out0_2
  frame_out

/-- The product at row `R` and the call's column `C`. -/
def prod (x : S16384x1024.Idx → EReal) (w : S1024x2304.Idx → EReal) (R : Fin 16384) (C : Fin 3072) : EReal :=
  ∑ k : Fin 1024, x (ix2 R k) * wcol w k C

/-- The products, written out once. -/
def out : S16384x3072.Idx → EReal := fun p => prod (X0 m c) (X1 m c) (p (0 : Fin 2)) (p (1 : Fin 2))

theorem result_eq : (dats m 0 c).arrAt (2 : Fin 3) cfg0.N = out m c := by
  refine (dats m 0 c).arrAt_eq_of_covers (2 : Fin 3) _ covers_2 fun t hf y => ?_
  blk_simp
  rw [after0_2, left_eq]
  have hy : y = ix2 (y (0 : Fin 2)) (y (1 : Fin 2)) := ext2 rfl rfl
  have e0 : ((((cfg0.win (2 : Fin 3)).blk t).view.emb y) (0 : Fin 2)).val
      = (cfg0.win (2 : Fin 3)).index t (0 : Fin 2) * 2048 + (y (0 : Fin 2)).val :=
    Pipeline.Window.rect_emb_val (cfg0.win (2 : Fin 3)) t y (0 : Fin 2)
  have e1 : ((((cfg0.win (2 : Fin 3)).blk t).view.emb y) (1 : Fin 2)).val
      = (cfg0.win (2 : Fin 3)).index t (1 : Fin 2) * 1536 + (y (1 : Fin 2)).val :=
    Pipeline.Window.rect_emb_val (cfg0.win (2 : Fin 3)) t y (1 : Fin 2)
  have h0 : (cfg0.win (2 : Fin 3)).index t (0 : Fin 2) = t.val / 2 := congrFun (index_2 t) (0 : Fin 2)
  have h1 : (cfg0.win (2 : Fin 3)).index t (1 : Fin 2) = t.val % 2 := congrFun (index_2 t) (1 : Fin 2)
  rw [h0] at e0
  rw [h1] at e1
  have hR : ((((cfg0.win (2 : Fin 3)).blk t).view.emb y) (0 : Fin 2)).val = 2048 * (t.val / 2) + (y (0 : Fin 2)).val :=
    e0.trans (by omega)
  have hC : ((((cfg0.win (2 : Fin 3)).blk t).view.emb y) (1 : Fin 2)).val = 1536 * (t.val % 2) + (y (1 : Fin 2)).val :=
    e1.trans (by omega)
  refine (congrArg (k0_pay1 _ _) hy).trans ((pay_apply _ _ _ _).trans ?_)
  exact Finset.sum_congr rfl fun k _ => congrArg₂ (fun a b : EReal => a * b) (blkA m c t _ k _ hR) (blkW m c t k _ _ hC)

end Cert.Kernel8Ideal.Query
-- ==== Proof.Reference8Ideal.Query.lean ====
module

public import proofs.«01_k».proof.Proof.Gen.Reference8Ideal.Read
public import proofs.«01_k».proof.Proof.Kernel8Ideal.Query

/-! The reference's queries at an index: each column is one of the product's, or zero. -/

@[expose] public section

set_option maxRecDepth 16384

noncomputable section

namespace Cert.Reference8Ideal.Query

open Cert.Reference8Ideal Cert.Reference8Ideal.Read
open Idealize.ShloMosaic
open Idealize.ShloMosaic.TcCoe
open Cert.Kernel2Ideal.Gated (ext2 ext3)
open Cert.Kernel8Ideal.Query (prod wcol)

variable (x0 : S16384x1024.Idx → EReal) (x1 : S1024x2304.Idx → EReal)

/-- The reference's result, at an index. -/
theorem value_eq (p : S16384x3072.Idx) : val_main_v5 (F := Ideal) x0 x1 p = prod x0 x1 (p (0 : Fin 2)) (p (1 : Fin 2)) := by
  obtain ⟨R, C, rfl⟩ : ∃ (R : Fin 16384) (C : Fin 3072), p = ix2 R C := ⟨p (0 : Fin 2), p (1 : Fin 2), ext2 rfl rfl⟩
  have hR := R.isLt
  have hC := C.isLt
  show val_main_v4 (F := Ideal) x0 x1 (ix2 R C) = ∑ k : Fin 1024, x0 (ix2 R k) * wcol x1 k C
  have e : idx_main_v4 (ix2 R C) = ix3 R (⟨C.val / 256, by omega⟩ : Fin 12) (⟨C.val % 256, by omega⟩ : Fin 256) := by
    refine ext3 ?_ ?_ ?_
    · show (R.val * 3072 + C.val) / 3072 = R.val
      omega
    · show (R.val * 3072 + C.val) / 256 % 12 = C.val / 256
      omega
    · show (R.val * 3072 + C.val) % 256 = C.val % 256
      omega
  rw [val_main_v4_apply, e]
  unfold val_main_v3
  by_cases h : C.val % 256 < 192
  · refine (concatenate_apply_piece (t := S16384x12x256) 2 _ _ _ 0 (by show 0 < 2; omega) S16384x12x192 _ rfl rfl 0 rfl
      (ix3 R (⟨C.val / 256, by omega⟩ : Fin 12) (⟨C.val % 256, h⟩ : Fin 192))
      (fun b hb => by match b with | ⟨0, _⟩ => rfl | ⟨1, _⟩ => rfl | ⟨2, _⟩ => exact absurd rfl hb) (by show 0 + C.val % 256 = C.val % 256; omega)).trans ?_
    rw [val_main_v1_apply]
    refine (val_main_v0_apply x0 x1 _).trans (Finset.sum_congr rfl fun k _ => ?_)
    unfold wcol
    rw [dif_pos h]
    refine congrArg₂ (fun a b : EReal => a * b) (congrArg x0 (ext2 ?_ rfl)) (congrArg x1 (ext2 rfl ?_))
    · show ((R.val * 12 + C.val / 256) * 192 + C.val % 256) / 2304 = R.val
      omega
    · show ((R.val * 12 + C.val / 256) * 192 + C.val % 256) % 2304 = 192 * (C.val / 256) + C.val % 256
      omega
  · refine (concatenate_apply_piece (t := S16384x12x256) 2 _ _ _ 1 (by show 1 < 2; omega) S16384x12x64 _ rfl rfl 192 rfl
      (ix3 R (⟨C.val / 256, by omega⟩ : Fin 12) (⟨C.val % 256 - 192, by omega⟩ : Fin 64))
      (fun b hb => by match b with | ⟨0, _⟩ => rfl | ⟨1, _⟩ => rfl | ⟨2, _⟩ => exact absurd rfl hb) (by show 192 + (C.val % 256 - 192) = C.val % 256; omega)).trans ?_
    rw [val_main_v2_apply]
    refine Ideal.ofBits_zero_f32.trans (Finset.sum_eq_zero fun k _ => ?_).symm
    unfold wcol
    rw [dif_neg h, mul_zero]

end Cert.Reference8Ideal.Query
-- ==== Proof.Kernel9Ideal.Columns.lean ====
module

public import proofs.«01_k».proof.Proof.Gen.Kernel9Ideal.Value
public import proofs.«01_k».proof.Proof.Kernel8Ideal.Query
public import Idealize.ShloMosaic.Lib.Pointwise
public import Idealize.ShloMosaic.Lib.KernelVsHost
public import Idealize.ShloMosaic.Lib.Pipeline.ValueKit
public import Idealize.ShloMosaic.Lib.StableHlo.ReadAt

/-! The columns of the joined operands of the keys' and values' product, and its sums. -/

@[expose] public section

set_option maxRecDepth 16384

noncomputable section

namespace Cert.Kernel9Ideal.KeyValue

open Cert.Kernel9Ideal Cert.Kernel9Ideal.Gen
open Idealize.ShloMosaic
open Idealize.ShloMosaic.TcCoe
open Cert.Kernel2Ideal.Gated (ext2 ext3)
open Cert.Kernel8Ideal.Query (cast_at)

/-- The left operand's column `k`: the latent, the shared key, zeros. -/
def acol (x : S16384x512.Idx → EReal) (e : S16384x64.Idx → EReal) (R : Fin 16384) (k : Fin 640) : EReal :=
  if h : k.val < 512 then x (ix2 R (⟨k.val, h⟩ : Fin 512)) else if h' : k.val < 576 then e (ix2 R (⟨k.val - 512, by omega⟩ : Fin 64)) else 0

theorem ext4 {a b d e : ℕ} {i j : (⟨4, ![a, b, d, e]⟩ : Shape).Idx} (h0 : (i (0 : Fin 4)).val = (j (0 : Fin 4)).val)
    (h1 : (i (1 : Fin 4)).val = (j (1 : Fin 4)).val) (h2 : (i (2 : Fin 4)).val = (j (2 : Fin 4)).val)
    (h3 : (i (3 : Fin 4)).val = (j (3 : Fin 4)).val) : i = j :=
  funext fun x => Fin.ext (by
    match x with
    | ⟨0, _⟩ => exact h0
    | ⟨1, _⟩ => exact h1
    | ⟨2, _⟩ => exact h2
    | ⟨3, _⟩ => exact h3)

/-- The weight by heads, read through a slice of a head's columns. -/
theorem wide_at (w : S512x3072.Idx → EReal) (k : Fin 512) (h : Fin 12) (l : Fin 256) (i : S1x512x12x256.Idx) (hi : i = ix4 (0 : Fin 1) k h l) :
    shapeCast S1x512x12x256 (broadcastInDim S1x512x3072 ![1, 2] bcast_S512x3072_S1x512x3072_1_2 w) shapeCasts_S1x512x3072_S1x512x12x256 i
      = w (ix2 k (⟨h.val * 256 + l.val, by omega⟩ : Fin 3072)) := by
  subst hi
  refine (shapeCast_apply _ shapeCasts_S1x512x3072_S1x512x12x256 _ (ix3 (0 : Fin 1) k (⟨h.val * 256 + l.val, by omega⟩ : Fin 3072)) ?_).trans ?_
  · rewrite [Shape.rowMajor_val_four, Shape.rowMajor_val_three]
    show (0 * 512 + k.val) * 3072 + (h.val * 256 + l.val) = ((0 * 512 + k.val) * 12 + h.val) * 256 + l.val
    omega
  · pointwise

/-- The weight's entry at row `k` and column `C` of the call: for a head's keys its 128 columns over the latent, then the identity over
    the shared key; for the values their columns over the latent; zeros elsewhere. -/
def wcol (w : S512x3072.Idx → EReal) (k : Fin 640) (C : Fin 4608) : EReal :=
  if h : k.val < 512 then
    if h3 : C.val < 3072 then
      if h1 : C.val % 256 < 128 then w (ix2 (⟨k.val, h⟩ : Fin 512) (⟨C.val, h3⟩ : Fin 3072)) else 0
    else w (ix2 (⟨k.val, h⟩ : Fin 512) (⟨256 * ((C.val - 3072) / 128) + 128 + (C.val - 3072) % 128, by omega⟩ : Fin 3072))
  else if C.val < 3072 ∧ C.val % 256 = 128 + (k.val - 512) then 1 else 0

/-- The product at row `R` and the call's column `C`. -/
def prod (x : S16384x512.Idx → EReal) (e : S16384x64.Idx → EReal) (w : S512x3072.Idx → EReal) (R : Fin 16384) (C : Fin 4608) : EReal :=
  ∑ k : Fin 640, acol x e R k * wcol w k C

/-- The keys' weight by heads, 128 zeros after each head's 128 columns. -/
theorem keys_at (w : S512x3072.Idx → EReal) (z : S_.Idx → EReal) (hz : z (Shape.Idx.first h_S_) = 0) (k : Fin 512) (C : Fin 3072) :
    shapeCast S1x512x3072 (pad S1x512x12x256 ![0, 0, 0, 0] ![0, 0, 0, 128] ![0, 0, 0, 0]
        (extractStridedSlice S1x512x12x128 ![0, 0, 0, 0]
          (shapeCast S1x512x12x256 (broadcastInDim S1x512x3072 ![1, 2] bcast_S512x3072_S1x512x3072_1_2 w) shapeCasts_S1x512x3072_S1x512x12x256)
          slices_S1x512x12x256_S1x512x12x128_0_0_0_0) z pads_S1x512x12x128_S1x512x12x256_000_000_000_01280 h_S_)
      shapeCasts_S1x512x12x256_S1x512x3072 (ix3 (0 : Fin 1) k C) = if C.val % 256 < 128 then w (ix2 k C) else 0 := by
  have hC := C.isLt
  refine (shapeCast_apply _ shapeCasts_S1x512x12x256_S1x512x3072 _
    (ix4 (0 : Fin 1) k (⟨C.val / 256, by omega⟩ : Fin 12) (⟨C.val % 256, by omega⟩ : Fin 256)) ?_).trans ?_
  · rewrite [Shape.rowMajor_val_four, Shape.rowMajor_val_three]
    show ((0 * 512 + k.val) * 12 + C.val / 256) * 256 + C.val % 256 = (0 * 512 + k.val) * 3072 + C.val
    omega
  by_cases h : C.val % 256 < 128
  · rw [if_pos h]
    refine (pad_apply_of_inside _ _ _ _ _ _ h_S_ _
      (ix4 (0 : Fin 1) k (⟨C.val / 256, by omega⟩ : Fin 12) (⟨C.val % 256, h⟩ : Fin 128)) (fun a => ?_)).trans ?_
    · match a with
      | ⟨0, _⟩ => rfl
      | ⟨1, _⟩ => show k.val = 0 + k.val * (0 + 1); omega
      | ⟨2, _⟩ => show C.val / 256 = 0 + C.val / 256 * (0 + 1); omega
      | ⟨3, _⟩ => show C.val % 256 = 0 + C.val % 256 * (0 + 1); omega
    · refine (extractStridedSlice_apply _ _ slices_S1x512x12x256_S1x512x12x128_0_0_0_0 _
        (ix4 (0 : Fin 1) k (⟨C.val / 256, by omega⟩ : Fin 12) (⟨C.val % 256, by omega⟩ : Fin 256)) (fun a => ?_)).trans ?_
      · match a with
        | ⟨0, _⟩ => rfl
        | ⟨1, _⟩ => show k.val = 0 + k.val; omega
        | ⟨2, _⟩ => show C.val / 256 = 0 + C.val / 256; omega
        | ⟨3, _⟩ => show C.val % 256 = 0 + C.val % 256; omega
      · refine (wide_at w k _ _ _ rfl).trans (congrArg w (ext2 rfl ?_))
        show C.val / 256 * 256 + C.val % 256 = C.val
        omega
  · rw [if_neg h]
    refine (pad_apply_of_not_inside _ _ _ _ _ _ h_S_ _ (3 : Fin 4) (fun hc => h ?_)).trans hz
    have e : (C.val % 256 - 0) / (0 + 1) < 128 := hc.2.2
    omega

/-- The values' weight by heads. -/
theorem values_at (w : S512x3072.Idx → EReal) (k : Fin 512) (C : Fin 1536) :
    shapeCast S1x512x1536 (extractStridedSlice S1x512x12x128 ![0, 0, 0, 128]
        (shapeCast S1x512x12x256 (broadcastInDim S1x512x3072 ![1, 2] bcast_S512x3072_S1x512x3072_1_2 w) shapeCasts_S1x512x3072_S1x512x12x256)
        slices_S1x512x12x256_S1x512x12x128_0_0_0_128)
      shapeCasts_S1x512x12x128_S1x512x1536 (ix3 (0 : Fin 1) k C)
      = w (ix2 k (⟨256 * (C.val / 128) + 128 + C.val % 128, by omega⟩ : Fin 3072)) := by
  have hC := C.isLt
  refine (shapeCast_apply _ shapeCasts_S1x512x12x128_S1x512x1536 _
    (ix4 (0 : Fin 1) k (⟨C.val / 128, by omega⟩ : Fin 12) (⟨C.val % 128, by omega⟩ : Fin 128)) ?_).trans ?_
  · rewrite [Shape.rowMajor_val_four, Shape.rowMajor_val_three]
    show ((0 * 512 + k.val) * 12 + C.val / 128) * 128 + C.val % 128 = (0 * 512 + k.val) * 1536 + C.val
    omega
  refine (extractStridedSlice_apply _ _ slices_S1x512x12x256_S1x512x12x128_0_0_0_128 _
    (ix4 (0 : Fin 1) k (⟨C.val / 128, by omega⟩ : Fin 12) (⟨128 + C.val % 128, by omega⟩ : Fin 256)) (fun a => ?_)).trans ?_
  · match a with
    | ⟨0, _⟩ => rfl
    | ⟨1, _⟩ => show k.val = 0 + k.val; omega
    | ⟨2, _⟩ => show C.val / 128 = 0 + C.val / 128; omega
    | ⟨3, _⟩ => rfl
  · refine (wide_at w k _ _ _ rfl).trans (congrArg w (ext2 rfl ?_))
    show C.val / 128 * 256 + (128 + C.val % 128) = 256 * (C.val / 128) + 128 + C.val % 128
    omega

/-- The identity's entries, repeated over the heads. -/
theorem eye_at (k : Fin 128) (h : Fin 12) (l : Fin 128) :
    (broadcastInDim S128x12x128 ![0, 1, 2] bcast_S128x1x128_S128x12x128_0_1_2 (broadcastInDim S128x1x128 ![0, 2] bcast_S128x128_S128x1x128_0_2
      (uitofp (F := Ideal) .f32 (cmpi .eq (addi (iotaInDim S128x128 32 0) (broadcastInDim S128x128 ![] bcast_S_S128x128 (constantI S_ 32 0#32)))
        (iotaInDim S128x128 32 1)))) (ix3 k h l) : EReal) = if k.val = l.val then 1 else 0 := by
  refine (broadcastInDim_apply _ bcast_S128x1x128_S128x12x128_0_1_2 _ _ (ix3 k (0 : Fin 1) l)
    (fun a => by match a with | ⟨0, _⟩ => rfl | ⟨1, _⟩ => rfl | ⟨2, _⟩ => rfl)).trans ?_
  refine (broadcastInDim_apply _ bcast_S128x128_S128x1x128_0_2 _ _ (ix2 k l)
    (fun a => by match a with | ⟨0, _⟩ => rfl | ⟨1, _⟩ => rfl)).trans ?_
  show (((BitVec.ofBool (BitVec.ofNat 32 k.val + 0#32 == BitVec.ofNat 32 l.val)).toNat : ℝ) : EReal) = _
  have hk := k.isLt
  have hl := l.isLt
  by_cases e : k.val = l.val
  · rw [if_pos e, e]
    simp
  · have n : ¬(BitVec.ofNat 32 k.val + 0#32 = BitVec.ofNat 32 l.val) := fun q => e (by
      have := congrArg BitVec.toNat q
      simp at this
      omega)
    rw [if_neg e, beq_eq_false_iff_ne.mpr n]
    simp

/-- The identity's rows in each head's last 128 columns, zeros in the others. -/
theorem route_at (a b : S128x12x128.Idx → EReal) (ha : ∀ i, a i = 0)
    (hb : ∀ (k : Fin 128) (h : Fin 12) (l : Fin 128), b (ix3 k h l) = if k.val = l.val then 1 else 0) (k : Fin 128) (C : Fin 3072) :
    shapeCast S128x3072 (concatenate S128x12x256 2 [⟨S128x12x128, a⟩, ⟨S128x12x128, b⟩] concatenates_S128x12x128_S128x12x128_S128x12x256_d2)
      shapeCasts_S128x12x256_S128x3072 (ix2 k C) = if C.val % 256 = 128 + k.val then 1 else 0 := by
  have hC := C.isLt
  refine (shapeCast_apply _ shapeCasts_S128x12x256_S128x3072 _
    (ix3 k (⟨C.val / 256, by omega⟩ : Fin 12) (⟨C.val % 256, by omega⟩ : Fin 256)) ?_).trans ?_
  · rewrite [Shape.rowMajor_val_three, Shape.rowMajor_val_two]
    show (k.val * 12 + C.val / 256) * 256 + C.val % 256 = k.val * 3072 + C.val
    omega
  by_cases h : C.val % 256 < 128
  · refine (concatenate_apply_piece (t := S128x12x256) 2 _ _ _ 0 (by show 0 < 2; omega) S128x12x128 _ rfl rfl 0 rfl
      (ix3 k (⟨C.val / 256, by omega⟩ : Fin 12) (⟨C.val % 256, h⟩ : Fin 128))
      (fun b hb => by match b with | ⟨0, _⟩ => rfl | ⟨1, _⟩ => rfl | ⟨2, _⟩ => exact absurd rfl hb) (by show 0 + C.val % 256 = C.val % 256; omega)).trans ?_
    exact (ha _).trans (if_neg (by omega)).symm
  · refine (concatenate_apply_piece (t := S128x12x256) 2 _ _ _ 1 (by show 1 < 2; omega) S128x12x128 _ rfl rfl 128 rfl
      (ix3 k (⟨C.val / 256, by omega⟩ : Fin 12) (⟨C.val % 256 - 128, by omega⟩ : Fin 128))
      (fun b hb => by match b with | ⟨0, _⟩ => rfl | ⟨1, _⟩ => rfl | ⟨2, _⟩ => exact absurd rfl hb) (by show 128 + (C.val % 256 - 128) = C.val % 256; omega)).trans ?_
    refine (hb _ _ _).trans ?_
    show (if k.val = C.val % 256 - 128 then (1 : EReal) else 0) = _
    by_cases e : C.val % 256 = 128 + k.val
    · rw [if_pos e, if_pos (by omega)]
    · rw [if_neg e, if_neg (by omega)]

variable (x : S16384x512.Idx → EReal) (e : S16384x64.Idx → EReal) (w : S512x3072.Idx → EReal) (R : Fin 16384) (C : Fin 4608)

/-- The sum over the joined columns: the latent's, then the shared key's through the identity. -/
theorem prod_split : prod x e w R C = (∑ k : Fin 512, x (ix2 R k) * wcol w (⟨k.val, by omega⟩ : Fin 640) C)
    + ∑ k : Fin 128, acol x e R (⟨512 + k.val, by omega⟩ : Fin 640) * wcol w (⟨512 + k.val, by omega⟩ : Fin 640) C := by
  unfold prod
  refine (Fin.sum_univ_add (a := 512) (b := 128) fun k => acol x e R k * wcol w k C).trans ?_
  refine congrArg₂ (fun a b : EReal => a + b) (Finset.sum_congr rfl fun k _ => ?_) (Finset.sum_congr rfl fun k _ => rfl)
  refine congrArg (fun a : EReal => a * _) ?_
  unfold acol
  rw [dif_pos (show (Fin.castAdd 128 k).val < 512 from k.isLt)]
  rfl

/-- A column outside the identity's: the latent's sum alone. -/
theorem prod_latent (h : ¬(C.val < 3072 ∧ 128 ≤ C.val % 256)) :
    prod x e w R C = ∑ k : Fin 512, x (ix2 R k) * wcol w (⟨k.val, by omega⟩ : Fin 640) C := by
  rw [prod_split]
  refine (congrArg (fun a : EReal => _ + a) (Finset.sum_eq_zero fun k _ => ?_)).trans (add_zero _)
  unfold wcol
  rw [dif_neg (by show ¬ 512 + k.val < 512; omega), if_neg (by show ¬(C.val < 3072 ∧ C.val % 256 = 128 + (512 + k.val - 512)); omega), mul_zero]

/-- A column of the identity's: one entry of the shared key's part. -/
theorem prod_shared (h3 : C.val < 3072) (h : 128 ≤ C.val % 256) : prod x e w R C = acol x e R (⟨512 + (C.val % 256 - 128), by omega⟩ : Fin 640) := by
  rw [prod_split]
  refine (congrArg₂ (fun a b : EReal => a + b) (Finset.sum_eq_zero fun k _ => ?_)
    (Finset.sum_eq_single (⟨C.val % 256 - 128, by omega⟩ : Fin 128) (fun k _ hk => ?_) (fun hn => absurd (Finset.mem_univ _) hn))).trans ?_
  · unfold wcol
    rw [dif_pos (by show k.val < 512; omega), dif_pos h3, dif_neg (by omega), mul_zero]
  · unfold wcol
    rw [dif_neg (by show ¬ 512 + k.val < 512; omega), if_neg, mul_zero]
    rintro ⟨_, q⟩
    have q' : C.val % 256 = 128 + (512 + k.val - 512) := q
    exact hk (Fin.ext (by show k.val = C.val % 256 - 128; omega))
  · unfold wcol
    rw [dif_neg (by show ¬ 512 + (C.val % 256 - 128) < 512; omega),
      if_pos (by show C.val < 3072 ∧ C.val % 256 = 128 + (512 + (C.val % 256 - 128) - 512); omega), mul_one, zero_add]

end Cert.Kernel9Ideal.KeyValue
-- ==== Proof.Kernel9Ideal.KeyValue.lean ====
module

public import proofs.«01_k».proof.Proof.Gen.Kernel9Ideal.Value
public import proofs.«01_k».proof.Proof.Kernel9Ideal.Columns
public import Idealize.ShloMosaic.Lib.Pointwise
public import Idealize.ShloMosaic.Lib.KernelVsHost
public import Idealize.ShloMosaic.Lib.Pipeline.ValueKit
public import Idealize.ShloMosaic.Lib.StableHlo.ReadAt

/-! The product of the normed latent and the rotated shared key with the joined weight: what every grid point leaves in its block, and the whole result array. -/

@[expose] public section

set_option maxRecDepth 16384

noncomputable section

namespace Cert.Kernel9Ideal.KeyValue

open Cert.Kernel9Ideal Cert.Kernel9Ideal.Gen
open Idealize.ShloMosaic
open Idealize.ShloMosaic.TcCoe
open Cert.Kernel2Ideal.Gated (ext2 ext3)
open Cert.Kernel8Ideal.Query (cast_at)

theorem pay_apply (b : Vec Ideal S2048x640 .bf16) (w : Vec Ideal S1x640x1536 .bf16) (p : Fin 2048) (l : Fin 1536) :
    k0_pay1 b w (ix2 p l) = ∑ k : Fin 640, (b (ix2 p k) : EReal) * w (ix3 (0 : Fin 1) k l) := by
  pointwise [k0_pay1]

theorem index_0 : ∀ t : Fin cfg0.N, (cfg0.win (0 : Fin 3)).index t = ![t.val / 3, 0] := by decide +kernel
theorem index_1 : ∀ t : Fin cfg0.N, (cfg0.win (1 : Fin 3)).index t = ![0, 0, t.val % 3] := by decide +kernel
theorem index_2 : ∀ t : Fin cfg0.N, (cfg0.win (2 : Fin 3)).index t = ![t.val / 3, t.val % 3] := by decide +kernel
theorem covers_2 : (cfg0.win (2 : Fin 3)).Covers := by decide +kernel

variable (m : (ℓ : Loc nD τ sig) → Buf (Elt Ideal) ℓ) (c : Dev nD) (t : Fin cfg0.N)

abbrev X0 : S16384x512.Idx → EReal := m ((c : Thread nD τ).loc main_arg0)
abbrev X1 : S16384x64.Idx → EReal := m ((c : Thread nD τ).loc main_arg1)
abbrev X2 : S512x3072.Idx → EReal := m ((c : Thread nD τ).loc main_arg2)

set_option maxHeartbeats 4000000 in
theorem host_a (R : Fin 16384) (k : Fin 640) : V m c main_v2 (ix2 R k) = acol (X0 m c) (X1 m c) R k := by
  have hk := k.isLt
  unfold V hostOps0
  after_reads_simp
  refine (cast_at _ _ _).trans ?_
  unfold acol
  by_cases h1 : k.val < 512
  · rw [dif_pos h1]
    refine (concatenate_apply_piece (t := S16384x640) 1 _ _ (ix2 R k) 0 (by show 0 < 3; omega) S16384x512 _ rfl rfl 0 rfl (ix2 R (⟨k.val, h1⟩ : Fin 512))
      (fun b hb => by match b with | ⟨0, _⟩ => rfl | ⟨1, _⟩ => exact absurd rfl hb) (by show 0 + k.val = k.val; omega)).trans ?_
    show StableHlo.upto _ _ 2 (Proc.tc.devRef main_arg0) _ = _
    after_reads_simp
  rw [dif_neg h1]
  by_cases h2 : k.val < 576
  · rw [dif_pos h2]
    refine (concatenate_apply_piece (t := S16384x640) 1 _ _ (ix2 R k) 1 (by show 1 < 3; omega) S16384x64 _ rfl rfl 512 rfl (ix2 R (⟨k.val - 512, by omega⟩ : Fin 64))
      (fun b hb => by match b with | ⟨0, _⟩ => rfl | ⟨1, _⟩ => exact absurd rfl hb) (by show 512 + (k.val - 512) = k.val; omega)).trans ?_
    show StableHlo.upto _ _ 2 (Proc.tc.devRef main_arg1) _ = _
    after_reads_simp
  · rw [dif_neg h2]
    refine (concatenate_apply_piece (t := S16384x640) 1 _ _ (ix2 R k) 2 (by show 2 < 3; omega) S16384x64 _ rfl rfl 576 rfl (ix2 R (⟨k.val - 576, by omega⟩ : Fin 64))
      (fun b hb => by match b with | ⟨0, _⟩ => rfl | ⟨1, _⟩ => exact absurd rfl hb) (by show 576 + (k.val - 576) = k.val; omega)).trans ?_
    show StableHlo.upto _ _ 2 (Proc.tc.devRef main_v0) _ = _
    after_reads_simp
    exact Ideal.ofBits_zero_f32

set_option maxHeartbeats 4000000 in
theorem host_w (k : Fin 640) (C : Fin 4608) : V m c main_v26 (ix3 (0 : Fin 1) k C) = wcol (X2 m c) k C := by
  unfold V hostOps0
  after_reads_simp
  refine (cast_at _ _ _).trans ?_
  unfold wcol
  by_cases h1 : k.val < 512
  · rw [dif_pos h1]
    refine (concatenate_apply_piece (t := S1x640x4608) 1 _ _ _ 0 (by show 0 < 2; omega) S1x512x4608 _ rfl rfl 0 rfl (ix3 (0 : Fin 1) (⟨k.val, h1⟩ : Fin 512) C)
      (fun b hb => by match b with | ⟨0, _⟩ => rfl | ⟨1, _⟩ => exact absurd rfl hb | ⟨2, _⟩ => rfl) (by show 0 + k.val = k.val; omega)).trans ?_
    show StableHlo.upto _ _ 31 (Proc.tc.devRef main_v23) _ = _
    after_reads_simp
    simp only [StableHlo.TRef.ofBuf, StableHlo.TRef.toBuf, cast_eq]
    by_cases h3 : C.val < 3072
    · rw [dif_pos h3]
      refine (concatenate_apply_piece (t := S1x512x4608) 2 _ _ _ 0 (by show 0 < 2; omega) S1x512x3072 _ rfl rfl 0 rfl
        (ix3 (0 : Fin 1) (⟨k.val, h1⟩ : Fin 512) (⟨C.val, h3⟩ : Fin 3072))
        (fun b hb => by match b with | ⟨0, _⟩ => rfl | ⟨1, _⟩ => rfl | ⟨2, _⟩ => exact absurd rfl hb) (by show 0 + C.val = C.val; omega)).trans ?_
      exact keys_at (X2 m c) (sitofp (F := Ideal) .f32 (constantI S_ 32 0#32)) (by show (((0#32 : BitVec 32).toInt : ℝ) : EReal) = 0; simp) ⟨k.val, h1⟩ ⟨C.val, h3⟩
    · rw [dif_neg h3]
      refine (concatenate_apply_piece (t := S1x512x4608) 2 _ _ _ 1 (by show 1 < 2; omega) S1x512x1536 _ rfl rfl 3072 rfl
        (ix3 (0 : Fin 1) (⟨k.val, h1⟩ : Fin 512) (⟨C.val - 3072, by omega⟩ : Fin 1536))
        (fun b hb => by match b with | ⟨0, _⟩ => rfl | ⟨1, _⟩ => rfl | ⟨2, _⟩ => exact absurd rfl hb) (by show 3072 + (C.val - 3072) = C.val; omega)).trans ?_
      exact values_at (X2 m c) ⟨k.val, h1⟩ ⟨C.val - 3072, by omega⟩
  rw [dif_neg h1]
  refine (concatenate_apply_piece (t := S1x640x4608) 1 _ _ _ 1 (by show 1 < 2; omega) S1x128x4608 _ rfl rfl 512 rfl
    (ix3 (0 : Fin 1) (⟨k.val - 512, by omega⟩ : Fin 128) C)
    (fun b hb => by match b with | ⟨0, _⟩ => rfl | ⟨1, _⟩ => exact absurd rfl hb | ⟨2, _⟩ => rfl) (by show 512 + (k.val - 512) = k.val; omega)).trans ?_
  show StableHlo.upto _ _ 31 (Proc.tc.devRef main_v24) _ = _
  after_reads_simp
  refine (broadcastInDim_apply _ bcast_S128x4608_S1x128x4608_1_2 _ _ (ix2 (⟨k.val - 512, by omega⟩ : Fin 128) C)
    (fun a => by match a with | ⟨0, _⟩ => rfl | ⟨1, _⟩ => rfl)).trans ?_
  by_cases h3 : C.val < 3072
  · refine (concatenate_apply_piece (t := S128x4608) 1 _ _ _ 0 (by show 0 < 2; omega) S128x3072 _ rfl rfl 0 rfl
      (ix2 (⟨k.val - 512, by omega⟩ : Fin 128) (⟨C.val, h3⟩ : Fin 3072))
      (fun b hb => by match b with | ⟨0, _⟩ => rfl | ⟨1, _⟩ => exact absurd rfl hb) (by show 0 + C.val = C.val; omega)).trans ?_
    show StableHlo.upto _ _ 28 (Proc.tc.devRef main_v20) _ = _
    after_reads_simp
    refine (route_at _ _ (fun i => ?_) (fun k h l => ?_) ⟨k.val - 512, by omega⟩ ⟨C.val, h3⟩).trans (by simp only [h3, true_and])
    · show StableHlo.upto _ _ 24 (Proc.tc.devRef main_v18) _ = _
      after_reads_simp
      exact Ideal.ofBits_zero_f32
    · show StableHlo.upto _ _ 24 (Proc.tc.devRef main_v17) _ = _
      after_reads_simp
      exact eye_at k h l
  · rw [if_neg fun hc => h3 hc.1]
    refine (concatenate_apply_piece (t := S128x4608) 1 _ _ _ 1 (by show 1 < 2; omega) S128x1536 _ rfl rfl 3072 rfl
      (ix2 (⟨k.val - 512, by omega⟩ : Fin 128) (⟨C.val - 3072, by omega⟩ : Fin 1536))
      (fun b hb => by match b with | ⟨0, _⟩ => rfl | ⟨1, _⟩ => exact absurd rfl hb) (by show 3072 + (C.val - 3072) = C.val; omega)).trans ?_
    show StableHlo.upto _ _ 28 (Proc.tc.devRef main_v21) _ = _
    after_reads_simp
    exact Ideal.ofBits_zero_f32

theorem blkA (r : Fin 2048) (k : Fin 640) (R : Fin 16384) (hR : R.val = 2048 * (t.val / 3) + r.val) :
    iblk m c (0 : Fin 3) t (ix2 r k) = acol (X0 m c) (X1 m c) R k := by
  have e0 : ((((cfg0.win (0 : Fin 3)).blk t).view.emb (ix2 r k)) (0 : Fin 2)).val
      = (cfg0.win (0 : Fin 3)).index t (0 : Fin 2) * 2048 + r.val :=
    Pipeline.Window.rect_emb_val (cfg0.win (0 : Fin 3)) t (ix2 r k) (0 : Fin 2)
  have e1 : ((((cfg0.win (0 : Fin 3)).blk t).view.emb (ix2 r k)) (1 : Fin 2)).val
      = (cfg0.win (0 : Fin 3)).index t (1 : Fin 2) * 640 + k.val :=
    Pipeline.Window.rect_emb_val (cfg0.win (0 : Fin 3)) t (ix2 r k) (1 : Fin 2)
  have h0 : (cfg0.win (0 : Fin 3)).index t (0 : Fin 2) = t.val / 3 := congrFun (index_0 t) (0 : Fin 2)
  have h1 : (cfg0.win (0 : Fin 3)).index t (1 : Fin 2) = 0 := congrFun (index_0 t) (1 : Fin 2)
  rw [h0] at e0
  rw [h1] at e1
  have hj : ((cfg0.win (0 : Fin 3)).blk t).view.emb (ix2 r k) = ix2 R k := by
    refine ext2 ?_ ?_
    · exact e0.trans (by show _ = R.val; omega)
    · exact e1.trans (by show _ = k.val; omega)
  exact (congrArg (V m c main_v2) hj).trans (host_a m c R k)

theorem blkW (k : Fin 640) (l : Fin 1536) (C : Fin 4608) (hC : C.val = 1536 * (t.val % 3) + l.val) :
    iblk m c (1 : Fin 3) t (ix3 (0 : Fin 1) k l) = wcol (X2 m c) k C := by
  have e0 : ((((cfg0.win (1 : Fin 3)).blk t).view.emb (ix3 (0 : Fin 1) k l)) (0 : Fin 3)).val
      = (cfg0.win (1 : Fin 3)).index t (0 : Fin 3) * 1 + 0 :=
    Pipeline.Window.rect_emb_val (cfg0.win (1 : Fin 3)) t (ix3 (0 : Fin 1) k l) (0 : Fin 3)
  have e1 : ((((cfg0.win (1 : Fin 3)).blk t).view.emb (ix3 (0 : Fin 1) k l)) (1 : Fin 3)).val
      = (cfg0.win (1 : Fin 3)).index t (1 : Fin 3) * 640 + k.val :=
    Pipeline.Window.rect_emb_val (cfg0.win (1 : Fin 3)) t (ix3 (0 : Fin 1) k l) (1 : Fin 3)
  have e2 : ((((cfg0.win (1 : Fin 3)).blk t).view.emb (ix3 (0 : Fin 1) k l)) (2 : Fin 3)).val
      = (cfg0.win (1 : Fin 3)).index t (2 : Fin 3) * 1536 + l.val :=
    Pipeline.Window.rect_emb_val (cfg0.win (1 : Fin 3)) t (ix3 (0 : Fin 1) k l) (2 : Fin 3)
  have h0 : (cfg0.win (1 : Fin 3)).index t (0 : Fin 3) = 0 := congrFun (index_1 t) (0 : Fin 3)
  have h1 : (cfg0.win (1 : Fin 3)).index t (1 : Fin 3) = 0 := congrFun (index_1 t) (1 : Fin 3)
  have h2 : (cfg0.win (1 : Fin 3)).index t (2 : Fin 3) = t.val % 3 := congrFun (index_1 t) (2 : Fin 3)
  rw [h0] at e0
  rw [h1] at e1
  rw [h2] at e2
  have hj : ((cfg0.win (1 : Fin 3)).blk t).view.emb (ix3 (0 : Fin 1) k l) = ix3 (0 : Fin 1) k C := by
    refine ext3 ?_ ?_ ?_
    · exact e0.trans rfl
    · exact e1.trans (by show _ = k.val; omega)
    · exact e2.trans (by show _ = C.val; omega)
  exact (congrArg (V m c main_v26) hj).trans (host_w m c k C)

/-- What a point leaves: the product of its rows with its columns. -/
theorem left_eq (a : Vec Ideal S2048x640 .bf16) (w : Vec Ideal S1x640x1536 .bf16) : out0_2 a w = k0_pay1 a w := by
  unfold out0_2
  frame_out

/-- The products, written out once. -/
def out : S16384x4608.Idx → EReal := fun p => prod (X0 m c) (X1 m c) (X2 m c) (p (0 : Fin 2)) (p (1 : Fin 2))

theorem result_eq : (dats m 0 c).arrAt (2 : Fin 3) cfg0.N = out m c := by
  refine (dats m 0 c).arrAt_eq_of_covers (2 : Fin 3) _ covers_2 fun t hf y => ?_
  blk_simp
  rw [after0_2, left_eq]
  have hy : y = ix2 (y (0 : Fin 2)) (y (1 : Fin 2)) := ext2 rfl rfl
  have e0 : ((((cfg0.win (2 : Fin 3)).blk t).view.emb y) (0 : Fin 2)).val
      = (cfg0.win (2 : Fin 3)).index t (0 : Fin 2) * 2048 + (y (0 : Fin 2)).val :=
    Pipeline.Window.rect_emb_val (cfg0.win (2 : Fin 3)) t y (0 : Fin 2)
  have e1 : ((((cfg0.win (2 : Fin 3)).blk t).view.emb y) (1 : Fin 2)).val
      = (cfg0.win (2 : Fin 3)).index t (1 : Fin 2) * 1536 + (y (1 : Fin 2)).val :=
    Pipeline.Window.rect_emb_val (cfg0.win (2 : Fin 3)) t y (1 : Fin 2)
  have h0 : (cfg0.win (2 : Fin 3)).index t (0 : Fin 2) = t.val / 3 := congrFun (index_2 t) (0 : Fin 2)
  have h1 : (cfg0.win (2 : Fin 3)).index t (1 : Fin 2) = t.val % 3 := congrFun (index_2 t) (1 : Fin 2)
  rw [h0] at e0
  rw [h1] at e1
  have hR : ((((cfg0.win (2 : Fin 3)).blk t).view.emb y) (0 : Fin 2)).val = 2048 * (t.val / 3) + (y (0 : Fin 2)).val :=
    e0.trans (by omega)
  have hC : ((((cfg0.win (2 : Fin 3)).blk t).view.emb y) (1 : Fin 2)).val = 1536 * (t.val % 3) + (y (1 : Fin 2)).val :=
    e1.trans (by omega)
  refine (congrArg (k0_pay1 _ _) hy).trans ((pay_apply _ _ _ _).trans ?_)
  exact Finset.sum_congr rfl fun k _ => congrArg₂ (fun a b : EReal => a * b) (blkA m c t _ k _ hR) (blkW m c t k _ _ hC)

end Cert.Kernel9Ideal.KeyValue
-- ==== Proof.Reference9Ideal.KeyValue.lean ====
module

public import proofs.«01_k».proof.Proof.Gen.Reference9Ideal.Read
public import proofs.«01_k».proof.Proof.Kernel9Ideal.Columns

/-! The reference's keys and values at an index: each column is one of the product's, of the shared key's, or zero. -/

@[expose] public section

set_option maxRecDepth 16384

noncomputable section

namespace Cert.Reference9Ideal.KeyValue

open Cert.Reference9Ideal Cert.Reference9Ideal.Read
open Idealize.ShloMosaic
open Idealize.ShloMosaic.TcCoe
open Cert.Kernel8Ideal.Query (cast_at)
open Cert.Kernel2Ideal.Gated (ext2 ext3)
open Cert.Kernel9Ideal.KeyValue (prod prod_latent prod_shared acol wcol)

variable (x0 : S16384x512.Idx → EReal) (x1 : S16384x64.Idx → EReal) (x2 : S512x3072.Idx → EReal)

/-- A column of the reference's keys. -/
theorem key_eq (R : Fin 16384) (C : Fin 4608) (h3 : C.val < 3072) :
    val_main_v8 (F := Ideal) x0 x1 x2 (ix2 R (⟨C.val, h3⟩ : Fin 3072)) = prod x0 x1 x2 R C := by
  have hR := R.isLt
  have e : idx_main_v8 (ix2 R (⟨C.val, h3⟩ : Fin 3072)) = ix3 R (⟨C.val / 256, by omega⟩ : Fin 12) (⟨C.val % 256, by omega⟩ : Fin 256) := by
    refine ext3 ?_ ?_ ?_
    · show (R.val * 3072 + C.val) / 3072 = R.val
      omega
    · show (R.val * 3072 + C.val) / 256 % 12 = C.val / 256
      omega
    · show (R.val * 3072 + C.val) % 256 = C.val % 256
      omega
  rw [val_main_v8_apply, e]
  unfold val_main_v7
  by_cases h : C.val % 256 < 128
  · refine (concatenate_apply_piece (t := S16384x12x256) 2 _ _ _ 0 (by show 0 < 3; omega) S16384x12x128 _ rfl rfl 0 rfl
      (ix3 R (⟨C.val / 256, by omega⟩ : Fin 12) (⟨C.val % 256, h⟩ : Fin 128))
      (fun b hb => by match b with | ⟨0, _⟩ => rfl | ⟨1, _⟩ => rfl | ⟨2, _⟩ => exact absurd rfl hb) (by show 0 + C.val % 256 = C.val % 256; omega)).trans ?_
    rw [val_main_v2_apply, val_main_v1_apply, prod_latent x0 x1 x2 R C (by omega)]
    refine (val_main_v0_apply x0 x2 _).trans (Finset.sum_congr rfl fun k _ => ?_)
    unfold wcol
    rw [dif_pos (show k.val < 512 from k.isLt), dif_pos h3, dif_pos h]
    refine congrArg₂ (fun a b : EReal => a * b) (congrArg x0 (ext2 ?_ rfl)) (congrArg x2 (ext2 rfl ?_))
    · show ((R.val * 12 + C.val / 256) * 256 + C.val % 256) / 3072 = R.val
      omega
    · show ((R.val * 12 + C.val / 256) * 256 + C.val % 256) % 3072 = C.val
      omega
  rw [prod_shared x0 x1 x2 R C h3 (by omega)]
  unfold acol
  rw [dif_neg (by show ¬ 512 + (C.val % 256 - 128) < 512; omega)]
  by_cases h2 : C.val % 256 < 192
  · refine (concatenate_apply_piece (t := S16384x12x256) 2 _ _ _ 1 (by show 1 < 3; omega) S16384x12x64 _ rfl rfl 128 rfl
      (ix3 R (⟨C.val / 256, by omega⟩ : Fin 12) (⟨C.val % 256 - 128, by omega⟩ : Fin 64))
      (fun b hb => by match b with | ⟨0, _⟩ => rfl | ⟨1, _⟩ => rfl | ⟨2, _⟩ => exact absurd rfl hb) (by show 128 + (C.val % 256 - 128) = C.val % 256; omega)).trans ?_
    rw [val_main_v5_apply, val_main_v4_apply, dif_pos (by show 512 + (C.val % 256 - 128) < 576; omega)]
    refine congrArg x1 (ext2 rfl ?_)
    show C.val % 256 - 128 = 512 + (C.val % 256 - 128) - 512
    omega
  · refine (concatenate_apply_piece (t := S16384x12x256) 2 _ _ _ 2 (by show 2 < 3; omega) S16384x12x64 _ rfl rfl 192 rfl
      (ix3 R (⟨C.val / 256, by omega⟩ : Fin 12) (⟨C.val % 256 - 192, by omega⟩ : Fin 64))
      (fun b hb => by match b with | ⟨0, _⟩ => rfl | ⟨1, _⟩ => rfl | ⟨2, _⟩ => exact absurd rfl hb) (by show 192 + (C.val % 256 - 192) = C.val % 256; omega)).trans ?_
    rw [val_main_v6_apply, dif_neg (by show ¬ 512 + (C.val % 256 - 128) < 576; omega)]
    exact Ideal.ofBits_zero_f32

/-- A column of the reference's values. -/
theorem val_eq (R : Fin 16384) (C : Fin 4608) (h3 : ¬ C.val < 3072) :
    val_main_v9 (F := Ideal) x0 x2 (ix2 R (⟨C.val - 3072, by omega⟩ : Fin 1536)) = prod x0 x1 x2 R C := by
  have hR := R.isLt
  have hC := C.isLt
  rw [val_main_v9_apply, val_main_v3_apply, val_main_v1_apply, prod_latent x0 x1 x2 R C (by omega)]
  refine (val_main_v0_apply x0 x2 _).trans (Finset.sum_congr rfl fun k _ => ?_)
  unfold wcol
  rw [dif_pos (show k.val < 512 from k.isLt), dif_neg h3]
  obtain ⟨D, hD⟩ : ∃ D : ℕ, C.val - 3072 = D := ⟨_, rfl⟩
  have hD' : D < 1536 := by omega
  have q0 : (R.val * 1536 + D) / 1536 = R.val := by omega
  have q1 : (R.val * 1536 + D) / 128 % 12 = D / 128 := by omega
  have q2 : (R.val * 1536 + D) % 128 = D % 128 := by omega
  refine congrArg₂ (fun a b : EReal => a * b) (congrArg x0 (ext2 ?_ rfl)) (congrArg x2 (ext2 rfl ?_))
  · show (((R.val * 1536 + (C.val - 3072)) / 1536 * 12 + (R.val * 1536 + (C.val - 3072)) / 128 % 12) * 256
      + (128 + (R.val * 1536 + (C.val - 3072)) % 128)) / 3072 = R.val
    rw [hD, q0, q1, q2]
    omega
  · show (((R.val * 1536 + (C.val - 3072)) / 1536 * 12 + (R.val * 1536 + (C.val - 3072)) / 128 % 12) * 256
      + (128 + (R.val * 1536 + (C.val - 3072)) % 128)) % 3072 = 256 * ((C.val - 3072) / 128) + 128 + (C.val - 3072) % 128
    rw [hD, q0, q1, q2]
    omega

/-- The reference's result, at an index. -/
theorem value_eq (p : S16384x4608.Idx) : val_main_v11 (F := Ideal) x0 x1 x2 p = prod x0 x1 x2 (p (0 : Fin 2)) (p (1 : Fin 2)) := by
  obtain ⟨R, C, rfl⟩ : ∃ (R : Fin 16384) (C : Fin 4608), p = ix2 R C := ⟨p (0 : Fin 2), p (1 : Fin 2), ext2 rfl rfl⟩
  have hC := C.isLt
  show val_main_v10 (F := Ideal) x0 x1 x2 (ix2 R C) = prod x0 x1 x2 R C
  unfold val_main_v10
  by_cases h3 : C.val < 3072
  · refine (concatenate_apply_piece (t := S16384x4608) 1 _ _ _ 0 (by show 0 < 2; omega) S16384x3072 _ rfl rfl 0 rfl
      (ix2 R (⟨C.val, h3⟩ : Fin 3072))
      (fun b hb => by match b with | ⟨0, _⟩ => rfl | ⟨1, _⟩ => exact absurd rfl hb) (by show 0 + C.val = C.val; omega)).trans ?_
    exact key_eq x0 x1 x2 R C h3
  · refine (concatenate_apply_piece (t := S16384x4608) 1 _ _ _ 1 (by show 1 < 2; omega) S16384x1536 _ rfl rfl 3072 rfl
      (ix2 R (⟨C.val - 3072, by omega⟩ : Fin 1536))
      (fun b hb => by match b with | ⟨0, _⟩ => rfl | ⟨1, _⟩ => exact absurd rfl hb) (by show 3072 + (C.val - 3072) = C.val; omega)).trans ?_
    exact val_eq x0 x1 x2 R C h3

end Cert.Reference9Ideal.KeyValue
-- ==== Proof.Kernel6Ideal.Outp.lean ====
module

public import proofs.«01_k».proof.Proof.Gen.Kernel6Ideal.Value
public import proofs.«01_k».proof.Proof.Kernel2Ideal.Gated
public import Idealize.ShloMosaic.Lib.Pointwise
public import Idealize.ShloMosaic.Lib.Pipeline.ValueKit
public import Idealize.ShloMosaic.Lib.StableHlo.ReadAt

/-! The product of the joined mixers with the output weight: what every grid point leaves in its block, and the whole result array. -/

@[expose] public section

set_option maxRecDepth 16384

noncomputable section

namespace Cert.Kernel6Ideal.Outp

open Cert.Kernel6Ideal Cert.Kernel6Ideal.Gen
open Idealize.ShloMosaic
open Idealize.ShloMosaic.TcCoe
open Cert.Kernel2Ideal.Gated (ext2 ext3)

theorem pay_apply (a : Vec Ideal S1024x512 .f32) (b : Vec Ideal S1024x4096 .bf16) (w : Vec Ideal S1x4096x512 .bf16) (p : Fin 1024) (l : Fin 512) :
    k0_pay1 a b w (ix2 p l) = (a (ix2 p l) : EReal) + ∑ k : Fin 4096, (b (ix2 p k) : EReal) * w (ix3 (0 : Fin 1) k l) := by
  pointwise [k0_pay1]

theorem index_0 : ∀ t : Fin cfg0.N, (cfg0.win (0 : Fin 7)).index t = ![t.val / 8, 0] := by decide +kernel
theorem index_1 : ∀ t : Fin cfg0.N, (cfg0.win (1 : Fin 7)).index t = ![0, 0, t.val % 8] := by decide +kernel
theorem index_2 : ∀ t : Fin cfg0.N, (cfg0.win (2 : Fin 7)).index t = ![t.val / 8, t.val % 8] := by decide +kernel
theorem index_4 : ∀ t : Fin cfg0.N, (cfg0.win (4 : Fin 7)).index t = ![t.val / 8, t.val % 8] := by decide +kernel
theorem covers_4 : (cfg0.win (4 : Fin 7)).Covers := by decide +kernel

variable (m : (ℓ : Loc nD τ sig) → Buf (Elt Ideal) ℓ) (c : Dev nD) (t : Fin cfg0.N)

abbrev X0 : S16384x4096.Idx → EReal := m ((c : Thread nD τ).loc main_arg0)
abbrev X1 : S16384x4096.Idx → EReal := m ((c : Thread nD τ).loc main_arg1)
abbrev X2 : S4096x4096.Idx → EReal := m ((c : Thread nD τ).loc main_arg2)

theorem host_act (p : S16384x4096.Idx) : V m c main_v0 p = X1 m c p := by
  unfold V hostOps0
  after_reads_at
  try rfl

theorem host_res (p : S16384x4096.Idx) : V m c main_arg0 p = X0 m c p := by
  unfold V hostOps0
  after_reads_at
  try rfl

theorem host_w (k : Fin 4096) (C : Fin 4096) : V m c main_v2 (ix3 (0 : Fin 1) k C) = X2 m c (ix2 k C) := by
  unfold V hostOps0
  after_reads_at
  try rfl

theorem blkA (r : Fin 1024) (k : Fin 4096) (R : Fin 16384) (hR : R.val = 1024 * (t.val / 8) + r.val) :
    iblk m c (0 : Fin 7) t (ix2 r k) = X1 m c (ix2 R k) := by
  have e0 : ((((cfg0.win (0 : Fin 7)).blk t).view.emb (ix2 r k)) (0 : Fin 2)).val
      = (cfg0.win (0 : Fin 7)).index t (0 : Fin 2) * 1024 + r.val :=
    Pipeline.Window.rect_emb_val (cfg0.win (0 : Fin 7)) t (ix2 r k) (0 : Fin 2)
  have e1 : ((((cfg0.win (0 : Fin 7)).blk t).view.emb (ix2 r k)) (1 : Fin 2)).val
      = (cfg0.win (0 : Fin 7)).index t (1 : Fin 2) * 4096 + k.val :=
    Pipeline.Window.rect_emb_val (cfg0.win (0 : Fin 7)) t (ix2 r k) (1 : Fin 2)
  have h0 : (cfg0.win (0 : Fin 7)).index t (0 : Fin 2) = t.val / 8 := congrFun (index_0 t) (0 : Fin 2)
  have h1 : (cfg0.win (0 : Fin 7)).index t (1 : Fin 2) = 0 := congrFun (index_0 t) (1 : Fin 2)
  rw [h0] at e0
  rw [h1] at e1
  have hj : ((cfg0.win (0 : Fin 7)).blk t).view.emb (ix2 r k) = ix2 R k := by
    refine ext2 ?_ ?_
    · exact e0.trans (by show _ = R.val; omega)
    · exact e1.trans (by show _ = k.val; omega)
  exact (congrArg (V m c main_v0) hj).trans (host_act m c _)

theorem blkW (k : Fin 4096) (l : Fin 512) (C : Fin 4096) (hC : C.val = 512 * (t.val % 8) + l.val) :
    iblk m c (1 : Fin 7) t (ix3 (0 : Fin 1) k l) = X2 m c (ix2 k C) := by
  have e0 : ((((cfg0.win (1 : Fin 7)).blk t).view.emb (ix3 (0 : Fin 1) k l)) (0 : Fin 3)).val
      = (cfg0.win (1 : Fin 7)).index t (0 : Fin 3) * 1 + 0 :=
    Pipeline.Window.rect_emb_val (cfg0.win (1 : Fin 7)) t (ix3 (0 : Fin 1) k l) (0 : Fin 3)
  have e1 : ((((cfg0.win (1 : Fin 7)).blk t).view.emb (ix3 (0 : Fin 1) k l)) (1 : Fin 3)).val
      = (cfg0.win (1 : Fin 7)).index t (1 : Fin 3) * 4096 + k.val :=
    Pipeline.Window.rect_emb_val (cfg0.win (1 : Fin 7)) t (ix3 (0 : Fin 1) k l) (1 : Fin 3)
  have e2 : ((((cfg0.win (1 : Fin 7)).blk t).view.emb (ix3 (0 : Fin 1) k l)) (2 : Fin 3)).val
      = (cfg0.win (1 : Fin 7)).index t (2 : Fin 3) * 512 + l.val :=
    Pipeline.Window.rect_emb_val (cfg0.win (1 : Fin 7)) t (ix3 (0 : Fin 1) k l) (2 : Fin 3)
  have h0 : (cfg0.win (1 : Fin 7)).index t (0 : Fin 3) = 0 := congrFun (index_1 t) (0 : Fin 3)
  have h1 : (cfg0.win (1 : Fin 7)).index t (1 : Fin 3) = 0 := congrFun (index_1 t) (1 : Fin 3)
  have h2 : (cfg0.win (1 : Fin 7)).index t (2 : Fin 3) = t.val % 8 := congrFun (index_1 t) (2 : Fin 3)
  rw [h0] at e0
  rw [h1] at e1
  rw [h2] at e2
  have hj : ((cfg0.win (1 : Fin 7)).blk t).view.emb (ix3 (0 : Fin 1) k l) = ix3 (0 : Fin 1) k C := by
    refine ext3 ?_ ?_ ?_
    · exact e0.trans rfl
    · exact e1.trans (by show _ = k.val; omega)
    · exact e2.trans (by show _ = C.val; omega)
  exact (congrArg (V m c main_v2) hj).trans (host_w m c k C)

theorem blkX (r : Fin 1024) (l : Fin 512) (R : Fin 16384) (C : Fin 4096) (hR : R.val = 1024 * (t.val / 8) + r.val)
    (hC : C.val = 512 * (t.val % 8) + l.val) :
    iblk m c (2 : Fin 7) t (ix2 r l) = X0 m c (ix2 R C) := by
  have e0 : ((((cfg0.win (2 : Fin 7)).blk t).view.emb (ix2 r l)) (0 : Fin 2)).val
      = (cfg0.win (2 : Fin 7)).index t (0 : Fin 2) * 1024 + r.val :=
    Pipeline.Window.rect_emb_val (cfg0.win (2 : Fin 7)) t (ix2 r l) (0 : Fin 2)
  have e1 : ((((cfg0.win (2 : Fin 7)).blk t).view.emb (ix2 r l)) (1 : Fin 2)).val
      = (cfg0.win (2 : Fin 7)).index t (1 : Fin 2) * 512 + l.val :=
    Pipeline.Window.rect_emb_val (cfg0.win (2 : Fin 7)) t (ix2 r l) (1 : Fin 2)
  have h0 : (cfg0.win (2 : Fin 7)).index t (0 : Fin 2) = t.val / 8 := congrFun (index_2 t) (0 : Fin 2)
  have h1 : (cfg0.win (2 : Fin 7)).index t (1 : Fin 2) = t.val % 8 := congrFun (index_2 t) (1 : Fin 2)
  rw [h0] at e0
  rw [h1] at e1
  have hj : ((cfg0.win (2 : Fin 7)).blk t).view.emb (ix2 r l) = ix2 R C := by
    refine ext2 ?_ ?_
    · exact e0.trans (by show _ = R.val; omega)
    · exact e1.trans (by show _ = C.val; omega)
  exact (congrArg (V m c main_arg0) hj).trans (host_res m c _)

/-- Every point leaves the product of its rows with its columns, added to its residual block, whatever it does for the norm. -/
theorem left_eq : (outsAt0 m c t.val t.isLt).1 = k0_pay1 (iblk m c (2 : Fin 7) t) (iblk m c (0 : Fin 7) t) (iblk m c (1 : Fin 7) t) := by
  by_cases h0 : t.val % 8 = 0
  · rw [outsAt0_A m c t h0 (by omega) (by omega)]
    dsimp only
    frame_out
  · by_cases h2 : t.val % 8 = 7
    · rw [outsAt0_C m c t h0 (by omega) h2]
      dsimp only
      frame_out
    · rw [outsAt0_B m c t h0 (by omega) h2]
      dsimp only
      frame_out

/-- The result: the residual stream with the product added. -/
def out : S16384x4096.Idx → EReal := fun p =>
  X0 m c (ix2 (p (0 : Fin 2)) (p (1 : Fin 2)))
    + ∑ k : Fin 4096, X1 m c (ix2 (p (0 : Fin 2)) k) * X2 m c (ix2 k (p (1 : Fin 2)))

theorem result_eq : (dats m 0 c).arrAt (4 : Fin 7) cfg0.N = out m c := by
  refine (dats m 0 c).arrAt_eq_of_covers (4 : Fin 7) _ covers_4 fun t hf y => ?_
  blk_simp
  rw [after0_4, left_eq]
  have hy : y = ix2 (y (0 : Fin 2)) (y (1 : Fin 2)) := ext2 rfl rfl
  have e0 : ((((cfg0.win (4 : Fin 7)).blk t).view.emb y) (0 : Fin 2)).val
      = (cfg0.win (4 : Fin 7)).index t (0 : Fin 2) * 1024 + (y (0 : Fin 2)).val :=
    Pipeline.Window.rect_emb_val (cfg0.win (4 : Fin 7)) t y (0 : Fin 2)
  have e1 : ((((cfg0.win (4 : Fin 7)).blk t).view.emb y) (1 : Fin 2)).val
      = (cfg0.win (4 : Fin 7)).index t (1 : Fin 2) * 512 + (y (1 : Fin 2)).val :=
    Pipeline.Window.rect_emb_val (cfg0.win (4 : Fin 7)) t y (1 : Fin 2)
  have h0 : (cfg0.win (4 : Fin 7)).index t (0 : Fin 2) = t.val / 8 := congrFun (index_4 t) (0 : Fin 2)
  have h1 : (cfg0.win (4 : Fin 7)).index t (1 : Fin 2) = t.val % 8 := congrFun (index_4 t) (1 : Fin 2)
  rw [h0] at e0
  rw [h1] at e1
  have hR : ((((cfg0.win (4 : Fin 7)).blk t).view.emb y) (0 : Fin 2)).val = 1024 * (t.val / 8) + (y (0 : Fin 2)).val :=
    e0.trans (by omega)
  have hC : ((((cfg0.win (4 : Fin 7)).blk t).view.emb y) (1 : Fin 2)).val = 512 * (t.val % 8) + (y (1 : Fin 2)).val :=
    e1.trans (by omega)
  refine (congrArg (k0_pay1 _ _ _) hy).trans ((pay_apply _ _ _ _ _).trans ?_)
  exact congrArg₂ (fun a b : EReal => a + b) (blkX m c t _ _ _ _ hR hC)
    (Finset.sum_congr rfl fun k _ => congrArg₂ (fun a b : EReal => a * b) (blkA m c t _ k _ hR) (blkW m c t k _ _ hC))

end Cert.Kernel6Ideal.Outp
-- ==== Proof.Reference6Ideal.Outp.lean ====
module

public import proofs.«01_k».proof.Proof.Gen.Reference6Ideal.Read
public import proofs.«01_k».proof.Proof.Kernel6Ideal.Outp

/-! The reference's line at an index: the residual stream with the product of the joined mixers added. -/

@[expose] public section

noncomputable section

namespace Cert.Reference6Ideal.Outp

open Cert.Reference6Ideal Cert.Reference6Ideal.Read
open Idealize.ShloMosaic
open Idealize.ShloMosaic.TcCoe
open Cert.Kernel2Ideal.Gated (ext2)

theorem value_eq (x0 : S16384x4096.Idx → EReal) (x1 : S16384x4096.Idx → EReal) (x2 : S4096x4096.Idx → EReal) (p : S16384x4096.Idx) :
    val_main_v1 (F := Ideal) x0 x1 x2 p = x0 (ix2 (p (0 : Fin 2)) (p (1 : Fin 2)))
      + ∑ k : Fin 4096, x1 (ix2 (p (0 : Fin 2)) k) * x2 (ix2 k (p (1 : Fin 2))) := by
  refine (val_main_v1_apply (F := Ideal) x0 x1 x2 p).trans ?_
  refine congrArg₂ (fun a b : EReal => a + b) (congrArg x0 (ext2 rfl rfl)) ((val_main_v0_apply x1 x2 p).trans (Finset.sum_congr rfl fun k _ => ?_))
  exact congrArg₂ (fun a b : EReal => a * b) (congrArg x1 (ext2 rfl rfl)) (congrArg x2 (ext2 rfl rfl))

end Cert.Reference6Ideal.Outp
-- ==== Proof.lean ====
/- The claims, put together: the frames of the kernel, of its ideal reading and of the reference, the one named constant, and
   the equation of the kernel's ideal reading with the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelIdeal.Array
public import proofs.«01_k».proof.Proof.KernelIdeal.Run
public import proofs.«01_k».proof.Proof.Kernel.Run
public import proofs.«01_k».proof.Proof.ReferenceIdeal.Softmax
public import proofs.«01_k».proof.Proof.Finite
public import proofs.«01_k».proof.Proof.Gen.Kernel2.Frame
public import proofs.«01_k».proof.Proof.Gen.Kernel4.Frame
public import proofs.«01_k».proof.Proof.Gen.Kernel5.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel6.Frame
public import proofs.«01_k».proof.Proof.Gen.Kernel3.Frame
public import proofs.«01_k».proof.Proof.Kernel2Ideal.Array
public import proofs.«01_k».proof.Proof.Reference2Ideal.Gated
public import proofs.«01_k».proof.Proof.Kernel3Ideal.Down
public import proofs.«01_k».proof.Proof.Reference3Ideal.Down
public import proofs.«01_k».proof.Proof.Reference4Ideal.Norm
public import proofs.«01_k».proof.Proof.Reference5Ideal.Proj
public import proofs.«01_k».proof.Proof.Reference7Ideal.Tail
public import proofs.«01_k».proof.Proof.Reference8Ideal.Query
public import proofs.«01_k».proof.Proof.Kernel9Ideal.KeyValue
public import proofs.«01_k».proof.Proof.Reference9Ideal.KeyValue
public import proofs.«01_k».proof.Proof.Reference6Ideal.Outp
public import Idealize.ShloMosaic.Adequacy
public import Idealize.ShloMosaic.Init

@[expose] public section

noncomputable section

namespace Cert.Proof

open Idealize.ShloMosaic Idealize.SL.Sem Cert.Kernel

theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's ideal reading and the reference end with equal results: the attention, written out once over the reals. -/
theorem equal_results : Cert.algebraic_KernelIdeal_ReferenceIdeal_pre_finite := fun m g m' g' hpre hargs =>
  ⟨fun c => Cert.KernelIdeal.Attn.out m c,
    (θ_run Cert.KernelIdeal.defs _ _).mono (fun r (h : _ ∧ _) c =>
        ⟨(h.1 c).1.trans (Cert.KernelIdeal.Attn.result_eq m c (Cert.Finite.nums m hpre c)), (h.1 c).2⟩)
      (Cert.KernelIdeal.Attn.run_result m g),
    (θ_run Cert.ReferenceIdeal.defs _ _).mono (fun r h c => by
        obtain ⟨a0, a1, a2, a3, a4⟩ := hargs c
        obtain ⟨n0, n1, n2, n3, n4⟩ := Cert.Finite.nums m hpre c
        refine ⟨(h c).1.trans ((Cert.ReferenceIdeal.Read.val_main_v56_eq m' c).trans ?_), (h c).2⟩
        rw [a0, a1, a2, a3, a4]
        exact funext fun p => Cert.ReferenceIdeal.Attn.value_eq _ _ _ _ _ n0 n1 n2 n3 n4 _ Cert.KernelIdeal.Attn.c0_eq p)
      (Cert.ReferenceIdeal.Value.run (F := Ideal) m' g')⟩

theorem reference2_frame : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

theorem reference3_frame : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem reference4_frame : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem reference5_frame : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem reference6_frame : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem reference7_frame : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem reference8_frame : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem reference9_frame : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The gated product's call and the reference's lines end with equal results: both products, the row's factor outside, and the
    cast of the last weight. -/
theorem equal_gated : Cert.algebraic_Kernel2Ideal_Reference2Ideal := fun m g m' g' _ hargs =>
  ⟨fun c => Cert.Kernel2Ideal.Gated.out m c, fun c => Cert.Kernel2Ideal.Gated.outD m c,
    (θ_run Cert.Kernel2Ideal.defs _ _).mono (fun r h c =>
        ⟨(h c).1.trans (Cert.Kernel2Ideal.Gated.result_eq m c), (h c).2.1.trans (Cert.Kernel2Ideal.Gated.resultD_eq m c), (h c).2.2⟩)
      (Cert.Kernel2Ideal.Value.run_blocks (F := Ideal) m g),
    (θ_run Cert.Reference2Ideal.defs _ _).mono (fun r h c => by
        obtain ⟨a0, a1, a2, a3, a4⟩ := hargs c
        refine ⟨(h c).1.trans ((Cert.Reference2Ideal.Read.val_main_v18_eq _ _ _ _).trans ?_),
          (h c).2.1.trans ((Cert.Reference2Ideal.Read.val_main_v20_eq _).trans ?_), (h c).2.2⟩
        · rw [a0, a1, a2, a3]
          exact funext fun p => Cert.Reference2Ideal.Gated.value_eq _ _ _ _ p
        · rw [a4]
          exact funext fun p => Cert.Reference2Ideal.Gated.weight_eq _ p)
      (Cert.Reference2Ideal.Value.run (F := Ideal) m' g')⟩

/-- The last product's call and the reference's line end with equal results. -/
theorem equal_down : Cert.algebraic_Kernel3Ideal_Reference3Ideal := fun m g m' g' _ hargs =>
  ⟨fun c => Cert.Kernel3Ideal.Down.out m c,
    (θ_run Cert.Kernel3Ideal.defs _ _).mono (fun r h c =>
        ⟨(h c).1.trans (Cert.Kernel3Ideal.Down.result_eq m c), (h c).2.2.2⟩)
      (Cert.Kernel3Ideal.Value.run_blocks (F := Ideal) m g),
    (θ_run Cert.Reference3Ideal.defs _ _).mono (fun r h c => by
        obtain ⟨a0, a1, a2, a3⟩ := hargs c
        refine ⟨(h c).1.trans ((Cert.Reference3Ideal.Read.val_main_v1_eq _ _ _).trans ?_), (h c).2⟩
        rw [a0, a1, a2]
        exact funext fun p => Cert.Reference3Ideal.Down.value_eq _ _ _ p)
      (Cert.Reference3Ideal.Value.run (F := Ideal) m' g')⟩

/-- The last norm's call and the reference's lines end with equal results. -/
theorem equal_norm : Cert.algebraic_Kernel4Ideal_Reference4Ideal := fun m g m' g' _ hargs =>
  ⟨fun c => Cert.Kernel4Ideal.Norm.out m c,
    (θ_run Cert.Kernel4Ideal.defs _ _).mono (fun r h c =>
        ⟨(h c).1.trans (Cert.Kernel4Ideal.Norm.result_eq m c), (h c).2⟩)
      (Cert.Kernel4Ideal.Value.run_blocks (F := Ideal) m g),
    (θ_run Cert.Reference4Ideal.defs _ _).mono (fun r h c => by
        obtain ⟨a0, a1⟩ := hargs c
        refine ⟨(h c).1.trans ((Cert.Reference4Ideal.Read.val_main_v12_eq _ _).trans ?_), (h c).2⟩
        rw [a0, a1]
        exact funext fun p => Cert.Reference4Ideal.Norm.value_eq _ _ p)
      (Cert.Reference4Ideal.Value.run (F := Ideal) m' g')⟩

/-- The input projections' call and the reference's lines end with equal results. -/
theorem equal_proj : Cert.algebraic_Kernel5Ideal_Reference5Ideal := fun m g m' g' _ hargs =>
  ⟨fun c => Cert.Kernel5Ideal.Proj.out m c,
    (θ_run Cert.Kernel5Ideal.defs _ _).mono (fun r h c =>
        ⟨(h c).1.trans (Cert.Kernel5Ideal.Proj.result_eq m c), (h c).2⟩)
      (Cert.Kernel5Ideal.Value.run_blocks (F := Ideal) m g),
    (θ_run Cert.Reference5Ideal.defs _ _).mono (fun r h c => by
        obtain ⟨a0, a1, a2⟩ := hargs c
        refine ⟨(h c).1.trans ((Cert.Reference5Ideal.Read.val_main_v16_eq _ _ _).trans ?_), (h c).2⟩
        rw [a0, a1, a2]
        exact funext fun p => Cert.Reference5Ideal.Proj.value_eq _ _ _ p)
      (Cert.Reference5Ideal.Value.run (F := Ideal) m' g')⟩

/-- The call of the product of the joined mixers and the reference's line end with equal results. -/
theorem equal_outp : Cert.algebraic_Kernel6Ideal_Reference6Ideal := fun m g m' g' _ hargs =>
  ⟨fun c => Cert.Kernel6Ideal.Outp.out m c,
    (θ_run Cert.Kernel6Ideal.defs _ _).mono (fun r h c =>
        ⟨(h c).1.trans (Cert.Kernel6Ideal.Outp.result_eq m c), (h c).2.2.2⟩)
      (Cert.Kernel6Ideal.Value.run_blocks (F := Ideal) m g),
    (θ_run Cert.Reference6Ideal.defs _ _).mono (fun r h c => by
        obtain ⟨a0, a1, a2, a3⟩ := hargs c
        refine ⟨(h c).1.trans ((Cert.Reference6Ideal.Read.val_main_v1_eq _ _ _).trans ?_), (h c).2⟩
        rw [a0, a1, a2]
        exact funext fun p => Cert.Reference6Ideal.Outp.value_eq _ _ _ p)
      (Cert.Reference6Ideal.Value.run (F := Ideal) m' g')⟩

/-- The other input projections' call and the reference's lines end with equal results. -/
theorem equal_tail : Cert.algebraic_Kernel7Ideal_Reference7Ideal := fun m g m' g' _ hargs =>
  ⟨fun c => Cert.Kernel7Ideal.Tail.out m c,
    (θ_run Cert.Kernel7Ideal.defs _ _).mono (fun r h c =>
        ⟨(h c).1.trans (Cert.Kernel7Ideal.Tail.result_eq m c), (h c).2⟩)
      (Cert.Kernel7Ideal.Value.run_blocks (F := Ideal) m g),
    (θ_run Cert.Reference7Ideal.defs _ _).mono (fun r h c => by
        obtain ⟨a0, a1, a2⟩ := hargs c
        refine ⟨(h c).1.trans ((Cert.Reference7Ideal.Read.val_main_v19_eq _ _ _).trans ?_), (h c).2⟩
        rw [a0, a1, a2]
        exact funext fun p => Cert.Reference7Ideal.Tail.value_eq _ _ _ p)
      (Cert.Reference7Ideal.Value.run (F := Ideal) m' g')⟩

/-- The latent attention's query projection and the reference's lines end with equal results. -/
theorem equal_query : Cert.algebraic_Kernel8Ideal_Reference8Ideal := fun m g m' g' _ hargs =>
  ⟨fun c => Cert.Kernel8Ideal.Query.out m c,
    (θ_run Cert.Kernel8Ideal.defs _ _).mono (fun r h c =>
        ⟨(h c).1.trans (Cert.Kernel8Ideal.Query.result_eq m c), (h c).2⟩)
      (Cert.Kernel8Ideal.Value.run_blocks (F := Ideal) m g),
    (θ_run Cert.Reference8Ideal.defs _ _).mono (fun r h c => by
        obtain ⟨a0, a1⟩ := hargs c
        refine ⟨(h c).1.trans ((Cert.Reference8Ideal.Read.val_main_v5_eq _ _).trans ?_), (h c).2⟩
        rw [a0, a1]
        exact funext fun p => Cert.Reference8Ideal.Query.value_eq _ _ p)
      (Cert.Reference8Ideal.Value.run (F := Ideal) m' g')⟩

/-- The latent attention's projection of keys and values and the reference's lines end with equal results. -/
theorem equal_kv : Cert.algebraic_Kernel9Ideal_Reference9Ideal := fun m g m' g' _ hargs =>
  ⟨fun c => Cert.Kernel9Ideal.KeyValue.out m c,
    (θ_run Cert.Kernel9Ideal.defs _ _).mono (fun r h c =>
        ⟨(h c).1.trans (Cert.Kernel9Ideal.KeyValue.result_eq m c), (h c).2⟩)
      (Cert.Kernel9Ideal.Value.run_blocks (F := Ideal) m g),
    (θ_run Cert.Reference9Ideal.defs _ _).mono (fun r h c => by
        obtain ⟨a0, a1, a2⟩ := hargs c
        refine ⟨(h c).1.trans ((Cert.Reference9Ideal.Read.val_main_v11_eq _ _ _).trans ?_), (h c).2⟩
        rw [a0, a1, a2]
        exact funext fun p => Cert.Reference9Ideal.KeyValue.value_eq _ _ _ p)
      (Cert.Reference9Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Finite.facts,
  fun m ρ _ => Cert.Kernel.Attn.frame m ρ, fun m ρ _ => Cert.KernelIdeal.Attn.frame m ρ, fun m ρ _ => Cert.KernelIdeal.Attn.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame,
  IdealRules.named_const.statement Cert.KernelIdeal.κ "mask" .f32 0xF149F2CA#32 ⊥ rfl,
  equal_results, trivial, equal_gated, trivial, equal_down, trivial, equal_norm, trivial, equal_proj, trivial, equal_outp, trivial, equal_tail,
  trivial, equal_query, trivial, equal_kv⟩

end Cert.Proof

end
